-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideReferenceIdeal (m : (ℓ : Loc Cert.WideReferenceIdeal.nD Cert.WideReferenceIdeal.τ Cert.WideReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Pw (m : (ℓ : Loc Cert.Pw.nD Cert.Pw.τ Cert.Pw.sig) → Buf (Elt Bits) ℓ) : Prop :=
  True

def Pre_PwIdeal (m : (ℓ : Loc Cert.PwIdeal.nD Cert.PwIdeal.τ Cert.PwIdeal.sig) → Buf (Elt Ideal) ℓ) : Prop :=
  True

def Pre_PwReferenceIdeal (m : (ℓ : Loc Cert.PwReferenceIdeal.nD Cert.PwReferenceIdeal.τ Cert.PwReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Layernorm (m : (ℓ : Loc Cert.Layernorm.nD Cert.Layernorm.τ Cert.Layernorm.sig) → Buf (Elt Bits) ℓ) : Prop :=
  True

def Pre_LayernormIdeal (m : (ℓ : Loc Cert.LayernormIdeal.nD Cert.LayernormIdeal.τ Cert.LayernormIdeal.sig) → Buf (Elt Ideal) ℓ) : Prop :=
  True

def Pre_LayernormReferenceIdeal (m : (ℓ : Loc Cert.LayernormReferenceIdeal.nD Cert.LayernormReferenceIdeal.τ Cert.LayernormReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_Dwconv (m : (ℓ : Loc Cert.Dwconv.nD Cert.Dwconv.τ Cert.Dwconv.sig) → Buf (Elt Bits) ℓ) : Prop :=
  True

def Pre_DwconvIdeal (m : (ℓ : Loc Cert.DwconvIdeal.nD Cert.DwconvIdeal.τ Cert.DwconvIdeal.sig) → Buf (Elt Ideal) ℓ) : Prop :=
  True

def Pre_DwconvReferenceIdeal (m : (ℓ : Loc Cert.DwconvReferenceIdeal.nD Cert.DwconvReferenceIdeal.τ Cert.DwconvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ r.2.sem = fun _ => 0)

def quiescent_WideReferenceIdeal [hWideReferenceIdeal : Cert.WideReferenceIdeal.Facts] : Prop :=
  ∀ (m : (ℓ : Loc Cert.WideReferenceIdeal.nD Cert.WideReferenceIdeal.τ Cert.WideReferenceIdeal.sig) → Buf (Elt Ideal) ℓ) (g : Dev Cert.WideReferenceIdeal.nD → PrngReg), Pre_WideReferenceIdeal m →
    θ_run (Cert.WideReferenceIdeal.defs (F := Ideal)) (onTc (τ := Cert.WideReferenceIdeal.τ) (Cert.WideReferenceIdeal.main (F := Ideal))) ⟨m, fun _ => 0, g⟩ (fun r => (∀ c : Dev Cert.WideReferenceIdeal.nD,
      r.2.mem ((c.tc : Thread Cert.WideReferenceIdeal.nD Cert.WideReferenceIdeal.τ).loc Cert.WideReferenceIdeal.main_arg0) = m ((c.tc : Thread Cert.WideReferenceIdeal.nD Cert.WideReferenceIdeal.τ).loc Cert.WideReferenceIdeal.main_arg0)
      ∧ r.2.mem ((c.tc : Thread Cert.WideReferenceIdeal.nD Cert.WideReferenceIdeal.τ).loc Cert.WideReferenceIdeal.main_arg1) = m ((c.tc : Thread Cert.WideReferenceIdeal.nD Cert.WideReferenceIdeal.τ).loc Cert.WideReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Pw [hPw : Cert.Pw.Facts] : Prop :=
  ∀ (m : (ℓ : Loc Cert.Pw.nD Cert.Pw.τ Cert.Pw.sig) → Buf (Elt Bits) ℓ) (g : Dev Cert.Pw.nD → PrngReg), Pre_Pw m →
    θ_run (Cert.Pw.defs (F := Bits)) (onTc (τ := Cert.Pw.τ) (Cert.Pw.main (F := Bits))) ⟨m, fun _ => 0, g⟩ (fun r => (∀ c : Dev Cert.Pw.nD,
      r.2.mem ((c.tc : Thread Cert.Pw.nD Cert.Pw.τ).loc Cert.Pw.main_arg0) = m ((c.tc : Thread Cert.Pw.nD Cert.Pw.τ).loc Cert.Pw.main_arg0)
      ∧ r.2.mem ((c.tc : Thread Cert.Pw.nD Cert.Pw.τ).loc Cert.Pw.main_arg1) = m ((c.tc : Thread Cert.Pw.nD Cert.Pw.τ).loc Cert.Pw.main_arg1)
      ∧ r.2.mem ((c.tc : Thread Cert.Pw.nD Cert.Pw.τ).loc Cert.Pw.main_arg2) = m ((c.tc : Thread Cert.Pw.nD Cert.Pw.τ).loc Cert.Pw.main_arg2)
      ∧ r.2.mem ((c.tc : Thread Cert.Pw.nD Cert.Pw.τ).loc Cert.Pw.main_arg3) = m ((c.tc : Thread Cert.Pw.nD Cert.Pw.τ).loc Cert.Pw.main_arg3))
      ∧ r.2.sem = fun _ => 0)

def quiescent_PwIdeal [hPwIdeal : Cert.PwIdeal.Facts] : Prop :=
  ∀ (m : (ℓ : Loc Cert.PwIdeal.nD Cert.PwIdeal.τ Cert.PwIdeal.sig) → Buf (Elt Ideal) ℓ) (g : Dev Cert.PwIdeal.nD → PrngReg), Pre_PwIdeal m →
    θ_run (Cert.PwIdeal.defs (F := Ideal)) (onTc (τ := Cert.PwIdeal.τ) (Cert.PwIdeal.main (F := Ideal))) ⟨m, fun _ => 0, g⟩ (fun r => (∀ c : Dev Cert.PwIdeal.nD,
      r.2.mem ((c.tc : Thread Cert.PwIdeal.nD Cert.PwIdeal.τ).loc Cert.PwIdeal.main_arg0) = m ((c.tc : Thread Cert.PwIdeal.nD Cert.PwIdeal.τ).loc Cert.PwIdeal.main_arg0)
      ∧ r.2.mem ((c.tc : Thread Cert.PwIdeal.nD Cert.PwIdeal.τ).loc Cert.PwIdeal.main_arg1) = m ((c.tc : Thread Cert.PwIdeal.nD Cert.PwIdeal.τ).loc Cert.PwIdeal.main_arg1)
      ∧ r.2.mem ((c.tc : Thread Cert.PwIdeal.nD Cert.PwIdeal.τ).loc Cert.PwIdeal.main_arg2) = m ((c.tc : Thread Cert.PwIdeal.nD Cert.PwIdeal.τ).loc Cert.PwIdeal.main_arg2)
      ∧ r.2.mem ((c.tc : Thread Cert.PwIdeal.nD Cert.PwIdeal.τ).loc Cert.PwIdeal.main_arg3) = m ((c.tc : Thread Cert.PwIdeal.nD Cert.PwIdeal.τ).loc Cert.PwIdeal.main_arg3))
      ∧ r.2.sem = fun _ => 0)

def quiescent_PwReferenceIdeal [hPwReferenceIdeal : Cert.PwReferenceIdeal.Facts] : Prop :=
  ∀ (m : (ℓ : Loc Cert.PwReferenceIdeal.nD Cert.PwReferenceIdeal.τ Cert.PwReferenceIdeal.sig) → Buf (Elt Ideal) ℓ) (g : Dev Cert.PwReferenceIdeal.nD → PrngReg), Pre_PwReferenceIdeal m →
    θ_run (Cert.PwReferenceIdeal.defs (F := Ideal)) (onTc (τ := Cert.PwReferenceIdeal.τ) (Cert.PwReferenceIdeal.main (F := Ideal))) ⟨m, fun _ => 0, g⟩ (fun r => (∀ c : Dev Cert.PwReferenceIdeal.nD,
      r.2.mem ((c.tc : Thread Cert.PwReferenceIdeal.nD Cert.PwReferenceIdeal.τ).loc Cert.PwReferenceIdeal.main_arg0) = m ((c.tc : Thread Cert.PwReferenceIdeal.nD Cert.PwReferenceIdeal.τ).loc Cert.PwReferenceIdeal.main_arg0)
      ∧ r.2.mem ((c.tc : Thread Cert.PwReferenceIdeal.nD Cert.PwReferenceIdeal.τ).loc Cert.PwReferenceIdeal.main_arg1) = m ((c.tc : Thread Cert.PwReferenceIdeal.nD Cert.PwReferenceIdeal.τ).loc Cert.PwReferenceIdeal.main_arg1)
      ∧ r.2.mem ((c.tc : Thread Cert.PwReferenceIdeal.nD Cert.PwReferenceIdeal.τ).loc Cert.PwReferenceIdeal.main_arg2) = m ((c.tc : Thread Cert.PwReferenceIdeal.nD Cert.PwReferenceIdeal.τ).loc Cert.PwReferenceIdeal.main_arg2)
      ∧ r.2.mem ((c.tc : Thread Cert.PwReferenceIdeal.nD Cert.PwReferenceIdeal.τ).loc Cert.PwReferenceIdeal.main_arg3) = m ((c.tc : Thread Cert.PwReferenceIdeal.nD Cert.PwReferenceIdeal.τ).loc Cert.PwReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Layernorm [hLayernorm : Cert.Layernorm.Facts] : Prop :=
  ∀ (m : (ℓ : Loc Cert.Layernorm.nD Cert.Layernorm.τ Cert.Layernorm.sig) → Buf (Elt Bits) ℓ) (g : Dev Cert.Layernorm.nD → PrngReg), Pre_Layernorm m →
    θ_run (Cert.Layernorm.defs (F := Bits)) (onTc (τ := Cert.Layernorm.τ) (Cert.Layernorm.main (F := Bits))) ⟨m, fun _ => 0, g⟩ (fun r => (∀ c : Dev Cert.Layernorm.nD,
      r.2.mem ((c.tc : Thread Cert.Layernorm.nD Cert.Layernorm.τ).loc Cert.Layernorm.main_arg0) = m ((c.tc : Thread Cert.Layernorm.nD Cert.Layernorm.τ).loc Cert.Layernorm.main_arg0)
      ∧ r.2.mem ((c.tc : Thread Cert.Layernorm.nD Cert.Layernorm.τ).loc Cert.Layernorm.main_arg1) = m ((c.tc : Thread Cert.Layernorm.nD Cert.Layernorm.τ).loc Cert.Layernorm.main_arg1)
      ∧ r.2.mem ((c.tc : Thread Cert.Layernorm.nD Cert.Layernorm.τ).loc Cert.Layernorm.main_arg2) = m ((c.tc : Thread Cert.Layernorm.nD Cert.Layernorm.τ).loc Cert.Layernorm.main_arg2))
      ∧ r.2.sem = fun _ => 0)

def quiescent_LayernormIdeal [hLayernormIdeal : Cert.LayernormIdeal.Facts] : Prop :=
  ∀ (m : (ℓ : Loc Cert.LayernormIdeal.nD Cert.LayernormIdeal.τ Cert.LayernormIdeal.sig) → Buf (Elt Ideal) ℓ) (g : Dev Cert.LayernormIdeal.nD → PrngReg), Pre_LayernormIdeal m →
    θ_run (Cert.LayernormIdeal.defs (F := Ideal)) (onTc (τ := Cert.LayernormIdeal.τ) (Cert.LayernormIdeal.main (F := Ideal))) ⟨m, fun _ => 0, g⟩ (fun r => (∀ c : Dev Cert.LayernormIdeal.nD,
      r.2.mem ((c.tc : Thread Cert.LayernormIdeal.nD Cert.LayernormIdeal.τ).loc Cert.LayernormIdeal.main_arg0) = m ((c.tc : Thread Cert.LayernormIdeal.nD Cert.LayernormIdeal.τ).loc Cert.LayernormIdeal.main_arg0)
      ∧ r.2.mem ((c.tc : Thread Cert.LayernormIdeal.nD Cert.LayernormIdeal.τ).loc Cert.LayernormIdeal.main_arg1) = m ((c.tc : Thread Cert.LayernormIdeal.nD Cert.LayernormIdeal.τ).loc Cert.LayernormIdeal.main_arg1)
      ∧ r.2.mem ((c.tc : Thread Cert.LayernormIdeal.nD Cert.LayernormIdeal.τ).loc Cert.LayernormIdeal.main_arg2) = m ((c.tc : Thread Cert.LayernormIdeal.nD Cert.LayernormIdeal.τ).loc Cert.LayernormIdeal.main_arg2))
      ∧ r.2.sem = fun _ => 0)

def quiescent_LayernormReferenceIdeal [hLayernormReferenceIdeal : Cert.LayernormReferenceIdeal.Facts] : Prop :=
  ∀ (m : (ℓ : Loc Cert.LayernormReferenceIdeal.nD Cert.LayernormReferenceIdeal.τ Cert.LayernormReferenceIdeal.sig) → Buf (Elt Ideal) ℓ) (g : Dev Cert.LayernormReferenceIdeal.nD → PrngReg), Pre_LayernormReferenceIdeal m →
    θ_run (Cert.LayernormReferenceIdeal.defs (F := Ideal)) (onTc (τ := Cert.LayernormReferenceIdeal.τ) (Cert.LayernormReferenceIdeal.main (F := Ideal))) ⟨m, fun _ => 0, g⟩ (fun r => (∀ c : Dev Cert.LayernormReferenceIdeal.nD,
      r.2.mem ((c.tc : Thread Cert.LayernormReferenceIdeal.nD Cert.LayernormReferenceIdeal.τ).loc Cert.LayernormReferenceIdeal.main_arg0) = m ((c.tc : Thread Cert.LayernormReferenceIdeal.nD Cert.LayernormReferenceIdeal.τ).loc Cert.LayernormReferenceIdeal.main_arg0)
      ∧ r.2.mem ((c.tc : Thread Cert.LayernormReferenceIdeal.nD Cert.LayernormReferenceIdeal.τ).loc Cert.LayernormReferenceIdeal.main_arg1) = m ((c.tc : Thread Cert.LayernormReferenceIdeal.nD Cert.LayernormReferenceIdeal.τ).loc Cert.LayernormReferenceIdeal.main_arg1)
      ∧ r.2.mem ((c.tc : Thread Cert.LayernormReferenceIdeal.nD Cert.LayernormReferenceIdeal.τ).loc Cert.LayernormReferenceIdeal.main_arg2) = m ((c.tc : Thread Cert.LayernormReferenceIdeal.nD Cert.LayernormReferenceIdeal.τ).loc Cert.LayernormReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4))
      ∧ r.2.sem = fun _ => 0)

def quiescent_Dwconv [hDwconv : Cert.Dwconv.Facts] : Prop :=
  ∀ (m : (ℓ : Loc Cert.Dwconv.nD Cert.Dwconv.τ Cert.Dwconv.sig) → Buf (Elt Bits) ℓ) (g : Dev Cert.Dwconv.nD → PrngReg), Pre_Dwconv m →
    θ_run (Cert.Dwconv.defs (F := Bits)) (onTc (τ := Cert.Dwconv.τ) (Cert.Dwconv.main (F := Bits))) ⟨m, fun _ => 0, g⟩ (fun r => (∀ c : Dev Cert.Dwconv.nD,
      r.2.mem ((c.tc : Thread Cert.Dwconv.nD Cert.Dwconv.τ).loc Cert.Dwconv.main_arg0) = m ((c.tc : Thread Cert.Dwconv.nD Cert.Dwconv.τ).loc Cert.Dwconv.main_arg0)
      ∧ r.2.mem ((c.tc : Thread Cert.Dwconv.nD Cert.Dwconv.τ).loc Cert.Dwconv.main_arg1) = m ((c.tc : Thread Cert.Dwconv.nD Cert.Dwconv.τ).loc Cert.Dwconv.main_arg1)
      ∧ r.2.mem ((c.tc : Thread Cert.Dwconv.nD Cert.Dwconv.τ).loc Cert.Dwconv.main_arg2) = m ((c.tc : Thread Cert.Dwconv.nD Cert.Dwconv.τ).loc Cert.Dwconv.main_arg2))
      ∧ r.2.sem = fun _ => 0)

def quiescent_DwconvIdeal [hDwconvIdeal : Cert.DwconvIdeal.Facts] : Prop :=
  ∀ (m : (ℓ : Loc Cert.DwconvIdeal.nD Cert.DwconvIdeal.τ Cert.DwconvIdeal.sig) → Buf (Elt Ideal) ℓ) (g : Dev Cert.DwconvIdeal.nD → PrngReg), Pre_DwconvIdeal m →
    θ_run (Cert.DwconvIdeal.defs (F := Ideal)) (onTc (τ := Cert.DwconvIdeal.τ) (Cert.DwconvIdeal.main (F := Ideal))) ⟨m, fun _ => 0, g⟩ (fun r => (∀ c : Dev Cert.DwconvIdeal.nD,
      r.2.mem ((c.tc : Thread Cert.DwconvIdeal.nD Cert.DwconvIdeal.τ).loc Cert.DwconvIdeal.main_arg0) = m ((c.tc : Thread Cert.DwconvIdeal.nD Cert.DwconvIdeal.τ).loc Cert.DwconvIdeal.main_arg0)
      ∧ r.2.mem ((c.tc : Thread Cert.DwconvIdeal.nD Cert.DwconvIdeal.τ).loc Cert.DwconvIdeal.main_arg1) = m ((c.tc : Thread Cert.DwconvIdeal.nD Cert.DwconvIdeal.τ).loc Cert.DwconvIdeal.main_arg1)
      ∧ r.2.mem ((c.tc : Thread Cert.DwconvIdeal.nD Cert.DwconvIdeal.τ).loc Cert.DwconvIdeal.main_arg2) = m ((c.tc : Thread Cert.DwconvIdeal.nD Cert.DwconvIdeal.τ).loc Cert.DwconvIdeal.main_arg2))
      ∧ r.2.sem = fun _ => 0)

def quiescent_DwconvReferenceIdeal [hDwconvReferenceIdeal : Cert.DwconvReferenceIdeal.Facts] : Prop :=
  ∀ (m : (ℓ : Loc Cert.DwconvReferenceIdeal.nD Cert.DwconvReferenceIdeal.τ Cert.DwconvReferenceIdeal.sig) → Buf (Elt Ideal) ℓ) (g : Dev Cert.DwconvReferenceIdeal.nD → PrngReg), Pre_DwconvReferenceIdeal m →
    θ_run (Cert.DwconvReferenceIdeal.defs (F := Ideal)) (onTc (τ := Cert.DwconvReferenceIdeal.τ) (Cert.DwconvReferenceIdeal.main (F := Ideal))) ⟨m, fun _ => 0, g⟩ (fun r => (∀ c : Dev Cert.DwconvReferenceIdeal.nD,
      r.2.mem ((c.tc : Thread Cert.DwconvReferenceIdeal.nD Cert.DwconvReferenceIdeal.τ).loc Cert.DwconvReferenceIdeal.main_arg0) = m ((c.tc : Thread Cert.DwconvReferenceIdeal.nD Cert.DwconvReferenceIdeal.τ).loc Cert.DwconvReferenceIdeal.main_arg0)
      ∧ r.2.mem ((c.tc : Thread Cert.DwconvReferenceIdeal.nD Cert.DwconvReferenceIdeal.τ).loc Cert.DwconvReferenceIdeal.main_arg1) = m ((c.tc : Thread Cert.DwconvReferenceIdeal.nD Cert.DwconvReferenceIdeal.τ).loc Cert.DwconvReferenceIdeal.main_arg1)
      ∧ r.2.mem ((c.tc : Thread Cert.DwconvReferenceIdeal.nD Cert.DwconvReferenceIdeal.τ).loc Cert.DwconvReferenceIdeal.main_arg2) = m ((c.tc : Thread Cert.DwconvReferenceIdeal.nD Cert.DwconvReferenceIdeal.τ).loc Cert.DwconvReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)
      ∧ m' ((c.tc : Thread Cert.SwigluReferenceIdeal.nD Cert.SwigluReferenceIdeal.τ).loc Cert.SwigluReferenceIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v7) = v0 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v12) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v3) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_Wide_WideIdeal : Prop :=
  True

def algebraic_WideIdeal_WideReferenceIdeal [hWideIdeal : Cert.WideIdeal.Facts] [hWideReferenceIdeal : Cert.WideReferenceIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideReferenceIdeal.nD Cert.WideReferenceIdeal.τ Cert.WideReferenceIdeal.sig) → Buf (Elt Ideal) ℓ) (g' : Dev Cert.WideReferenceIdeal.nD → PrngReg), Pre_WideIdeal m →
    (∀ c : Dev Cert.WideIdeal.nD,
      m' ((c.tc : Thread Cert.WideReferenceIdeal.nD Cert.WideReferenceIdeal.τ).loc Cert.WideReferenceIdeal.main_arg0) = m ((c.tc : Thread Cert.WideIdeal.nD Cert.WideIdeal.τ).loc Cert.WideIdeal.main_arg0)
      ∧ m' ((c.tc : Thread Cert.WideReferenceIdeal.nD Cert.WideReferenceIdeal.τ).loc Cert.WideReferenceIdeal.main_arg1) = m ((c.tc : Thread Cert.WideIdeal.nD Cert.WideIdeal.τ).loc Cert.WideIdeal.main_arg1)) →
    ∃ (v0 : (c : Dev Cert.WideIdeal.nD) → Buf (Elt Ideal) ((c.tc : Thread Cert.WideIdeal.nD Cert.WideIdeal.τ).loc Cert.WideIdeal.main_v0)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v0) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ θ_run (Cert.WideReferenceIdeal.defs (F := Ideal)) (onTc (τ := Cert.WideReferenceIdeal.τ) (Cert.WideReferenceIdeal.main (F := Ideal))) ⟨m', fun _ => 0, g'⟩ (fun r => ∀ c : Dev Cert.WideReferenceIdeal.nD,
          r.2.mem ((c.tc : Thread Cert.WideReferenceIdeal.nD Cert.WideReferenceIdeal.τ).loc Cert.WideReferenceIdeal.main_v3) = v0 c
          ∧ r.2.mem ((c.tc : Thread Cert.WideReferenceIdeal.nD Cert.WideReferenceIdeal.τ).loc Cert.WideReferenceIdeal.main_arg0) = m' ((c.tc : Thread Cert.WideReferenceIdeal.nD Cert.WideReferenceIdeal.τ).loc Cert.WideReferenceIdeal.main_arg0)
          ∧ r.2.mem ((c.tc : Thread Cert.WideReferenceIdeal.nD Cert.WideReferenceIdeal.τ).loc Cert.WideReferenceIdeal.main_arg1) = m' ((c.tc : Thread Cert.WideReferenceIdeal.nD Cert.WideReferenceIdeal.τ).loc Cert.WideReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v15) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Pw_PwIdeal : Prop :=
  True

def algebraic_PwIdeal_PwReferenceIdeal [hPwIdeal : Cert.PwIdeal.Facts] [hPwReferenceIdeal : Cert.PwReferenceIdeal.Facts] : Prop :=
  ∀ (m : (ℓ : Loc Cert.PwIdeal.nD Cert.PwIdeal.τ Cert.PwIdeal.sig) → Buf (Elt Ideal) ℓ) (g : Dev Cert.PwIdeal.nD → PrngReg)
    (m' : (ℓ : Loc Cert.PwReferenceIdeal.nD Cert.PwReferenceIdeal.τ Cert.PwReferenceIdeal.sig) → Buf (Elt Ideal) ℓ) (g' : Dev Cert.PwReferenceIdeal.nD → PrngReg), Pre_PwIdeal m →
    (∀ c : Dev Cert.PwIdeal.nD,
      m' ((c.tc : Thread Cert.PwReferenceIdeal.nD Cert.PwReferenceIdeal.τ).loc Cert.PwReferenceIdeal.main_arg0) = m ((c.tc : Thread Cert.PwIdeal.nD Cert.PwIdeal.τ).loc Cert.PwIdeal.main_arg0)
      ∧ m' ((c.tc : Thread Cert.PwReferenceIdeal.nD Cert.PwReferenceIdeal.τ).loc Cert.PwReferenceIdeal.main_arg1) = m ((c.tc : Thread Cert.PwIdeal.nD Cert.PwIdeal.τ).loc Cert.PwIdeal.main_arg1)
      ∧ m' ((c.tc : Thread Cert.PwReferenceIdeal.nD Cert.PwReferenceIdeal.τ).loc Cert.PwReferenceIdeal.main_arg2) = m ((c.tc : Thread Cert.PwIdeal.nD Cert.PwIdeal.τ).loc Cert.PwIdeal.main_arg2)
      ∧ m' ((c.tc : Thread Cert.PwReferenceIdeal.nD Cert.PwReferenceIdeal.τ).loc Cert.PwReferenceIdeal.main_arg3) = m ((c.tc : Thread Cert.PwIdeal.nD Cert.PwIdeal.τ).loc Cert.PwIdeal.main_arg3)) →
    ∃ (v0 : (c : Dev Cert.PwIdeal.nD) → Buf (Elt Ideal) ((c.tc : Thread Cert.PwIdeal.nD Cert.PwIdeal.τ).loc Cert.PwIdeal.main_v1)),
      θ_run (Cert.PwIdeal.defs (F := Ideal)) (onTc (τ := Cert.PwIdeal.τ) (Cert.PwIdeal.main (F := Ideal))) ⟨m, fun _ => 0, g⟩ (fun r => ∀ c : Dev Cert.PwIdeal.nD,
          r.2.mem ((c.tc : Thread Cert.PwIdeal.nD Cert.PwIdeal.τ).loc Cert.PwIdeal.main_v1) = v0 c
          ∧ r.2.mem ((c.tc : Thread Cert.PwIdeal.nD Cert.PwIdeal.τ).loc Cert.PwIdeal.main_arg0) = m ((c.tc : Thread Cert.PwIdeal.nD Cert.PwIdeal.τ).loc Cert.PwIdeal.main_arg0)
          ∧ r.2.mem ((c.tc : Thread Cert.PwIdeal.nD Cert.PwIdeal.τ).loc Cert.PwIdeal.main_arg1) = m ((c.tc : Thread Cert.PwIdeal.nD Cert.PwIdeal.τ).loc Cert.PwIdeal.main_arg1)
          ∧ r.2.mem ((c.tc : Thread Cert.PwIdeal.nD Cert.PwIdeal.τ).loc Cert.PwIdeal.main_arg2) = m ((c.tc : Thread Cert.PwIdeal.nD Cert.PwIdeal.τ).loc Cert.PwIdeal.main_arg2)
          ∧ r.2.mem ((c.tc : Thread Cert.PwIdeal.nD Cert.PwIdeal.τ).loc Cert.PwIdeal.main_arg3) = m ((c.tc : Thread Cert.PwIdeal.nD Cert.PwIdeal.τ).loc Cert.PwIdeal.main_arg3))
      ∧ θ_run (Cert.PwReferenceIdeal.defs (F := Ideal)) (onTc (τ := Cert.PwReferenceIdeal.τ) (Cert.PwReferenceIdeal.main (F := Ideal))) ⟨m', fun _ => 0, g'⟩ (fun r => ∀ c : Dev Cert.PwReferenceIdeal.nD,
          r.2.mem ((c.tc : Thread Cert.PwReferenceIdeal.nD Cert.PwReferenceIdeal.τ).loc Cert.PwReferenceIdeal.main_v6) = v0 c
          ∧ r.2.mem ((c.tc : Thread Cert.PwReferenceIdeal.nD Cert.PwReferenceIdeal.τ).loc Cert.PwReferenceIdeal.main_arg0) = m' ((c.tc : Thread Cert.PwReferenceIdeal.nD Cert.PwReferenceIdeal.τ).loc Cert.PwReferenceIdeal.main_arg0)
          ∧ r.2.mem ((c.tc : Thread Cert.PwReferenceIdeal.nD Cert.PwReferenceIdeal.τ).loc Cert.PwReferenceIdeal.main_arg1) = m' ((c.tc : Thread Cert.PwReferenceIdeal.nD Cert.PwReferenceIdeal.τ).loc Cert.PwReferenceIdeal.main_arg1)
          ∧ r.2.mem ((c.tc : Thread Cert.PwReferenceIdeal.nD Cert.PwReferenceIdeal.τ).loc Cert.PwReferenceIdeal.main_arg2) = m' ((c.tc : Thread Cert.PwReferenceIdeal.nD Cert.PwReferenceIdeal.τ).loc Cert.PwReferenceIdeal.main_arg2)
          ∧ r.2.mem ((c.tc : Thread Cert.PwReferenceIdeal.nD Cert.PwReferenceIdeal.τ).loc Cert.PwReferenceIdeal.main_arg3) = m' ((c.tc : Thread Cert.PwReferenceIdeal.nD Cert.PwReferenceIdeal.τ).loc Cert.PwReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Layernorm_LayernormIdeal : Prop :=
  True

def algebraic_LayernormIdeal_LayernormReferenceIdeal [hLayernormIdeal : Cert.LayernormIdeal.Facts] [hLayernormReferenceIdeal : Cert.LayernormReferenceIdeal.Facts] : Prop :=
  ∀ (m : (ℓ : Loc Cert.LayernormIdeal.nD Cert.LayernormIdeal.τ Cert.LayernormIdeal.sig) → Buf (Elt Ideal) ℓ) (g : Dev Cert.LayernormIdeal.nD → PrngReg)
    (m' : (ℓ : Loc Cert.LayernormReferenceIdeal.nD Cert.LayernormReferenceIdeal.τ Cert.LayernormReferenceIdeal.sig) → Buf (Elt Ideal) ℓ) (g' : Dev Cert.LayernormReferenceIdeal.nD → PrngReg), Pre_LayernormIdeal m →
    (∀ c : Dev Cert.LayernormIdeal.nD,
      m' ((c.tc : Thread Cert.LayernormReferenceIdeal.nD Cert.LayernormReferenceIdeal.τ).loc Cert.LayernormReferenceIdeal.main_arg0) = m ((c.tc : Thread Cert.LayernormIdeal.nD Cert.LayernormIdeal.τ).loc Cert.LayernormIdeal.main_arg0)
      ∧ m' ((c.tc : Thread Cert.LayernormReferenceIdeal.nD Cert.LayernormReferenceIdeal.τ).loc Cert.LayernormReferenceIdeal.main_arg1) = m ((c.tc : Thread Cert.LayernormIdeal.nD Cert.LayernormIdeal.τ).loc Cert.LayernormIdeal.main_arg1)
      ∧ m' ((c.tc : Thread Cert.LayernormReferenceIdeal.nD Cert.LayernormReferenceIdeal.τ).loc Cert.LayernormReferenceIdeal.main_arg2) = m ((c.tc : Thread Cert.LayernormIdeal.nD Cert.LayernormIdeal.τ).loc Cert.LayernormIdeal.main_arg2)) →
    ∃ (v0 : (c : Dev Cert.LayernormIdeal.nD) → Buf (Elt Ideal) ((c.tc : Thread Cert.LayernormIdeal.nD Cert.LayernormIdeal.τ).loc Cert.LayernormIdeal.main_v2)),
      θ_run (Cert.LayernormIdeal.defs (F := Ideal)) (onTc (τ := Cert.LayernormIdeal.τ) (Cert.LayernormIdeal.main (F := Ideal))) ⟨m, fun _ => 0, g⟩ (fun r => ∀ c : Dev Cert.LayernormIdeal.nD,
          r.2.mem ((c.tc : Thread Cert.LayernormIdeal.nD Cert.LayernormIdeal.τ).loc Cert.LayernormIdeal.main_v2) = v0 c
          ∧ r.2.mem ((c.tc : Thread Cert.LayernormIdeal.nD Cert.LayernormIdeal.τ).loc Cert.LayernormIdeal.main_arg0) = m ((c.tc : Thread Cert.LayernormIdeal.nD Cert.LayernormIdeal.τ).loc Cert.LayernormIdeal.main_arg0)
          ∧ r.2.mem ((c.tc : Thread Cert.LayernormIdeal.nD Cert.LayernormIdeal.τ).loc Cert.LayernormIdeal.main_arg1) = m ((c.tc : Thread Cert.LayernormIdeal.nD Cert.LayernormIdeal.τ).loc Cert.LayernormIdeal.main_arg1)
          ∧ r.2.mem ((c.tc : Thread Cert.LayernormIdeal.nD Cert.LayernormIdeal.τ).loc Cert.LayernormIdeal.main_arg2) = m ((c.tc : Thread Cert.LayernormIdeal.nD Cert.LayernormIdeal.τ).loc Cert.LayernormIdeal.main_arg2))
      ∧ θ_run (Cert.LayernormReferenceIdeal.defs (F := Ideal)) (onTc (τ := Cert.LayernormReferenceIdeal.τ) (Cert.LayernormReferenceIdeal.main (F := Ideal))) ⟨m', fun _ => 0, g'⟩ (fun r => ∀ c : Dev Cert.LayernormReferenceIdeal.nD,
          r.2.mem ((c.tc : Thread Cert.LayernormReferenceIdeal.nD Cert.LayernormReferenceIdeal.τ).loc Cert.LayernormReferenceIdeal.main_v25) = v0 c
          ∧ r.2.mem ((c.tc : Thread Cert.LayernormReferenceIdeal.nD Cert.LayernormReferenceIdeal.τ).loc Cert.LayernormReferenceIdeal.main_arg0) = m' ((c.tc : Thread Cert.LayernormReferenceIdeal.nD Cert.LayernormReferenceIdeal.τ).loc Cert.LayernormReferenceIdeal.main_arg0)
          ∧ r.2.mem ((c.tc : Thread Cert.LayernormReferenceIdeal.nD Cert.LayernormReferenceIdeal.τ).loc Cert.LayernormReferenceIdeal.main_arg1) = m' ((c.tc : Thread Cert.LayernormReferenceIdeal.nD Cert.LayernormReferenceIdeal.τ).loc Cert.LayernormReferenceIdeal.main_arg1)
          ∧ r.2.mem ((c.tc : Thread Cert.LayernormReferenceIdeal.nD Cert.LayernormReferenceIdeal.τ).loc Cert.LayernormReferenceIdeal.main_arg2) = m' ((c.tc : Thread Cert.LayernormReferenceIdeal.nD Cert.LayernormReferenceIdeal.τ).loc Cert.LayernormReferenceIdeal.main_arg2))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v36) = v0 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)
      ∧ m' ((c.tc : Thread Cert.RopeReferenceIdeal.nD Cert.RopeReferenceIdeal.τ).loc Cert.RopeReferenceIdeal.main_arg4) = m ((c.tc : Thread Cert.RopeIdeal.nD Cert.RopeIdeal.τ).loc Cert.RopeIdeal.main_arg4)) →
    ∃ (v0 : (c : Dev Cert.RopeIdeal.nD) → Buf (Elt Ideal) ((c.tc : Thread Cert.RopeIdeal.nD Cert.RopeIdeal.τ).loc Cert.RopeIdeal.main_v11)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v11) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v72) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4))

def preserves_Dwconv_DwconvIdeal : Prop :=
  True

def algebraic_DwconvIdeal_DwconvReferenceIdeal [hDwconvIdeal : Cert.DwconvIdeal.Facts] [hDwconvReferenceIdeal : Cert.DwconvReferenceIdeal.Facts] : Prop :=
  ∀ (m : (ℓ : Loc Cert.DwconvIdeal.nD Cert.DwconvIdeal.τ Cert.DwconvIdeal.sig) → Buf (Elt Ideal) ℓ) (g : Dev Cert.DwconvIdeal.nD → PrngReg)
    (m' : (ℓ : Loc Cert.DwconvReferenceIdeal.nD Cert.DwconvReferenceIdeal.τ Cert.DwconvReferenceIdeal.sig) → Buf (Elt Ideal) ℓ) (g' : Dev Cert.DwconvReferenceIdeal.nD → PrngReg), Pre_DwconvIdeal m →
    (∀ c : Dev Cert.DwconvIdeal.nD,
      m' ((c.tc : Thread Cert.DwconvReferenceIdeal.nD Cert.DwconvReferenceIdeal.τ).loc Cert.DwconvReferenceIdeal.main_arg0) = m ((c.tc : Thread Cert.DwconvIdeal.nD Cert.DwconvIdeal.τ).loc Cert.DwconvIdeal.main_arg0)
      ∧ m' ((c.tc : Thread Cert.DwconvReferenceIdeal.nD Cert.DwconvReferenceIdeal.τ).loc Cert.DwconvReferenceIdeal.main_arg1) = m ((c.tc : Thread Cert.DwconvIdeal.nD Cert.DwconvIdeal.τ).loc Cert.DwconvIdeal.main_arg1)
      ∧ m' ((c.tc : Thread Cert.DwconvReferenceIdeal.nD Cert.DwconvReferenceIdeal.τ).loc Cert.DwconvReferenceIdeal.main_arg2) = m ((c.tc : Thread Cert.DwconvIdeal.nD Cert.DwconvIdeal.τ).loc Cert.DwconvIdeal.main_arg2)) →
    ∃ (v0 : (c : Dev Cert.DwconvIdeal.nD) → Buf (Elt Ideal) ((c.tc : Thread Cert.DwconvIdeal.nD Cert.DwconvIdeal.τ).loc Cert.DwconvIdeal.main_v1)),
      θ_run (Cert.DwconvIdeal.defs (F := Ideal)) (onTc (τ := Cert.DwconvIdeal.τ) (Cert.DwconvIdeal.main (F := Ideal))) ⟨m, fun _ => 0, g⟩ (fun r => ∀ c : Dev Cert.DwconvIdeal.nD,
          r.2.mem ((c.tc : Thread Cert.DwconvIdeal.nD Cert.DwconvIdeal.τ).loc Cert.DwconvIdeal.main_v1) = v0 c
          ∧ r.2.mem ((c.tc : Thread Cert.DwconvIdeal.nD Cert.DwconvIdeal.τ).loc Cert.DwconvIdeal.main_arg0) = m ((c.tc : Thread Cert.DwconvIdeal.nD Cert.DwconvIdeal.τ).loc Cert.DwconvIdeal.main_arg0)
          ∧ r.2.mem ((c.tc : Thread Cert.DwconvIdeal.nD Cert.DwconvIdeal.τ).loc Cert.DwconvIdeal.main_arg1) = m ((c.tc : Thread Cert.DwconvIdeal.nD Cert.DwconvIdeal.τ).loc Cert.DwconvIdeal.main_arg1)
          ∧ r.2.mem ((c.tc : Thread Cert.DwconvIdeal.nD Cert.DwconvIdeal.τ).loc Cert.DwconvIdeal.main_arg2) = m ((c.tc : Thread Cert.DwconvIdeal.nD Cert.DwconvIdeal.τ).loc Cert.DwconvIdeal.main_arg2))
      ∧ θ_run (Cert.DwconvReferenceIdeal.defs (F := Ideal)) (onTc (τ := Cert.DwconvReferenceIdeal.τ) (Cert.DwconvReferenceIdeal.main (F := Ideal))) ⟨m', fun _ => 0, g'⟩ (fun r => ∀ c : Dev Cert.DwconvReferenceIdeal.nD,
          r.2.mem ((c.tc : Thread Cert.DwconvReferenceIdeal.nD Cert.DwconvReferenceIdeal.τ).loc Cert.DwconvReferenceIdeal.main_v451) = v0 c
          ∧ r.2.mem ((c.tc : Thread Cert.DwconvReferenceIdeal.nD Cert.DwconvReferenceIdeal.τ).loc Cert.DwconvReferenceIdeal.main_arg0) = m' ((c.tc : Thread Cert.DwconvReferenceIdeal.nD Cert.DwconvReferenceIdeal.τ).loc Cert.DwconvReferenceIdeal.main_arg0)
          ∧ r.2.mem ((c.tc : Thread Cert.DwconvReferenceIdeal.nD Cert.DwconvReferenceIdeal.τ).loc Cert.DwconvReferenceIdeal.main_arg1) = m' ((c.tc : Thread Cert.DwconvReferenceIdeal.nD Cert.DwconvReferenceIdeal.τ).loc Cert.DwconvReferenceIdeal.main_arg1)
          ∧ r.2.mem ((c.tc : Thread Cert.DwconvReferenceIdeal.nD Cert.DwconvReferenceIdeal.τ).loc Cert.DwconvReferenceIdeal.main_arg2) = m' ((c.tc : Thread Cert.DwconvReferenceIdeal.nD Cert.DwconvReferenceIdeal.τ).loc Cert.DwconvReferenceIdeal.main_arg2))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluReferenceIdeal : Cert.SwigluReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hExperts : Cert.Experts.Facts) (hExpertsIdeal : Cert.ExpertsIdeal.Facts) (hExpertsReferenceIdeal : Cert.ExpertsReferenceIdeal.Facts) (hQkv : Cert.Qkv.Facts) (hQkvIdeal : Cert.QkvIdeal.Facts) (hQkvReferenceIdeal : Cert.QkvReferenceIdeal.Facts) (hWide : Cert.Wide.Facts) (hWideIdeal : Cert.WideIdeal.Facts) (hWideReferenceIdeal : Cert.WideReferenceIdeal.Facts) (hGlu : Cert.Glu.Facts) (hGluIdeal : Cert.GluIdeal.Facts) (hGluReferenceIdeal : Cert.GluReferenceIdeal.Facts) (hPw : Cert.Pw.Facts) (hPwIdeal : Cert.PwIdeal.Facts) (hPwReferenceIdeal : Cert.PwReferenceIdeal.Facts) (hNorm : Cert.Norm.Facts) (hNormIdeal : Cert.NormIdeal.Facts) (hNormReferenceIdeal : Cert.NormReferenceIdeal.Facts) (hLayernorm : Cert.Layernorm.Facts) (hLayernormIdeal : Cert.LayernormIdeal.Facts) (hLayernormReferenceIdeal : Cert.LayernormReferenceIdeal.Facts) (hPrep : Cert.Prep.Facts) (hPrepIdeal : Cert.PrepIdeal.Facts) (hPrepReferenceIdeal : Cert.PrepReferenceIdeal.Facts) (hRope : Cert.Rope.Facts) (hRopeIdeal : Cert.RopeIdeal.Facts) (hRopeReferenceIdeal : Cert.RopeReferenceIdeal.Facts) (hDwconv : Cert.Dwconv.Facts) (hDwconvIdeal : Cert.DwconvIdeal.Facts) (hDwconvReferenceIdeal : Cert.DwconvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Wide (hWide := hWide)
    ∧ quiescent_WideIdeal (hWideIdeal := hWideIdeal)
    ∧ quiescent_WideReferenceIdeal (hWideReferenceIdeal := hWideReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Pw (hPw := hPw)
    ∧ quiescent_PwIdeal (hPwIdeal := hPwIdeal)
    ∧ quiescent_PwReferenceIdeal (hPwReferenceIdeal := hPwReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Layernorm (hLayernorm := hLayernorm)
    ∧ quiescent_LayernormIdeal (hLayernormIdeal := hLayernormIdeal)
    ∧ quiescent_LayernormReferenceIdeal (hLayernormReferenceIdeal := hLayernormReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_Dwconv (hDwconv := hDwconv)
    ∧ quiescent_DwconvIdeal (hDwconvIdeal := hDwconvIdeal)
    ∧ quiescent_DwconvReferenceIdeal (hDwconvReferenceIdeal := hDwconvReferenceIdeal)
    ∧ preserves_Kernel_KernelIdeal
    ∧ algebraic_KernelIdeal_ReferenceIdeal (hKernelIdeal := hKernelIdeal) (hReferenceIdeal := hReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Qkv_QkvIdeal
    ∧ algebraic_QkvIdeal_QkvReferenceIdeal (hQkvIdeal := hQkvIdeal) (hQkvReferenceIdeal := hQkvReferenceIdeal)
    ∧ preserves_Wide_WideIdeal
    ∧ algebraic_WideIdeal_WideReferenceIdeal (hWideIdeal := hWideIdeal) (hWideReferenceIdeal := hWideReferenceIdeal)
    ∧ preserves_Glu_GluIdeal
    ∧ algebraic_GluIdeal_GluReferenceIdeal (hGluIdeal := hGluIdeal) (hGluReferenceIdeal := hGluReferenceIdeal)
    ∧ preserves_Pw_PwIdeal
    ∧ algebraic_PwIdeal_PwReferenceIdeal (hPwIdeal := hPwIdeal) (hPwReferenceIdeal := hPwReferenceIdeal)
    ∧ preserves_Norm_NormIdeal
    ∧ algebraic_NormIdeal_NormReferenceIdeal (hNormIdeal := hNormIdeal) (hNormReferenceIdeal := hNormReferenceIdeal)
    ∧ preserves_Layernorm_LayernormIdeal
    ∧ algebraic_LayernormIdeal_LayernormReferenceIdeal (hLayernormIdeal := hLayernormIdeal) (hLayernormReferenceIdeal := hLayernormReferenceIdeal)
    ∧ preserves_Prep_PrepIdeal
    ∧ algebraic_PrepIdeal_PrepReferenceIdeal (hPrepIdeal := hPrepIdeal) (hPrepReferenceIdeal := hPrepReferenceIdeal)
    ∧ preserves_Rope_RopeIdeal
    ∧ algebraic_RopeIdeal_RopeReferenceIdeal (hRopeIdeal := hRopeIdeal) (hRopeReferenceIdeal := hRopeReferenceIdeal)
    ∧ preserves_Dwconv_DwconvIdeal
    ∧ algebraic_DwconvIdeal_DwconvReferenceIdeal (hDwconvIdeal := hDwconvIdeal) (hDwconvReferenceIdeal := hDwconvReferenceIdeal)
-- ==== Kernel.lean ====
abbrev S24576x5120 : Shape := ⟨2, ![24576, 5120]⟩
abbrev S24576x6144 : Shape := ⟨2, ![24576, 6144]⟩
abbrev S544 : Shape := ⟨1, ![544]⟩
abbrev S24576x4096 : Shape := ⟨2, ![24576, 4096]⟩
abbrev S512x512 : Shape := ⟨2, ![512, 512]⟩
abbrev S1 : Shape := ⟨1, ![1]⟩
abbrev S1024x128 : Shape := ⟨2, ![1024, 128]⟩
abbrev S4x512x1 : Shape := ⟨3, ![4, 512, 1]⟩
abbrev S4x512x128 : Shape := ⟨3, ![4, 512, 128]⟩
abbrev S512x128 : Shape := ⟨2, ![512, 128]⟩
abbrev S512x1024 : Shape := ⟨2, ![512, 1024]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩

abbrev nBuf : Space → Nat
  | .hbm => 3
  | .vmem => 11
  | .smem => 6
  | _ => 0

abbrev bufTy : (tb : Table) → Fin (tcTables nBuf tb) → BufTy
  | .hbm, ⟨0, _⟩ => ⟨S24576x5120, .bf16⟩
  | .hbm, ⟨1, _⟩ => ⟨S24576x6144, .bf16⟩
  | .hbm, ⟨2, _⟩ => ⟨S24576x4096, .bf16⟩
  | .local _ .vmem, ⟨0, _⟩ => ⟨S512x512, .bf16⟩
  | .local _ .vmem, ⟨1, _⟩ => ⟨S512x512, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S512x512, .bf16⟩
  | .local _ .vmem, ⟨7, _⟩ => ⟨S512x512, .bf16⟩
  | .local _ .vmem, ⟨8, _⟩ => ⟨S4x512x1, .f32⟩
  | .local _ .vmem, ⟨9, _⟩ => ⟨S4x512x1, .f32⟩
  | .local _ .vmem, ⟨10, _⟩ => ⟨S4x512x128, .f32⟩
  | .local _ .smem, ⟨0, _⟩ => ⟨S544, .i32⟩
  | .local _ .smem, ⟨1, _⟩ => ⟨S544, .i32⟩
  | .local _ .smem, ⟨2, _⟩ => ⟨S544, .i32⟩
  | .local _ .smem, ⟨3, _⟩ => ⟨S544, .i32⟩
  | .local _ .smem, ⟨4, _⟩ => ⟨S544, .i32⟩
  | .local _ .smem, ⟨5, _⟩ => ⟨S544, .i32⟩
  | _, _ => ⟨S24576x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_c_3 : Ref sig .tc := ⟨.smem, 4, rfl⟩
abbrev main_c_4 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 544], ![false, false]⟩

abbrev pre0 : Pipeline.Prefetch sig := ⟨6, ![main_c.idx, main_c_0.idx, main_c_1.idx, main_c_2.idx, main_c_3.idx, main_c_4.idx], fun | 0 => main_c.names | 1 => main_c_0.names | 2 => main_c_1.names | 3 => main_c_2.names | 4 => main_c_3.names | 5 => main_c_4.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v143 : Index := Scalar.indexCast arg1
  ![v143.toNat]
def k0_cond2 (v144 : BitVec 32) : BitVec 1 :=
  let c1_i32_92 : BitVec 32 := 1#32
  let v145 : BitVec 1 := Scalar.cmpi .eq v144 c1_i32_92
  let v146 : BitVec 32 := Scalar.extui v145
  let c0_i32_93 : BitVec 32 := 0#32
  let v147 : BitVec 1 := Scalar.cmpi .ne v146 c0_i32_93
  v147

def cc0_transform_0 (k0_off1_inb : ∀ i : grid0.Coords, ∀ a, (k0_off1 i) a + S1.size a ≤ S544.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S544) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S544.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S544) ![v0.toNat] S1.size (k0_off1_inb i)) numel1_S1
  let c32_i32 : BitVec 32 := 32#32
  let v2 : BitVec 32 := Scalar.addi c32_i32 arg0
  let c0_i32 : BitVec 32 := 0#32
  ![v1.toNat, v2.toNat]

def cc0_transform_2 (k0_off1_inb : ∀ i : grid0.Coords, ∀ a, (k0_off1 i) a + S1.size a ≤ S544.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S544) ![v0.toNat] S1.size (k0_off1_inb i)) numel1_S1
  let c40_i32 : BitVec 32 := 40#32
  let v2 : BitVec 32 := Scalar.addi c40_i32 arg0
  let c0_i32 : BitVec 32 := 0#32
  ![v1.toNat, v2.toNat]

def cc0_transform_3 (k0_off1_inb : ∀ i : grid0.Coords, ∀ a, (k0_off1 i) a + S1.size a ≤ S544.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S544) ![v0.toNat] S1.size (k0_off1_inb i)) numel1_S1
  let c0_i32 : BitVec 32 := 0#32
  ![v1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S24576x5120 : Shape := ⟨2, ![24576, 5120]⟩
abbrev S24576x6144 : Shape := ⟨2, ![24576, 6144]⟩
abbrev S8192x4096 : Shape := ⟨2, ![8192, 4096]⟩
abbrev S4x2048x8x4x128 : Shape := ⟨5, ![4, 2048, 8, 4, 128]⟩
abbrev S8192x1024 : Shape := ⟨2, ![8192, 1024]⟩
abbrev S4x2048x8x128 : Shape := ⟨4, ![4, 2048, 8, 128]⟩
abbrev S4x8x2048x2048x4 : Shape := ⟨5, ![4, 8, 2048, 2048, 4]⟩
abbrev S4x8x4x2048x2048 : Shape := ⟨5, ![4, 8, 4, 2048, 2048]⟩
abbrev S_ : Shape := ⟨0, ![]⟩
abbrev S4x8x4x2048 : Shape := ⟨4, ![4, 8, 4, 2048]⟩
abbrev S4x8x4x2048x1 : Shape := ⟨5, ![4, 8, 4, 2048, 1]⟩
abbrev S4x8x128x4x2048 : Shape := ⟨5, ![4, 8, 128, 4, 2048]⟩
abbrev S4x2048x8x4 : Shape := ⟨4, ![4, 2048, 8, 4]⟩
abbrev S4x2048x8x4x1 : Shape := ⟨5, ![4, 2048, 8, 4, 1]⟩
abbrev S4x2048x4096 : Shape := ⟨3, ![4, 2048, 4096]⟩
abbrev S16384x4096 : Shape := ⟨2, ![16384, 4096]⟩
abbrev S1x16384x8x4x128 : Shape := ⟨5, ![1, 16384, 8, 4, 128]⟩
abbrev S16384x1024 : Shape := ⟨2, ![16384, 1024]⟩
abbrev S1x16384x8x128 : Shape := ⟨4, ![1, 16384, 8, 128]⟩
abbrev S1x8x16384x16384x4 : Shape := ⟨5, ![1, 8, 16384, 16384, 4]⟩
abbrev S1x8x4x16384x16384 : Shape := ⟨5, ![1, 8, 4, 16384, 16384]⟩
abbrev S1x8x4x16384 : Shape := ⟨4, ![1, 8, 4, 16384]⟩
abbrev S1x8x4x16384x1 : Shape := ⟨5, ![1, 8, 4, 16384, 1]⟩
abbrev S1x8x128x4x16384 : Shape := ⟨5, ![1, 8, 128, 4, 16384]⟩
abbrev S1x16384x8x4 : Shape := ⟨4, ![1, 16384, 8, 4]⟩
abbrev S1x16384x8x4x1 : Shape := ⟨5, ![1, 16384, 8, 4, 1]⟩
abbrev S1x16384x4096 : Shape := ⟨3, ![1, 16384, 4096]⟩
abbrev S24576x4096 : Shape := ⟨2, ![24576, 4096]⟩

abbrev nBuf : Space → Nat
  | .hbm => 58
  | .vmem => 0
  | .smem => 0
  | _ => 0

abbrev bufTy : (tb : Table) → Fin (tcTables nBuf tb) → BufTy
  | .hbm, ⟨0, _⟩ => ⟨S24576x5120, .bf16⟩
  | .hbm, ⟨1, _⟩ => ⟨S24576x6144, .bf16⟩
  | .hbm, ⟨2, _⟩ => ⟨S24576x5120, .f32⟩
  | .hbm, ⟨3, _⟩ => ⟨S24576x6144, .f32⟩
  | .hbm, ⟨4, _⟩ => ⟨S8192x4096, .f32⟩
  | .hbm, ⟨5, _⟩ => ⟨S4x2048x8x4x128, .f32⟩
  | .hbm, ⟨6, _⟩ => ⟨S8192x1024, .f32⟩
  | .hbm, ⟨7, _⟩ => ⟨S4x2048x8x128, .f32⟩
  | .hbm, ⟨8, _⟩ => ⟨S8192x1024, .f32⟩
  | .hbm, ⟨9, _⟩ => ⟨S4x2048x8x128, .f32⟩
  | .hbm, ⟨10, _⟩ => ⟨S4x8x2048x2048x4, .f32⟩
  | .hbm, ⟨11, _⟩ => ⟨S4x8x4x2048x2048, .f32⟩
  | .hbm, ⟨12, _⟩ => ⟨S_, .f32⟩
  | .hbm, ⟨13, _⟩ => ⟨S4x8x4x2048, .f32⟩
  | .hbm, ⟨14, _⟩ => ⟨S4x8x4x2048x1, .f32⟩
  | .hbm, ⟨15, _⟩ => ⟨S4x8x4x2048x2048, .f32⟩
  | .hbm, ⟨16, _⟩ => ⟨S4x8x4x2048x2048, .f32⟩
  | .hbm, ⟨17, _⟩ => ⟨S_, .f32⟩
  | .hbm, ⟨18, _⟩ => ⟨S4x8x4x2048x2048, .f32⟩
  | .hbm, ⟨19, _⟩ => ⟨S4x8x4x2048x2048, .f32⟩
  | .hbm, ⟨20, _⟩ => ⟨S_, .f32⟩
  | .hbm, ⟨21, _⟩ => ⟨S4x8x4x2048, .f32⟩
  | .hbm, ⟨22, _⟩ => ⟨S4x8x128x4x2048, .f32⟩
  | .hbm, ⟨23, _⟩ => ⟨S4x2048x8x4x128, .f32⟩
  | .hbm, ⟨24, _⟩ => ⟨S4x2048x8x4, .f32⟩
  | .hbm, ⟨25, _⟩ => ⟨S4x2048x8x4x1, .f32⟩
  | .hbm, ⟨26, _⟩ => ⟨S4x2048x8x4x128, .f32⟩
  | .hbm, ⟨27, _⟩ => ⟨S4x2048x8x4x128, .f32⟩
  | .hbm, ⟨28, _⟩ => ⟨S4x2048x4096, .f32⟩
  | .hbm, ⟨29, _⟩ => ⟨S8192x4096, .f32⟩
  | .hbm, ⟨30, _⟩ => ⟨S16384x4096, .f32⟩
  | .hbm, ⟨31, _⟩ => ⟨S1x16384x8x4x128, .f32⟩
  | .hbm, ⟨32, _⟩ => ⟨S16384x1024, .f32⟩
  | .hbm, ⟨33, _⟩ => ⟨S1x16384x8x128, .f32⟩
  | .hbm, ⟨34, _⟩ => ⟨S16384x1024, .f32⟩
  | .hbm, ⟨35, _⟩ => ⟨S1x16384x8x128, .f32⟩
  | .hbm, ⟨36, _⟩ => ⟨S1x8x16384x16384x4, .f32⟩
  | .hbm, ⟨37, _⟩ => ⟨S1x8x4x16384x16384, .f32⟩
  | .hbm, ⟨38, _⟩ => ⟨S_, .f32⟩
  | .hbm, ⟨39, _⟩ => ⟨S1x8x4x16384, .f32⟩
  | .hbm, ⟨40, _⟩ => ⟨S1x8x4x16384x1, .f32⟩
  | .hbm, ⟨41, _⟩ => ⟨S1x8x4x16384x16384, .f32⟩
  | .hbm, ⟨42, _⟩ => ⟨S1x8x4x16384x16384, .f32⟩
  | .hbm, ⟨43, _⟩ => ⟨S_, .f32⟩
  | .hbm, ⟨44, _⟩ => ⟨S1x8x4x16384x16384, .f32⟩
  | .hbm, ⟨45, _⟩ => ⟨S1x8x4x16384x16384, .f32⟩
  | .hbm, ⟨46, _⟩ => ⟨S_, .f32⟩
  | .hbm, ⟨47, _⟩ => ⟨S1x8x4x16384, .f32⟩
  | .hbm, ⟨48, _⟩ => ⟨S1x8x128x4x16384, .f32⟩
  | .hbm, ⟨49, _⟩ => ⟨S1x16384x8x4x128, .f32⟩
  | .hbm, ⟨50, _⟩ => ⟨S1x16384x8x4, .f32⟩
  | .hbm, ⟨51, _⟩ => ⟨S1x16384x8x4x1, .f32⟩
  | .hbm, ⟨52, _⟩ => ⟨S1x16384x8x4x128, .f32⟩
  | .hbm, ⟨53, _⟩ => ⟨S1x16384x8x4x128, .f32⟩
  | .hbm, ⟨54, _⟩ => ⟨S1x16384x4096, .f32⟩
  | .hbm, ⟨55, _⟩ => ⟨S16384x4096, .f32⟩
  | .hbm, ⟨56, _⟩ => ⟨S24576x4096, .f32⟩
  | .hbm, ⟨57, _⟩ => ⟨S24576x4096, .bf16⟩
  | _, _ => ⟨S24576x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== Swiglu.lean ====
abbrev S24576x4096 : Shape := ⟨2, ![24576, 4096]⟩
abbrev S4096x8192 : Shape := ⟨2, ![4096, 8192]⟩
abbrev S24576x8192 : Shape := ⟨2, ![24576, 8192]⟩
abbrev S1024x1024 : Shape := ⟨2, ![1024, 1024]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S24576x4096, .bf16⟩
  | .hbm, ⟨1, _⟩ => ⟨S4096x8192, .bf16⟩
  | .hbm, ⟨2, _⟩ => ⟨S4096x8192, .bf16⟩
  | .hbm, ⟨3, _⟩ => ⟨S24576x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![24, 16, 4], ![false, false, false]⟩

def k0_cond5 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SwigluReferenceIdeal.lean ====
abbrev S24576x4096 : Shape := ⟨2, ![24576, 4096]⟩
abbrev S4096x8192 : Shape := ⟨2, ![4096, 8192]⟩
abbrev S24576x8192 : Shape := ⟨2, ![24576, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x8192, .bf16⟩
  | .hbm, ⟨2, _⟩ => ⟨S4096x8192, .bf16⟩
  | .hbm, ⟨3, _⟩ => ⟨S24576x4096, .f32⟩
  | .hbm, ⟨4, _⟩ => ⟨S4096x8192, .f32⟩
  | .hbm, ⟨5, _⟩ => ⟨S4096x8192, .f32⟩
  | .hbm, ⟨6, _⟩ => ⟨S24576x8192, .f32⟩
  | .hbm, ⟨7, _⟩ => ⟨S24576x8192, .f32⟩
  | .hbm, ⟨8, _⟩ => ⟨S24576x8192, .f32⟩
  | .hbm, ⟨9, _⟩ => ⟨S_, .f32⟩
  | .hbm, ⟨10, _⟩ => ⟨S24576x8192, .f32⟩
  | .hbm, ⟨11, _⟩ => ⟨S24576x8192, .f32⟩
  | .hbm, ⟨12, _⟩ => ⟨S_, .f32⟩
  | .hbm, ⟨13, _⟩ => ⟨S24576x8192, .f32⟩
  | .hbm, ⟨14, _⟩ => ⟨S24576x8192, .f32⟩
  | .hbm, ⟨15, _⟩ => ⟨S24576x8192, .f32⟩
  | .hbm, ⟨16, _⟩ => ⟨S24576x8192, .f32⟩
  | .hbm, ⟨17, _⟩ => ⟨S24576x8192, .f32⟩
  | .hbm, ⟨18, _⟩ => ⟨S24576x8192, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Down.lean ====
abbrev S24576x8192 : Shape := ⟨2, ![24576, 8192]⟩
abbrev S8192x4096 : Shape := ⟨2, ![8192, 4096]⟩
abbrev S24576x4096 : Shape := ⟨2, ![24576, 4096]⟩
abbrev S1024x1024 : Shape := ⟨2, ![1024, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S24576x8192, .bf16⟩
  | .hbm, ⟨1, _⟩ => ⟨S8192x4096, .bf16⟩
  | .hbm, ⟨2, _⟩ => ⟨S24576x4096, .f32⟩
  | .hbm, ⟨3, _⟩ => ⟨S24576x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S24576x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![24, 8, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S24576x8192 : Shape := ⟨2, ![24576, 8192]⟩
abbrev S8192x4096 : Shape := ⟨2, ![8192, 4096]⟩
abbrev S24576x4096 : Shape := ⟨2, ![24576, 4096]⟩

abbrev nBuf : Space → Nat
  | .hbm => 7
  | .vmem => 0
  | .smem => 0
  | _ => 0

abbrev bufTy : (tb : Table) → Fin (tcTables nBuf tb) → BufTy
  | .hbm, ⟨0, _⟩ => ⟨S24576x8192, .bf16⟩
  | .hbm, ⟨1, _⟩ => ⟨S8192x4096, .bf16⟩
  | .hbm, ⟨2, _⟩ => ⟨S24576x4096, .f32⟩
  | .hbm, ⟨3, _⟩ => ⟨S24576x8192, .f32⟩
  | .hbm, ⟨4, _⟩ => ⟨S8192x4096, .f32⟩
  | .hbm, ⟨5, _⟩ => ⟨S24576x4096, .f32⟩
  | .hbm, ⟨6, _⟩ => ⟨S24576x4096, .f32⟩
  | _, _ => ⟨S24576x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S24576x4096 : Shape := ⟨2, ![24576, 4096]⟩
abbrev S4096x4096 : Shape := ⟨2, ![4096, 4096]⟩
abbrev S1024x1024 : Shape := ⟨2, ![1024, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .bf16⟩
  | .hbm, ⟨2, _⟩ => ⟨S24576x4096, .f32⟩
  | .hbm, ⟨3, _⟩ => ⟨S24576x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![24, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S24576x4096 : Shape := ⟨2, ![24576, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .bf16⟩
  | .hbm, ⟨2, _⟩ => ⟨S24576x4096, .f32⟩
  | .hbm, ⟨3, _⟩ => ⟨S24576x4096, .f32⟩
  | .hbm, ⟨4, _⟩ => ⟨S4096x4096, .f32⟩
  | .hbm, ⟨5, _⟩ => ⟨S24576x4096, .f32⟩
  | .hbm, ⟨6, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Experts.lean ====
abbrev S24576x4096 : Shape := ⟨2, ![24576, 4096]⟩
abbrev S8x4096x512 : Shape := ⟨3, ![8, 4096, 512]⟩
abbrev S24576x128 : Shape := ⟨2, ![24576, 128]⟩
abbrev S1024x1024 : Shape := ⟨2, ![1024, 1024]⟩
abbrev S1x1024x512 : Shape := ⟨3, ![1, 1024, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 5
  | .vmem => 12
  | .smem => 0
  | _ => 0

abbrev bufTy : (tb : Table) → Fin (tcTables nBuf tb) → BufTy
  | .hbm, ⟨0, _⟩ => ⟨S24576x4096, .bf16⟩
  | .hbm, ⟨1, _⟩ => ⟨S8x4096x512, .bf16⟩
  | .hbm, ⟨2, _⟩ => ⟨S8x4096x512, .bf16⟩
  | .hbm, ⟨3, _⟩ => ⟨S24576x128, .f32⟩
  | .hbm, ⟨4, _⟩ => ⟨S24576x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![24, 8, 4], ![false, false, false]⟩

def k0_cond5 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ExpertsReferenceIdeal.lean ====
abbrev S24576x4096 : Shape := ⟨2, ![24576, 4096]⟩
abbrev S8x4096x512 : Shape := ⟨3, ![8, 4096, 512]⟩
abbrev S24576x128 : Shape := ⟨2, ![24576, 128]⟩
abbrev S24576x8x512 : Shape := ⟨3, ![24576, 8, 512]⟩
abbrev S_ : Shape := ⟨0, ![]⟩
abbrev S24576x8 : Shape := ⟨2, ![24576, 8]⟩
abbrev S24576x8x1 : Shape := ⟨3, ![24576, 8, 1]⟩

abbrev nBuf : Space → Nat
  | .hbm => 25
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S8x4096x512, .bf16⟩
  | .hbm, ⟨2, _⟩ => ⟨S8x4096x512, .bf16⟩
  | .hbm, ⟨3, _⟩ => ⟨S24576x128, .f32⟩
  | .hbm, ⟨4, _⟩ => ⟨S24576x4096, .f32⟩
  | .hbm, ⟨5, _⟩ => ⟨S8x4096x512, .f32⟩
  | .hbm, ⟨6, _⟩ => ⟨S8x4096x512, .f32⟩
  | .hbm, ⟨7, _⟩ => ⟨S24576x8x512, .f32⟩
  | .hbm, ⟨8, _⟩ => ⟨S24576x8x512, .f32⟩
  | .hbm, ⟨9, _⟩ => ⟨S24576x8x512, .f32⟩
  | .hbm, ⟨10, _⟩ => ⟨S24576x8x512, .f32⟩
  | .hbm, ⟨11, _⟩ => ⟨S_, .f32⟩
  | .hbm, ⟨12, _⟩ => ⟨S24576x8x512, .f32⟩
  | .hbm, ⟨13, _⟩ => ⟨S24576x8x512, .f32⟩
  | .hbm, ⟨14, _⟩ => ⟨S_, .f32⟩
  | .hbm, ⟨15, _⟩ => ⟨S24576x8x512, .f32⟩
  | .hbm, ⟨16, _⟩ => ⟨S24576x8x512, .f32⟩
  | .hbm, ⟨17, _⟩ => ⟨S24576x8x512, .f32⟩
  | .hbm, ⟨18, _⟩ => ⟨S24576x8x512, .f32⟩
  | .hbm, ⟨19, _⟩ => ⟨S24576x8, .f32⟩
  | .hbm, ⟨20, _⟩ => ⟨S24576x8x1, .f32⟩
  | .hbm, ⟨21, _⟩ => ⟨S24576x8x512, .f32⟩
  | .hbm, ⟨22, _⟩ => ⟨S24576x8x512, .f32⟩
  | .hbm, ⟨23, _⟩ => ⟨S24576x4096, .f32⟩
  | .hbm, ⟨24, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Qkv.lean ====
abbrev S24576x4096 : Shape := ⟨2, ![24576, 4096]⟩
abbrev S4096x6144 : Shape := ⟨2, ![4096, 6144]⟩
abbrev S24576x6144 : Shape := ⟨2, ![24576, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S4096x6144, .bf16⟩
  | .hbm, ⟨2, _⟩ => ⟨S24576x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![24, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvIdeal.lean ====
abbrev S24576x4096 : Shape := ⟨2, ![24576, 4096]⟩
abbrev S4096x6144 : Shape := ⟨2, ![4096, 6144]⟩
abbrev S24576x6144 : Shape := ⟨2, ![24576, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S4096x6144, .bf16⟩
  | .hbm, ⟨2, _⟩ => ⟨S24576x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![24, 6, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvReferenceIdeal.lean ====
abbrev S24576x4096 : Shape := ⟨2, ![24576, 4096]⟩
abbrev S4096x6144 : Shape := ⟨2, ![4096, 6144]⟩
abbrev S24576x6144 : Shape := ⟨2, ![24576, 6144]⟩

abbrev nBuf : Space → Nat
  | .hbm => 6
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x6144, .bf16⟩
  | .hbm, ⟨2, _⟩ => ⟨S24576x4096, .f32⟩
  | .hbm, ⟨3, _⟩ => ⟨S4096x6144, .f32⟩
  | .hbm, ⟨4, _⟩ => ⟨S24576x6144, .f32⟩
  | .hbm, ⟨5, _⟩ => ⟨S24576x6144, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Wide.lean ====
abbrev S24576x4096 : Shape := ⟨2, ![24576, 4096]⟩
abbrev S4096x12288 : Shape := ⟨2, ![4096, 12288]⟩
abbrev S24576x12288 : Shape := ⟨2, ![24576, 12288]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S4096x12288, .bf16⟩
  | .hbm, ⟨2, _⟩ => ⟨S24576x12288, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![24, 12, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideReferenceIdeal.lean ====
abbrev S24576x4096 : Shape := ⟨2, ![24576, 4096]⟩
abbrev S4096x12288 : Shape := ⟨2, ![4096, 12288]⟩
abbrev S24576x12288 : Shape := ⟨2, ![24576, 12288]⟩

abbrev nBuf : Space → Nat
  | .hbm => 6
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x12288, .bf16⟩
  | .hbm, ⟨2, _⟩ => ⟨S24576x4096, .f32⟩
  | .hbm, ⟨3, _⟩ => ⟨S4096x12288, .f32⟩
  | .hbm, ⟨4, _⟩ => ⟨S24576x12288, .f32⟩
  | .hbm, ⟨5, _⟩ => ⟨S24576x12288, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Glu.lean ====
abbrev S24576x4096 : Shape := ⟨2, ![24576, 4096]⟩
abbrev S4096x8192 : Shape := ⟨2, ![4096, 8192]⟩
abbrev S8192 : Shape := ⟨1, ![8192]⟩
abbrev S1x8192 : Shape := ⟨2, ![1, 8192]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 5
  | .vmem => 14
  | .smem => 0
  | _ => 0

abbrev bufTy : (tb : Table) → Fin (tcTables nBuf tb) → BufTy
  | .hbm, ⟨0, _⟩ => ⟨S24576x4096, .bf16⟩
  | .hbm, ⟨1, _⟩ => ⟨S4096x8192, .bf16⟩
  | .hbm, ⟨2, _⟩ => ⟨S8192, .f32⟩
  | .hbm, ⟨3, _⟩ => ⟨S1x8192, .f32⟩
  | .hbm, ⟨4, _⟩ => ⟨S24576x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![24, 8, 4], ![false, false, false]⟩

def k0_cond5 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GluReferenceIdeal.lean ====
abbrev S24576x4096 : Shape := ⟨2, ![24576, 4096]⟩
abbrev S4096x8192 : Shape := ⟨2, ![4096, 8192]⟩
abbrev S8192 : Shape := ⟨1, ![8192]⟩
abbrev S24576x8192 : Shape := ⟨2, ![24576, 8192]⟩
abbrev S1x8192 : Shape := ⟨2, ![1, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x8192, .bf16⟩
  | .hbm, ⟨2, _⟩ => ⟨S8192, .f32⟩
  | .hbm, ⟨3, _⟩ => ⟨S24576x4096, .f32⟩
  | .hbm, ⟨4, _⟩ => ⟨S4096x8192, .f32⟩
  | .hbm, ⟨5, _⟩ => ⟨S24576x8192, .f32⟩
  | .hbm, ⟨6, _⟩ => ⟨S1x8192, .f32⟩
  | .hbm, ⟨7, _⟩ => ⟨S24576x8192, .f32⟩
  | .hbm, ⟨8, _⟩ => ⟨S24576x8192, .f32⟩
  | .hbm, ⟨9, _⟩ => ⟨S24576x4096, .f32⟩
  | .hbm, ⟨10, _⟩ => ⟨S24576x4096, .f32⟩
  | .hbm, ⟨11, _⟩ => ⟨S24576x4096, .f32⟩
  | .hbm, ⟨12, _⟩ => ⟨S24576x4096, .f32⟩
  | .hbm, ⟨13, _⟩ => ⟨S_, .f32⟩
  | .hbm, ⟨14, _⟩ => ⟨S24576x4096, .f32⟩
  | .hbm, ⟨15, _⟩ => ⟨S24576x4096, .f32⟩
  | .hbm, ⟨16, _⟩ => ⟨S_, .f32⟩
  | .hbm, ⟨17, _⟩ => ⟨S24576x4096, .f32⟩
  | .hbm, ⟨18, _⟩ => ⟨S24576x4096, .f32⟩
  | .hbm, ⟨19, _⟩ => ⟨S24576x4096, .f32⟩
  | .hbm, ⟨20, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Pw.lean ====
abbrev S24576x4096 : Shape := ⟨2, ![24576, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .bf16⟩
  | .hbm, ⟨2, _⟩ => ⟨S24576x4096, .f32⟩
  | .hbm, ⟨3, _⟩ => ⟨S4096, .f32⟩
  | .hbm, ⟨4, _⟩ => ⟨S1x4096, .f32⟩
  | .hbm, ⟨5, _⟩ => ⟨S24576x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![24, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== PwReferenceIdeal.lean ====
abbrev S24576x4096 : Shape := ⟨2, ![24576, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .bf16⟩
  | .hbm, ⟨2, _⟩ => ⟨S24576x4096, .f32⟩
  | .hbm, ⟨3, _⟩ => ⟨S4096, .f32⟩
  | .hbm, ⟨4, _⟩ => ⟨S24576x4096, .f32⟩
  | .hbm, ⟨5, _⟩ => ⟨S4096x4096, .f32⟩
  | .hbm, ⟨6, _⟩ => ⟨S24576x4096, .f32⟩
  | .hbm, ⟨7, _⟩ => ⟨S1x4096, .f32⟩
  | .hbm, ⟨8, _⟩ => ⟨S24576x4096, .f32⟩
  | .hbm, ⟨9, _⟩ => ⟨S24576x4096, .f32⟩
  | .hbm, ⟨10, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Norm.lean ====
abbrev S24576x4096 : Shape := ⟨2, ![24576, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S24576x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S24576x4096 : Shape := ⟨2, ![24576, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S24576x4096, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S_, .f32⟩
  | .hbm, ⟨7, _⟩ => ⟨S24576x1, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S24576x1, .f32⟩
  | .hbm, ⟨13, _⟩ => ⟨S24576x4096, .f32⟩
  | .hbm, ⟨14, _⟩ => ⟨S24576x4096, .f32⟩
  | .hbm, ⟨15, _⟩ => ⟨S1x4096, .f32⟩
  | .hbm, ⟨16, _⟩ => ⟨S24576x4096, .f32⟩
  | .hbm, ⟨17, _⟩ => ⟨S24576x4096, .f32⟩
  | .hbm, ⟨18, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Layernorm.lean ====
abbrev S24576x4096 : Shape := ⟨2, ![24576, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S24576x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LayernormReferenceIdeal.lean ====
abbrev S24576x4096 : Shape := ⟨2, ![24576, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S24576, .f32⟩
  | .hbm, ⟨5, _⟩ => ⟨S24576x1, .f32⟩
  | .hbm, ⟨6, _⟩ => ⟨S_, .f32⟩
  | .hbm, ⟨7, _⟩ => ⟨S24576x1, .f32⟩
  | .hbm, ⟨8, _⟩ => ⟨S24576x1, .f32⟩
  | .hbm, ⟨9, _⟩ => ⟨S24576x4096, .f32⟩
  | .hbm, ⟨10, _⟩ => ⟨S24576x4096, .f32⟩
  | .hbm, ⟨11, _⟩ => ⟨S24576x4096, .f32⟩
  | .hbm, ⟨12, _⟩ => ⟨S_, .f32⟩
  | .hbm, ⟨13, _⟩ => ⟨S24576, .f32⟩
  | .hbm, ⟨14, _⟩ => ⟨S24576x1, .f32⟩
  | .hbm, ⟨15, _⟩ => ⟨S_, .f32⟩
  | .hbm, ⟨16, _⟩ => ⟨S24576x1, .f32⟩
  | .hbm, ⟨17, _⟩ => ⟨S24576x1, .f32⟩
  | .hbm, ⟨18, _⟩ => ⟨S24576x4096, .f32⟩
  | .hbm, ⟨19, _⟩ => ⟨S24576x4096, .f32⟩
  | .hbm, ⟨20, _⟩ => ⟨S_, .f32⟩
  | .hbm, ⟨21, _⟩ => ⟨S24576x1, .f32⟩
  | .hbm, ⟨22, _⟩ => ⟨S24576x1, .f32⟩
  | .hbm, ⟨23, _⟩ => ⟨S24576x1, .f32⟩
  | .hbm, ⟨24, _⟩ => ⟨S24576x4096, .f32⟩
  | .hbm, ⟨25, _⟩ => ⟨S24576x4096, .f32⟩
  | .hbm, ⟨26, _⟩ => ⟨S1x4096, .f32⟩
  | .hbm, ⟨27, _⟩ => ⟨S24576x4096, .f32⟩
  | .hbm, ⟨28, _⟩ => ⟨S24576x4096, .f32⟩
  | .hbm, ⟨29, _⟩ => ⟨S1x4096, .f32⟩
  | .hbm, ⟨30, _⟩ => ⟨S24576x4096, .f32⟩
  | .hbm, ⟨31, _⟩ => ⟨S24576x4096, .f32⟩
  | .hbm, ⟨32, _⟩ => ⟨S24576x4096, .f32⟩
  | .hbm, ⟨33, _⟩ => ⟨S24576x4096, .f32⟩
  | .hbm, ⟨34, _⟩ => ⟨S_, .f32⟩
  | .hbm, ⟨35, _⟩ => ⟨S24576x4096, .f32⟩
  | .hbm, ⟨36, _⟩ => ⟨S24576x4096, .f32⟩
  | .hbm, ⟨37, _⟩ => ⟨S_, .f32⟩
  | .hbm, ⟨38, _⟩ => ⟨S24576x4096, .f32⟩
  | .hbm, ⟨39, _⟩ => ⟨S24576x4096, .f32⟩
  | .hbm, ⟨40, _⟩ => ⟨S24576x4096, .f32⟩
  | .hbm, ⟨41, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Prep.lean ====
abbrev S24576x12288 : Shape := ⟨2, ![24576, 12288]⟩
abbrev S128 : Shape := ⟨1, ![128]⟩
abbrev S1x128 : Shape := ⟨2, ![1, 128]⟩
abbrev S24576x8192 : Shape := ⟨2, ![24576, 8192]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S24576x12288, .bf16⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S24576x8192, .bf16⟩
  | .local _ .vmem, ⟨0, _⟩ => ⟨S512x512, .bf16⟩
  | .local _ .vmem, ⟨1, _⟩ => ⟨S512x512, .bf16⟩
  | .local _ .vmem, ⟨2, _⟩ => ⟨S1x128, .f32⟩
  | .local _ .vmem, ⟨3, _⟩ => ⟨S1x128, .f32⟩
  | .local _ .vmem, ⟨4, _⟩ => ⟨S512x512, .bf16⟩
  | .local _ .vmem, ⟨5, _⟩ => ⟨S512x512, .bf16⟩
  | _, _ => ⟨S24576x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![48, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PrepReferenceIdeal.lean ====
abbrev S24576x12288 : Shape := ⟨2, ![24576, 12288]⟩
abbrev S128 : Shape := ⟨1, ![128]⟩
abbrev S24576x4096 : Shape := ⟨2, ![24576, 4096]⟩
abbrev S24576x16x2x128 : Shape := ⟨4, ![24576, 16, 2, 128]⟩
abbrev S_ : Shape := ⟨0, ![]⟩
abbrev S24576x16x2 : Shape := ⟨3, ![24576, 16, 2]⟩
abbrev S24576x16x2x1 : Shape := ⟨4, ![24576, 16, 2, 1]⟩
abbrev S1x1x1x128 : Shape := ⟨4, ![1, 1, 1, 128]⟩
abbrev S24576x8192 : Shape := ⟨2, ![24576, 8192]⟩

abbrev nBuf : Space → Nat
  | .hbm => 47
  | .vmem => 0
  | .smem => 0
  | _ => 0

abbrev bufTy : (tb : Table) → Fin (tcTables nBuf tb) → BufTy
  | .hbm, ⟨0, _⟩ => ⟨S24576x12288, .bf16⟩
  | .hbm, ⟨1, _⟩ => ⟨S128, .f32⟩
  | .hbm, ⟨2, _⟩ => ⟨S128, .f32⟩
  | .hbm, ⟨3, _⟩ => ⟨S24576x12288, .f32⟩
  | .hbm, ⟨4, _⟩ => ⟨S24576x4096, .f32⟩
  | .hbm, ⟨5, _⟩ => ⟨S24576x16x2x128, .f32⟩
  | .hbm, ⟨6, _⟩ => ⟨S24576x4096, .f32⟩
  | .hbm, ⟨7, _⟩ => ⟨S24576x16x2x128, .f32⟩
  | .hbm, ⟨8, _⟩ => ⟨S24576x16x2x128, .f32⟩
  | .hbm, ⟨9, _⟩ => ⟨S_, .f32⟩
  | .hbm, ⟨10, _⟩ => ⟨S24576x16x2, .f32⟩
  | .hbm, ⟨11, _⟩ => ⟨S24576x16x2x1, .f32⟩
  | .hbm, ⟨12, _⟩ => ⟨S_, .f32⟩
  | .hbm, ⟨13, _⟩ => ⟨S24576x16x2x1, .f32⟩
  | .hbm, ⟨14, _⟩ => ⟨S24576x16x2x1, .f32⟩
  | .hbm, ⟨15, _⟩ => ⟨S_, .f32⟩
  | .hbm, ⟨16, _⟩ => ⟨S24576x16x2x1, .f32⟩
  | .hbm, ⟨17, _⟩ => ⟨S24576x16x2x1, .f32⟩
  | .hbm, ⟨18, _⟩ => ⟨S24576x16x2x1, .f32⟩
  | .hbm, ⟨19, _⟩ => ⟨S24576x16x2x128, .f32⟩
  | .hbm, ⟨20, _⟩ => ⟨S24576x16x2x128, .f32⟩
  | .hbm, ⟨21, _⟩ => ⟨S1x1x1x128, .f32⟩
  | .hbm, ⟨22, _⟩ => ⟨S24576x16x2x128, .f32⟩
  | .hbm, ⟨23, _⟩ => ⟨S24576x16x2x128, .f32⟩
  | .hbm, ⟨24, _⟩ => ⟨S_, .f32⟩
  | .hbm, ⟨25, _⟩ => ⟨S24576x16x2x128, .f32⟩
  | .hbm, ⟨26, _⟩ => ⟨S24576x16x2x128, .f32⟩
  | .hbm, ⟨27, _⟩ => ⟨S24576x16x2x128, .f32⟩
  | .hbm, ⟨28, _⟩ => ⟨S_, .f32⟩
  | .hbm, ⟨29, _⟩ => ⟨S24576x16x2, .f32⟩
  | .hbm, ⟨30, _⟩ => ⟨S24576x16x2x1, .f32⟩
  | .hbm, ⟨31, _⟩ => ⟨S_, .f32⟩
  | .hbm, ⟨32, _⟩ => ⟨S24576x16x2x1, .f32⟩
  | .hbm, ⟨33, _⟩ => ⟨S24576x16x2x1, .f32⟩
  | .hbm, ⟨34, _⟩ => ⟨S_, .f32⟩
  | .hbm, ⟨35, _⟩ => ⟨S24576x16x2x1, .f32⟩
  | .hbm, ⟨36, _⟩ => ⟨S24576x16x2x1, .f32⟩
  | .hbm, ⟨37, _⟩ => ⟨S24576x16x2x1, .f32⟩
  | .hbm, ⟨38, _⟩ => ⟨S24576x16x2x128, .f32⟩
  | .hbm, ⟨39, _⟩ => ⟨S24576x16x2x128, .f32⟩
  | .hbm, ⟨40, _⟩ => ⟨S1x1x1x128, .f32⟩
  | .hbm, ⟨41, _⟩ => ⟨S24576x16x2x128, .f32⟩
  | .hbm, ⟨42, _⟩ => ⟨S24576x16x2x128, .f32⟩
  | .hbm, ⟨43, _⟩ => ⟨S24576x4096, .f32⟩
  | .hbm, ⟨44, _⟩ => ⟨S24576x4096, .f32⟩
  | .hbm, ⟨45, _⟩ => ⟨S24576x8192, .f32⟩
  | .hbm, ⟨46, _⟩ => ⟨S24576x8192, .bf16⟩
  | _, _ => ⟨S24576x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Rope.lean ====
abbrev S24576x6144 : Shape := ⟨2, ![24576, 6144]⟩
abbrev S128 : Shape := ⟨1, ![128]⟩
abbrev S24576x128 : Shape := ⟨2, ![24576, 128]⟩
abbrev S_ : Shape := ⟨0, ![]⟩
abbrev S1x128 : Shape := ⟨2, ![1, 128]⟩
abbrev S24576x5120 : Shape := ⟨2, ![24576, 5120]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 47
  | .vmem => 12
  | .smem => 0
  | _ => 0

abbrev bufTy : (tb : Table) → Fin (tcTables nBuf tb) → BufTy
  | .hbm, ⟨0, _⟩ => ⟨S24576x6144, .bf16⟩
  | .hbm, ⟨1, _⟩ => ⟨S128, .f32⟩
  | .hbm, ⟨2, _⟩ => ⟨S128, .f32⟩
  | .hbm, ⟨3, _⟩ => ⟨S24576x128, .f32⟩
  | .hbm, ⟨4, _⟩ => ⟨S24576x128, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S_, .i1⟩
  | .hbm, ⟨22, _⟩ => ⟨S128, .i1⟩
  | .hbm, ⟨23, _⟩ => ⟨S128, .i1⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S1x128, .i1⟩
  | .hbm, ⟨32, _⟩ => ⟨S24576x128, .f32⟩
  | .hbm, ⟨33, _⟩ => ⟨S_, .f32⟩
  | .hbm, ⟨34, _⟩ => ⟨S_, .f32⟩
  | .hbm, ⟨35, _⟩ => ⟨S24576x128, .i1⟩
  | .hbm, ⟨36, _⟩ => ⟨S24576x128, .f32⟩
  | .hbm, ⟨37, _⟩ => ⟨S24576x128, .f32⟩
  | .hbm, ⟨38, _⟩ => ⟨S1x128, .i1⟩
  | .hbm, ⟨39, _⟩ => ⟨S_, .f32⟩
  | .hbm, ⟨40, _⟩ => ⟨S_, .f32⟩
  | .hbm, ⟨41, _⟩ => ⟨S24576x128, .i1⟩
  | .hbm, ⟨42, _⟩ => ⟨S24576x128, .f32⟩
  | .hbm, ⟨43, _⟩ => ⟨S24576x128, .f32⟩
  | .hbm, ⟨44, _⟩ => ⟨S1x128, .f32⟩
  | .hbm, ⟨45, _⟩ => ⟨S1x128, .f32⟩
  | .hbm, ⟨46, _⟩ => ⟨S24576x5120, .bf16⟩
  | .local _ .vmem, ⟨0, _⟩ => ⟨S512x512, .bf16⟩
  | .local _ .vmem, ⟨1, _⟩ => ⟨S512x512, .bf16⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | _, _ => ⟨S24576x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![48, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RopeReferenceIdeal.lean ====
abbrev S24576x6144 : Shape := ⟨2, ![24576, 6144]⟩
abbrev S128 : Shape := ⟨1, ![128]⟩
abbrev S24576x128 : Shape := ⟨2, ![24576, 128]⟩
abbrev S24576x4096 : Shape := ⟨2, ![24576, 4096]⟩
abbrev S24576x8x4x128 : Shape := ⟨4, ![24576, 8, 4, 128]⟩
abbrev S24576x1024 : Shape := ⟨2, ![24576, 1024]⟩
abbrev S24576x8x128 : Shape := ⟨3, ![24576, 8, 128]⟩
abbrev S_ : Shape := ⟨0, ![]⟩
abbrev S24576x8x4 : Shape := ⟨3, ![24576, 8, 4]⟩
abbrev S24576x8x4x1 : Shape := ⟨4, ![24576, 8, 4, 1]⟩
abbrev S1x1x1x128 : Shape := ⟨4, ![1, 1, 1, 128]⟩
abbrev S24576x1x1x128 : Shape := ⟨4, ![24576, 1, 1, 128]⟩
abbrev S24576x8x4x64 : Shape := ⟨4, ![24576, 8, 4, 64]⟩
abbrev S24576x8x4x32 : Shape := ⟨4, ![24576, 8, 4, 32]⟩
abbrev S24576x8 : Shape := ⟨2, ![24576, 8]⟩
abbrev S24576x8x1 : Shape := ⟨3, ![24576, 8, 1]⟩
abbrev S1x1x128 : Shape := ⟨3, ![1, 1, 128]⟩
abbrev S24576x1x128 : Shape := ⟨3, ![24576, 1, 128]⟩
abbrev S24576x8x64 : Shape := ⟨3, ![24576, 8, 64]⟩
abbrev S24576x8x32 : Shape := ⟨3, ![24576, 8, 32]⟩
abbrev S24576x5120 : Shape := ⟨2, ![24576, 5120]⟩

abbrev nBuf : Space → Nat
  | .hbm => 85
  | .vmem => 0
  | .smem => 0
  | _ => 0

abbrev bufTy : (tb : Table) → Fin (tcTables nBuf tb) → BufTy
  | .hbm, ⟨0, _⟩ => ⟨S24576x6144, .bf16⟩
  | .hbm, ⟨1, _⟩ => ⟨S128, .f32⟩
  | .hbm, ⟨2, _⟩ => ⟨S128, .f32⟩
  | .hbm, ⟨3, _⟩ => ⟨S24576x128, .f32⟩
  | .hbm, ⟨4, _⟩ => ⟨S24576x128, .f32⟩
  | .hbm, ⟨5, _⟩ => ⟨S24576x6144, .f32⟩
  | .hbm, ⟨6, _⟩ => ⟨S24576x4096, .f32⟩
  | .hbm, ⟨7, _⟩ => ⟨S24576x8x4x128, .f32⟩
  | .hbm, ⟨8, _⟩ => ⟨S24576x1024, .f32⟩
  | .hbm, ⟨9, _⟩ => ⟨S24576x8x128, .f32⟩
  | .hbm, ⟨10, _⟩ => ⟨S24576x8x4x128, .f32⟩
  | .hbm, ⟨11, _⟩ => ⟨S_, .f32⟩
  | .hbm, ⟨12, _⟩ => ⟨S24576x8x4, .f32⟩
  | .hbm, ⟨13, _⟩ => ⟨S24576x8x4x1, .f32⟩
  | .hbm, ⟨14, _⟩ => ⟨S_, .f32⟩
  | .hbm, ⟨15, _⟩ => ⟨S24576x8x4x1, .f32⟩
  | .hbm, ⟨16, _⟩ => ⟨S24576x8x4x1, .f32⟩
  | .hbm, ⟨17, _⟩ => ⟨S_, .f32⟩
  | .hbm, ⟨18, _⟩ => ⟨S24576x8x4x1, .f32⟩
  | .hbm, ⟨19, _⟩ => ⟨S24576x8x4x1, .f32⟩
  | .hbm, ⟨20, _⟩ => ⟨S24576x8x4x1, .f32⟩
  | .hbm, ⟨21, _⟩ => ⟨S24576x8x4x128, .f32⟩
  | .hbm, ⟨22, _⟩ => ⟨S24576x8x4x128, .f32⟩
  | .hbm, ⟨23, _⟩ => ⟨S1x1x1x128, .f32⟩
  | .hbm, ⟨24, _⟩ => ⟨S24576x8x4x128, .f32⟩
  | .hbm, ⟨25, _⟩ => ⟨S24576x8x4x128, .f32⟩
  | .hbm, ⟨26, _⟩ => ⟨S24576x1x1x128, .f32⟩
  | .hbm, ⟨27, _⟩ => ⟨S24576x1x1x128, .f32⟩
  | .hbm, ⟨28, _⟩ => ⟨S24576x8x4x64, .f32⟩
  | .hbm, ⟨29, _⟩ => ⟨S24576x8x4x32, .f32⟩
  | .hbm, ⟨30, _⟩ => ⟨S24576x8x4x32, .f32⟩
  | .hbm, ⟨31, _⟩ => ⟨S24576x8x4x32, .f32⟩
  | .hbm, ⟨32, _⟩ => ⟨S24576x8x4x64, .f32⟩
  | .hbm, ⟨33, _⟩ => ⟨S24576x8x4x64, .f32⟩
  | .hbm, ⟨34, _⟩ => ⟨S24576x8x4x32, .f32⟩
  | .hbm, ⟨35, _⟩ => ⟨S24576x8x4x32, .f32⟩
  | .hbm, ⟨36, _⟩ => ⟨S24576x8x4x32, .f32⟩
  | .hbm, ⟨37, _⟩ => ⟨S24576x8x4x64, .f32⟩
  | .hbm, ⟨38, _⟩ => ⟨S24576x8x4x128, .f32⟩
  | .hbm, ⟨39, _⟩ => ⟨S24576x8x4x128, .f32⟩
  | .hbm, ⟨40, _⟩ => ⟨S24576x8x4x128, .f32⟩
  | .hbm, ⟨41, _⟩ => ⟨S24576x8x4x128, .f32⟩
  | .hbm, ⟨42, _⟩ => ⟨S24576x8x4x128, .f32⟩
  | .hbm, ⟨43, _⟩ => ⟨S24576x8x4x128, .f32⟩
  | .hbm, ⟨44, _⟩ => ⟨S_, .f32⟩
  | .hbm, ⟨45, _⟩ => ⟨S24576x8x4x128, .f32⟩
  | .hbm, ⟨46, _⟩ => ⟨S24576x8x4x128, .f32⟩
  | .hbm, ⟨47, _⟩ => ⟨S24576x8x128, .f32⟩
  | .hbm, ⟨48, _⟩ => ⟨S_, .f32⟩
  | .hbm, ⟨49, _⟩ => ⟨S24576x8, .f32⟩
  | .hbm, ⟨50, _⟩ => ⟨S24576x8x1, .f32⟩
  | .hbm, ⟨51, _⟩ => ⟨S_, .f32⟩
  | .hbm, ⟨52, _⟩ => ⟨S24576x8x1, .f32⟩
  | .hbm, ⟨53, _⟩ => ⟨S24576x8x1, .f32⟩
  | .hbm, ⟨54, _⟩ => ⟨S_, .f32⟩
  | .hbm, ⟨55, _⟩ => ⟨S24576x8x1, .f32⟩
  | .hbm, ⟨56, _⟩ => ⟨S24576x8x1, .f32⟩
  | .hbm, ⟨57, _⟩ => ⟨S24576x8x1, .f32⟩
  | .hbm, ⟨58, _⟩ => ⟨S24576x8x128, .f32⟩
  | .hbm, ⟨59, _⟩ => ⟨S24576x8x128, .f32⟩
  | .hbm, ⟨60, _⟩ => ⟨S1x1x128, .f32⟩
  | .hbm, ⟨61, _⟩ => ⟨S24576x8x128, .f32⟩
  | .hbm, ⟨62, _⟩ => ⟨S24576x8x128, .f32⟩
  | .hbm, ⟨63, _⟩ => ⟨S24576x1x128, .f32⟩
  | .hbm, ⟨64, _⟩ => ⟨S24576x1x128, .f32⟩
  | .hbm, ⟨65, _⟩ => ⟨S24576x8x64, .f32⟩
  | .hbm, ⟨66, _⟩ => ⟨S24576x8x32, .f32⟩
  | .hbm, ⟨67, _⟩ => ⟨S24576x8x32, .f32⟩
  | .hbm, ⟨68, _⟩ => ⟨S24576x8x32, .f32⟩
  | .hbm, ⟨69, _⟩ => ⟨S24576x8x64, .f32⟩
  | .hbm, ⟨70, _⟩ => ⟨S24576x8x64, .f32⟩
  | .hbm, ⟨71, _⟩ => ⟨S24576x8x32, .f32⟩
  | .hbm, ⟨72, _⟩ => ⟨S24576x8x32, .f32⟩
  | .hbm, ⟨73, _⟩ => ⟨S24576x8x32, .f32⟩
  | .hbm, ⟨74, _⟩ => ⟨S24576x8x64, .f32⟩
  | .hbm, ⟨75, _⟩ => ⟨S24576x8x128, .f32⟩
  | .hbm, ⟨76, _⟩ => ⟨S24576x8x128, .f32⟩
  | .hbm, ⟨77, _⟩ => ⟨S24576x8x128, .f32⟩
  | .hbm, ⟨78, _⟩ => ⟨S24576x8x128, .f32⟩
  | .hbm, ⟨79, _⟩ => ⟨S24576x8x128, .f32⟩
  | .hbm, ⟨80, _⟩ => ⟨S24576x8x128, .f32⟩
  | .hbm, ⟨81, _⟩ => ⟨S24576x4096, .f32⟩
  | .hbm, ⟨82, _⟩ => ⟨S24576x1024, .f32⟩
  | .hbm, ⟨83, _⟩ => ⟨S24576x5120, .f32⟩
  | .hbm, ⟨84, _⟩ => ⟨S24576x5120, .bf16⟩
  | _, _ => ⟨S24576x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩

abbrev nD : Nat := 1
abbrev τ : Topo := Topo.v7x

variable {F : FTy → Type} [FloatOps F]
-- ==== Dwconv.lean ====
abbrev S24576x4096 : Shape := ⟨2, ![24576, 4096]⟩
abbrev S31x4096 : Shape := ⟨2, ![31, 4096]⟩
abbrev S4096 : Shape := ⟨1, ![4096]⟩
abbrev S96 : Shape := ⟨1, ![96]⟩
abbrev S1x4096 : Shape := ⟨2, ![1, 4096]⟩
abbrev S16x512 : Shape := ⟨2, ![16, 512]⟩
abbrev S256x512 : Shape := ⟨2, ![256, 512]⟩
abbrev S31x512 : Shape := ⟨2, ![31, 512]⟩
abbrev S1x512 : Shape := ⟨2, ![1, 512]⟩
abbrev S288x512 : Shape := ⟨2, ![288, 512]⟩
abbrev S1 : Shape := ⟨1, ![1]⟩
abbrev S32x512 : Shape := ⟨2, ![32, 512]⟩

abbrev nBuf : Space → Nat
  | .hbm => 5
  | .vmem => 13
  | .smem => 2
  | _ => 0

abbrev bufTy : (tb : Table) → Fin (tcTables nBuf tb) → BufTy
  | .hbm, ⟨0, _⟩ => ⟨S24576x4096, .bf16⟩
  | .hbm, ⟨1, _⟩ => ⟨S31x4096, .f32⟩
  | .hbm, ⟨2, _⟩ => ⟨S4096, .f32⟩
  | .hbm, ⟨3, _⟩ => ⟨S1x4096, .f32⟩
  | .hbm, ⟨4, _⟩ => ⟨S24576x4096, .f32⟩
  | .local _ .vmem, ⟨0, _⟩ => ⟨S16x512, .bf16⟩
  | .local _ .vmem, ⟨1, _⟩ => ⟨S16x512, .bf16⟩
  | .local _ .vmem, ⟨2, _⟩ => ⟨S256x512, .bf16⟩
  | .local _ .vmem, ⟨3, _⟩ => ⟨S256x512, .bf16⟩
  | .local _ .vmem, ⟨4, _⟩ => ⟨S16x512, .bf16⟩
  | .local _ .vmem, ⟨5, _⟩ => ⟨S16x512, .bf16⟩
  | .local _ .vmem, ⟨6, _⟩ => ⟨S31x512, .f32⟩
  | .local _ .vmem, ⟨7, _⟩ => ⟨S31x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S288x512, .f32⟩
  | .local _ .smem, ⟨0, _⟩ => ⟨S96, .i32⟩
  | .local _ .smem, ⟨1, _⟩ => ⟨S96, .i32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![96, 8], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c1535_i32 : BitVec 32 := 1535#32
  let v2 : BitVec 32 := Scalar.minsi v1 c1535_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DwconvReferenceIdeal.lean ====
abbrev S24576x4096 : Shape := ⟨2, ![24576, 4096]⟩
abbrev S31x4096 : Shape := ⟨2, ![31, 4096]⟩
abbrev S4096 : Shape := ⟨1, ![4096]⟩
abbrev S8192x4096 : Shape := ⟨2, ![8192, 4096]⟩
abbrev S4x2048x4096 : Shape := ⟨3, ![4, 2048, 4096]⟩
abbrev S_ : Shape := ⟨0, ![]⟩
abbrev S4x2078x4096 : Shape := ⟨3, ![4, 2078, 4096]⟩
abbrev S1x4096 : Shape := ⟨2, ![1, 4096]⟩
abbrev S1x1x4096 : Shape := ⟨3, ![1, 1, 4096]⟩
abbrev S16384x4096 : Shape := ⟨2, ![16384, 4096]⟩
abbrev S1x16384x4096 : Shape := ⟨3, ![1, 16384, 4096]⟩
abbrev S1x16414x4096 : Shape := ⟨3, ![1, 16414, 4096]⟩

abbrev nBuf : Space → Nat
  | .hbm => 461
  | .vmem => 0
  | .smem => 0
  | _ => 0

abbrev hbmTy0_0 (i : Nat) : BufTy := match i % 128 with
  | 0 => ⟨S24576x4096, .bf16⟩
  | 1 => ⟨S31x4096, .f32⟩
  | 2 => ⟨S4096, .f32⟩
  | 3 => ⟨S24576x4096, .f32⟩
  | 4 => ⟨S8192x4096, .f32⟩
  | 5 => ⟨S4x2048x4096, .f32⟩
  | 6 => ⟨S_, .i32⟩
  | 7 => ⟨S_, .f32⟩
  | 8 => ⟨S4x2078x4096, .f32⟩
  | 9 => ⟨S4x2048x4096, .f32⟩
  | 10 => ⟨S1x4096, .f32⟩
  | 11 => ⟨S4096, .f32⟩
  | 12 => ⟨S1x1x4096, .f32⟩
  | 13 => ⟨S4x2048x4096, .f32⟩
  | 14 => ⟨S4x2048x4096, .f32⟩
  | 15 => ⟨S_, .f32⟩
  | 16 => ⟨S4x2048x4096, .f32⟩
  | 17 => ⟨S4x2048x4096, .f32⟩
  | 18 => ⟨S4x2048x4096, .f32⟩
  | 19 => ⟨S1x4096, .f32⟩
  | 20 => ⟨S4096, .f32⟩
  | 21 => ⟨S1x1x4096, .f32⟩
  | 22 => ⟨S4x2048x4096, .f32⟩
  | 23 => ⟨S4x2048x4096, .f32⟩
  | 24 => ⟨S4x2048x4096, .f32⟩
  | 25 => ⟨S4x2048x4096, .f32⟩
  | 26 => ⟨S1x4096, .f32⟩
  | 27 => ⟨S4096, .f32⟩
  | 28 => ⟨S1x1x4096, .f32⟩
  | 29 => ⟨S4x2048x4096, .f32⟩
  | 30 => ⟨S4x2048x4096, .f32⟩
  | 31 => ⟨S4x2048x4096, .f32⟩
  | 32 => ⟨S4x2048x4096, .f32⟩
  | 33 => ⟨S1x4096, .f32⟩
  | 34 => ⟨S4096, .f32⟩
  | 35 => ⟨S1x1x4096, .f32⟩
  | 36 => ⟨S4x2048x4096, .f32⟩
  | 37 => ⟨S4x2048x4096, .f32⟩
  | 38 => ⟨S4x2048x4096, .f32⟩
  | 39 => ⟨S4x2048x4096, .f32⟩
  | 40 => ⟨S1x4096, .f32⟩
  | 41 => ⟨S4096, .f32⟩
  | 42 => ⟨S1x1x4096, .f32⟩
  | 43 => ⟨S4x2048x4096, .f32⟩
  | 44 => ⟨S4x2048x4096, .f32⟩
  | 45 => ⟨S4x2048x4096, .f32⟩
  | 46 => ⟨S4x2048x4096, .f32⟩
  | 47 => ⟨S1x4096, .f32⟩
  | 48 => ⟨S4096, .f32⟩
  | 49 => ⟨S1x1x4096, .f32⟩
  | 50 => ⟨S4x2048x4096, .f32⟩
  | 51 => ⟨S4x2048x4096, .f32⟩
  | 52 => ⟨S4x2048x4096, .f32⟩
  | 53 => ⟨S4x2048x4096, .f32⟩
  | 54 => ⟨S1x4096, .f32⟩
  | 55 => ⟨S4096, .f32⟩
  | 56 => ⟨S1x1x4096, .f32⟩
  | 57 => ⟨S4x2048x4096, .f32⟩
  | 58 => ⟨S4x2048x4096, .f32⟩
  | 59 => ⟨S4x2048x4096, .f32⟩
  | 60 => ⟨S4x2048x4096, .f32⟩
  | 61 => ⟨S1x4096, .f32⟩
  | 62 => ⟨S4096, .f32⟩
  | 63 => ⟨S1x1x4096, .f32⟩
  | 64 => ⟨S4x2048x4096, .f32⟩
  | 65 => ⟨S4x2048x4096, .f32⟩
  | 66 => ⟨S4x2048x4096, .f32⟩
  | 67 => ⟨S4x2048x4096, .f32⟩
  | 68 => ⟨S1x4096, .f32⟩
  | 69 => ⟨S4096, .f32⟩
  | 70 => ⟨S1x1x4096, .f32⟩
  | 71 => ⟨S4x2048x4096, .f32⟩
  | 72 => ⟨S4x2048x4096, .f32⟩
  | 73 => ⟨S4x2048x4096, .f32⟩
  | 74 => ⟨S4x2048x4096, .f32⟩
  | 75 => ⟨S1x4096, .f32⟩
  | 76 => ⟨S4096, .f32⟩
  | 77 => ⟨S1x1x4096, .f32⟩
  | 78 => ⟨S4x2048x4096, .f32⟩
  | 79 => ⟨S4x2048x4096, .f32⟩
  | 80 => ⟨S4x2048x4096, .f32⟩
  | 81 => ⟨S4x2048x4096, .f32⟩
  | 82 => ⟨S1x4096, .f32⟩
  | 83 => ⟨S4096, .f32⟩
  | 84 => ⟨S1x1x4096, .f32⟩
  | 85 => ⟨S4x2048x4096, .f32⟩
  | 86 => ⟨S4x2048x4096, .f32⟩
  | 87 => ⟨S4x2048x4096, .f32⟩
  | 88 => ⟨S4x2048x4096, .f32⟩
  | 89 => ⟨S1x4096, .f32⟩
  | 90 => ⟨S4096, .f32⟩
  | 91 => ⟨S1x1x4096, .f32⟩
  | 92 => ⟨S4x2048x4096, .f32⟩
  | 93 => ⟨S4x2048x4096, .f32⟩
  | 94 => ⟨S4x2048x4096, .f32⟩
  | 95 => ⟨S4x2048x4096, .f32⟩
  | 96 => ⟨S1x4096, .f32⟩
  | 97 => ⟨S4096, .f32⟩
  | 98 => ⟨S1x1x4096, .f32⟩
  | 99 => ⟨S4x2048x4096, .f32⟩
  | 100 => ⟨S4x2048x4096, .f32⟩
  | 101 => ⟨S4x2048x4096, .f32⟩
  | 102 => ⟨S4x2048x4096, .f32⟩
  | 103 => ⟨S1x4096, .f32⟩
  | 104 => ⟨S4096, .f32⟩
  | 105 => ⟨S1x1x4096, .f32⟩
  | 106 => ⟨S4x2048x4096, .f32⟩
  | 107 => ⟨S4x2048x4096, .f32⟩
  | 108 => ⟨S4x2048x4096, .f32⟩
  | 109 => ⟨S4x2048x4096, .f32⟩
  | 110 => ⟨S1x4096, .f32⟩
  | 111 => ⟨S4096, .f32⟩
  | 112 => ⟨S1x1x4096, .f32⟩
  | 113 => ⟨S4x2048x4096, .f32⟩
  | 114 => ⟨S4x2048x4096, .f32⟩
  | 115 => ⟨S4x2048x4096, .f32⟩
  | 116 => ⟨S4x2048x4096, .f32⟩
  | 117 => ⟨S1x4096, .f32⟩
  | 118 => ⟨S4096, .f32⟩
  | 119 => ⟨S1x1x4096, .f32⟩
  | 120 => ⟨S4x2048x4096, .f32⟩
  | 121 => ⟨S4x2048x4096, .f32⟩
  | 122 => ⟨S4x2048x4096, .f32⟩
  | 123 => ⟨S4x2048x4096, .f32⟩
  | 124 => ⟨S1x4096, .f32⟩
  | 125 => ⟨S4096, .f32⟩
  | 126 => ⟨S1x1x4096, .f32⟩
  | 127 => ⟨S4x2048x4096, .f32⟩
  | _ => ⟨S24576x4096, .bf16⟩

abbrev hbmTy0_1 (i : Nat) : BufTy := match i % 128 with
  | 0 => ⟨S4x2048x4096, .f32⟩
  | 1 => ⟨S4x2048x4096, .f32⟩
  | 2 => ⟨S4x2048x4096, .f32⟩
  | 3 => ⟨S1x4096, .f32⟩
  | 4 => ⟨S4096, .f32⟩
  | 5 => ⟨S1x1x4096, .f32⟩
  | 6 => ⟨S4x2048x4096, .f32⟩
  | 7 => ⟨S4x2048x4096, .f32⟩
  | 8 => ⟨S4x2048x4096, .f32⟩
  | 9 => ⟨S4x2048x4096, .f32⟩
  | 10 => ⟨S1x4096, .f32⟩
  | 11 => ⟨S4096, .f32⟩
  | 12 => ⟨S1x1x4096, .f32⟩
  | 13 => ⟨S4x2048x4096, .f32⟩
  | 14 => ⟨S4x2048x4096, .f32⟩
  | 15 => ⟨S4x2048x4096, .f32⟩
  | 16 => ⟨S4x2048x4096, .f32⟩
  | 17 => ⟨S1x4096, .f32⟩
  | 18 => ⟨S4096, .f32⟩
  | 19 => ⟨S1x1x4096, .f32⟩
  | 20 => ⟨S4x2048x4096, .f32⟩
  | 21 => ⟨S4x2048x4096, .f32⟩
  | 22 => ⟨S4x2048x4096, .f32⟩
  | 23 => ⟨S4x2048x4096, .f32⟩
  | 24 => ⟨S1x4096, .f32⟩
  | 25 => ⟨S4096, .f32⟩
  | 26 => ⟨S1x1x4096, .f32⟩
  | 27 => ⟨S4x2048x4096, .f32⟩
  | 28 => ⟨S4x2048x4096, .f32⟩
  | 29 => ⟨S4x2048x4096, .f32⟩
  | 30 => ⟨S4x2048x4096, .f32⟩
  | 31 => ⟨S1x4096, .f32⟩
  | 32 => ⟨S4096, .f32⟩
  | 33 => ⟨S1x1x4096, .f32⟩
  | 34 => ⟨S4x2048x4096, .f32⟩
  | 35 => ⟨S4x2048x4096, .f32⟩
  | 36 => ⟨S4x2048x4096, .f32⟩
  | 37 => ⟨S4x2048x4096, .f32⟩
  | 38 => ⟨S1x4096, .f32⟩
  | 39 => ⟨S4096, .f32⟩
  | 40 => ⟨S1x1x4096, .f32⟩
  | 41 => ⟨S4x2048x4096, .f32⟩
  | 42 => ⟨S4x2048x4096, .f32⟩
  | 43 => ⟨S4x2048x4096, .f32⟩
  | 44 => ⟨S4x2048x4096, .f32⟩
  | 45 => ⟨S1x4096, .f32⟩
  | 46 => ⟨S4096, .f32⟩
  | 47 => ⟨S1x1x4096, .f32⟩
  | 48 => ⟨S4x2048x4096, .f32⟩
  | 49 => ⟨S4x2048x4096, .f32⟩
  | 50 => ⟨S4x2048x4096, .f32⟩
  | 51 => ⟨S4x2048x4096, .f32⟩
  | 52 => ⟨S1x4096, .f32⟩
  | 53 => ⟨S4096, .f32⟩
  | 54 => ⟨S1x1x4096, .f32⟩
  | 55 => ⟨S4x2048x4096, .f32⟩
  | 56 => ⟨S4x2048x4096, .f32⟩
  | 57 => ⟨S4x2048x4096, .f32⟩
  | 58 => ⟨S4x2048x4096, .f32⟩
  | 59 => ⟨S1x4096, .f32⟩
  | 60 => ⟨S4096, .f32⟩
  | 61 => ⟨S1x1x4096, .f32⟩
  | 62 => ⟨S4x2048x4096, .f32⟩
  | 63 => ⟨S4x2048x4096, .f32⟩
  | 64 => ⟨S4x2048x4096, .f32⟩
  | 65 => ⟨S4x2048x4096, .f32⟩
  | 66 => ⟨S1x4096, .f32⟩
  | 67 => ⟨S4096, .f32⟩
  | 68 => ⟨S1x1x4096, .f32⟩
  | 69 => ⟨S4x2048x4096, .f32⟩
  | 70 => ⟨S4x2048x4096, .f32⟩
  | 71 => ⟨S4x2048x4096, .f32⟩
  | 72 => ⟨S4x2048x4096, .f32⟩
  | 73 => ⟨S1x4096, .f32⟩
  | 74 => ⟨S4096, .f32⟩
  | 75 => ⟨S1x1x4096, .f32⟩
  | 76 => ⟨S4x2048x4096, .f32⟩
  | 77 => ⟨S4x2048x4096, .f32⟩
  | 78 => ⟨S4x2048x4096, .f32⟩
  | 79 => ⟨S4x2048x4096, .f32⟩
  | 80 => ⟨S1x4096, .f32⟩
  | 81 => ⟨S4096, .f32⟩
  | 82 => ⟨S1x1x4096, .f32⟩
  | 83 => ⟨S4x2048x4096, .f32⟩
  | 84 => ⟨S4x2048x4096, .f32⟩
  | 85 => ⟨S4x2048x4096, .f32⟩
  | 86 => ⟨S4x2048x4096, .f32⟩
  | 87 => ⟨S1x4096, .f32⟩
  | 88 => ⟨S4096, .f32⟩
  | 89 => ⟨S1x1x4096, .f32⟩
  | 90 => ⟨S4x2048x4096, .f32⟩
  | 91 => ⟨S4x2048x4096, .f32⟩
  | 92 => ⟨S4x2048x4096, .f32⟩
  | 93 => ⟨S4x2048x4096, .f32⟩
  | 94 => ⟨S1x4096, .f32⟩
  | 95 => ⟨S4096, .f32⟩
  | 96 => ⟨S1x1x4096, .f32⟩
  | 97 => ⟨S4x2048x4096, .f32⟩
  | 98 => ⟨S4x2048x4096, .f32⟩
  | 99 => ⟨S4x2048x4096, .f32⟩
  | 100 => ⟨S1x1x4096, .f32⟩
  | 101 => ⟨S4x2048x4096, .f32⟩
  | 102 => ⟨S4x2048x4096, .f32⟩
  | 103 => ⟨S16384x4096, .f32⟩
  | 104 => ⟨S1x16384x4096, .f32⟩
  | 105 => ⟨S_, .i32⟩
  | 106 => ⟨S_, .f32⟩
  | 107 => ⟨S1x16414x4096, .f32⟩
  | 108 => ⟨S1x16384x4096, .f32⟩
  | 109 => ⟨S1x4096, .f32⟩
  | 110 => ⟨S4096, .f32⟩
  | 111 => ⟨S1x1x4096, .f32⟩
  | 112 => ⟨S1x16384x4096, .f32⟩
  | 113 => ⟨S1x16384x4096, .f32⟩
  | 114 => ⟨S_, .f32⟩
  | 115 => ⟨S1x16384x4096, .f32⟩
  | 116 => ⟨S1x16384x4096, .f32⟩
  | 117 => ⟨S1x16384x4096, .f32⟩
  | 118 => ⟨S1x4096, .f32⟩
  | 119 => ⟨S4096, .f32⟩
  | 120 => ⟨S1x1x4096, .f32⟩
  | 121 => ⟨S1x16384x4096, .f32⟩
  | 122 => ⟨S1x16384x4096, .f32⟩
  | 123 => ⟨S1x16384x4096, .f32⟩
  | 124 => ⟨S1x16384x4096, .f32⟩
  | 125 => ⟨S1x4096, .f32⟩
  | 126 => ⟨S4096, .f32⟩
  | 127 => ⟨S1x1x4096, .f32⟩
  | _ => ⟨S24576x4096, .bf16⟩

abbrev hbmTy0_2 (i : Nat) : BufTy := match i % 128 with
  | 0 => ⟨S1x16384x4096, .f32⟩
  | 1 => ⟨S1x16384x4096, .f32⟩
  | 2 => ⟨S1x16384x4096, .f32⟩
  | 3 => ⟨S1x16384x4096, .f32⟩
  | 4 => ⟨S1x4096, .f32⟩
  | 5 => ⟨S4096, .f32⟩
  | 6 => ⟨S1x1x4096, .f32⟩
  | 7 => ⟨S1x16384x4096, .f32⟩
  | 8 => ⟨S1x16384x4096, .f32⟩
  | 9 => ⟨S1x16384x4096, .f32⟩
  | 10 => ⟨S1x16384x4096, .f32⟩
  | 11 => ⟨S1x4096, .f32⟩
  | 12 => ⟨S4096, .f32⟩
  | 13 => ⟨S1x1x4096, .f32⟩
  | 14 => ⟨S1x16384x4096, .f32⟩
  | 15 => ⟨S1x16384x4096, .f32⟩
  | 16 => ⟨S1x16384x4096, .f32⟩
  | 17 => ⟨S1x16384x4096, .f32⟩
  | 18 => ⟨S1x4096, .f32⟩
  | 19 => ⟨S4096, .f32⟩
  | 20 => ⟨S1x1x4096, .f32⟩
  | 21 => ⟨S1x16384x4096, .f32⟩
  | 22 => ⟨S1x16384x4096, .f32⟩
  | 23 => ⟨S1x16384x4096, .f32⟩
  | 24 => ⟨S1x16384x4096, .f32⟩
  | 25 => ⟨S1x4096, .f32⟩
  | 26 => ⟨S4096, .f32⟩
  | 27 => ⟨S1x1x4096, .f32⟩
  | 28 => ⟨S1x16384x4096, .f32⟩
  | 29 => ⟨S1x16384x4096, .f32⟩
  | 30 => ⟨S1x16384x4096, .f32⟩
  | 31 => ⟨S1x16384x4096, .f32⟩
  | 32 => ⟨S1x4096, .f32⟩
  | 33 => ⟨S4096, .f32⟩
  | 34 => ⟨S1x1x4096, .f32⟩
  | 35 => ⟨S1x16384x4096, .f32⟩
  | 36 => ⟨S1x16384x4096, .f32⟩
  | 37 => ⟨S1x16384x4096, .f32⟩
  | 38 => ⟨S1x16384x4096, .f32⟩
  | 39 => ⟨S1x4096, .f32⟩
  | 40 => ⟨S4096, .f32⟩
  | 41 => ⟨S1x1x4096, .f32⟩
  | 42 => ⟨S1x16384x4096, .f32⟩
  | 43 => ⟨S1x16384x4096, .f32⟩
  | 44 => ⟨S1x16384x4096, .f32⟩
  | 45 => ⟨S1x16384x4096, .f32⟩
  | 46 => ⟨S1x4096, .f32⟩
  | 47 => ⟨S4096, .f32⟩
  | 48 => ⟨S1x1x4096, .f32⟩
  | 49 => ⟨S1x16384x4096, .f32⟩
  | 50 => ⟨S1x16384x4096, .f32⟩
  | 51 => ⟨S1x16384x4096, .f32⟩
  | 52 => ⟨S1x16384x4096, .f32⟩
  | 53 => ⟨S1x4096, .f32⟩
  | 54 => ⟨S4096, .f32⟩
  | 55 => ⟨S1x1x4096, .f32⟩
  | 56 => ⟨S1x16384x4096, .f32⟩
  | 57 => ⟨S1x16384x4096, .f32⟩
  | 58 => ⟨S1x16384x4096, .f32⟩
  | 59 => ⟨S1x16384x4096, .f32⟩
  | 60 => ⟨S1x4096, .f32⟩
  | 61 => ⟨S4096, .f32⟩
  | 62 => ⟨S1x1x4096, .f32⟩
  | 63 => ⟨S1x16384x4096, .f32⟩
  | 64 => ⟨S1x16384x4096, .f32⟩
  | 65 => ⟨S1x16384x4096, .f32⟩
  | 66 => ⟨S1x16384x4096, .f32⟩
  | 67 => ⟨S1x4096, .f32⟩
  | 68 => ⟨S4096, .f32⟩
  | 69 => ⟨S1x1x4096, .f32⟩
  | 70 => ⟨S1x16384x4096, .f32⟩
  | 71 => ⟨S1x16384x4096, .f32⟩
  | 72 => ⟨S1x16384x4096, .f32⟩
  | 73 => ⟨S1x16384x4096, .f32⟩
  | 74 => ⟨S1x4096, .f32⟩
  | 75 => ⟨S4096, .f32⟩
  | 76 => ⟨S1x1x4096, .f32⟩
  | 77 => ⟨S1x16384x4096, .f32⟩
  | 78 => ⟨S1x16384x4096, .f32⟩
  | 79 => ⟨S1x16384x4096, .f32⟩
  | 80 => ⟨S1x16384x4096, .f32⟩
  | 81 => ⟨S1x4096, .f32⟩
  | 82 => ⟨S4096, .f32⟩
  | 83 => ⟨S1x1x4096, .f32⟩
  | 84 => ⟨S1x16384x4096, .f32⟩
  | 85 => ⟨S1x16384x4096, .f32⟩
  | 86 => ⟨S1x16384x4096, .f32⟩
  | 87 => ⟨S1x16384x4096, .f32⟩
  | 88 => ⟨S1x4096, .f32⟩
  | 89 => ⟨S4096, .f32⟩
  | 90 => ⟨S1x1x4096, .f32⟩
  | 91 => ⟨S1x16384x4096, .f32⟩
  | 92 => ⟨S1x16384x4096, .f32⟩
  | 93 => ⟨S1x16384x4096, .f32⟩
  | 94 => ⟨S1x16384x4096, .f32⟩
  | 95 => ⟨S1x4096, .f32⟩
  | 96 => ⟨S4096, .f32⟩
  | 97 => ⟨S1x1x4096, .f32⟩
  | 98 => ⟨S1x16384x4096, .f32⟩
  | 99 => ⟨S1x16384x4096, .f32⟩
  | 100 => ⟨S1x16384x4096, .f32⟩
  | 101 => ⟨S1x16384x4096, .f32⟩
  | 102 => ⟨S1x4096, .f32⟩
  | 103 => ⟨S4096, .f32⟩
  | 104 => ⟨S1x1x4096, .f32⟩
  | 105 => ⟨S1x16384x4096, .f32⟩
  | 106 => ⟨S1x16384x4096, .f32⟩
  | 107 => ⟨S1x16384x4096, .f32⟩
  | 108 => ⟨S1x16384x4096, .f32⟩
  | 109 => ⟨S1x4096, .f32⟩
  | 110 => ⟨S4096, .f32⟩
  | 111 => ⟨S1x1x4096, .f32⟩
  | 112 => ⟨S1x16384x4096, .f32⟩
  | 113 => ⟨S1x16384x4096, .f32⟩
  | 114 => ⟨S1x16384x4096, .f32⟩
  | 115 => ⟨S1x16384x4096, .f32⟩
  | 116 => ⟨S1x4096, .f32⟩
  | 117 => ⟨S4096, .f32⟩
  | 118 => ⟨S1x1x4096, .f32⟩
  | 119 => ⟨S1x16384x4096, .f32⟩
  | 120 => ⟨S1x16384x4096, .f32⟩
  | 121 => ⟨S1x16384x4096, .f32⟩
  | 122 => ⟨S1x16384x4096, .f32⟩
  | 123 => ⟨S1x4096, .f32⟩
  | 124 => ⟨S4096, .f32⟩
  | 125 => ⟨S1x1x4096, .f32⟩
  | 126 => ⟨S1x16384x4096, .f32⟩
  | 127 => ⟨S1x16384x4096, .f32⟩
  | _ => ⟨S24576x4096, .bf16⟩

abbrev hbmTy0_3 (i : Nat) : BufTy := match i % 128 with
  | 0 => ⟨S1x16384x4096, .f32⟩
  | 1 => ⟨S1x16384x4096, .f32⟩
  | 2 => ⟨S1x4096, .f32⟩
  | 3 => ⟨S4096, .f32⟩
  | 4 => ⟨S1x1x4096, .f32⟩
  | 5 => ⟨S1x16384x4096, .f32⟩
  | 6 => ⟨S1x16384x4096, .f32⟩
  | 7 => ⟨S1x16384x4096, .f32⟩
  | 8 => ⟨S1x16384x4096, .f32⟩
  | 9 => ⟨S1x4096, .f32⟩
  | 10 => ⟨S4096, .f32⟩
  | 11 => ⟨S1x1x4096, .f32⟩
  | 12 => ⟨S1x16384x4096, .f32⟩
  | 13 => ⟨S1x16384x4096, .f32⟩
  | 14 => ⟨S1x16384x4096, .f32⟩
  | 15 => ⟨S1x16384x4096, .f32⟩
  | 16 => ⟨S1x4096, .f32⟩
  | 17 => ⟨S4096, .f32⟩
  | 18 => ⟨S1x1x4096, .f32⟩
  | 19 => ⟨S1x16384x4096, .f32⟩
  | 20 => ⟨S1x16384x4096, .f32⟩
  | 21 => ⟨S1x16384x4096, .f32⟩
  | 22 => ⟨S1x16384x4096, .f32⟩
  | 23 => ⟨S1x4096, .f32⟩
  | 24 => ⟨S4096, .f32⟩
  | 25 => ⟨S1x1x4096, .f32⟩
  | 26 => ⟨S1x16384x4096, .f32⟩
  | 27 => ⟨S1x16384x4096, .f32⟩
  | 28 => ⟨S1x16384x4096, .f32⟩
  | 29 => ⟨S1x16384x4096, .f32⟩
  | 30 => ⟨S1x4096, .f32⟩
  | 31 => ⟨S4096, .f32⟩
  | 32 => ⟨S1x1x4096, .f32⟩
  | 33 => ⟨S1x16384x4096, .f32⟩
  | 34 => ⟨S1x16384x4096, .f32⟩
  | 35 => ⟨S1x16384x4096, .f32⟩
  | 36 => ⟨S1x16384x4096, .f32⟩
  | 37 => ⟨S1x4096, .f32⟩
  | 38 => ⟨S4096, .f32⟩
  | 39 => ⟨S1x1x4096, .f32⟩
  | 40 => ⟨S1x16384x4096, .f32⟩
  | 41 => ⟨S1x16384x4096, .f32⟩
  | 42 => ⟨S1x16384x4096, .f32⟩
  | 43 => ⟨S1x16384x4096, .f32⟩
  | 44 => ⟨S1x4096, .f32⟩
  | 45 => ⟨S4096, .f32⟩
  | 46 => ⟨S1x1x4096, .f32⟩
  | 47 => ⟨S1x16384x4096, .f32⟩
  | 48 => ⟨S1x16384x4096, .f32⟩
  | 49 => ⟨S1x16384x4096, .f32⟩
  | 50 => ⟨S1x16384x4096, .f32⟩
  | 51 => ⟨S1x4096, .f32⟩
  | 52 => ⟨S4096, .f32⟩
  | 53 => ⟨S1x1x4096, .f32⟩
  | 54 => ⟨S1x16384x4096, .f32⟩
  | 55 => ⟨S1x16384x4096, .f32⟩
  | 56 => ⟨S1x16384x4096, .f32⟩
  | 57 => ⟨S1x16384x4096, .f32⟩
  | 58 => ⟨S1x4096, .f32⟩
  | 59 => ⟨S4096, .f32⟩
  | 60 => ⟨S1x1x4096, .f32⟩
  | 61 => ⟨S1x16384x4096, .f32⟩
  | 62 => ⟨S1x16384x4096, .f32⟩
  | 63 => ⟨S1x16384x4096, .f32⟩
  | 64 => ⟨S1x16384x4096, .f32⟩
  | 65 => ⟨S1x4096, .f32⟩
  | 66 => ⟨S4096, .f32⟩
  | 67 => ⟨S1x1x4096, .f32⟩
  | 68 => ⟨S1x16384x4096, .f32⟩
  | 69 => ⟨S1x16384x4096, .f32⟩
  | 70 => ⟨S1x16384x4096, .f32⟩
  | 71 => ⟨S1x1x4096, .f32⟩
  | 72 => ⟨S1x16384x4096, .f32⟩
  | 73 => ⟨S1x16384x4096, .f32⟩
  | 74 => ⟨S8192x4096, .f32⟩
  | 75 => ⟨S16384x4096, .f32⟩
  | 76 => ⟨S24576x4096, .f32⟩
  | _ => ⟨S24576x4096, .bf16⟩

abbrev hbmTy (i : Nat) : BufTy := match i / 128 with
  | 0 => hbmTy0_0 i
  | 1 => hbmTy0_1 i
  | 2 => hbmTy0_2 i
  | 3 => hbmTy0_3 i
  | _ => ⟨S24576x4096, .bf16⟩

abbrev bufTy : (tb : Table) → Fin (tcTables nBuf tb) → BufTy
  | .hbm, ⟨i, _⟩ => hbmTy i
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_c_0 : Ref sig .tc := ⟨.hbm, 233, rfl⟩
abbrev main_call1_v0 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_cst_1 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_v254 : Ref sig .tc := ⟨.hbm, 263, rfl⟩
abbrev main_v255 : Ref sig .tc := ⟨.hbm, 264, rfl⟩
abbrev main_v256 : Ref sig .tc := ⟨.hbm, 265, rfl⟩
abbrev main_v257 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev main_v266 : Ref sig .tc := ⟨.hbm, 275, rfl⟩
abbrev main_v267 : Ref sig .tc := ⟨.hbm, 276, rfl⟩
abbrev main_v268 : Ref sig .tc := ⟨.hbm, 277, rfl⟩
abbrev main_v269 : Ref sig .tc := ⟨.hbm, 278, rfl⟩
abbrev main_v270 : Ref sig .tc := ⟨.hbm, 279, rfl⟩
abbrev main_v271 : Ref sig .tc := ⟨.hbm, 280, rfl⟩
abbrev main_v272 : Ref sig .tc := ⟨.hbm, 281, rfl⟩
abbrev main_v273 : Ref sig .tc := ⟨.hbm, 282, rfl⟩
abbrev main_v274 : Ref sig .tc := ⟨.hbm, 283, rfl⟩
abbrev main_v275 : Ref sig .tc := ⟨.hbm, 284, rfl⟩
abbrev main_v276 : Ref sig .tc := ⟨.hbm, 285, rfl⟩
abbrev main_v277 : Ref sig .tc := ⟨.hbm, 286, rfl⟩
abbrev main_v278 : Ref sig .tc := ⟨.hbm, 287, rfl⟩
abbrev main_v279 : Ref sig .tc := ⟨.hbm, 288, rfl⟩
abbrev main_v280 : Ref sig .tc := ⟨.hbm, 289, rfl⟩
abbrev main_v281 : Ref sig .tc := ⟨.hbm, 290, rfl⟩
abbrev main_v282 : Ref sig .tc := ⟨.hbm, 291, rfl⟩
abbrev main_v283 : Ref sig .tc := ⟨.hbm, 292, rfl⟩
abbrev main_v284 : Ref sig .tc := ⟨.hbm, 293, rfl⟩
abbrev main_v285 : Ref sig .tc := ⟨.hbm, 294, rfl⟩
abbrev main_v286 : Ref sig .tc := ⟨.hbm, 295, rfl⟩
abbrev main_v287 : Ref sig .tc := ⟨.hbm, 296, rfl⟩
abbrev main_v288 : Ref sig .tc := ⟨.hbm, 297, rfl⟩
abbrev main_v289 : Ref sig .tc := ⟨.hbm, 298, rfl⟩
abbrev main_v290 : Ref sig .tc := ⟨.hbm, 299, rfl⟩
abbrev main_v291 : Ref sig .tc := ⟨.hbm, 300, rfl⟩
abbrev main_v292 : Ref sig .tc := ⟨.hbm, 301, rfl⟩
abbrev main_v293 : Ref sig .tc := ⟨.hbm, 302, rfl⟩
abbrev main_v294 : Ref sig .tc := ⟨.hbm, 303, rfl⟩
abbrev main_v295 : Ref sig .tc := ⟨.hbm, 304, rfl⟩
abbrev main_v296 : Ref sig .tc := ⟨.hbm, 305, rfl⟩
abbrev main_v297 : Ref sig .tc := ⟨.hbm, 306, rfl⟩
abbrev main_v298 : Ref sig .tc := ⟨.hbm, 307, rfl⟩
abbrev main_v299 : Ref sig .tc := ⟨.hbm, 308, rfl⟩
abbrev main_v300 : Ref sig .tc := ⟨.hbm, 309, rfl⟩
abbrev main_v301 : Ref sig .tc := ⟨.hbm, 310, rfl⟩
abbrev main_v302 : Ref sig .tc := ⟨.hbm, 311, rfl⟩
abbrev main_v303 : Ref sig .tc := ⟨.hbm, 312, rfl⟩
abbrev main_v304 : Ref sig .tc := ⟨.hbm, 313, rfl⟩
abbrev main_v305 : Ref sig .tc := ⟨.hbm, 314, rfl⟩
abbrev main_v306 : Ref sig .tc := ⟨.hbm, 315, rfl⟩
abbrev main_v307 : Ref sig .tc := ⟨.hbm, 316, rfl⟩
abbrev main_v308 : Ref sig .tc := ⟨.hbm, 317, rfl⟩
abbrev main_v309 : Ref sig .tc := ⟨.hbm, 318, rfl⟩
abbrev main_v310 : Ref sig .tc := ⟨.hbm, 319, rfl⟩
abbrev main_v311 : Ref sig .tc := ⟨.hbm, 320, rfl⟩
abbrev main_v312 : Ref sig .tc := ⟨.hbm, 321, rfl⟩
abbrev main_v313 : Ref sig .tc := ⟨.hbm, 322, rfl⟩
abbrev main_v314 : Ref sig .tc := ⟨.hbm, 323, rfl⟩
abbrev main_v315 : Ref sig .tc := ⟨.hbm, 324, rfl⟩
abbrev main_v316 : Ref sig .tc := ⟨.hbm, 325, rfl⟩
abbrev main_v317 : Ref sig .tc := ⟨.hbm, 326, rfl⟩
abbrev main_v318 : Ref sig .tc := ⟨.hbm, 327, rfl⟩
abbrev main_v319 : Ref sig .tc := ⟨.hbm, 328, rfl⟩
abbrev main_v320 : Ref sig .tc := ⟨.hbm, 329, rfl⟩
abbrev main_v321 : Ref sig .tc := ⟨.hbm, 330, rfl⟩
abbrev main_v322 : Ref sig .tc := ⟨.hbm, 331, rfl⟩
abbrev main_v323 : Ref sig .tc := ⟨.hbm, 332, rfl⟩
abbrev main_v324 : Ref sig .tc := ⟨.hbm, 333, rfl⟩
abbrev main_v325 : Ref sig .tc := ⟨.hbm, 334, rfl⟩
abbrev main_v326 : Ref sig .tc := ⟨.hbm, 335, rfl⟩
abbrev main_v327 : Ref sig .tc := ⟨.hbm, 336, rfl⟩
abbrev main_v328 : Ref sig .tc := ⟨.hbm, 337, rfl⟩
abbrev main_v329 : Ref sig .tc := ⟨.hbm, 338, rfl⟩
abbrev main_v330 : Ref sig .tc := ⟨.hbm, 339, rfl⟩
abbrev main_v331 : Ref sig .tc := ⟨.hbm, 340, rfl⟩
abbrev main_v332 : Ref sig .tc := ⟨.hbm, 341, rfl⟩
abbrev main_v333 : Ref sig .tc := ⟨.hbm, 342, rfl⟩
abbrev main_v334 : Ref sig .tc := ⟨.hbm, 343, rfl⟩
abbrev main_v335 : Ref sig .tc := ⟨.hbm, 344, rfl⟩
abbrev main_v336 : Ref sig .tc := ⟨.hbm, 345, rfl⟩
abbrev main_v337 : Ref sig .tc := ⟨.hbm, 346, rfl⟩
abbrev main_v338 : Ref sig .tc := ⟨.hbm, 347, rfl⟩
abbrev main_v339 : Ref sig .tc := ⟨.hbm, 348, rfl⟩
abbrev main_v340 : Ref sig .tc := ⟨.hbm, 349, rfl⟩
abbrev main_v341 : Ref sig .tc := ⟨.hbm, 350, rfl⟩
abbrev main_v342 : Ref sig .tc := ⟨.hbm, 351, rfl⟩
abbrev main_v343 : Ref sig .tc := ⟨.hbm, 352, rfl⟩
abbrev main_v344 : Ref sig .tc := ⟨.hbm, 353, rfl⟩
abbrev main_v345 : Ref sig .tc := ⟨.hbm, 354, rfl⟩
abbrev main_v346 : Ref sig .tc := ⟨.hbm, 355, rfl⟩
abbrev main_v347 : Ref sig .tc := ⟨.hbm, 356, rfl⟩
abbrev main_v348 : Ref sig .tc := ⟨.hbm, 357, rfl⟩
abbrev main_v349 : Ref sig .tc := ⟨.hbm, 358, rfl⟩
abbrev main_v350 : Ref sig .tc := ⟨.hbm, 359, rfl⟩
abbrev main_v351 : Ref sig .tc := ⟨.hbm, 360, rfl⟩
abbrev main_v352 : Ref sig .tc := ⟨.hbm, 361, rfl⟩
abbrev main_v353 : Ref sig .tc := ⟨.hbm, 362, rfl⟩
abbrev main_v354 : Ref sig .tc := ⟨.hbm, 363, rfl⟩
abbrev main_v355 : Ref sig .tc := ⟨.hbm, 364, rfl⟩
abbrev main_v356 : Ref sig .tc := ⟨.hbm, 365, rfl⟩
abbrev main_v357 : Ref sig .tc := ⟨.hbm, 366, rfl⟩
abbrev main_v358 : Ref sig .tc := ⟨.hbm, 367, rfl⟩
abbrev main_v359 : Ref sig .tc := ⟨.hbm, 368, rfl⟩
abbrev main_v360 : Ref sig .tc := ⟨.hbm, 369, rfl⟩
abbrev main_v361 : Ref sig .tc := ⟨.hbm, 370, rfl⟩
abbrev main_v362 : Ref sig .tc := ⟨.hbm, 371, rfl⟩
abbrev main_v363 : Ref sig .tc := ⟨.hbm, 372, rfl⟩
abbrev main_v364 : Ref sig .tc := ⟨.hbm, 373, rfl⟩
abbrev main_v365 : Ref sig .tc := ⟨.hbm, 374, rfl⟩
abbrev main_v366 : Ref sig .tc := ⟨.hbm, 375, rfl⟩
abbrev main_v367 : Ref sig .tc := ⟨.hbm, 376, rfl⟩
abbrev main_v368 : Ref sig .tc := ⟨.hbm, 377, rfl⟩
abbrev main_v369 : Ref sig .tc := ⟨.hbm, 378, rfl⟩
abbrev main_v370 : Ref sig .tc := ⟨.hbm, 379, rfl⟩
abbrev main_v371 : Ref sig .tc := ⟨.hbm, 380, rfl⟩
abbrev main_v372 : Ref sig .tc := ⟨.hbm, 381, rfl⟩
abbrev main_v373 : Ref sig .tc := ⟨.hbm, 382, rfl⟩
abbrev main_v374 : Ref sig .tc := ⟨.hbm, 383, rfl⟩
abbrev main_v375 : Ref sig .tc := ⟨.hbm, 384, rfl⟩
abbrev main_v376 : Ref sig .tc := ⟨.hbm, 385, rfl⟩
abbrev main_v377 : Ref sig .tc := ⟨.hbm, 386, rfl⟩
abbrev main_v378 : Ref sig .tc := ⟨.hbm, 387, rfl⟩
abbrev main_v379 : Ref sig .tc := ⟨.hbm, 388, rfl⟩
abbrev main_v380 : Ref sig .tc := ⟨.hbm, 389, rfl⟩
abbrev main_v381 : Ref sig .tc := ⟨.hbm, 390, rfl⟩
abbrev main_v382 : Ref sig .tc := ⟨.hbm, 391, rfl⟩
abbrev main_v383 : Ref sig .tc := ⟨.hbm, 392, rfl⟩
abbrev main_v384 : Ref sig .tc := ⟨.hbm, 393, rfl⟩
abbrev main_v385 : Ref sig .tc := ⟨.hbm, 394, rfl⟩
abbrev main_v386 : Ref sig .tc := ⟨.hbm, 395, rfl⟩
abbrev main_v387 : Ref sig .tc := ⟨.hbm, 396, rfl⟩
abbrev main_v388 : Ref sig .tc := ⟨.hbm, 397, rfl⟩
abbrev main_v389 : Ref sig .tc := ⟨.hbm, 398, rfl⟩
abbrev main_v390 : Ref sig .tc := ⟨.hbm, 399, rfl⟩
abbrev main_v391 : Ref sig .tc := ⟨.hbm, 400, rfl⟩
abbrev main_v392 : Ref sig .tc := ⟨.hbm, 401, rfl⟩
abbrev main_v393 : Ref sig .tc := ⟨.hbm, 402, rfl⟩
abbrev main_v394 : Ref sig .tc := ⟨.hbm, 403, rfl⟩
abbrev main_v395 : Ref sig .tc := ⟨.hbm, 404, rfl⟩
abbrev main_v396 : Ref sig .tc := ⟨.hbm, 405, rfl⟩
abbrev main_v397 : Ref sig .tc := ⟨.hbm, 406, rfl⟩
abbrev main_v398 : Ref sig .tc := ⟨.hbm, 407, rfl⟩
abbrev main_v399 : Ref sig .tc := ⟨.hbm, 408, rfl⟩
abbrev main_v400 : Ref sig .tc := ⟨.hbm, 409, rfl⟩
abbrev main_v401 : Ref sig .tc := ⟨.hbm, 410, rfl⟩
abbrev main_v402 : Ref sig .tc := ⟨.hbm, 411, rfl⟩
abbrev main_v403 : Ref sig .tc := ⟨.hbm, 412, rfl⟩
abbrev main_v404 : Ref sig .tc := ⟨.hbm, 413, rfl⟩
abbrev main_v405 : Ref sig .tc := ⟨.hbm, 414, rfl⟩
abbrev main_v406 : Ref sig .tc := ⟨.hbm, 415, rfl⟩
abbrev main_v407 : Ref sig .tc := ⟨.hbm, 416, rfl⟩
abbrev main_v408 : Ref sig .tc := ⟨.hbm, 417, rfl⟩
abbrev main_v409 : Ref sig .tc := ⟨.hbm, 418, rfl⟩
abbrev main_v410 : Ref sig .tc := ⟨.hbm, 419, rfl⟩
abbrev main_v411 : Ref sig .tc := ⟨.hbm, 420, rfl⟩
abbrev main_v412 : Ref sig .tc := ⟨.hbm, 421, rfl⟩
abbrev main_v413 : Ref sig .tc := ⟨.hbm, 422, rfl⟩
abbrev main_v414 : Ref sig .tc := ⟨.hbm, 423, rfl⟩
abbrev main_v415 : Ref sig .tc := ⟨.hbm, 424, rfl⟩
abbrev main_v416 : Ref sig .tc := ⟨.hbm, 425, rfl⟩
abbrev main_v417 : Ref sig .tc := ⟨.hbm, 426, rfl⟩
abbrev main_v418 : Ref sig .tc := ⟨.hbm, 427, rfl⟩
abbrev main_v419 : Ref sig .tc := ⟨.hbm, 428, rfl⟩
abbrev main_v420 : Ref sig .tc := ⟨.hbm, 429, rfl⟩
abbrev main_v421 : Ref sig .tc := ⟨.hbm, 430, rfl⟩
abbrev main_v422 : Ref sig .tc := ⟨.hbm, 431, rfl⟩
abbrev main_v423 : Ref sig .tc := ⟨.hbm, 432, rfl⟩
abbrev main_v424 : Ref sig .tc := ⟨.hbm, 433, rfl⟩
abbrev main_v425 : Ref sig .tc := ⟨.hbm, 434, rfl⟩
abbrev main_v426 : Ref sig .tc := ⟨.hbm, 435, rfl⟩
abbrev main_v427 : Ref sig .tc := ⟨.hbm, 436, rfl⟩
abbrev main_v428 : Ref sig .tc := ⟨.hbm, 437, rfl⟩
abbrev main_v429 : Ref sig .tc := ⟨.hbm, 438, rfl⟩
abbrev main_v430 : Ref sig .tc := ⟨.hbm, 439, rfl⟩
abbrev main_v431 : Ref sig .tc := ⟨.hbm, 440, rfl⟩
abbrev main_v432 : Ref sig .tc := ⟨.hbm, 441, rfl⟩
abbrev main_v433 : Ref sig .tc := ⟨.hbm, 442, rfl⟩
abbrev main_v434 : Ref sig .tc := ⟨.hbm, 443, rfl⟩
abbrev main_v435 : Ref sig .tc := ⟨.hbm, 444, rfl⟩
abbrev main_v436 : Ref sig .tc := ⟨.hbm, 445, rfl⟩
abbrev main_v437 : Ref sig .tc := ⟨.hbm, 446, rfl⟩
abbrev main_v438 : Ref sig .tc := ⟨.hbm, 447, rfl⟩
abbrev main_v439 : Ref sig .tc := ⟨.hbm, 448, rfl⟩
abbrev main_v440 : Ref sig .tc := ⟨.hbm, 449, rfl⟩
abbrev main_v441 : Ref sig .tc := ⟨.hbm, 450, rfl⟩
abbrev main_v442 : Ref sig .tc := ⟨.hbm, 451, rfl⟩
abbrev main_v443 : Ref sig .tc := ⟨.hbm, 452, rfl⟩
abbrev main_v444 : Ref sig .tc := ⟨.hbm, 453, rfl⟩
abbrev main_v445 : Ref sig .tc := ⟨.hbm, 454, rfl⟩
abbrev main_v446 : Ref sig .tc := ⟨.hbm, 455, rfl⟩
abbrev main_v447 : Ref sig .tc := ⟨.hbm, 456, rfl⟩
abbrev main_v448 : Ref sig .tc := ⟨.hbm, 457, rfl⟩
abbrev main_v449 : Ref sig .tc := ⟨.hbm, 458, rfl⟩
abbrev main_v450 : Ref sig .tc := ⟨.hbm, 459, rfl⟩
abbrev main_v451 : Ref sig .tc := ⟨.hbm, 460, rfl⟩

abbrev nD : Nat := 1
abbrev τ : Topo := Topo.v7x

variable {F : FTy → Type} [FloatOps F]
-- ==== Proof.Attn.Kernel.Runs.lean ====
module

public import proofs.«01_k».proof.Proof.Gen.Kernel.Skeleton
public import proofs.«01_k».proof.Proof.Attn.Kernel.Tables

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev VO0_3 : View sig .tc .vmem S512x512 .bf16 := (Memref.whole cc0_stg3_0 : Memref sig .tc .vmem S512x512 .bf16).view

set_option backward.proofsInPublic true in
set_option maxHeartbeats 8000000 in
/-- A first step: from any accumulators, the body leaves the three accumulators named here and touches nothing else. -/
noncomputable def kernelRun0_A (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Bits .i32)) (T1 : (S544.Idx → Elt Bits .i32)) (T2 : (S544.Idx → Elt Bits .i32)) (T3 : (S544.Idx → Elt Bits .i32)) (T4 : (S544.Idx → Elt Bits .i32)) (T5 : (S544.Idx → Elt Bits .i32))
     (x0 : (S512x512.Idx → Elt Bits .bf16)) (x1 : (S1024x128.Idx → Elt Bits .bf16)) (x2 : (S1024x128.Idx → Elt Bits .bf16)) (hc0 : (Scalar.cmpi .ne (Scalar.extui (Scalar.cmpi .eq (View.readAt (Elt Bits) (tbM0_2).view (Rect.unit (s := S544) (k0_off1 i) S1.size (k0_off1_inb i)).toLoadRect T2 (Shape.Idx.first (numel1_S1.symm ▸ Nat.one_pos))) 1#32)) 0#32) = 1#1) (k0_h2 : ¬(k0_cond2 (View.readAt (Elt Bits) (tbM0_3).view (Rect.unit (s := S544) (k0_off2 i) S1.size (k0_off2_inb i)).toLoadRect T3 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S512x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ owns (c : Thread nD τ) arg11 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg8.view.loc (c : Thread nD τ) ↦[arg8.view.set]{fullShare} arg8.view.rep x0)
              ∗ (arg9.view.loc (c : Thread nD τ) ↦[arg9.view.set]{fullShare} arg9.view.rep x1)
              ∗ (arg10.view.loc (c : Thread nD τ) ↦[arg10.view.set]{fullShare} arg10.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ owns (c : Thread nD τ) arg11 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_gqa_attention i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg8 harg8 arg9 harg9 arg10 harg10 arg11 harg11 scM0_0 (Memref.isWhole_whole _) scM0_1 (Memref.isWhole_whole _) scM0_2 (Memref.isWhole_whole _)) K } :=
  ⟨_, _, _, fun (y3 : (S512x512.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_gqa_attention_eq_skeleton]; unfold cc0_gqa_attention_skel
    iintro ⟨H0, H1, H2, HT0, HT1, HT2, HT3, HT4, HT5, ⟨%f3, %hf3, HO3⟩, HS0, HS1, HS2, Hk⟩
    obtain rfl := harg11.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | (guard_target = Scalar.cmpi = _; exact hc0) | (guard_target = ¬(k0_cond2 _ = _); exact k0_h2))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [HO3]
    · iexists _; isplitr; · ipureintro; exact harg11.read_unread _
      iexact HO3
    isplitl [HS0]; · iexact HS0
    isplitl [HS1]; · iexact HS1
    iexact HS2⟩

set_option backward.proofsInPublic true in
set_option maxHeartbeats 8000000 in
/-- A last step: the body leaves the three accumulators named here and stores the output block in four pieces. -/
noncomputable def kernelRun0_B (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Bits .i32)) (T1 : (S544.Idx → Elt Bits .i32)) (T2 : (S544.Idx → Elt Bits .i32)) (T3 : (S544.Idx → Elt Bits .i32)) (T4 : (S544.Idx → Elt Bits .i32)) (T5 : (S544.Idx → Elt Bits .i32))
     (x0 : (S512x512.Idx → Elt Bits .bf16)) (x1 : (S1024x128.Idx → Elt Bits .bf16)) (x2 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_2).view (Rect.unit (s := S544) (k0_off1 i) S1.size (k0_off1_inb i)).toLoadRect T2 (Shape.Idx.first (numel1_S1.symm ▸ Nat.one_pos))) 1#32)) 0#32) = 1#1)) (k0_h2 : k0_cond2 (View.readAt (Elt Bits) (tbM0_3).view (Rect.unit (s := S544) (k0_off2 i) S1.size (k0_off2_inb i)).toLoadRect T3 (Shape.Idx.first (numel1_S1.symm ▸ Nat.one_pos))) = 1#1) :
    Σ' (out0 : List (View.Piece (Elt Bits) S512x512 .bf16)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ (∃ d, owns (c : Thread nD τ) arg11 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg8.view.loc (c : Thread nD τ) ↦[arg8.view.set]{fullShare} arg8.view.rep x0)
              ∗ (arg9.view.loc (c : Thread nD τ) ↦[arg9.view.set]{fullShare} arg9.view.rep x1)
              ∗ (arg10.view.loc (c : Thread nD τ) ↦[arg10.view.set]{fullShare} arg10.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ (∃ f, arg11.view.loc (c : Thread nD τ) ↦[arg11.view.set]{fullShare} arg11.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_gqa_attention i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg8 harg8 arg9 harg9 arg10 harg10 arg11 harg11 scM0_0 (Memref.isWhole_whole _) scM0_1 (Memref.isWhole_whole _) scM0_2 (Memref.isWhole_whole _)) K } :=
  ⟨_, _, _, _, fun K => by
    unfold owns
    rw [cc0_gqa_attention_eq_skeleton]; unfold cc0_gqa_attention_skel
    iintro ⟨H0, H1, H2, HT0, HT1, HT2, HT3, HT4, HT5, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | (guard_target = ¬(Scalar.cmpi = _); exact hc0) | (guard_target = k0_cond2 _ = _; exact k0_h2))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [HO3]; · iexists _; iexact HO3
    isplitl [HS0]; · iexact HS0
    isplitl [HS1]; · iexact HS1
    iexact HS2⟩

/-- The four stores of a last step tile the output block. -/
theorem cover0_B_3 (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Bits .i32)) (T1 : (S544.Idx → Elt Bits .i32)) (T2 : (S544.Idx → Elt Bits .i32)) (T3 : (S544.Idx → Elt Bits .i32)) (T4 : (S544.Idx → Elt Bits .i32)) (T5 : (S544.Idx → Elt Bits .i32))
     (x0 : (S512x512.Idx → Elt Bits .bf16)) (x1 : (S1024x128.Idx → Elt Bits .bf16)) (x2 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_2).view (Rect.unit (s := S544) (k0_off1 i) S1.size (k0_off1_inb i)).toLoadRect T2 (Shape.Idx.first (numel1_S1.symm ▸ Nat.one_pos))) 1#32)) 0#32) = 1#1)) (k0_h2 : k0_cond2 (View.readAt (Elt Bits) (tbM0_3).view (Rect.unit (s := S544) (k0_off2 i) S1.size (k0_off2_inb i)).toLoadRect T3 (Shape.Idx.first (numel1_S1.symm ▸ Nat.one_pos))) = 1#1) (y : S512x512.Idx) :
    ∃ pc ∈ (kernelRun0_B c i arg8 harg8 arg9 harg9 arg10 harg10 arg11 harg11 T0 T1 T2 T3 T4 T5 x0 x1 x2 xa0 xa1 xa2 hc0 k0_h2).1, y ∈ pc.1.set :=
  View.cover_of_tiledL (kernelRun0_B c i arg8 harg8 arg9 harg9 arg10 harg10 arg11 harg11 T0 T1 T2 T3 T4 T5 x0 x1 x2 xa0 xa1 xa2 hc0 k0_h2).1 S512x128.size (by sl_kernel_rfl) y

/-- The output block a last step leaves. -/
def out0_B_3 (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Bits .i32)) (T1 : (S544.Idx → Elt Bits .i32)) (T2 : (S544.Idx → Elt Bits .i32)) (T3 : (S544.Idx → Elt Bits .i32)) (T4 : (S544.Idx → Elt Bits .i32)) (T5 : (S544.Idx → Elt Bits .i32))
     (x0 : (S512x512.Idx → Elt Bits .bf16)) (x1 : (S1024x128.Idx → Elt Bits .bf16)) (x2 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_2).view (Rect.unit (s := S544) (k0_off1 i) S1.size (k0_off1_inb i)).toLoadRect T2 (Shape.Idx.first (numel1_S1.symm ▸ Nat.one_pos))) 1#32)) 0#32) = 1#1)) (k0_h2 : k0_cond2 (View.readAt (Elt Bits) (tbM0_3).view (Rect.unit (s := S544) (k0_off2 i) S1.size (k0_off2_inb i)).toLoadRect T3 (Shape.Idx.first (numel1_S1.symm ▸ Nat.one_pos))) = 1#1) : (S512x512.Idx → Elt Bits .bf16) :=
  VO0_3.read (Elt Bits) (VO0_3.writes (Elt Bits) VO0_3.junk (kernelRun0_B c i arg8 harg8 arg9 harg9 arg10 harg10 arg11 harg11 T0 T1 T2 T3 T4 T5 x0 x1 x2 xa0 xa1 xa2 hc0 k0_h2).1)

set_option backward.proofsInPublic true in
set_option maxHeartbeats 8000000 in
/-- A step between: the body leaves the three accumulators named here and touches nothing else. -/
noncomputable def kernelRun0_C (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Bits .i32)) (T1 : (S544.Idx → Elt Bits .i32)) (T2 : (S544.Idx → Elt Bits .i32)) (T3 : (S544.Idx → Elt Bits .i32)) (T4 : (S544.Idx → Elt Bits .i32)) (T5 : (S544.Idx → Elt Bits .i32))
     (x0 : (S512x512.Idx → Elt Bits .bf16)) (x1 : (S1024x128.Idx → Elt Bits .bf16)) (x2 : (S1024x128.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (View.readAt (Elt Bits) (tbM0_2).view (Rect.unit (s := S544) (k0_off1 i) S1.size (k0_off1_inb i)).toLoadRect T2 (Shape.Idx.first (numel1_S1.symm ▸ Nat.one_pos))) 1#32)) 0#32) = 1#1)) (k0_h2 : ¬(k0_cond2 (View.readAt (Elt Bits) (tbM0_3).view (Rect.unit (s := S544) (k0_off2 i) S1.size (k0_off2_inb i)).toLoadRect T3 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S512x512.Idx → Elt Bits .bf16)) (K : PUnit → sProp 𝕄),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ owns (c : Thread nD τ) arg11 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg8.view.loc (c : Thread nD τ) ↦[arg8.view.set]{fullShare} arg8.view.rep x0)
              ∗ (arg9.view.loc (c : Thread nD τ) ↦[arg9.view.set]{fullShare} arg9.view.rep x1)
              ∗ (arg10.view.loc (c : Thread nD τ) ↦[arg10.view.set]{fullShare} arg10.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ owns (c : Thread nD τ) arg11 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_gqa_attention i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg8 harg8 arg9 harg9 arg10 harg10 arg11 harg11 scM0_0 (Memref.isWhole_whole _) scM0_1 (Memref.isWhole_whole _) scM0_2 (Memref.isWhole_whole _)) K } :=
  ⟨_, _, _, fun (y3 : (S512x512.Idx → Elt Bits .bf16)) K => by
    unfold owns
    rw [cc0_gqa_attention_eq_skeleton]; unfold cc0_gqa_attention_skel
    iintro ⟨H0, H1, H2, HT0, HT1, HT2, HT3, HT4, HT5, ⟨%f3, %hf3, HO3⟩, HS0, HS1, HS2, Hk⟩
    obtain rfl := harg11.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | (guard_target = ¬(Scalar.cmpi = _); exact hc0) | (guard_target = ¬(k0_cond2 _ = _); exact k0_h2))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [HO3]
    · iexists _; isplitr; · ipureintro; exact harg11.read_unread _
      iexact HO3
    isplitl [HS0]; · iexact HS0
    isplitl [HS1]; · iexact HS1
    iexact HS2⟩

end Cert.Kernel.Attn

end
-- ==== Proof.Attn.Kernel.Config.lean ====
module

public import proofs.«01_k».proof.Proof.Attn.Kernel.Blocks

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN : ok0 (F := Bits) pfN := ok_pfN_0

/-- The tables put every block inside its array, so the pipeline may run at them. -/
def adm : (pcfg0 (F := Bits)).Adm := ⟨pfN, ok_pfN⟩
/-- The pipeline at these tables. -/
abbrev cfgA : Pipeline.Cfg sig Λ₀ := cfg0 (F := Bits) (adm)
abbrev pcs : Fin 1 → Pipeline.Cfg sig Λ₀ := Pipeline.pin (pcfgs (F := Bits)) fun _ => adm

variable (m : (ℓ : Loc nD τ sig) → Buf (Elt Bits) ℓ) (ρ : Dev nD → PrngReg)

/-- Point `t`'s coordinates: the key/value head and the step. -/
abbrev crd (t : Fin cfgA.N) : cfgA.grid.Coords := cfgA.grid.coords t

/-- Staging buffer of the query window at point `t`; the next ones are those of the keys, values and output. -/
abbrev ms0_0 (t : Fin cfgA.N) : Memref sig .tc .vmem S512x512 .bf16 := spec0_0.stage (cfgA.slots t (0 : Fin 4))
abbrev hs0_0 (t : Fin cfgA.N) : (ms0_0 t).IsWhole := hstage0_0 ((cfgA.slots t (0 : Fin 4)).cast nbuf0_0)
abbrev ms0_1 (t : Fin cfgA.N) : Memref sig .tc .vmem S1024x128 .bf16 := spec0_1.stage (cfgA.slots t (1 : Fin 4))
abbrev hs0_1 (t : Fin cfgA.N) : (ms0_1 t).IsWhole := hstage0_1 ((cfgA.slots t (1 : Fin 4)).cast nbuf0_1)
abbrev ms0_2 (t : Fin cfgA.N) : Memref sig .tc .vmem S1024x128 .bf16 := spec0_2.stage (cfgA.slots t (2 : Fin 4))
abbrev hs0_2 (t : Fin cfgA.N) : (ms0_2 t).IsWhole := hstage0_2 ((cfgA.slots t (2 : Fin 4)).cast nbuf0_2)
abbrev ms0_3 (t : Fin cfgA.N) : Memref sig .tc .vmem S512x512 .bf16 := spec0_3.stage (cfgA.slots t (3 : Fin 4))
abbrev hs0_3 (t : Fin cfgA.N) : (ms0_3 t).IsWhole := hstage0_3 ((cfgA.slots t (3 : Fin 4)).cast nbuf0_3)

/-- Window `w`'s block at point `t`, read off its array at launch. -/
def iblk (c : Dev nD) (w : Fin cfgA.W) (t : Fin cfgA.N) : ((cfgA.win w).xblock (crd t)).Idx → Elt Bits (cfgA.win w).elt :=
  ((cfgA.win w).blk t).view.read (Elt Bits) ((s₀ m ρ).mem ((cfgA.win w).arr.view.loc (c : Thread nD τ)))

/-- The step is the first of its query block: the accumulators are reset. -/
abbrev P0_0 (t : Fin cfgA.N) : Prop := (Scalar.cmpi .ne (Scalar.extui (Scalar.cmpi .eq (View.readAt (Elt Bits) (tbM0_2).view (Rect.unit (s := S544) (k0_off1 (crd t)) S1.size (k0_off1_inb (crd t))).toLoadRect pinT_2 (Shape.Idx.first (numel1_S1.symm ▸ Nat.one_pos))) 1#32)) 0#32) = 1#1
/-- The step is the last of its query block: the output block is written. -/
abbrev P0_1 (t : Fin cfgA.N) : Prop := k0_cond2 (View.readAt (Elt Bits) (tbM0_3).view (Rect.unit (s := S544) (k0_off2 (crd t)) S1.size (k0_off2_inb (crd t))).toLoadRect pinT_3 (Shape.Idx.first (numel1_S1.symm ▸ Nat.one_pos))) = 1#1

/-- Whether the running maximum is still undetermined before position `n`. -/
def sfresh0_0 : ℕ → Bool
  | 0 => true
  | n + 1 => if h : n < cfgA.N then (if P0_0 ⟨n, h⟩ then false else (if P0_1 ⟨n, h⟩ then sfresh0_0 n else sfresh0_0 n)) else true

def sfirst0_0 : ℕ := 0
def sfrTab0_0 : ℕ → Bool := fun n => decide (n ≤ sfirst0_0)

/-- Whether the running denominator is still undetermined before position `n`. -/
def sfresh0_1 : ℕ → Bool
  | 0 => true
  | n + 1 => if h : n < cfgA.N then (if P0_0 ⟨n, h⟩ then false else (if P0_1 ⟨n, h⟩ then sfresh0_1 n else sfresh0_1 n)) else true

def sfirst0_1 : ℕ := 0
def sfrTab0_1 : ℕ → Bool := fun n => decide (n ≤ sfirst0_1)

/-- Whether the running numerator is still undetermined before position `n`. -/
def sfresh0_2 : ℕ → Bool
  | 0 => true
  | n + 1 => if h : n < cfgA.N then (if P0_0 ⟨n, h⟩ then false else (if P0_1 ⟨n, h⟩ then sfresh0_2 n else sfresh0_2 n)) else true

def sfirst0_2 : ℕ := 0
def sfrTab0_2 : ℕ → Bool := fun n => decide (n ≤ sfirst0_2)

/-- The output buffer never holds anything unwritten-back before a point: it is stored only where it is written back. -/
def frTab0_3 : ℕ → Bool := fun _ => true

end Cert.Kernel.Attn

end
-- ==== Proof.Attn.Kernel.Points.lean ====
module

public import proofs.«01_k».proof.Proof.Attn.Kernel.Config

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (m : (ℓ : Loc nD τ sig) → Buf (Elt Bits) ℓ) (ρ : Dev nD → PrngReg)

/-- Everything decided of a point: which buffers are determined, which windows are idle, which blocks are written back. -/
abbrev FactsAt (t : Fin cfgA.N) : Prop :=
  (sfrTab0_0 (t.val + 1) = (if P0_0 t then false else (if P0_1 t then sfrTab0_0 t.val else sfrTab0_0 t.val)))
  ∧ (sfrTab0_1 (t.val + 1) = (if P0_0 t then false else (if P0_1 t then sfrTab0_1 t.val else sfrTab0_1 t.val)))
  ∧ (sfrTab0_2 (t.val + 1) = (if P0_0 t then false else (if P0_1 t then sfrTab0_2 t.val else sfrTab0_2 t.val)))
  ∧ (frTab0_3 (t.val + 1) = ((cfgA.win (3 : Fin 4)).flush t || (cfgA.idle (3 : Fin 4) (cfgA.grid.coords t) && frTab0_3 t.val)))
  ∧ (P0_0 t → ((Scalar.cmpi .ne (Scalar.extui (Scalar.cmpi .eq (View.readAt (Elt Bits) (tbM0_2).view (Rect.unit (s := S544) (k0_off1 (crd t)) S1.size (k0_off1_inb (crd t))).toLoadRect pinT_2 (Shape.Idx.first (numel1_S1.symm ▸ Nat.one_pos))) 1#32)) 0#32) = 1#1) ∧ ((¬(k0_cond2 (View.readAt (Elt Bits) (tbM0_3).view (Rect.unit (s := S544) (k0_off2 (crd t)) S1.size (k0_off2_inb (crd t))).toLoadRect pinT_3 (Shape.Idx.first (numel1_S1.symm ▸ Nat.one_pos))) = 1#1)) ∧ (True)))
  ∧ (P0_0 t → cfgA.idle (3 : Fin 4) (cfgA.grid.coords t) = true ∧ (cfgA.win (3 : Fin 4)).flush t = false ∧ frTab0_3 t.val = true ∧ sfrTab0_0 (t.val + 1) = false ∧ sfrTab0_1 (t.val + 1) = false ∧ sfrTab0_2 (t.val + 1) = false)
  ∧ (¬P0_0 t → P0_1 t → (¬((Scalar.cmpi .ne (Scalar.extui (Scalar.cmpi .eq (View.readAt (Elt Bits) (tbM0_2).view (Rect.unit (s := S544) (k0_off1 (crd t)) S1.size (k0_off1_inb (crd t))).toLoadRect pinT_2 (Shape.Idx.first (numel1_S1.symm ▸ Nat.one_pos))) 1#32)) 0#32) = 1#1)) ∧ ((k0_cond2 (View.readAt (Elt Bits) (tbM0_3).view (Rect.unit (s := S544) (k0_off2 (crd t)) S1.size (k0_off2_inb (crd t))).toLoadRect pinT_3 (Shape.Idx.first (numel1_S1.symm ▸ Nat.one_pos))) = 1#1) ∧ (True)))
  ∧ (¬P0_0 t → P0_1 t → cfgA.idle (3 : Fin 4) (cfgA.grid.coords t) = false ∧ (cfgA.win (3 : Fin 4)).flush t = true ∧ frTab0_3 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → ¬P0_1 t → (¬((Scalar.cmpi .ne (Scalar.extui (Scalar.cmpi .eq (View.readAt (Elt Bits) (tbM0_2).view (Rect.unit (s := S544) (k0_off1 (crd t)) S1.size (k0_off1_inb (crd t))).toLoadRect pinT_2 (Shape.Idx.first (numel1_S1.symm ▸ Nat.one_pos))) 1#32)) 0#32) = 1#1)) ∧ ((¬(k0_cond2 (View.readAt (Elt Bits) (tbM0_3).view (Rect.unit (s := S544) (k0_off2 (crd t)) S1.size (k0_off2_inb (crd t))).toLoadRect pinT_3 (Shape.Idx.first (numel1_S1.symm ▸ Nat.one_pos))) = 1#1)) ∧ (True)))
  ∧ (¬P0_0 t → ¬P0_1 t → cfgA.idle (3 : Fin 4) (cfgA.grid.coords t) = true ∧ (cfgA.win (3 : Fin 4)).flush t = false ∧ frTab0_3 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))

end Cert.Kernel.Attn

end
-- ==== Proof.Attn.Softmax.lean ====
/- The softmax-weighted mean of a list of values, and how it is built up block by block.

   For scores `s 0, s 1, …` and values `v 0, v 1, …` in the extended reals the weighted mean of the first `n` is
   `(∑ 2^(s j - M) · v j) / (∑ 2^(s j - M))`, `M` the largest of the first `n` scores. Three running quantities
   (the maximum, the sum of the weights, the sum of the weighted values) can be carried from `n` to `n + B` entries by
   rescaling the two sums with `2^(old maximum - new maximum)`. Nothing is assumed of the scores or the values: they
   may be infinite. -/
module

public import Idealize.ShloMosaic.PureOps.Ideal

@[expose] public section

noncomputable section

namespace Cert.Attn

open Idealize.ShloMosaic

/-- The largest of the first `n` scores (`⊥` of none). -/
def top (s : ℕ → EReal) (n : ℕ) : EReal := (Finset.range n).sup s

/-- The sum of the first `n` weights. -/
def mass (s : ℕ → EReal) (n : ℕ) : EReal := ∑ j ∈ Finset.range n, Ideal.exp2 (s j - top s n)

/-- The sum of the first `n` weighted values. -/
def heap (s v : ℕ → EReal) (n : ℕ) : EReal := ∑ j ∈ Finset.range n, Ideal.exp2 (s j - top s n) * v j

/-- The weighted mean of the first `n` values. -/
def mean (s v : ℕ → EReal) (n : ℕ) : EReal := Ideal.div (heap s v n) (mass s n)

theorem top_zero (s : ℕ → EReal) : top s 0 = ⊥ := rfl
theorem mass_zero (s : ℕ → EReal) : mass s 0 = 0 := rfl
theorem heap_zero (s v : ℕ → EReal) : heap s v 0 = 0 := rfl

theorem le_top {s : ℕ → EReal} {n j : ℕ} (h : j < n) : s j ≤ top s n :=
  Finset.le_sup (f := s) (Finset.mem_range.mpr h)

/-- The maximum of the first `n + B` scores, from that of the first `n` and of the `B` next. -/
theorem top_add (s : ℕ → EReal) (n B : ℕ) :
    top s (n + B) = max (top s n) ((Finset.range B).sup fun r => s (n + r)) := by
  apply le_antisymm
  · refine Finset.sup_le fun j hj => ?_
    have hj := Finset.mem_range.mp hj
    by_cases h : j < n
    · exact (le_top h).trans (le_max_left _ _)
    · have e : s j = (fun r => s (n + r)) (j - n) := by
        change s j = s (n + (j - n)); congr 1; omega
      rw [e]
      exact (Finset.le_sup (f := fun r => s (n + r)) (Finset.mem_range.mpr (by omega))).trans (le_max_right _ _)
  · refine max_le (Finset.sup_le fun j hj => ?_) (Finset.sup_le fun r hr => ?_)
    · have := Finset.mem_range.mp hj; exact le_top (by omega)
    · have := Finset.mem_range.mp hr; exact le_top (by omega)

theorem exp2_nonneg (x : EReal) : 0 ≤ Ideal.exp2 x := by
  induction x with
  | bot => exact le_refl _
  | top => exact _root_.le_top
  | coe r => exact EReal.coe_nonneg.mpr (Real.rpow_nonneg (by norm_num) r)

/-- A weight does not exceed a power of a finite number unless its exponent is infinite. -/
theorem exp2_ne_top {x : EReal} (h : x ≠ ⊤) : Ideal.exp2 x ≠ ⊤ := by
  induction x with
  | bot => exact EReal.zero_ne_top
  | top => exact absurd rfl h
  | coe r => exact EReal.coe_ne_top _

/-- The difference of an extended real and one that is no smaller is not `⊤`. -/
theorem sub_ne_top {a b : EReal} (h : a ≤ b) : a - b ≠ ⊤ := by
  induction a with
  | bot => simp [sub_eq_add_neg]
  | top =>
    obtain rfl : b = ⊤ := top_le_iff.mp h
    simp [sub_eq_add_neg]
  | coe r =>
    induction b with
    | bot => exact absurd h (by simp)
    | top => simp [sub_eq_add_neg]
    | coe q => rw [← EReal.coe_sub]; exact EReal.coe_ne_top _

/-- Rescaling a weight from the maximum `b` to a later maximum `c`. -/
theorem exp2_rescale {a b c : EReal} (hab : a ≤ b) (hbc : b ≤ c) :
    Ideal.exp2 (b - c) * Ideal.exp2 (a - b) = Ideal.exp2 (a - c) := by
  induction c with
  | top =>
    have e : ∀ x : EReal, x - ⊤ = ⊥ := fun x => by simp [sub_eq_add_neg]
    rw [e, e, Ideal.exp2_bot, zero_mul]
  | bot =>
    obtain rfl : b = ⊥ := le_bot_iff.mp hbc
    obtain rfl : a = ⊥ := le_bot_iff.mp hab
    have e : (⊥ : EReal) - ⊥ = ⊥ := by simp [sub_eq_add_neg]
    rw [e, Ideal.exp2_bot, zero_mul]
  | coe z =>
    induction b with
    | top => exact absurd hbc (by simp)
    | bot =>
      obtain rfl : a = ⊥ := le_bot_iff.mp hab
      have e : ∀ x : EReal, (⊥ : EReal) - x = ⊥ := fun x => by simp [sub_eq_add_neg]
      rw [e, e, Ideal.exp2_bot, zero_mul]
    | coe y =>
      induction a with
      | top => exact absurd hab (by simp)
      | bot =>
        have e : ∀ x : EReal, (⊥ : EReal) - x = ⊥ := fun x => by simp [sub_eq_add_neg]
        rw [e, e, Ideal.exp2_bot, mul_zero]
      | coe x =>
        rw [← EReal.coe_sub, ← EReal.coe_sub, ← EReal.coe_sub, Ideal.exp2_coe, Ideal.exp2_coe, Ideal.exp2_coe,
          ← EReal.coe_mul]
        congr 1
        change (2 : ℝ) ^ (y - z) * (2 : ℝ) ^ (x - y) = (2 : ℝ) ^ (x - z)
        rw [← Real.rpow_add (by norm_num)]
        congr 1; ring

/-- A nonnegative finite factor goes inside a sum. -/
theorem mul_sum_of_finite {c : EReal} (h0 : 0 ≤ c) (h1 : c ≠ ⊤) (f : ℕ → EReal) (n : ℕ) :
    c * ∑ j ∈ Finset.range n, f j = ∑ j ∈ Finset.range n, c * f j := by
  induction n with
  | zero => simp
  | succ n ih => rw [Finset.sum_range_succ, Finset.sum_range_succ, EReal.left_distrib_of_nonneg_of_ne_top h0 h1, ih]

theorem top_le_add (s : ℕ → EReal) (n B : ℕ) : top s n ≤ top s (n + B) := by
  rw [top_add]; exact le_max_left _ _

/-- The sum of the weights, `B` entries further. -/
theorem mass_add (s : ℕ → EReal) (n B : ℕ) :
    mass s (n + B) = Ideal.exp2 (top s n - top s (n + B)) * mass s n
      + ∑ r ∈ Finset.range B, Ideal.exp2 (s (n + r) - top s (n + B)) := by
  unfold mass
  rw [mul_sum_of_finite (exp2_nonneg _) (exp2_ne_top (sub_ne_top (top_le_add s n B))), Finset.sum_range_add]
  congr 1
  exact Finset.sum_congr rfl fun j hj => (exp2_rescale (le_top (Finset.mem_range.mp hj)) (top_le_add s n B)).symm

/-- The sum of the weighted values, `B` entries further. -/
theorem heap_add (s v : ℕ → EReal) (n B : ℕ) :
    heap s v (n + B) = Ideal.exp2 (top s n - top s (n + B)) * heap s v n
      + ∑ r ∈ Finset.range B, Ideal.exp2 (s (n + r) - top s (n + B)) * v (n + r) := by
  unfold heap
  rw [mul_sum_of_finite (exp2_nonneg _) (exp2_ne_top (sub_ne_top (top_le_add s n B))), Finset.sum_range_add]
  congr 1
  refine Finset.sum_congr rfl fun j hj => ?_
  rw [← mul_assoc, exp2_rescale (le_top (Finset.mem_range.mp hj)) (top_le_add s n B)]

end Cert.Attn

end
-- ==== Proof.Attn.Spec.lean ====
/- The attention over the extended reals, element by element: which row of the result attends to which rows, with which
   score, and the weighted mean this makes. The arrays are read at natural numbers, 0 outside. -/
module

public import proofs.«01_k».proof.Proof.Attn.Softmax
public import Idealize.ShloMosaic.Lib.Pointwise

@[expose] public section

noncomputable section

namespace Cert.Attn

open Idealize.ShloMosaic

/-- A matrix read at two natural numbers. -/
def entry {n k : ℕ} (X : (⟨2, ![n, k]⟩ : Shape).Idx → EReal) (r c : ℕ) : EReal :=
  if h : r < n ∧ c < k then X (ix2 ⟨r, h.1⟩ ⟨c, h.2⟩) else 0

theorem entry_of {n k : ℕ} (X : (⟨2, ![n, k]⟩ : Shape).Idx → EReal) {r c : ℕ} (i : (⟨2, ![n, k]⟩ : Shape).Idx)
    (h0 : (i 0).val = r) (h1 : (i 1).val = c) : entry X r c = X i := by
  subst h0 h1
  unfold entry
  rw [dif_pos ⟨(i 0).isLt, (i 1).isLt⟩]
  refine congrArg X (funext fun a => ?_)
  match a with
  | 0 => rfl
  | 1 => rfl

variable (A B : ℕ → ℕ → EReal)

/-- The score of row `row` against key `j` of its sequence, which begins at row `lo`, for query head `head`: four query
    heads share a key/value head. -/
def scoreAt (row head lo : ℕ) : ℕ → EReal := fun j =>
  ∑ e : Fin 128, A row (128 * head + e.val) * A (lo + j) (4096 + 128 * (head / 4) + e.val)

/-- The values of a sequence, coordinate `d` of the head. -/
def valueAt (head lo d : ℕ) : ℕ → EReal := fun j => B (lo + j) (5120 + 128 * (head / 4) + d)

/-- The first row of the sequence of row `row`, and its length: four sequences of 2048 rows, then one of 16384. -/
def lo (row : ℕ) : ℕ := if row < 8192 then row / 2048 * 2048 else 8192
def len (row : ℕ) : ℕ := if row < 8192 then 2048 else 16384

/-- The attention at row `row` and column `col`. -/
def attention (row col : ℕ) : EReal :=
  mean (scoreAt A row (col / 128) (lo row)) (valueAt B (col / 128) (lo row) (col % 128)) (len row)

/-- A supremum over the first numbers, as one over a finite type. -/
theorem sup_fin {n : ℕ} (f : ℕ → EReal) : (Finset.range n).sup f = (Finset.univ : Finset (Fin n)).sup fun j => f j.val := by
  apply le_antisymm
  · refine Finset.sup_le fun j hj => ?_
    exact Finset.le_sup (f := fun j : Fin n => f j.val) (Finset.mem_univ ⟨j, Finset.mem_range.mp hj⟩)
  · refine Finset.sup_le fun j _ => ?_
    exact Finset.le_sup (f := f) (Finset.mem_range.mpr j.isLt)

end Cert.Attn

end
-- ==== Proof.Attn.KernelIdeal.Payload.lean ====
/- The body's vector expressions over the extended reals, element by element. For a block of queries `Q`, of keys `K`
   and of values `V`, and for the three accumulators of one head (maximum `M`, sum of weights `L`, weighted values `A`),
   a step leaves: the larger of the old maximum and the block's largest score; the old sum, rescaled, plus the
   block's weights; and the old weighted values, rescaled, plus the block's. -/
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen
open Idealize.ShloMosaic

/-- The word of `-∞` is the least extended real. -/
theorem ofBits_neg_inf : Ideal.ofBits .f32 0xFF800000#32 = (⊥ : EReal) := by
  unfold Ideal.ofBits; rfl

variable (K V : S1024x128.Idx → EReal) (Q : S512x128.Idx → EReal) (M L : S1x512x1.Idx → EReal) (A : S1x512x128.Idx → EReal)

/-- A query's score against a key. -/
def score (r : Fin 512) (j : Fin 1024) : EReal := ∑ e : Fin 128, Q (ix2 r e) * K (ix2 j e)

/-- The maximum after a block. -/
def newMax (r : Fin 512) : EReal := max (M (ix3 0 r 0)) (Finset.univ.sup (score K Q r))

/-- The sum of the weights after a block. -/
def newMass (r : Fin 512) : EReal :=
  Ideal.exp2 (M (ix3 0 r 0) - newMax K Q M r) * L (ix3 0 r 0) + ∑ j : Fin 1024, Ideal.exp2 (score K Q r j - newMax K Q M r)

/-- The weighted values after a block. -/
def newHeap (r : Fin 512) (d : Fin 128) : EReal :=
  Ideal.exp2 (M (ix3 0 r 0) - newMax K Q M r) * A (ix3 0 r d)
    + ∑ j : Fin 1024, Ideal.exp2 (score K Q r j - newMax K Q M r) * V (ix2 j d)

theorem pay11_apply (r : Fin 512) (j : Fin 1024) : k0_pay11 (F := Ideal) K Q (ix2 r j) = score K Q r j := by
  pointwise [k0_pay11]
  rfl

theorem pay13_apply (r : Fin 512) : k0_pay13 (F := Ideal) K Q M (ix2 r 0) = newMax K Q M r := by
  pointwise [k0_pay13, k0_pay12]
  unfold newMax
  rw [ofBits_neg_inf]
  exact congrArg (max (M (ix3 0 r 0))) (congrArg (Finset.univ.fold max ⊥) (funext fun j => pay11_apply K Q r j))

theorem pay14_apply (r : Fin 512) : k0_pay14 (F := Ideal) K Q M (ix2 r 0) = Ideal.exp2 (M (ix3 0 r 0) - newMax K Q M r) := by
  pointwise [k0_pay14, k0_pay12]
  exact congrArg (fun z => Ideal.exp2 (M (ix3 0 r 0) - z)) (pay13_apply K Q M r)

theorem pay15_apply (r : Fin 512) (j : Fin 1024) :
    k0_pay15 (F := Ideal) K Q M (ix2 r j) = Ideal.exp2 (score K Q r j - newMax K Q M r) := by
  pointwise [k0_pay15]
  exact congrArg₂ (fun y z => Ideal.exp2 (y - z)) (pay11_apply K Q r j) (pay13_apply K Q M r)

theorem pay16_apply (r : Fin 512) : k0_pay16 (F := Ideal) K Q M L (ix3 0 r 0) = newMass K Q M L r := by
  pointwise [k0_pay16]
  exact congrArg₂ (· + ·) (congrArg (· * L (ix3 0 r 0)) (pay14_apply K Q M r))
    (Finset.sum_congr rfl fun j _ => pay15_apply K Q M r j)

theorem pay19_apply (r : Fin 512) (d : Fin 128) :
    k0_pay19 (F := Ideal) V (k0_pay17 K Q M A) (k0_pay18 K Q M) (ix3 0 r d) = newHeap K V Q M A r d := by
  pointwise [k0_pay19, k0_pay17, k0_pay18]
  exact congrArg₂ (· + ·) (congrArg (· * A (ix3 0 r d)) (pay14_apply K Q M r))
    (Finset.sum_congr rfl fun j _ => congrArg (· * V (ix2 j d)) (pay15_apply K Q M r j))

theorem pay20_apply (r : Fin 512) : k0_pay20 (F := Ideal) (k0_pay13 K Q M) (ix3 0 r 0) = newMax K Q M r := by
  pointwise [k0_pay20]
  exact pay13_apply K Q M r

theorem pay4_apply (r : Fin 512) (d : Fin 128) :
    k0_pay4 (F := Ideal) A L (ix2 r d) = Ideal.div (A (ix3 0 r d)) (L (ix3 0 r 0)) := by
  pointwise [k0_pay4]

theorem pay8_apply (i : S4x512x1.Idx) : k0_pay8 (F := Ideal) i = ⊥ := ofBits_neg_inf

theorem pay9_apply (i : S4x512x1.Idx) : k0_pay9 (F := Ideal) i = 0 := Ideal.ofBits_zero_f32

theorem pay10_apply (i : S4x512x128.Idx) : k0_pay10 (F := Ideal) i = 0 := Ideal.ofBits_zero_f32

theorem newMax_congr {M M' : S1x512x1.Idx → EReal} (r : Fin 512) (h : M (ix3 0 r 0) = M' (ix3 0 r 0)) : newMax K Q M r = newMax K Q M' r := by
  unfold newMax; rw [h]

theorem newMass_congr {M M' L L' : S1x512x1.Idx → EReal} (r : Fin 512) (h : M (ix3 0 r 0) = M' (ix3 0 r 0)) (h' : L (ix3 0 r 0) = L' (ix3 0 r 0)) :
    newMass K Q M L r = newMass K Q M' L' r := by
  unfold newMass; rw [newMax_congr K Q r h, h, h']

theorem newHeap_congr {M M' : S1x512x1.Idx → EReal} {A A' : S1x512x128.Idx → EReal} (r : Fin 512) (d : Fin 128)
    (h : M (ix3 0 r 0) = M' (ix3 0 r 0)) (h' : A (ix3 0 r d) = A' (ix3 0 r d)) : newHeap K V Q M A r d = newHeap K V Q M' A' r d := by
  unfold newHeap; rw [newMax_congr K Q r h, h, h']

/- The four heads of a group are treated alike: the expressions of the second, third and fourth are those of the first. -/

theorem max_1 : k0_pay29 (F := Ideal) (k0_pay23 K Q M) = k0_pay20 (k0_pay13 K Q M) := rfl
theorem max_2 : k0_pay39 (F := Ideal) (k0_pay32 K Q M) = k0_pay20 (k0_pay13 K Q M) := rfl
theorem max_3 : k0_pay2 (F := Ideal) (k0_pay42 K Q M) = k0_pay20 (k0_pay13 K Q M) := rfl
theorem mass_1 : k0_pay26 (F := Ideal) K Q M L = k0_pay16 K Q M L := rfl
theorem mass_2 : k0_pay35 (F := Ideal) K Q M L = k0_pay16 K Q M L := rfl
theorem mass_3 : k0_pay45 (F := Ideal) K Q M L = k0_pay16 K Q M L := rfl
theorem heap_1 : k0_pay28 (F := Ideal) V (k0_pay25 K Q M) (k0_pay27 K Q M A) = k0_pay19 V (k0_pay17 K Q M A) (k0_pay18 K Q M) := rfl
theorem heap_2 : k0_pay38 (F := Ideal) V (k0_pay34 K Q M) (k0_pay36 A) (k0_pay37 K Q M) = k0_pay19 V (k0_pay17 K Q M A) (k0_pay18 K Q M) := rfl
theorem heap_3 : k0_pay1 (F := Ideal) V (k0_pay43 K Q M) (k0_pay44 K Q M) (k0_pay46 A) = k0_pay19 V (k0_pay17 K Q M A) (k0_pay18 K Q M) := rfl

end Cert.KernelIdeal.Attn

end
-- ==== Proof.Attn.KernelIdeal.Advance.lean ====
/- One block of 1024 keys takes the maximum, the sum of the weights and the weighted values of the first `n` scores to
   those of the first `n + 1024`. -/
module

public import proofs.«01_k».proof.Proof.Attn.Spec
public import proofs.«01_k».proof.Proof.Attn.KernelIdeal.Payload

@[expose] public section

set_option maxRecDepth 16384

noncomputable section

namespace Cert.KernelIdeal.Attn

open Cert.KernelIdeal Cert.KernelIdeal.Gen
open Idealize.ShloMosaic Cert.Attn

variable {K V : S1024x128.Idx → EReal} {Q : S512x128.Idx → EReal} {M L : S1x512x1.Idx → EReal} {A : S1x512x128.Idx → EReal}
  {s v : ℕ → EReal} {n : ℕ} {r : Fin 512} {d : Fin 128}

theorem newMax_top (hs : ∀ j : Fin 1024, score K Q r j = s (n + j.val)) (hM : M (ix3 0 r 0) = top s n) :
    newMax K Q M r = top s (n + 1024) := by
  unfold newMax
  rw [top_add, hM, sup_fin, show score K Q r = fun j : Fin 1024 => s (n + j.val) from funext hs]

theorem newMass_mass (hs : ∀ j : Fin 1024, score K Q r j = s (n + j.val)) (hM : M (ix3 0 r 0) = top s n)
    (hL : L (ix3 0 r 0) = mass s n) : newMass K Q M L r = mass s (n + 1024) := by
  unfold newMass
  rw [mass_add, newMax_top hs hM, hM, hL, Finset.sum_range]
  simp only [hs]

theorem newHeap_heap (hs : ∀ j : Fin 1024, score K Q r j = s (n + j.val)) (hv : ∀ j : Fin 1024, V (ix2 j d) = v (n + j.val))
    (hM : M (ix3 0 r 0) = top s n) (hA : A (ix3 0 r d) = heap s v n) : newHeap K V Q M A r d = heap s v (n + 1024) := by
  unfold newHeap
  rw [heap_add, newMax_top hs hM, hM, hA, Finset.sum_range]
  simp only [hs, hv]

end Cert.KernelIdeal.Attn

end
-- ==== Proof.Attn.KernelIdeal.Tables.lean ====
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The six prefetched tables and the three scratch buffers the kernel is handed, each whole. -/
abbrev tbM0_0 : Memref sig .tc .smem S544 .i32 := Memref.whole main_c
abbrev tbM0_1 : Memref sig .tc .smem S544 .i32 := Memref.whole main_c_0
abbrev tbM0_2 : Memref sig .tc .smem S544 .i32 := Memref.whole main_c_1
abbrev tbM0_3 : Memref sig .tc .smem S544 .i32 := Memref.whole main_c_2
abbrev tbM0_4 : Memref sig .tc .smem S544 .i32 := Memref.whole main_c_3
abbrev tbM0_5 : Memref sig .tc .smem S544 .i32 := Memref.whole main_c_4
abbrev scM0_0 : Memref sig .tc .vmem S4x512x1 .f32 := Memref.whole cc0_scratch0
abbrev scM0_1 : Memref sig .tc .vmem S4x512x1 .f32 := Memref.whole cc0_scratch1
abbrev scM0_2 : Memref sig .tc .vmem S4x512x128 .f32 := Memref.whole cc0_scratch2

/-- The query block of step `x`: the four prompts take 32 steps of 16 query blocks, the long sequence 16 steps a block. -/
def qtN (x : ℕ) : ℕ := if x < 32 then x / 2 else 16 + (x - 32) / 16

/-- The key block of step `x`. -/
def ktN (x : ℕ) : ℕ := if x < 32 then 2 * (x / 8) + x % 2 else 8 + (x - 32) % 16

/-- The position of step `x` among its query block's steps, and the last such position. -/
def posN (x : ℕ) : ℕ := if x < 32 then x % 2 else (x - 32) % 16
def lastN (x : ℕ) : ℕ := if x < 32 then 1 else 15

/-- The six tables: query block, key block, first step, last step, and the two blocks' offsets in their sequence. -/
def pinT_0 : S544.Idx → BitVec 32 := fun x => BitVec.ofNat 32 (qtN (x 0).val)
def pinT_1 : S544.Idx → BitVec 32 := fun x => BitVec.ofNat 32 (ktN (x 0).val)
def pinT_2 : S544.Idx → BitVec 32 := fun x => BitVec.ofNat 32 (if posN (x 0).val = 0 then 1 else 0)
def pinT_3 : S544.Idx → BitVec 32 := fun x => BitVec.ofNat 32 (if posN (x 0).val = lastN (x 0).val then 1 else 0)
def pinT_4 : S544.Idx → BitVec 32 := fun x => BitVec.ofNat 32 (512 * (if (x 0).val < 32 then (x 0).val / 2 % 4 else ((x 0).val - 32) / 16))
def pinT_5 : S544.Idx → BitVec 32 := fun x => BitVec.ofNat 32 (1024 * posN (x 0).val)

/-- The one coordinate of an index of a table is its row-major position. -/
theorem rowMajor_544 (i : S544.Idx) : (S544.rowMajor i).val = (i 0).val := by
  exact Shape.rowMajor_val_one (d := ![544]) i

/-- The constants the host writes into the tables are these closed forms. -/
theorem lit0_eq : (fun i : S544.Idx => lit0 (S544.rowMajor i)) = pinT_0 := by
  have h : ∀ n : Fin 544, lit0 n = BitVec.ofNat 32 (qtN n.val) := by decide +kernel
  funext i; exact (h _).trans (by rw [pinT_0, rowMajor_544])
theorem lit1_eq : (fun i : S544.Idx => lit1 (S544.rowMajor i)) = pinT_1 := by
  have h : ∀ n : Fin 544, lit1 n = BitVec.ofNat 32 (ktN n.val) := by decide +kernel
  funext i; exact (h _).trans (by rw [pinT_1, rowMajor_544])
theorem lit2_eq : (fun i : S544.Idx => lit2 (S544.rowMajor i)) = pinT_2 := by
  have h : ∀ n : Fin 544, lit2 n = BitVec.ofNat 32 (if posN n.val = 0 then 1 else 0) := by decide +kernel
  funext i; exact (h _).trans (by rw [pinT_2, rowMajor_544])
theorem lit3_eq : (fun i : S544.Idx => lit3 (S544.rowMajor i)) = pinT_3 := by
  have h : ∀ n : Fin 544, lit3 n = BitVec.ofNat 32 (if posN n.val = lastN n.val then 1 else 0) := by decide +kernel
  funext i; exact (h _).trans (by rw [pinT_3, rowMajor_544])
theorem lit4_eq : (fun i : S544.Idx => lit4 (S544.rowMajor i)) = pinT_4 := by
  have h : ∀ n : Fin 544, lit4 n = BitVec.ofNat 32 (512 * (if n.val < 32 then n.val / 2 % 4 else (n.val - 32) / 16)) := by decide +kernel
  funext i; exact (h _).trans (by rw [pinT_4, rowMajor_544])
theorem lit5_eq : (fun i : S544.Idx => lit5 (S544.rowMajor i)) = pinT_5 := by
  have h : ∀ n : Fin 544, lit5 n = BitVec.ofNat 32 (1024 * posN n.val) := by decide +kernel
  funext i; exact (h _).trans (by rw [pinT_5, rowMajor_544])

set_option backward.proofsInPublic true in
/-- The six tables' contents, in the order the kernel takes them. -/
def pfN : pre0.Contents (Elt Ideal) := fun | ⟨0, _⟩ => pinT_0 | ⟨1, _⟩ => pinT_1 | ⟨2, _⟩ => pinT_2 | ⟨3, _⟩ => pinT_3 | ⟨4, _⟩ => pinT_4 | ⟨5, _⟩ => pinT_5 | ⟨_ + 6, h⟩ => absurd h (by simp)
/-- Block bounds for a vector of axes, entry by entry. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

end Cert.KernelIdeal.Attn

end
-- ==== Proof.Attn.KernelIdeal.Runs.lean ====
module

public import proofs.«01_k».proof.Proof.Gen.KernelIdeal.Skeleton
public import proofs.«01_k».proof.Proof.Attn.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev VO0_3 : View sig .tc .vmem S512x512 .bf16 := (Memref.whole cc0_stg3_0 : Memref sig .tc .vmem S512x512 .bf16).view

set_option backward.proofsInPublic true in
set_option maxHeartbeats 8000000 in
/-- A first step: from any accumulators, the body leaves the three accumulators named here and touches nothing else. -/
noncomputable def kernelRun0_A (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Ideal .i32)) (T1 : (S544.Idx → Elt Ideal .i32)) (T2 : (S544.Idx → Elt Ideal .i32)) (T3 : (S544.Idx → Elt Ideal .i32)) (T4 : (S544.Idx → Elt Ideal .i32)) (T5 : (S544.Idx → Elt Ideal .i32))
     (x0 : (S512x512.Idx → Elt Ideal .bf16)) (x1 : (S1024x128.Idx → Elt Ideal .bf16)) (x2 : (S1024x128.Idx → Elt Ideal .bf16)) (hc0 : (Scalar.cmpi .ne (Scalar.extui (Scalar.cmpi .eq (View.readAt (Elt Ideal) (tbM0_2).view (Rect.unit (s := S544) (k0_off1 i) S1.size (k0_off1_inb i)).toLoadRect T2 (Shape.Idx.first (numel1_S1.symm ▸ Nat.one_pos))) 1#32)) 0#32) = 1#1) (k0_h2 : ¬(k0_cond2 (View.readAt (Elt Ideal) (tbM0_3).view (Rect.unit (s := S544) (k0_off2 i) S1.size (k0_off2_inb i)).toLoadRect T3 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S512x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ owns (c : Thread nD τ) arg11 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg8.view.loc (c : Thread nD τ) ↦[arg8.view.set]{fullShare} arg8.view.rep x0)
              ∗ (arg9.view.loc (c : Thread nD τ) ↦[arg9.view.set]{fullShare} arg9.view.rep x1)
              ∗ (arg10.view.loc (c : Thread nD τ) ↦[arg10.view.set]{fullShare} arg10.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ owns (c : Thread nD τ) arg11 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_gqa_attention i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg8 harg8 arg9 harg9 arg10 harg10 arg11 harg11 scM0_0 (Memref.isWhole_whole _) scM0_1 (Memref.isWhole_whole _) scM0_2 (Memref.isWhole_whole _)) K } :=
  ⟨_, _, _, fun (y3 : (S512x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_gqa_attention_eq_skeleton]; unfold cc0_gqa_attention_skel
    iintro ⟨H0, H1, H2, HT0, HT1, HT2, HT3, HT4, HT5, ⟨%f3, %hf3, HO3⟩, HS0, HS1, HS2, Hk⟩
    obtain rfl := harg11.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | (guard_target = Scalar.cmpi = _; exact hc0) | (guard_target = ¬(k0_cond2 _ = _); exact k0_h2))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [HO3]
    · iexists _; isplitr; · ipureintro; exact harg11.read_unread _
      iexact HO3
    isplitl [HS0]; · iexact HS0
    isplitl [HS1]; · iexact HS1
    iexact HS2⟩

set_option backward.proofsInPublic true in
set_option maxHeartbeats 8000000 in
/-- A last step: the body leaves the three accumulators named here and stores the output block in four pieces. -/
noncomputable def kernelRun0_B (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Ideal .i32)) (T1 : (S544.Idx → Elt Ideal .i32)) (T2 : (S544.Idx → Elt Ideal .i32)) (T3 : (S544.Idx → Elt Ideal .i32)) (T4 : (S544.Idx → Elt Ideal .i32)) (T5 : (S544.Idx → Elt Ideal .i32))
     (x0 : (S512x512.Idx → Elt Ideal .bf16)) (x1 : (S1024x128.Idx → Elt Ideal .bf16)) (x2 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S544) (k0_off1 i) S1.size (k0_off1_inb i)).toLoadRect T2 (Shape.Idx.first (numel1_S1.symm ▸ Nat.one_pos))) 1#32)) 0#32) = 1#1)) (k0_h2 : k0_cond2 (View.readAt (Elt Ideal) (tbM0_3).view (Rect.unit (s := S544) (k0_off2 i) S1.size (k0_off2_inb i)).toLoadRect T3 (Shape.Idx.first (numel1_S1.symm ▸ Nat.one_pos))) = 1#1) :
    Σ' (out0 : List (View.Piece (Elt Ideal) S512x512 .bf16)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ (∃ d, owns (c : Thread nD τ) arg11 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg8.view.loc (c : Thread nD τ) ↦[arg8.view.set]{fullShare} arg8.view.rep x0)
              ∗ (arg9.view.loc (c : Thread nD τ) ↦[arg9.view.set]{fullShare} arg9.view.rep x1)
              ∗ (arg10.view.loc (c : Thread nD τ) ↦[arg10.view.set]{fullShare} arg10.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ (∃ f, arg11.view.loc (c : Thread nD τ) ↦[arg11.view.set]{fullShare} arg11.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_gqa_attention i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg8 harg8 arg9 harg9 arg10 harg10 arg11 harg11 scM0_0 (Memref.isWhole_whole _) scM0_1 (Memref.isWhole_whole _) scM0_2 (Memref.isWhole_whole _)) K } :=
  ⟨_, _, _, _, fun K => by
    unfold owns
    rw [cc0_gqa_attention_eq_skeleton]; unfold cc0_gqa_attention_skel
    iintro ⟨H0, H1, H2, HT0, HT1, HT2, HT3, HT4, HT5, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | (guard_target = ¬(Scalar.cmpi = _); exact hc0) | (guard_target = k0_cond2 _ = _; exact k0_h2))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [HO3]; · iexists _; iexact HO3
    isplitl [HS0]; · iexact HS0
    isplitl [HS1]; · iexact HS1
    iexact HS2⟩

/-- The four stores of a last step tile the output block. -/
theorem cover0_B_3 (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Ideal .i32)) (T1 : (S544.Idx → Elt Ideal .i32)) (T2 : (S544.Idx → Elt Ideal .i32)) (T3 : (S544.Idx → Elt Ideal .i32)) (T4 : (S544.Idx → Elt Ideal .i32)) (T5 : (S544.Idx → Elt Ideal .i32))
     (x0 : (S512x512.Idx → Elt Ideal .bf16)) (x1 : (S1024x128.Idx → Elt Ideal .bf16)) (x2 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S544) (k0_off1 i) S1.size (k0_off1_inb i)).toLoadRect T2 (Shape.Idx.first (numel1_S1.symm ▸ Nat.one_pos))) 1#32)) 0#32) = 1#1)) (k0_h2 : k0_cond2 (View.readAt (Elt Ideal) (tbM0_3).view (Rect.unit (s := S544) (k0_off2 i) S1.size (k0_off2_inb i)).toLoadRect T3 (Shape.Idx.first (numel1_S1.symm ▸ Nat.one_pos))) = 1#1) (y : S512x512.Idx) :
    ∃ pc ∈ (kernelRun0_B c i arg8 harg8 arg9 harg9 arg10 harg10 arg11 harg11 T0 T1 T2 T3 T4 T5 x0 x1 x2 xa0 xa1 xa2 hc0 k0_h2).1, y ∈ pc.1.set :=
  View.cover_of_tiledL (kernelRun0_B c i arg8 harg8 arg9 harg9 arg10 harg10 arg11 harg11 T0 T1 T2 T3 T4 T5 x0 x1 x2 xa0 xa1 xa2 hc0 k0_h2).1 S512x128.size (by sl_kernel_rfl) y

/-- The output block a last step leaves. -/
def out0_B_3 (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Ideal .i32)) (T1 : (S544.Idx → Elt Ideal .i32)) (T2 : (S544.Idx → Elt Ideal .i32)) (T3 : (S544.Idx → Elt Ideal .i32)) (T4 : (S544.Idx → Elt Ideal .i32)) (T5 : (S544.Idx → Elt Ideal .i32))
     (x0 : (S512x512.Idx → Elt Ideal .bf16)) (x1 : (S1024x128.Idx → Elt Ideal .bf16)) (x2 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S544) (k0_off1 i) S1.size (k0_off1_inb i)).toLoadRect T2 (Shape.Idx.first (numel1_S1.symm ▸ Nat.one_pos))) 1#32)) 0#32) = 1#1)) (k0_h2 : k0_cond2 (View.readAt (Elt Ideal) (tbM0_3).view (Rect.unit (s := S544) (k0_off2 i) S1.size (k0_off2_inb i)).toLoadRect T3 (Shape.Idx.first (numel1_S1.symm ▸ Nat.one_pos))) = 1#1) : (S512x512.Idx → Elt Ideal .bf16) :=
  VO0_3.read (Elt Ideal) (VO0_3.writes (Elt Ideal) VO0_3.junk (kernelRun0_B c i arg8 harg8 arg9 harg9 arg10 harg10 arg11 harg11 T0 T1 T2 T3 T4 T5 x0 x1 x2 xa0 xa1 xa2 hc0 k0_h2).1)

set_option backward.proofsInPublic true in
set_option maxHeartbeats 8000000 in
/-- A step between: the body leaves the three accumulators named here and touches nothing else. -/
noncomputable def kernelRun0_C (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Ideal .i32)) (T1 : (S544.Idx → Elt Ideal .i32)) (T2 : (S544.Idx → Elt Ideal .i32)) (T3 : (S544.Idx → Elt Ideal .i32)) (T4 : (S544.Idx → Elt Ideal .i32)) (T5 : (S544.Idx → Elt Ideal .i32))
     (x0 : (S512x512.Idx → Elt Ideal .bf16)) (x1 : (S1024x128.Idx → Elt Ideal .bf16)) (x2 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S544) (k0_off1 i) S1.size (k0_off1_inb i)).toLoadRect T2 (Shape.Idx.first (numel1_S1.symm ▸ Nat.one_pos))) 1#32)) 0#32) = 1#1)) (k0_h2 : ¬(k0_cond2 (View.readAt (Elt Ideal) (tbM0_3).view (Rect.unit (s := S544) (k0_off2 i) S1.size (k0_off2_inb i)).toLoadRect T3 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S512x512.Idx → Elt Ideal .bf16)) (K : PUnit → sProp 𝕄),
        iprop((arg8.view.loc (c : Thread nD τ) ↦[arg8.view.set]{fullShare} arg8.view.rep x0)
          ∗ (arg9.view.loc (c : Thread nD τ) ↦[arg9.view.set]{fullShare} arg9.view.rep x1)
          ∗ (arg10.view.loc (c : Thread nD τ) ↦[arg10.view.set]{fullShare} arg10.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (tbM0_3.view.loc (c : Thread nD τ) ↦{fullShare.right} T3)
          ∗ (tbM0_4.view.loc (c : Thread nD τ) ↦{fullShare.right} T4)
          ∗ (tbM0_5.view.loc (c : Thread nD τ) ↦{fullShare.right} T5)
          ∗ owns (c : Thread nD τ) arg11 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg8.view.loc (c : Thread nD τ) ↦[arg8.view.set]{fullShare} arg8.view.rep x0)
              ∗ (arg9.view.loc (c : Thread nD τ) ↦[arg9.view.set]{fullShare} arg9.view.rep x1)
              ∗ (arg10.view.loc (c : Thread nD τ) ↦[arg10.view.set]{fullShare} arg10.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (tbM0_3.view.loc (c : Thread nD τ) ↦{fullShare.right} T3)
              ∗ (tbM0_4.view.loc (c : Thread nD τ) ↦{fullShare.right} T4)
              ∗ (tbM0_5.view.loc (c : Thread nD τ) ↦{fullShare.right} T5)
              ∗ owns (c : Thread nD τ) arg11 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_gqa_attention i tbM0_0 (Memref.isWhole_whole _) tbM0_1 (Memref.isWhole_whole _) tbM0_2 (Memref.isWhole_whole _) tbM0_3 (Memref.isWhole_whole _) tbM0_4 (Memref.isWhole_whole _) tbM0_5 (Memref.isWhole_whole _) arg8 harg8 arg9 harg9 arg10 harg10 arg11 harg11 scM0_0 (Memref.isWhole_whole _) scM0_1 (Memref.isWhole_whole _) scM0_2 (Memref.isWhole_whole _)) K } :=
  ⟨_, _, _, fun (y3 : (S512x512.Idx → Elt Ideal .bf16)) K => by
    unfold owns
    rw [cc0_gqa_attention_eq_skeleton]; unfold cc0_gqa_attention_skel
    iintro ⟨H0, H1, H2, HT0, HT1, HT2, HT3, HT4, HT5, ⟨%f3, %hf3, HO3⟩, HS0, HS1, HS2, Hk⟩
    obtain rfl := harg11.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    have hT3 : tbM0_3.IsWhole := Memref.isWhole_whole _
    have hT4 : tbM0_4.IsWhole := Memref.isWhole_whole _
    have hT5 : tbM0_5.IsWhole := Memref.isWhole_whole _
    sl_exec! (disch := first | (guard_target = ¬(Scalar.cmpi = _); exact hc0) | (guard_target = ¬(k0_cond2 _ = _); exact k0_h2))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [HO3]
    · iexists _; isplitr; · ipureintro; exact harg11.read_unread _
      iexact HO3
    isplitl [HS0]; · iexact HS0
    isplitl [HS1]; · iexact HS1
    iexact HS2⟩

end Cert.KernelIdeal.Attn

end
-- ==== Proof.Attn.KernelIdeal.Reads.lean ====
/- What the accumulators hold where one of the four heads was written, and what a load of one head reads: a buffer of
   four slabs, one per head, written slab by slab, and an output block of four column panels. -/
module

public import proofs.«01_k».proof.Proof.Attn.KernelIdeal.Tables
public import proofs.«01_k».proof.Proof.Attn.KernelIdeal.Payload
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.Pipeline

/-- One head's slab of a per-row accumulator. -/
def slab (X : S4x512x1.Idx → EReal) (g : Fin 4) : S1x512x1.Idx → EReal := fun i => X (ix3 g (i 1) (i 2))

/-- One head's slab of the weighted values. -/
def slabW (X : S4x512x128.Idx → EReal) (g : Fin 4) : S1x512x128.Idx → EReal := fun i => X (ix3 g (i 1) (i 2))

/-- One head's columns of a block of queries. -/
def panel (X : S512x512.Idx → EReal) (g : Fin 4) : S512x128.Idx → EReal :=
  fun i => X (ix2 (i 0) ⟨128 * g.val + (i 1).val, by have := (i 1).isLt; have h : (i 1).val < 128 := this; omega⟩)

theorem unit0 (n : ℕ) : 0 + 1 * n = n := by omega

/-! ### Loads -/

theorem ld_slab (X : S4x512x1.Idx → Elt Ideal .f32) (a : ℕ) (inb) (g : Fin 4) (h : a = g.val) :
    View.ld X (Rect.unit ![a, 0, 0] S1x512x1.size inb : Rect S4x512x1) = slab X g := by
  subst h
  funext i
  refine congrArg X (funext fun d => Fin.ext ?_)
  have h0 : (i 0).val < 1 := (i 0).isLt
  match d with
  | 0 => show g.val + 1 * (i 0).val = g.val; omega
  | 1 => exact unit0 _
  | 2 => exact unit0 _

theorem ld_slabW (X : S4x512x128.Idx → Elt Ideal .f32) (a : ℕ) (inb) (g : Fin 4) (h : a = g.val) :
    View.ld X (Rect.unit ![a, 0, 0] S1x512x128.size inb : Rect S4x512x128) = slabW X g := by
  subst h
  funext i
  refine congrArg X (funext fun d => Fin.ext ?_)
  have h0 : (i 0).val < 1 := (i 0).isLt
  match d with
  | 0 => show g.val + 1 * (i 0).val = g.val; omega
  | 1 => exact unit0 _
  | 2 => exact unit0 _

theorem ld_panel (X : S512x512.Idx → Elt Ideal .bf16) (a : ℕ) (inb) (g : Fin 4) (h : a = 128 * g.val) :
    View.ld X (Rect.unit ![0, a] S512x128.size inb : Rect S512x512) = panel X g := by
  subst h
  funext i
  refine congrArg X (funext fun d => Fin.ext ?_)
  match d with
  | 0 => exact unit0 _
  | 1 => show 128 * g.val + 1 * (i 1).val = 128 * g.val + (i 1).val; omega

theorem ld_all (X : S1024x128.Idx → Elt Ideal .bf16) (inb) :
    View.ld X (Rect.unit ![0, 0] S1024x128.size inb : Rect S1024x128) = X := by
  funext i
  refine congrArg X (funext fun d => Fin.ext ?_)
  match d with
  | 0 => exact unit0 _
  | 1 => exact unit0 _

section Loads
variable {κ : Kind} {sp : Space}

theorem read_keys (v : View sig κ sp S1024x128 .bf16) (x : S1024x128.Idx → Elt Ideal .bf16) (inb) :
    v.readAt (Elt Ideal) (Rect.unit ![0, 0] S1024x128.size inb : Rect S1024x128).toLoadRect (v.rep x) = x :=
  (View.readAt_rep v _ x).trans (ld_all x inb)

theorem read_queries (v : View sig κ sp S512x512 .bf16) (x : S512x512.Idx → Elt Ideal .bf16) (a : ℕ) (inb) (g : Fin 4) (h : a = 128 * g.val) :
    v.readAt (Elt Ideal) (Rect.unit ![0, a] S512x128.size inb : Rect S512x512).toLoadRect (v.rep x) = panel x g :=
  (View.readAt_rep v _ x).trans (ld_panel x a inb g h)

theorem read_slab (v : View sig κ sp S4x512x1 .f32) (f : v.ty.Contents (Elt Ideal)) (a : ℕ) (inb) (g : Fin 4) (h : a = g.val) :
    v.readAt (Elt Ideal) (Rect.unit ![a, 0, 0] S1x512x1.size inb : Rect S4x512x1).toLoadRect f = slab (v.read (Elt Ideal) f) g :=
  ld_slab _ a inb g h

theorem read_slabW (v : View sig κ sp S4x512x128 .f32) (f : v.ty.Contents (Elt Ideal)) (a : ℕ) (inb) (g : Fin 4) (h : a = g.val) :
    v.readAt (Elt Ideal) (Rect.unit ![a, 0, 0] S1x512x128.size inb : Rect S4x512x128).toLoadRect f = slabW (v.read (Elt Ideal) f) g :=
  ld_slabW _ a inb g h

theorem back_slab (v : View sig κ sp S4x512x1 .f32) (L : List (View.Piece (Elt Ideal) S4x512x1 .f32)) (a : ℕ) (inb) (g : Fin 4) (h : a = g.val) (r : Fin 512) (z : Fin 1) :
    v.readCov L (Rect.unit ![a, 0, 0] S1x512x1.size inb : Rect S4x512x1).toLoadRect (ix3 0 r z) = View.canon L (ix3 g r z) :=
  congrFun ((View.readCov_eq_canon' v L _).trans (ld_slab _ a inb g h)) _

theorem back_slabW (v : View sig κ sp S4x512x128 .f32) (L : List (View.Piece (Elt Ideal) S4x512x128 .f32)) (a : ℕ) (inb) (g : Fin 4) (h : a = g.val) (r : Fin 512) (z : Fin 128) :
    v.readCov L (Rect.unit ![a, 0, 0] S1x512x128.size inb : Rect S4x512x128).toLoadRect (ix3 0 r z) = View.canon L (ix3 g r z) :=
  congrFun ((View.readCov_eq_canon' v L _).trans (ld_slabW _ a inb g h)) _

end Loads

/-! ### Stores -/

theorem hit (a : ℕ) (inb) (P : S1x512x1.Idx → Elt Ideal .f32) (L : List (View.Piece (Elt Ideal) S4x512x1 .f32)) (g : Fin 4) (h : a = g.val)
    (r : Fin 512) (z : Fin 1) :
    View.canon (⟨(Rect.unit ![a, 0, 0] S1x512x1.size inb : Rect S4x512x1), P⟩ :: L) (ix3 g r z) = P (ix3 0 r z) := by
  subst h
  refine Eq.trans (congrArg _ (funext fun d => Fin.ext ?_))
    (View.canon_cons_emb (Rect.unit ![g.val, 0, 0] S1x512x1.size inb : Rect S4x512x1) P L (ix3 0 r z))
  match d with
  | 0 => exact (Nat.add_zero _).symm
  | 1 => exact (unit0 _).symm
  | 2 => exact (unit0 _).symm

theorem miss (a : ℕ) (inb) (P : S1x512x1.Idx → Elt Ideal .f32) (L : List (View.Piece (Elt Ideal) S4x512x1 .f32)) (g : Fin 4) (h : a ≠ g.val)
    (r : Fin 512) (z : Fin 1) :
    View.canon (⟨(Rect.unit ![a, 0, 0] S1x512x1.size inb : Rect S4x512x1), P⟩ :: L) (ix3 g r z) = View.canon L (ix3 g r z) := by
  refine View.canon_cons_of_not_mem _ L fun hm => h ?_
  obtain ⟨x, hx⟩ := LoadRect.exists_idx_of_mem _ hm
  have e : a + 1 * (x 0).val = g.val := congrArg (fun y : S4x512x1.Idx => (y 0).val) hx
  have h0 : (x 0).val < 1 := (x 0).isLt
  omega

theorem hitW (a : ℕ) (inb) (P : S1x512x128.Idx → Elt Ideal .f32) (L : List (View.Piece (Elt Ideal) S4x512x128 .f32)) (g : Fin 4) (h : a = g.val)
    (r : Fin 512) (z : Fin 128) :
    View.canon (⟨(Rect.unit ![a, 0, 0] S1x512x128.size inb : Rect S4x512x128), P⟩ :: L) (ix3 g r z) = P (ix3 0 r z) := by
  subst h
  refine Eq.trans (congrArg _ (funext fun d => Fin.ext ?_))
    (View.canon_cons_emb (Rect.unit ![g.val, 0, 0] S1x512x128.size inb : Rect S4x512x128) P L (ix3 0 r z))
  match d with
  | 0 => exact (Nat.add_zero _).symm
  | 1 => exact (unit0 _).symm
  | 2 => exact (unit0 _).symm

theorem missW (a : ℕ) (inb) (P : S1x512x128.Idx → Elt Ideal .f32) (L : List (View.Piece (Elt Ideal) S4x512x128 .f32)) (g : Fin 4) (h : a ≠ g.val)
    (r : Fin 512) (z : Fin 128) :
    View.canon (⟨(Rect.unit ![a, 0, 0] S1x512x128.size inb : Rect S4x512x128), P⟩ :: L) (ix3 g r z) = View.canon L (ix3 g r z) := by
  refine View.canon_cons_of_not_mem _ L fun hm => h ?_
  obtain ⟨x, hx⟩ := LoadRect.exists_idx_of_mem _ hm
  have e : a + 1 * (x 0).val = g.val := congrArg (fun y : S4x512x128.Idx => (y 0).val) hx
  have h0 : (x 0).val < 1 := (x 0).isLt
  omega

theorem hitO (a : ℕ) (inb) (P : S512x128.Idx → Elt Ideal .bf16) (L : List (View.Piece (Elt Ideal) S512x512 .bf16)) (g : Fin 4) (h : a = 128 * g.val)
    (r : Fin 512) (d : Fin 128) (k : Fin 512) (hk : k.val = 128 * g.val + d.val) :
    View.canon (⟨(Rect.unit ![0, a] S512x128.size inb : Rect S512x512), P⟩ :: L) (ix2 r k) = P (ix2 r d) := by
  subst h
  refine Eq.trans (congrArg _ (funext fun d' => Fin.ext ?_))
    (View.canon_cons_emb (Rect.unit ![0, 128 * g.val] S512x128.size inb : Rect S512x512) P L (ix2 r d))
  match d' with
  | 0 => exact (unit0 _).symm
  | 1 => show k.val = 128 * g.val + 1 * d.val; omega

theorem missO (a : ℕ) (inb) (P : S512x128.Idx → Elt Ideal .bf16) (L : List (View.Piece (Elt Ideal) S512x512 .bf16)) (b : ℕ) (h : a = 128 * b)
    (g : Fin 4) (hg : b ≠ g.val) (r : Fin 512) (d : Fin 128) (k : Fin 512) (hk : k.val = 128 * g.val + d.val) :
    View.canon (⟨(Rect.unit ![0, a] S512x128.size inb : Rect S512x512), P⟩ :: L) (ix2 r k) = View.canon L (ix2 r k) := by
  refine View.canon_cons_of_not_mem _ L fun hm => hg ?_
  obtain ⟨x, hx⟩ := LoadRect.exists_idx_of_mem _ hm
  have e : a + 1 * (x 1).val = k.val := congrArg (fun y : S512x512.Idx => (y 1).val) hx
  have h0 : (x 1).val < 128 := (x 1).isLt
  have h1 := d.isLt
  omega

/-- The reset of a per-row accumulator writes every slab. -/
theorem whole (inb) (P : S4x512x1.Idx → Elt Ideal .f32) (L : List (View.Piece (Elt Ideal) S4x512x1 .f32)) (g : Fin 4) (r : Fin 512) (z : Fin 1) :
    View.canon (⟨(Rect.unit ![0, 0, 0] S4x512x1.size inb : Rect S4x512x1), P⟩ :: L) (ix3 g r z) = P (ix3 g r z) := by
  refine Eq.trans (congrArg _ (funext fun d => Fin.ext ?_))
    (View.canon_cons_emb (Rect.unit ![0, 0, 0] S4x512x1.size inb : Rect S4x512x1) P L (ix3 g r z))
  match d with
  | 0 => exact (unit0 _).symm
  | 1 => exact (unit0 _).symm
  | 2 => exact (unit0 _).symm

theorem wholeW (inb) (P : S4x512x128.Idx → Elt Ideal .f32) (L : List (View.Piece (Elt Ideal) S4x512x128 .f32)) (g : Fin 4) (r : Fin 512) (z : Fin 128) :
    View.canon (⟨(Rect.unit ![0, 0, 0] S4x512x128.size inb : Rect S4x512x128), P⟩ :: L) (ix3 g r z) = P (ix3 g r z) := by
  refine Eq.trans (congrArg _ (funext fun d => Fin.ext ?_))
    (View.canon_cons_emb (Rect.unit ![0, 0, 0] S4x512x128.size inb : Rect S4x512x128) P L (ix3 g r z))
  match d with
  | 0 => exact (unit0 _).symm
  | 1 => exact (unit0 _).symm
  | 2 => exact (unit0 _).symm

end Cert.KernelIdeal.Attn

end
-- ==== Proof.Attn.KernelIdeal.Step.lean ====
/- What one step leaves, in values: the accumulators of head `g` of the group after a first step, after a step between,
   and the output block after a last step, in terms of the blocks held and of the accumulators found. -/
module

public import proofs.«01_k».proof.Proof.Attn.KernelIdeal.Runs
public import proofs.«01_k».proof.Proof.Attn.KernelIdeal.Reads
public import Idealize.ShloMosaic.Lib.Pointwise

@[expose] public section

set_option maxRecDepth 16384

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Heads

variable {K K' V V' : S1024x128.Idx → EReal} {Q Q' : S512x128.Idx → EReal} {M M' L L' : S1x512x1.Idx → EReal} {A A' : S1x512x128.Idx → EReal}

theorem max_of_0 (r : Fin 512) (hK : K = K') (hQ : Q = Q') (hM : M (ix3 0 r 0) = M' (ix3 0 r 0)) :
    (k0_pay20 (F := Ideal) (k0_pay13 K Q M) : S1x512x1.Idx → Elt Ideal .f32) (ix3 0 r 0) = newMax K' Q' M' r := by
  subst hK hQ
  exact (pay20_apply _ _ _ r).trans (newMax_congr _ _ r hM)

theorem mass_of_0 (r : Fin 512) (hK : K = K') (hQ : Q = Q') (hM : M (ix3 0 r 0) = M' (ix3 0 r 0)) (hL : L (ix3 0 r 0) = L' (ix3 0 r 0)) :
    (k0_pay16 (F := Ideal) K Q M L : S1x512x1.Idx → Elt Ideal .f32) (ix3 0 r 0) = newMass K' Q' M' L' r := by
  subst hK hQ
  exact (pay16_apply _ _ _ _ r).trans (newMass_congr _ _ r hM hL)

theorem heap_of_0 (r : Fin 512) (d : Fin 128) (hK : K = K') (hV : V = V') (hQ : Q = Q') (hM : M (ix3 0 r 0) = M' (ix3 0 r 0))
    (hA : A (ix3 0 r d) = A' (ix3 0 r d)) :
    (k0_pay19 (F := Ideal) V (k0_pay17 K Q M A) (k0_pay18 K Q M) : S1x512x128.Idx → Elt Ideal .f32) (ix3 0 r d) = newHeap K' V' Q' M' A' r d := by
  subst hK hQ hV
  exact (pay19_apply _ _ _ _ _ r d).trans (newHeap_congr _ _ _ r d hM hA)

theorem max_of_1 (r : Fin 512) (hK : K = K') (hQ : Q = Q') (hM : M (ix3 0 r 0) = M' (ix3 0 r 0)) :
    (k0_pay29 (F := Ideal) (k0_pay23 K Q M) : S1x512x1.Idx → Elt Ideal .f32) (ix3 0 r 0) = newMax K' Q' M' r := by
  subst hK hQ
  rw [max_1]
  exact (pay20_apply _ _ _ r).trans (newMax_congr _ _ r hM)

theorem mass_of_1 (r : Fin 512) (hK : K = K') (hQ : Q = Q') (hM : M (ix3 0 r 0) = M' (ix3 0 r 0)) (hL : L (ix3 0 r 0) = L' (ix3 0 r 0)) :
    (k0_pay26 (F := Ideal) K Q M L : S1x512x1.Idx → Elt Ideal .f32) (ix3 0 r 0) = newMass K' Q' M' L' r := by
  subst hK hQ
  rw [mass_1]
  exact (pay16_apply _ _ _ _ r).trans (newMass_congr _ _ r hM hL)

theorem heap_of_1 (r : Fin 512) (d : Fin 128) (hK : K = K') (hV : V = V') (hQ : Q = Q') (hM : M (ix3 0 r 0) = M' (ix3 0 r 0))
    (hA : A (ix3 0 r d) = A' (ix3 0 r d)) :
    (k0_pay28 (F := Ideal) V (k0_pay25 K Q M) (k0_pay27 K Q M A) : S1x512x128.Idx → Elt Ideal .f32) (ix3 0 r d) = newHeap K' V' Q' M' A' r d := by
  subst hK hQ hV
  rw [heap_1]
  exact (pay19_apply _ _ _ _ _ r d).trans (newHeap_congr _ _ _ r d hM hA)

theorem max_of_2 (r : Fin 512) (hK : K = K') (hQ : Q = Q') (hM : M (ix3 0 r 0) = M' (ix3 0 r 0)) :
    (k0_pay39 (F := Ideal) (k0_pay32 K Q M) : S1x512x1.Idx → Elt Ideal .f32) (ix3 0 r 0) = newMax K' Q' M' r := by
  subst hK hQ
  rw [max_2]
  exact (pay20_apply _ _ _ r).trans (newMax_congr _ _ r hM)

theorem mass_of_2 (r : Fin 512) (hK : K = K') (hQ : Q = Q') (hM : M (ix3 0 r 0) = M' (ix3 0 r 0)) (hL : L (ix3 0 r 0) = L' (ix3 0 r 0)) :
    (k0_pay35 (F := Ideal) K Q M L : S1x512x1.Idx → Elt Ideal .f32) (ix3 0 r 0) = newMass K' Q' M' L' r := by
  subst hK hQ
  rw [mass_2]
  exact (pay16_apply _ _ _ _ r).trans (newMass_congr _ _ r hM hL)

theorem heap_of_2 (r : Fin 512) (d : Fin 128) (hK : K = K') (hV : V = V') (hQ : Q = Q') (hM : M (ix3 0 r 0) = M' (ix3 0 r 0))
    (hA : A (ix3 0 r d) = A' (ix3 0 r d)) :
    (k0_pay38 (F := Ideal) V (k0_pay34 K Q M) (k0_pay36 A) (k0_pay37 K Q M) : S1x512x128.Idx → Elt Ideal .f32) (ix3 0 r d) = newHeap K' V' Q' M' A' r d := by
  subst hK hQ hV
  rw [heap_2]
  exact (pay19_apply _ _ _ _ _ r d).trans (newHeap_congr _ _ _ r d hM hA)

theorem max_of_3 (r : Fin 512) (hK : K = K') (hQ : Q = Q') (hM : M (ix3 0 r 0) = M' (ix3 0 r 0)) :
    (k0_pay2 (F := Ideal) (k0_pay42 K Q M) : S1x512x1.Idx → Elt Ideal .f32) (ix3 0 r 0) = newMax K' Q' M' r := by
  subst hK hQ
  rw [max_3]
  exact (pay20_apply _ _ _ r).trans (newMax_congr _ _ r hM)

theorem mass_of_3 (r : Fin 512) (hK : K = K') (hQ : Q = Q') (hM : M (ix3 0 r 0) = M' (ix3 0 r 0)) (hL : L (ix3 0 r 0) = L' (ix3 0 r 0)) :
    (k0_pay45 (F := Ideal) K Q M L : S1x512x1.Idx → Elt Ideal .f32) (ix3 0 r 0) = newMass K' Q' M' L' r := by
  subst hK hQ
  rw [mass_3]
  exact (pay16_apply _ _ _ _ r).trans (newMass_congr _ _ r hM hL)

theorem heap_of_3 (r : Fin 512) (d : Fin 128) (hK : K = K') (hV : V = V') (hQ : Q = Q') (hM : M (ix3 0 r 0) = M' (ix3 0 r 0))
    (hA : A (ix3 0 r d) = A' (ix3 0 r d)) :
    (k0_pay1 (F := Ideal) V (k0_pay43 K Q M) (k0_pay44 K Q M) (k0_pay46 A) : S1x512x128.Idx → Elt Ideal .f32) (ix3 0 r d) = newHeap K' V' Q' M' A' r d := by
  subst hK hQ hV
  rw [heap_3]
  exact (pay19_apply _ _ _ _ _ r d).trans (newHeap_congr _ _ _ r d hM hA)

theorem out_of_0 (r : Fin 512) (d : Fin 128) : (k0_pay4 (F := Ideal) A L : S512x128.Idx → Elt Ideal .bf16) (ix2 r d) = Ideal.div (A (ix3 0 r d)) (L (ix3 0 r 0)) := pay4_apply L A r d
theorem out_of_1 (r : Fin 512) (d : Fin 128) : (k0_pay5 (F := Ideal) A L : S512x128.Idx → Elt Ideal .bf16) (ix2 r d) = Ideal.div (A (ix3 0 r d)) (L (ix3 0 r 0)) := pay4_apply L A r d
theorem out_of_2 (r : Fin 512) (d : Fin 128) : (k0_pay6 (F := Ideal) A L : S512x128.Idx → Elt Ideal .bf16) (ix2 r d) = Ideal.div (A (ix3 0 r d)) (L (ix3 0 r 0)) := pay4_apply L A r d
theorem out_of_3 (r : Fin 512) (d : Fin 128) : (k0_pay3 (F := Ideal) (k0_pay7 A) L : S512x128.Idx → Elt Ideal .bf16) (ix2 r d) = Ideal.div (A (ix3 0 r d)) (L (ix3 0 r 0)) := pay4_apply L A r d

end Heads

section StepC

variable (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Ideal .i32)) (T1 : (S544.Idx → Elt Ideal .i32)) (T2 : (S544.Idx → Elt Ideal .i32)) (T3 : (S544.Idx → Elt Ideal .i32)) (T4 : (S544.Idx → Elt Ideal .i32)) (T5 : (S544.Idx → Elt Ideal .i32))     (x0 : (S512x512.Idx → Elt Ideal .bf16)) (x1 : (S1024x128.Idx → Elt Ideal .bf16)) (x2 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S544) (k0_off1 i) S1.size (k0_off1_inb i)).toLoadRect T2 (Shape.Idx.first (numel1_S1.symm ▸ Nat.one_pos))) 1#32)) 0#32) = 1#1)) (k0_h2 : ¬(k0_cond2 (View.readAt (Elt Ideal) (tbM0_3).view (Rect.unit (s := S544) (k0_off2 i) S1.size (k0_off2_inb i)).toLoadRect T3 (Shape.Idx.first (numel1_S1.symm ▸ Nat.one_pos))) = 1#1))

set_option maxHeartbeats 800000 in
/-- The maxima after a step between. -/
theorem runC_max (g : Fin 4) (r : Fin 512) :
    scM0_0.view.read (Elt Ideal) (kernelRun0_C c i arg8 harg8 arg9 harg9 arg10 harg10 arg11 harg11 T0 T1 T2 T3 T4 T5 x0 x1 x2 xa0 xa1 xa2 hc0 k0_h2).1 (ix3 g r 0)
      = newMax x1 (panel x0 g) (slab (scM0_0.view.read (Elt Ideal) xa0) g) r := by
  unfold kernelRun0_C; dsimp only; sl_unfold_words
  refine (congrFun (View.read_writes_junk_eq_canon scM0_0.view _) _).trans ?_
  match g with
  | 0 =>
    refine (miss 3 _ _ _ 0 (by decide) r 0).trans ((miss 2 _ _ _ 0 (by decide) r 0).trans ((miss 1 _ _ _ 0 (by decide) r 0).trans ((hit 0 _ _ _ 0 rfl r 0).trans ?_)))
    exact max_of_0 r (read_keys _ _ _) (read_queries _ _ _ _ 0 rfl) (congrFun (read_slab _ _ _ _ 0 rfl) _)
  | 1 =>
    refine (miss 3 _ _ _ 1 (by decide) r 0).trans ((miss 2 _ _ _ 1 (by decide) r 0).trans ((hit 1 _ _ _ 1 rfl r 0).trans ?_))
    exact max_of_1 r (read_keys _ _ _) (read_queries _ _ _ _ 1 rfl) (congrFun (read_slab _ _ _ _ 1 rfl) _)
  | 2 =>
    refine (miss 3 _ _ _ 2 (by decide) r 0).trans ((hit 2 _ _ _ 2 rfl r 0).trans ?_)
    exact max_of_2 r (read_keys _ _ _) (read_queries _ _ _ _ 2 rfl) (congrFun (read_slab _ _ _ _ 2 rfl) _)
  | 3 =>
    refine (hit 3 _ _ _ 3 rfl r 0).trans ?_
    exact max_of_3 r (read_keys _ _ _) (read_queries _ _ _ _ 3 rfl) (congrFun (read_slab _ _ _ _ 3 rfl) _)

set_option maxHeartbeats 800000 in
/-- The sums of the weights after a step between. -/
theorem runC_mass (g : Fin 4) (r : Fin 512) :
    scM0_1.view.read (Elt Ideal) (kernelRun0_C c i arg8 harg8 arg9 harg9 arg10 harg10 arg11 harg11 T0 T1 T2 T3 T4 T5 x0 x1 x2 xa0 xa1 xa2 hc0 k0_h2).2.1 (ix3 g r 0)
      = newMass x1 (panel x0 g) (slab (scM0_0.view.read (Elt Ideal) xa0) g) (slab (scM0_1.view.read (Elt Ideal) xa1) g) r := by
  unfold kernelRun0_C; dsimp only; sl_unfold_words
  refine (congrFun (View.read_writes_junk_eq_canon scM0_1.view _) _).trans ?_
  match g with
  | 0 =>
    refine (miss 3 _ _ _ 0 (by decide) r 0).trans ((miss 2 _ _ _ 0 (by decide) r 0).trans ((miss 1 _ _ _ 0 (by decide) r 0).trans ((hit 0 _ _ _ 0 rfl r 0).trans ?_)))
    exact mass_of_0 r (read_keys _ _ _) (read_queries _ _ _ _ 0 rfl) (congrFun (read_slab _ _ _ _ 0 rfl) _) (congrFun (read_slab _ _ _ _ 0 rfl) _)
  | 1 =>
    refine (miss 3 _ _ _ 1 (by decide) r 0).trans ((miss 2 _ _ _ 1 (by decide) r 0).trans ((hit 1 _ _ _ 1 rfl r 0).trans ?_))
    exact mass_of_1 r (read_keys _ _ _) (read_queries _ _ _ _ 1 rfl) (congrFun (read_slab _ _ _ _ 1 rfl) _) (congrFun (read_slab _ _ _ _ 1 rfl) _)
  | 2 =>
    refine (miss 3 _ _ _ 2 (by decide) r 0).trans ((hit 2 _ _ _ 2 rfl r 0).trans ?_)
    exact mass_of_2 r (read_keys _ _ _) (read_queries _ _ _ _ 2 rfl) (congrFun (read_slab _ _ _ _ 2 rfl) _) (congrFun (read_slab _ _ _ _ 2 rfl) _)
  | 3 =>
    refine (hit 3 _ _ _ 3 rfl r 0).trans ?_
    exact mass_of_3 r (read_keys _ _ _) (read_queries _ _ _ _ 3 rfl) (congrFun (read_slab _ _ _ _ 3 rfl) _) (congrFun (read_slab _ _ _ _ 3 rfl) _)

set_option maxHeartbeats 800000 in
/-- The weighted values after a step between. -/
theorem runC_heap (g : Fin 4) (r : Fin 512) (d : Fin 128) :
    scM0_2.view.read (Elt Ideal) (kernelRun0_C c i arg8 harg8 arg9 harg9 arg10 harg10 arg11 harg11 T0 T1 T2 T3 T4 T5 x0 x1 x2 xa0 xa1 xa2 hc0 k0_h2).2.2.1 (ix3 g r d)
      = newHeap x1 x2 (panel x0 g) (slab (scM0_0.view.read (Elt Ideal) xa0) g) (slabW (scM0_2.view.read (Elt Ideal) xa2) g) r d := by
  unfold kernelRun0_C; dsimp only; sl_unfold_words
  refine (congrFun (View.read_writes_junk_eq_canon scM0_2.view _) _).trans ?_
  match g with
  | 0 =>
    refine (missW 3 _ _ _ 0 (by decide) r d).trans ((missW 2 _ _ _ 0 (by decide) r d).trans ((missW 1 _ _ _ 0 (by decide) r d).trans ((hitW 0 _ _ _ 0 rfl r d).trans ?_)))
    exact heap_of_0 r d (read_keys _ _ _) (read_keys _ _ _) (read_queries _ _ _ _ 0 rfl) (congrFun (read_slab _ _ _ _ 0 rfl) _) (congrFun (read_slabW _ _ _ _ 0 rfl) _)
  | 1 =>
    refine (missW 3 _ _ _ 1 (by decide) r d).trans ((missW 2 _ _ _ 1 (by decide) r d).trans ((hitW 1 _ _ _ 1 rfl r d).trans ?_))
    exact heap_of_1 r d (read_keys _ _ _) (read_keys _ _ _) (read_queries _ _ _ _ 1 rfl) (congrFun (read_slab _ _ _ _ 1 rfl) _) (congrFun (read_slabW _ _ _ _ 1 rfl) _)
  | 2 =>
    refine (missW 3 _ _ _ 2 (by decide) r d).trans ((hitW 2 _ _ _ 2 rfl r d).trans ?_)
    exact heap_of_2 r d (read_keys _ _ _) (read_keys _ _ _) (read_queries _ _ _ _ 2 rfl) (congrFun (read_slab _ _ _ _ 2 rfl) _) (congrFun (read_slabW _ _ _ _ 2 rfl) _)
  | 3 =>
    refine (hitW 3 _ _ _ 3 rfl r d).trans ?_
    exact heap_of_3 r d (read_keys _ _ _) (read_keys _ _ _) (read_queries _ _ _ _ 3 rfl) (congrFun (read_slab _ _ _ _ 3 rfl) _) (congrFun (read_slabW _ _ _ _ 3 rfl) _)

end StepC

section StepA

variable (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Ideal .i32)) (T1 : (S544.Idx → Elt Ideal .i32)) (T2 : (S544.Idx → Elt Ideal .i32)) (T3 : (S544.Idx → Elt Ideal .i32)) (T4 : (S544.Idx → Elt Ideal .i32)) (T5 : (S544.Idx → Elt Ideal .i32))     (x0 : (S512x512.Idx → Elt Ideal .bf16)) (x1 : (S1024x128.Idx → Elt Ideal .bf16)) (x2 : (S1024x128.Idx → Elt Ideal .bf16)) (hc0 : (Scalar.cmpi .ne (Scalar.extui (Scalar.cmpi .eq (View.readAt (Elt Ideal) (tbM0_2).view (Rect.unit (s := S544) (k0_off1 i) S1.size (k0_off1_inb i)).toLoadRect T2 (Shape.Idx.first (numel1_S1.symm ▸ Nat.one_pos))) 1#32)) 0#32) = 1#1) (k0_h2 : ¬(k0_cond2 (View.readAt (Elt Ideal) (tbM0_3).view (Rect.unit (s := S544) (k0_off2 i) S1.size (k0_off2_inb i)).toLoadRect T3 (Shape.Idx.first (numel1_S1.symm ▸ Nat.one_pos))) = 1#1))

set_option maxHeartbeats 800000 in
/-- The maxima after a first step. -/
theorem runA_max (g : Fin 4) (r : Fin 512) :
    scM0_0.view.read (Elt Ideal) (kernelRun0_A c i arg8 harg8 arg9 harg9 arg10 harg10 arg11 harg11 T0 T1 T2 T3 T4 T5 x0 x1 x2 hc0 k0_h2).1 (ix3 g r 0)
      = newMax x1 (panel x0 g) (fun _ => ⊥) r := by
  unfold kernelRun0_A; dsimp only; sl_unfold_words
  refine (congrFun (View.read_writes_junk_eq_canon scM0_0.view _) _).trans ?_
  match g with
  | 0 =>
    refine (miss 3 _ _ _ 0 (by decide) r 0).trans ((miss 2 _ _ _ 0 (by decide) r 0).trans ((miss 1 _ _ _ 0 (by decide) r 0).trans ((hit 0 _ _ _ 0 rfl r 0).trans ?_)))
    exact max_of_0 r (read_keys _ _ _) (read_queries _ _ _ _ 0 rfl) ((back_slab _ _ _ _ 0 rfl r 0).trans ((whole _ _ _ 0 r 0).trans (pay8_apply _)))
  | 1 =>
    refine (miss 3 _ _ _ 1 (by decide) r 0).trans ((miss 2 _ _ _ 1 (by decide) r 0).trans ((hit 1 _ _ _ 1 rfl r 0).trans ?_))
    exact max_of_1 r (read_keys _ _ _) (read_queries _ _ _ _ 1 rfl) ((back_slab _ _ _ _ 1 rfl r 0).trans ((miss 0 _ _ _ 1 (by decide) r 0).trans ((whole _ _ _ 1 r 0).trans (pay8_apply _))))
  | 2 =>
    refine (miss 3 _ _ _ 2 (by decide) r 0).trans ((hit 2 _ _ _ 2 rfl r 0).trans ?_)
    exact max_of_2 r (read_keys _ _ _) (read_queries _ _ _ _ 2 rfl) ((back_slab _ _ _ _ 2 rfl r 0).trans ((miss 1 _ _ _ 2 (by decide) r 0).trans ((miss 0 _ _ _ 2 (by decide) r 0).trans ((whole _ _ _ 2 r 0).trans (pay8_apply _)))))
  | 3 =>
    refine (hit 3 _ _ _ 3 rfl r 0).trans ?_
    exact max_of_3 r (read_keys _ _ _) (read_queries _ _ _ _ 3 rfl) ((back_slab _ _ _ _ 3 rfl r 0).trans ((miss 2 _ _ _ 3 (by decide) r 0).trans ((miss 1 _ _ _ 3 (by decide) r 0).trans ((miss 0 _ _ _ 3 (by decide) r 0).trans ((whole _ _ _ 3 r 0).trans (pay8_apply _))))))

set_option maxHeartbeats 800000 in
/-- The sums of the weights after a first step. -/
theorem runA_mass (g : Fin 4) (r : Fin 512) :
    scM0_1.view.read (Elt Ideal) (kernelRun0_A c i arg8 harg8 arg9 harg9 arg10 harg10 arg11 harg11 T0 T1 T2 T3 T4 T5 x0 x1 x2 hc0 k0_h2).2.1 (ix3 g r 0)
      = newMass x1 (panel x0 g) (fun _ => ⊥) (fun _ => 0) r := by
  unfold kernelRun0_A; dsimp only; sl_unfold_words
  refine (congrFun (View.read_writes_junk_eq_canon scM0_1.view _) _).trans ?_
  match g with
  | 0 =>
    refine (miss 3 _ _ _ 0 (by decide) r 0).trans ((miss 2 _ _ _ 0 (by decide) r 0).trans ((miss 1 _ _ _ 0 (by decide) r 0).trans ((hit 0 _ _ _ 0 rfl r 0).trans ?_)))
    exact mass_of_0 r (read_keys _ _ _) (read_queries _ _ _ _ 0 rfl) ((back_slab _ _ _ _ 0 rfl r 0).trans ((whole _ _ _ 0 r 0).trans (pay8_apply _))) ((back_slab _ _ _ _ 0 rfl r 0).trans ((whole _ _ _ 0 r 0).trans (pay9_apply _)))
  | 1 =>
    refine (miss 3 _ _ _ 1 (by decide) r 0).trans ((miss 2 _ _ _ 1 (by decide) r 0).trans ((hit 1 _ _ _ 1 rfl r 0).trans ?_))
    exact mass_of_1 r (read_keys _ _ _) (read_queries _ _ _ _ 1 rfl) ((back_slab _ _ _ _ 1 rfl r 0).trans ((miss 0 _ _ _ 1 (by decide) r 0).trans ((whole _ _ _ 1 r 0).trans (pay8_apply _)))) ((back_slab _ _ _ _ 1 rfl r 0).trans ((miss 0 _ _ _ 1 (by decide) r 0).trans ((whole _ _ _ 1 r 0).trans (pay9_apply _))))
  | 2 =>
    refine (miss 3 _ _ _ 2 (by decide) r 0).trans ((hit 2 _ _ _ 2 rfl r 0).trans ?_)
    exact mass_of_2 r (read_keys _ _ _) (read_queries _ _ _ _ 2 rfl) ((back_slab _ _ _ _ 2 rfl r 0).trans ((miss 1 _ _ _ 2 (by decide) r 0).trans ((miss 0 _ _ _ 2 (by decide) r 0).trans ((whole _ _ _ 2 r 0).trans (pay8_apply _))))) ((back_slab _ _ _ _ 2 rfl r 0).trans ((miss 1 _ _ _ 2 (by decide) r 0).trans ((miss 0 _ _ _ 2 (by decide) r 0).trans ((whole _ _ _ 2 r 0).trans (pay9_apply _)))))
  | 3 =>
    refine (hit 3 _ _ _ 3 rfl r 0).trans ?_
    exact mass_of_3 r (read_keys _ _ _) (read_queries _ _ _ _ 3 rfl) ((back_slab _ _ _ _ 3 rfl r 0).trans ((miss 2 _ _ _ 3 (by decide) r 0).trans ((miss 1 _ _ _ 3 (by decide) r 0).trans ((miss 0 _ _ _ 3 (by decide) r 0).trans ((whole _ _ _ 3 r 0).trans (pay8_apply _)))))) ((back_slab _ _ _ _ 3 rfl r 0).trans ((miss 2 _ _ _ 3 (by decide) r 0).trans ((miss 1 _ _ _ 3 (by decide) r 0).trans ((miss 0 _ _ _ 3 (by decide) r 0).trans ((whole _ _ _ 3 r 0).trans (pay9_apply _))))))

set_option maxHeartbeats 800000 in
/-- The weighted values after a first step. -/
theorem runA_heap (g : Fin 4) (r : Fin 512) (d : Fin 128) :
    scM0_2.view.read (Elt Ideal) (kernelRun0_A c i arg8 harg8 arg9 harg9 arg10 harg10 arg11 harg11 T0 T1 T2 T3 T4 T5 x0 x1 x2 hc0 k0_h2).2.2.1 (ix3 g r d)
      = newHeap x1 x2 (panel x0 g) (fun _ => ⊥) (fun _ => 0) r d := by
  unfold kernelRun0_A; dsimp only; sl_unfold_words
  refine (congrFun (View.read_writes_junk_eq_canon scM0_2.view _) _).trans ?_
  match g with
  | 0 =>
    refine (missW 3 _ _ _ 0 (by decide) r d).trans ((missW 2 _ _ _ 0 (by decide) r d).trans ((missW 1 _ _ _ 0 (by decide) r d).trans ((hitW 0 _ _ _ 0 rfl r d).trans ?_)))
    exact heap_of_0 r d (read_keys _ _ _) (read_keys _ _ _) (read_queries _ _ _ _ 0 rfl) ((back_slab _ _ _ _ 0 rfl r 0).trans ((whole _ _ _ 0 r 0).trans (pay8_apply _))) ((back_slabW _ _ _ _ 0 rfl r d).trans ((wholeW _ _ _ 0 r d).trans (pay10_apply _)))
  | 1 =>
    refine (missW 3 _ _ _ 1 (by decide) r d).trans ((missW 2 _ _ _ 1 (by decide) r d).trans ((hitW 1 _ _ _ 1 rfl r d).trans ?_))
    exact heap_of_1 r d (read_keys _ _ _) (read_keys _ _ _) (read_queries _ _ _ _ 1 rfl) ((back_slab _ _ _ _ 1 rfl r 0).trans ((miss 0 _ _ _ 1 (by decide) r 0).trans ((whole _ _ _ 1 r 0).trans (pay8_apply _)))) ((back_slabW _ _ _ _ 1 rfl r d).trans ((missW 0 _ _ _ 1 (by decide) r d).trans ((wholeW _ _ _ 1 r d).trans (pay10_apply _))))
  | 2 =>
    refine (missW 3 _ _ _ 2 (by decide) r d).trans ((hitW 2 _ _ _ 2 rfl r d).trans ?_)
    exact heap_of_2 r d (read_keys _ _ _) (read_keys _ _ _) (read_queries _ _ _ _ 2 rfl) ((back_slab _ _ _ _ 2 rfl r 0).trans ((miss 1 _ _ _ 2 (by decide) r 0).trans ((miss 0 _ _ _ 2 (by decide) r 0).trans ((whole _ _ _ 2 r 0).trans (pay8_apply _))))) ((back_slabW _ _ _ _ 2 rfl r d).trans ((missW 1 _ _ _ 2 (by decide) r d).trans ((missW 0 _ _ _ 2 (by decide) r d).trans ((wholeW _ _ _ 2 r d).trans (pay10_apply _)))))
  | 3 =>
    refine (hitW 3 _ _ _ 3 rfl r d).trans ?_
    exact heap_of_3 r d (read_keys _ _ _) (read_keys _ _ _) (read_queries _ _ _ _ 3 rfl) ((back_slab _ _ _ _ 3 rfl r 0).trans ((miss 2 _ _ _ 3 (by decide) r 0).trans ((miss 1 _ _ _ 3 (by decide) r 0).trans ((miss 0 _ _ _ 3 (by decide) r 0).trans ((whole _ _ _ 3 r 0).trans (pay8_apply _)))))) ((back_slabW _ _ _ _ 3 rfl r d).trans ((missW 2 _ _ _ 3 (by decide) r d).trans ((missW 1 _ _ _ 3 (by decide) r d).trans ((missW 0 _ _ _ 3 (by decide) r d).trans ((wholeW _ _ _ 3 r d).trans (pay10_apply _))))))

end StepA

section StepB

variable (c : Dev nD) (i : grid0.Coords) (arg8 : Memref sig .tc .vmem S512x512 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S512x512 .bf16) (harg11 : arg11.IsWhole) (T0 : (S544.Idx → Elt Ideal .i32)) (T1 : (S544.Idx → Elt Ideal .i32)) (T2 : (S544.Idx → Elt Ideal .i32)) (T3 : (S544.Idx → Elt Ideal .i32)) (T4 : (S544.Idx → Elt Ideal .i32)) (T5 : (S544.Idx → Elt Ideal .i32))     (x0 : (S512x512.Idx → Elt Ideal .bf16)) (x1 : (S1024x128.Idx → Elt Ideal .bf16)) (x2 : (S1024x128.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_2).view (Rect.unit (s := S544) (k0_off1 i) S1.size (k0_off1_inb i)).toLoadRect T2 (Shape.Idx.first (numel1_S1.symm ▸ Nat.one_pos))) 1#32)) 0#32) = 1#1)) (k0_h2 : k0_cond2 (View.readAt (Elt Ideal) (tbM0_3).view (Rect.unit (s := S544) (k0_off2 i) S1.size (k0_off2_inb i)).toLoadRect T3 (Shape.Idx.first (numel1_S1.symm ▸ Nat.one_pos))) = 1#1)

set_option maxHeartbeats 800000 in
/-- The output block after a last step: the weighted values over the sum of the weights. -/
theorem runB_out (g : Fin 4) (r : Fin 512) (d : Fin 128) (k : Fin 512) (hk : k.val = 128 * g.val + d.val) :
    out0_B_3 c i arg8 harg8 arg9 harg9 arg10 harg10 arg11 harg11 T0 T1 T2 T3 T4 T5 x0 x1 x2 xa0 xa1 xa2 hc0 k0_h2 (ix2 r k)
      = Ideal.div (newHeap x1 x2 (panel x0 g) (slab (scM0_0.view.read (Elt Ideal) xa0) g) (slabW (scM0_2.view.read (Elt Ideal) xa2) g) r d)
          (newMass x1 (panel x0 g) (slab (scM0_0.view.read (Elt Ideal) xa0) g) (slab (scM0_1.view.read (Elt Ideal) xa1) g) r) := by
  unfold out0_B_3 kernelRun0_B; dsimp only; sl_unfold_words
  refine (congrFun (View.read_writes_junk_eq_canon VO0_3 _) _).trans ?_
  match g, hk with
  | 0, hk =>
    refine (missO 384 _ _ _ 3 rfl 0 (by decide) r d k hk).trans ((missO 256 _ _ _ 2 rfl 0 (by decide) r d k hk).trans ((missO 128 _ _ _ 1 rfl 0 (by decide) r d k hk).trans ((hitO 0 _ _ _ 0 rfl r d k hk).trans ?_)))
    refine (out_of_0 r d).trans (congrArg₂ Ideal.div ?_ ?_)
    · refine (back_slabW _ _ _ _ 0 rfl r d).trans ?_
      refine (missW 3 _ _ _ 0 (by decide) r d).trans ((missW 2 _ _ _ 0 (by decide) r d).trans ((missW 1 _ _ _ 0 (by decide) r d).trans ((hitW 0 _ _ _ 0 rfl r d).trans ?_)))
      exact heap_of_0 r d (read_keys _ _ _) (read_keys _ _ _) (read_queries _ _ _ _ 0 rfl) (congrFun (read_slab _ _ _ _ 0 rfl) _) (congrFun (read_slabW _ _ _ _ 0 rfl) _)
    · refine (back_slab _ _ _ _ 0 rfl r 0).trans ?_
      refine (miss 3 _ _ _ 0 (by decide) r 0).trans ((miss 2 _ _ _ 0 (by decide) r 0).trans ((miss 1 _ _ _ 0 (by decide) r 0).trans ((hit 0 _ _ _ 0 rfl r 0).trans ?_)))
      exact mass_of_0 r (read_keys _ _ _) (read_queries _ _ _ _ 0 rfl) (congrFun (read_slab _ _ _ _ 0 rfl) _) (congrFun (read_slab _ _ _ _ 0 rfl) _)
  | 1, hk =>
    refine (missO 384 _ _ _ 3 rfl 1 (by decide) r d k hk).trans ((missO 256 _ _ _ 2 rfl 1 (by decide) r d k hk).trans ((hitO 128 _ _ _ 1 rfl r d k hk).trans ?_))
    refine (out_of_1 r d).trans (congrArg₂ Ideal.div ?_ ?_)
    · refine (back_slabW _ _ _ _ 1 rfl r d).trans ?_
      refine (missW 3 _ _ _ 1 (by decide) r d).trans ((missW 2 _ _ _ 1 (by decide) r d).trans ((hitW 1 _ _ _ 1 rfl r d).trans ?_))
      exact heap_of_1 r d (read_keys _ _ _) (read_keys _ _ _) (read_queries _ _ _ _ 1 rfl) (congrFun (read_slab _ _ _ _ 1 rfl) _) (congrFun (read_slabW _ _ _ _ 1 rfl) _)
    · refine (back_slab _ _ _ _ 1 rfl r 0).trans ?_
      refine (miss 3 _ _ _ 1 (by decide) r 0).trans ((miss 2 _ _ _ 1 (by decide) r 0).trans ((hit 1 _ _ _ 1 rfl r 0).trans ?_))
      exact mass_of_1 r (read_keys _ _ _) (read_queries _ _ _ _ 1 rfl) (congrFun (read_slab _ _ _ _ 1 rfl) _) (congrFun (read_slab _ _ _ _ 1 rfl) _)
  | 2, hk =>
    refine (missO 384 _ _ _ 3 rfl 2 (by decide) r d k hk).trans ((hitO 256 _ _ _ 2 rfl r d k hk).trans ?_)
    refine (out_of_2 r d).trans (congrArg₂ Ideal.div ?_ ?_)
    · refine (back_slabW _ _ _ _ 2 rfl r d).trans ?_
      refine (missW 3 _ _ _ 2 (by decide) r d).trans ((hitW 2 _ _ _ 2 rfl r d).trans ?_)
      exact heap_of_2 r d (read_keys _ _ _) (read_keys _ _ _) (read_queries _ _ _ _ 2 rfl) (congrFun (read_slab _ _ _ _ 2 rfl) _) (congrFun (read_slabW _ _ _ _ 2 rfl) _)
    · refine (back_slab _ _ _ _ 2 rfl r 0).trans ?_
      refine (miss 3 _ _ _ 2 (by decide) r 0).trans ((hit 2 _ _ _ 2 rfl r 0).trans ?_)
      exact mass_of_2 r (read_keys _ _ _) (read_queries _ _ _ _ 2 rfl) (congrFun (read_slab _ _ _ _ 2 rfl) _) (congrFun (read_slab _ _ _ _ 2 rfl) _)
  | 3, hk =>
    refine (hitO 384 _ _ _ 3 rfl r d k hk).trans ?_
    refine (out_of_3 r d).trans (congrArg₂ Ideal.div ?_ ?_)
    · refine (back_slabW _ _ _ _ 3 rfl r d).trans ?_
      refine (hitW 3 _ _ _ 3 rfl r d).trans ?_
      exact heap_of_3 r d (read_keys _ _ _) (read_keys _ _ _) (read_queries _ _ _ _ 3 rfl) (congrFun (read_slab _ _ _ _ 3 rfl) _) (congrFun (read_slabW _ _ _ _ 3 rfl) _)
    · refine (back_slab _ _ _ _ 3 rfl r 0).trans ?_
      refine (hit 3 _ _ _ 3 rfl r 0).trans ?_
      exact mass_of_3 r (read_keys _ _ _) (read_queries _ _ _ _ 3 rfl) (congrFun (read_slab _ _ _ _ 3 rfl) _) (congrFun (read_slab _ _ _ _ 3 rfl) _)

end StepB

end Cert.KernelIdeal.Attn

end
-- ==== Proof.Attn.KernelIdeal.Blocks.lean ====
module

public import proofs.«01_k».proof.Proof.Attn.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN_0_0_inb : ∀ i : grid0.Coords, ∀ a, (cc0_transform_0 k0_off1_inb numel1_S1 pfN i a + 1) * S512x512.size a ≤ S24576x5120.size a := by decide +kernel
theorem ok_pfN_0_0 : (∀ i : grid0.Coords, ∃ h : (∀ a, (cc0_transform_0 k0_off1_inb numel1_S1 pfN i a + 1) * S512x512.size a ≤ S24576x5120.size a), EltTy.bits .bf16 = 32 ∨ (Rect.block (s := S24576x5120) S512x512.size (cc0_transform_0 k0_off1_inb numel1_S1 pfN i) h).WholeWords (EltTy.packing .bf16)) := fun i => ⟨ok_pfN_0_0_inb i, .inr (Affine.block_words_dvd (s := S24576x5120) (p := EltTy.packing .bf16) (by decide) (by decide))⟩
theorem ok_pfN_0_1_inb : ∀ i : grid0.Coords, ∀ a, (cc0_transform_1 k0_off1_inb numel1_S1 pfN i a + 1) * S1024x128.size a ≤ S24576x5120.size a := by decide +kernel
theorem ok_pfN_0_1 : (∀ i : grid0.Coords, ∃ h : (∀ a, (cc0_transform_1 k0_off1_inb numel1_S1 pfN i a + 1) * S1024x128.size a ≤ S24576x5120.size a), EltTy.bits .bf16 = 32 ∨ (Rect.block (s := S24576x5120) S1024x128.size (cc0_transform_1 k0_off1_inb numel1_S1 pfN i) h).WholeWords (EltTy.packing .bf16)) := fun i => ⟨ok_pfN_0_1_inb i, .inr (Affine.block_words_dvd (s := S24576x5120) (p := EltTy.packing .bf16) (by decide) (by decide))⟩
theorem ok_pfN_0_2_inb : ∀ i : grid0.Coords, ∀ a, (cc0_transform_2 k0_off1_inb numel1_S1 pfN i a + 1) * S1024x128.size a ≤ S24576x6144.size a := by decide +kernel
theorem ok_pfN_0_2 : (∀ i : grid0.Coords, ∃ h : (∀ a, (cc0_transform_2 k0_off1_inb numel1_S1 pfN i a + 1) * S1024x128.size a ≤ S24576x6144.size a), EltTy.bits .bf16 = 32 ∨ (Rect.block (s := S24576x6144) S1024x128.size (cc0_transform_2 k0_off1_inb numel1_S1 pfN i) h).WholeWords (EltTy.packing .bf16)) := fun i => ⟨ok_pfN_0_2_inb i, .inr (Affine.block_words_dvd (s := S24576x6144) (p := EltTy.packing .bf16) (by decide) (by decide))⟩
theorem ok_pfN_0_3_inb : ∀ i : grid0.Coords, ∀ a, (cc0_transform_3 k0_off1_inb numel1_S1 pfN i a + 1) * S512x512.size a ≤ S24576x4096.size a := by decide +kernel
theorem ok_pfN_0_3 : (∀ i : grid0.Coords, ∃ h : (∀ a, (cc0_transform_3 k0_off1_inb numel1_S1 pfN i a + 1) * S512x512.size a ≤ S24576x4096.size a), EltTy.bits .bf16 = 32 ∨ (Rect.block (s := S24576x4096) S512x512.size (cc0_transform_3 k0_off1_inb numel1_S1 pfN i) h).WholeWords (EltTy.packing .bf16)) := fun i => ⟨ok_pfN_0_3_inb i, .inr (Affine.block_words_dvd (s := S24576x4096) (p := EltTy.packing .bf16) (by decide) (by decide))⟩
theorem ok_pfN_0 : ok0 (F := Ideal) pfN := ⟨ok_pfN_0_0, ok_pfN_0_1, ok_pfN_0_2, ok_pfN_0_3⟩

end Cert.KernelIdeal.Attn

end
-- ==== Proof.Attn.KernelIdeal.Config.lean ====
module

public import proofs.«01_k».proof.Proof.Attn.KernelIdeal.Blocks

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN : ok0 (F := Ideal) pfN := ok_pfN_0

/-- The tables put every block inside its array, so the pipeline may run at them. -/
def adm : (pcfg0 (F := Ideal)).Adm := ⟨pfN, ok_pfN⟩
/-- The pipeline at these tables. -/
abbrev cfgA : Pipeline.Cfg sig Λ₀ := cfg0 (F := Ideal) (adm)
abbrev pcs : Fin 1 → Pipeline.Cfg sig Λ₀ := Pipeline.pin (pcfgs (F := Ideal)) fun _ => adm

variable (m : (ℓ : Loc nD τ sig) → Buf (Elt Ideal) ℓ) (ρ : Dev nD → PrngReg)

/-- Point `t`'s coordinates: the key/value head and the step. -/
abbrev crd (t : Fin cfgA.N) : cfgA.grid.Coords := cfgA.grid.coords t

/-- Staging buffer of the query window at point `t`; the next ones are those of the keys, values and output. -/
abbrev ms0_0 (t : Fin cfgA.N) : Memref sig .tc .vmem S512x512 .bf16 := spec0_0.stage (cfgA.slots t (0 : Fin 4))
abbrev hs0_0 (t : Fin cfgA.N) : (ms0_0 t).IsWhole := hstage0_0 ((cfgA.slots t (0 : Fin 4)).cast nbuf0_0)
abbrev ms0_1 (t : Fin cfgA.N) : Memref sig .tc .vmem S1024x128 .bf16 := spec0_1.stage (cfgA.slots t (1 : Fin 4))
abbrev hs0_1 (t : Fin cfgA.N) : (ms0_1 t).IsWhole := hstage0_1 ((cfgA.slots t (1 : Fin 4)).cast nbuf0_1)
abbrev ms0_2 (t : Fin cfgA.N) : Memref sig .tc .vmem S1024x128 .bf16 := spec0_2.stage (cfgA.slots t (2 : Fin 4))
abbrev hs0_2 (t : Fin cfgA.N) : (ms0_2 t).IsWhole := hstage0_2 ((cfgA.slots t (2 : Fin 4)).cast nbuf0_2)
abbrev ms0_3 (t : Fin cfgA.N) : Memref sig .tc .vmem S512x512 .bf16 := spec0_3.stage (cfgA.slots t (3 : Fin 4))
abbrev hs0_3 (t : Fin cfgA.N) : (ms0_3 t).IsWhole := hstage0_3 ((cfgA.slots t (3 : Fin 4)).cast nbuf0_3)

/-- Window `w`'s block at point `t`, read off its array at launch. -/
def iblk (c : Dev nD) (w : Fin cfgA.W) (t : Fin cfgA.N) : ((cfgA.win w).xblock (crd t)).Idx → Elt Ideal (cfgA.win w).elt :=
  ((cfgA.win w).blk t).view.read (Elt Ideal) ((s₀ m ρ).mem ((cfgA.win w).arr.view.loc (c : Thread nD τ)))

/-- The step is the first of its query block: the accumulators are reset. -/
abbrev P0_0 (t : Fin cfgA.N) : Prop := (Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1
/-- The step is the last of its query block: the output block is written. -/
abbrev P0_1 (t : Fin cfgA.N) : Prop := k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1

/-- Whether the running maximum is still undetermined before position `n`. -/
def sfresh0_0 : ℕ → Bool
  | 0 => true
  | n + 1 => if h : n < cfgA.N then (if P0_0 ⟨n, h⟩ then false else (if P0_1 ⟨n, h⟩ then sfresh0_0 n else sfresh0_0 n)) else true

def sfirst0_0 : ℕ := 0
def sfrTab0_0 : ℕ → Bool := fun n => decide (n ≤ sfirst0_0)

/-- Whether the running denominator is still undetermined before position `n`. -/
def sfresh0_1 : ℕ → Bool
  | 0 => true
  | n + 1 => if h : n < cfgA.N then (if P0_0 ⟨n, h⟩ then false else (if P0_1 ⟨n, h⟩ then sfresh0_1 n else sfresh0_1 n)) else true

def sfirst0_1 : ℕ := 0
def sfrTab0_1 : ℕ → Bool := fun n => decide (n ≤ sfirst0_1)

/-- Whether the running numerator is still undetermined before position `n`. -/
def sfresh0_2 : ℕ → Bool
  | 0 => true
  | n + 1 => if h : n < cfgA.N then (if P0_0 ⟨n, h⟩ then false else (if P0_1 ⟨n, h⟩ then sfresh0_2 n else sfresh0_2 n)) else true

def sfirst0_2 : ℕ := 0
def sfrTab0_2 : ℕ → Bool := fun n => decide (n ≤ sfirst0_2)

/-- The output buffer never holds anything unwritten-back before a point: it is stored only where it is written back. -/
def frTab0_3 : ℕ → Bool := fun _ => true

end Cert.KernelIdeal.Attn

end
-- ==== Proof.Attn.KernelIdeal.Places.lean ====
/- Where the blocks of each grid point lie, and which points are the first and the last of a query block: point `t` is
   key/value head `t / 544` at step `t % 544`. Decided once over the grid. -/
module

public import proofs.«01_k».proof.Proof.Attn.KernelIdeal.Config

@[expose] public section

set_option maxRecDepth 16384

noncomputable section

namespace Cert.KernelIdeal.Attn

open Cert.KernelIdeal Cert.KernelIdeal.Gen
open Idealize.ShloMosaic

theorem place_q : ∀ t : Fin cfgA.N, (cfgA.win (0 : Fin 4)).index t (0 : Fin 2) = qtN (t.val % 544) ∧ (cfgA.win (0 : Fin 4)).index t (1 : Fin 2) = t.val / 544 := by
  decide +kernel

theorem place_k : ∀ t : Fin cfgA.N, (cfgA.win (1 : Fin 4)).index t (0 : Fin 2) = ktN (t.val % 544) ∧ (cfgA.win (1 : Fin 4)).index t (1 : Fin 2) = 32 + t.val / 544 := by
  decide +kernel

theorem place_v : ∀ t : Fin cfgA.N, (cfgA.win (2 : Fin 4)).index t (0 : Fin 2) = ktN (t.val % 544) ∧ (cfgA.win (2 : Fin 4)).index t (1 : Fin 2) = 40 + t.val / 544 := by
  decide +kernel

theorem place_o : ∀ t : Fin cfgA.N, (cfgA.win (3 : Fin 4)).index t (0 : Fin 2) = qtN (t.val % 544) ∧ (cfgA.win (3 : Fin 4)).index t (1 : Fin 2) = t.val / 544 := by
  decide +kernel

theorem first_iff : ∀ t : Fin cfgA.N, P0_0 t ↔ posN (t.val % 544) = 0 := by
  decide +kernel

theorem last_iff : ∀ t : Fin cfgA.N, P0_1 t ↔ posN (t.val % 544) = lastN (t.val % 544) := by
  decide +kernel

end Cert.KernelIdeal.Attn

end
-- ==== Proof.Attn.KernelIdeal.Points.lean ====
module

public import proofs.«01_k».proof.Proof.Attn.KernelIdeal.Config

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (m : (ℓ : Loc nD τ sig) → Buf (Elt Ideal) ℓ) (ρ : Dev nD → PrngReg)

/-- Everything decided of a point: which buffers are determined, which windows are idle, which blocks are written back. -/
abbrev FactsAt (t : Fin cfgA.N) : Prop :=
  (sfrTab0_0 (t.val + 1) = (if P0_0 t then false else (if P0_1 t then sfrTab0_0 t.val else sfrTab0_0 t.val)))
  ∧ (sfrTab0_1 (t.val + 1) = (if P0_0 t then false else (if P0_1 t then sfrTab0_1 t.val else sfrTab0_1 t.val)))
  ∧ (sfrTab0_2 (t.val + 1) = (if P0_0 t then false else (if P0_1 t then sfrTab0_2 t.val else sfrTab0_2 t.val)))
  ∧ (frTab0_3 (t.val + 1) = ((cfgA.win (3 : Fin 4)).flush t || (cfgA.idle (3 : Fin 4) (cfgA.grid.coords t) && frTab0_3 t.val)))
  ∧ (P0_0 t → ((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1) ∧ ((¬(k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1)) ∧ (True)))
  ∧ (P0_0 t → cfgA.idle (3 : Fin 4) (cfgA.grid.coords t) = true ∧ (cfgA.win (3 : Fin 4)).flush t = false ∧ frTab0_3 t.val = true ∧ sfrTab0_0 (t.val + 1) = false ∧ sfrTab0_1 (t.val + 1) = false ∧ sfrTab0_2 (t.val + 1) = false)
  ∧ (¬P0_0 t → P0_1 t → (¬((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1)) ∧ ((k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1) ∧ (True)))
  ∧ (¬P0_0 t → P0_1 t → cfgA.idle (3 : Fin 4) (cfgA.grid.coords t) = false ∧ (cfgA.win (3 : Fin 4)).flush t = true ∧ frTab0_3 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)
  ∧ (¬P0_0 t → ¬P0_1 t → (¬((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1)) ∧ ((¬(k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1)) ∧ (True)))
  ∧ (¬P0_0 t → ¬P0_1 t → cfgA.idle (3 : Fin 4) (cfgA.grid.coords t) = true ∧ (cfgA.win (3 : Fin 4)).flush t = false ∧ frTab0_3 t.val = true ∧ sfrTab0_0 t.val = false ∧ sfrTab0_0 (t.val + 1) = false ∧ sfrTab0_1 t.val = false ∧ sfrTab0_1 (t.val + 1) = false ∧ sfrTab0_2 t.val = false ∧ sfrTab0_2 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))

end Cert.KernelIdeal.Attn

end
-- ==== Proof.Attn.KernelIdeal.Decided.lean ====
module

public import proofs.«01_k».proof.Proof.Attn.KernelIdeal.Points

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem allFacts_0_0 : ∀ t : Fin cfgA.N, 0 ≤ t.val → t.val < 544 → FactsAt  t := by decide +kernel
theorem allFacts_0_1 : ∀ t : Fin cfgA.N, 544 ≤ t.val → t.val < 1088 → FactsAt  t := by decide +kernel
theorem allFacts_0_2 : ∀ t : Fin cfgA.N, 1088 ≤ t.val → t.val < 1632 → FactsAt  t := by decide +kernel
theorem allFacts_0_3 : ∀ t : Fin cfgA.N, 1632 ≤ t.val → t.val < 2176 → FactsAt  t := by decide +kernel
theorem allFacts_0_4 : ∀ t : Fin cfgA.N, 2176 ≤ t.val → t.val < 2720 → FactsAt  t := by decide +kernel
theorem allFacts_0_5 : ∀ t : Fin cfgA.N, 2720 ≤ t.val → t.val < 3264 → FactsAt  t := by decide +kernel
theorem allFacts_0_6 : ∀ t : Fin cfgA.N, 3264 ≤ t.val → t.val < 3808 → FactsAt  t := by decide +kernel
theorem allFacts_0_7 : ∀ t : Fin cfgA.N, 3808 ≤ t.val → t.val < 4352 → FactsAt  t := by decide +kernel
theorem allFacts_0 : ∀ t : Fin cfgA.N, FactsAt  t := fun t => by
  have h0 : 0 ≤ t.val := Nat.zero_le _
  rcases Nat.lt_or_ge t.val 544 with h1 | h1; · exact allFacts_0_0 t h0 h1
  rcases Nat.lt_or_ge t.val 1088 with h2 | h2; · exact allFacts_0_1 t h1 h2
  rcases Nat.lt_or_ge t.val 1632 with h3 | h3; · exact allFacts_0_2 t h2 h3
  rcases Nat.lt_or_ge t.val 2176 with h4 | h4; · exact allFacts_0_3 t h3 h4
  rcases Nat.lt_or_ge t.val 2720 with h5 | h5; · exact allFacts_0_4 t h4 h5
  rcases Nat.lt_or_ge t.val 3264 with h6 | h6; · exact allFacts_0_5 t h5 h6
  rcases Nat.lt_or_ge t.val 3808 with h7 | h7; · exact allFacts_0_6 t h6 h7
  exact allFacts_0_7 t h7 t.isLt

end Cert.KernelIdeal.Attn

end
-- ==== Proof.Attn.KernelIdeal.Frame.lean ====
module

public import proofs.«01_k».proof.Proof.Attn.KernelIdeal.Runs
public import proofs.«01_k».proof.Proof.Attn.KernelIdeal.Decided
public import Idealize.ShloMosaic.Lib.Pipeline.Quiescent
public import Idealize.ShloMosaic.Lib.Pipeline.FrameSuffix
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (m : (ℓ : Loc nD τ sig) → Buf (Elt Ideal) ℓ) (ρ : Dev nD → PrngReg)

/-- The facts hold at every point. -/
theorem allFacts : ∀ t : Fin cfgA.N, FactsAt t := allFacts_0

theorem sfrTab0_0_step : ∀ (t : Fin cfgA.N), sfrTab0_0 (t.val + 1) = (if P0_0 t then false else (if P0_1 t then sfrTab0_0 t.val else sfrTab0_0 t.val)) := fun t => (allFacts t).1
theorem sfresh0_0_eq : ∀ n, n ≤ cfgA.N → sfresh0_0 n = sfrTab0_0 n
  | 0, _ => by simp only [sfresh0_0, sfrTab0_0, Nat.zero_le, decide_true]
  | n + 1, h => by simp only [sfresh0_0, dif_pos (show n < cfgA.N from h), sfresh0_0_eq n (Nat.le_of_lt h), sfrTab0_0_step ⟨n, h⟩]
theorem sfreshF0_0 (t : Fin cfgA.N) : sfresh0_0 t.val = sfrTab0_0 t.val := sfresh0_0_eq t.val (Nat.le_of_lt t.isLt)
theorem sfreshS0_0 (t : Fin cfgA.N) : sfresh0_0 (t.val + 1) = sfrTab0_0 (t.val + 1) := sfresh0_0_eq (t.val + 1) t.isLt

theorem sfrTab0_1_step : ∀ (t : Fin cfgA.N), sfrTab0_1 (t.val + 1) = (if P0_0 t then false else (if P0_1 t then sfrTab0_1 t.val else sfrTab0_1 t.val)) := fun t => (allFacts t).2.1
theorem sfresh0_1_eq : ∀ n, n ≤ cfgA.N → sfresh0_1 n = sfrTab0_1 n
  | 0, _ => by simp only [sfresh0_1, sfrTab0_1, Nat.zero_le, decide_true]
  | n + 1, h => by simp only [sfresh0_1, dif_pos (show n < cfgA.N from h), sfresh0_1_eq n (Nat.le_of_lt h), sfrTab0_1_step ⟨n, h⟩]
theorem sfreshF0_1 (t : Fin cfgA.N) : sfresh0_1 t.val = sfrTab0_1 t.val := sfresh0_1_eq t.val (Nat.le_of_lt t.isLt)
theorem sfreshS0_1 (t : Fin cfgA.N) : sfresh0_1 (t.val + 1) = sfrTab0_1 (t.val + 1) := sfresh0_1_eq (t.val + 1) t.isLt

theorem sfrTab0_2_step : ∀ (t : Fin cfgA.N), sfrTab0_2 (t.val + 1) = (if P0_0 t then false else (if P0_1 t then sfrTab0_2 t.val else sfrTab0_2 t.val)) := fun t => (allFacts t).2.2.1
theorem sfresh0_2_eq : ∀ n, n ≤ cfgA.N → sfresh0_2 n = sfrTab0_2 n
  | 0, _ => by simp only [sfresh0_2, sfrTab0_2, Nat.zero_le, decide_true]
  | n + 1, h => by simp only [sfresh0_2, dif_pos (show n < cfgA.N from h), sfresh0_2_eq n (Nat.le_of_lt h), sfrTab0_2_step ⟨n, h⟩]
theorem sfreshF0_2 (t : Fin cfgA.N) : sfresh0_2 t.val = sfrTab0_2 t.val := sfresh0_2_eq t.val (Nat.le_of_lt t.isLt)
theorem sfreshS0_2 (t : Fin cfgA.N) : sfresh0_2 (t.val + 1) = sfrTab0_2 (t.val + 1) := sfresh0_2_eq (t.val + 1) t.isLt

theorem frTab0_3_step : ∀ (t : Fin cfgA.N),
    frTab0_3 (t.val + 1) = ((cfgA.win (3 : Fin 4)).flush t || (cfgA.idle (3 : Fin 4) (cfgA.grid.coords t) && frTab0_3 t.val)) := fun t => (allFacts t).2.2.2.1
theorem freshF0_3 (t : Fin cfgA.N) : cfgA.fresh (3 : Fin 4) t.val = frTab0_3 t.val :=
  Pipeline.Cfg.fresh_tab cfgA (3 : Fin 4) (frTab0_3) rfl (frTab0_3_step) t.val (Nat.le_of_lt t.isLt)

theorem hyps0_A : ∀ (t : Fin cfgA.N), P0_0 t →
    ((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1) ∧ ((¬(k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1)) ∧ (True)) := fun t => (allFacts t).2.2.2.2.1

theorem hypsR0_A : ∀ (t : Fin cfgA.N), P0_0 t →
    ((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1) ∧ ((¬(k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1)) ∧ (True)) := hyps0_A

theorem sched0_A : ∀ (t : Fin cfgA.N), P0_0 t →
    cfgA.idle (3 : Fin 4) (cfgA.grid.coords t) = true ∧ (cfgA.win (3 : Fin 4)).flush t = false ∧ cfgA.fresh (3 : Fin 4) t.val = true ∧ sfresh0_0 (t.val + 1) = false ∧ sfresh0_1 (t.val + 1) = false ∧ sfresh0_2 (t.val + 1) = false := by
  intro t; rw [freshF0_3 t, sfreshS0_0 t, sfreshS0_1 t, sfreshS0_2 t]; exact (fun t => (allFacts t).2.2.2.2.2.1) t

theorem hyps0_B : ∀ (t : Fin cfgA.N), ¬P0_0 t → P0_1 t →
    (¬((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1)) ∧ ((k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1) ∧ (True)) := fun t => (allFacts t).2.2.2.2.2.2.1

theorem hypsR0_B : ∀ (t : Fin cfgA.N), ¬P0_0 t → P0_1 t →
    (¬((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1)) ∧ ((k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1) ∧ (True)) := hyps0_B

theorem sched0_B : ∀ (t : Fin cfgA.N), ¬P0_0 t → P0_1 t →
    cfgA.idle (3 : Fin 4) (cfgA.grid.coords t) = false ∧ (cfgA.win (3 : Fin 4)).flush t = true ∧ cfgA.fresh (3 : Fin 4) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_3 t, sfreshF0_0 t, sfreshS0_0 t, sfreshF0_1 t, sfreshS0_1 t, sfreshF0_2 t, sfreshS0_2 t]; exact (fun t => (allFacts t).2.2.2.2.2.2.2.1) t

theorem hyps0_C : ∀ (t : Fin cfgA.N), ¬P0_0 t → ¬P0_1 t →
    (¬((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1)) ∧ ((¬(k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1)) ∧ (True)) := fun t => (allFacts t).2.2.2.2.2.2.2.2.1

theorem hypsR0_C : ∀ (t : Fin cfgA.N), ¬P0_0 t → ¬P0_1 t →
    (¬((Scalar.cmpi .ne (Scalar.extui (Scalar.cmpi .eq (View.readAt (Elt Ideal) (tbM0_2).view (Rect.unit (s := S544) (k0_off1 (crd t)) S1.size (k0_off1_inb (crd t))).toLoadRect pinT_2 (Shape.Idx.first (numel1_S1.symm ▸ Nat.one_pos))) 1#32)) 0#32) = 1#1)) ∧ ((¬(k0_cond2 (View.readAt (Elt Ideal) (tbM0_3).view (Rect.unit (s := S544) (k0_off2 (crd t)) S1.size (k0_off2_inb (crd t))).toLoadRect pinT_3 (Shape.Idx.first (numel1_S1.symm ▸ Nat.one_pos))) = 1#1)) ∧ (True)) := hyps0_C

theorem sched0_C : ∀ (t : Fin cfgA.N), ¬P0_0 t → ¬P0_1 t →
    cfgA.idle (3 : Fin 4) (cfgA.grid.coords t) = true ∧ (cfgA.win (3 : Fin 4)).flush t = false ∧ cfgA.fresh (3 : Fin 4) t.val = true ∧ sfresh0_0 t.val = false ∧ sfresh0_0 (t.val + 1) = false ∧ sfresh0_1 t.val = false ∧ sfresh0_1 (t.val + 1) = false ∧ sfresh0_2 t.val = false ∧ sfresh0_2 (t.val + 1) = false := by
  intro t; rw [freshF0_3 t, sfreshF0_0 t, sfreshS0_0 t, sfreshF0_1 t, sfreshS0_1 t, sfreshF0_2 t, sfreshS0_2 t]; exact (fun t => (allFacts t).2.2.2.2.2.2.2.2.2) t

/-- One step: what the output buffer and the accumulators hold after point `t`, from what they held before. -/
def step0 (c : Dev nD) (t : Fin cfgA.N) (prev : (S512x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) : (S512x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if q0 : P0_0 t then
    ((if cfgA.fresh (3 : Fin 4) t.val then default else prev.1), (kernelRun0_A c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) (hypsR0_A t q0).1 (hypsR0_A t q0).2.1).1, (kernelRun0_A c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) (hypsR0_A t q0).1 (hypsR0_A t q0).2.1).2.1, (kernelRun0_A c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) (hypsR0_A t q0).1 (hypsR0_A t q0).2.1).2.2.1)
  else
    if q1 : P0_1 t then
      (out0_B_3 c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_B t q0 q1).1 (hypsR0_B t q0 q1).2.1, (kernelRun0_B c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_B t q0 q1).1 (hypsR0_B t q0 q1).2.1).2.1, (kernelRun0_B c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_B t q0 q1).1 (hypsR0_B t q0 q1).2.1).2.2.1, (kernelRun0_B c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_B t q0 q1).1 (hypsR0_B t q0 q1).2.1).2.2.2.1)
    else
      ((if cfgA.fresh (3 : Fin 4) t.val then default else prev.1), (kernelRun0_C c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_C t q0 q1).1 (hypsR0_C t q0 q1).2.1).1, (kernelRun0_C c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_C t q0 q1).1 (hypsR0_C t q0 q1).2.1).2.2.1)

/-- What they hold after position `n`. -/
def traj0 (c : Dev nD) : (n : ℕ) → n < cfgA.N → (S512x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)
  | 0, h => step0 m ρ c ⟨0, h⟩ (default, default, default, default)
  | n + 1, h => step0 m ρ c ⟨n + 1, h⟩ (traj0 c n (Nat.lt_of_succ_lt h))

/-- What they held before point `t`. -/
def prev0 (c : Dev nD) (t : Fin cfgA.N) : (S512x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 m ρ c (t.val - 1) (by omega)

theorem traj0_eq (c : Dev nD) (t : Fin cfgA.N) : traj0 m ρ c t.val t.isLt = step0 m ρ c t (prev0 m ρ c t) := by
  obtain ⟨n, hn⟩ := t
  cases n with
  | zero => rfl
  | succ n => unfold prev0; simp only [Nat.add_one_ne_zero, dif_neg, not_false_eq_true]; rfl

theorem step0_A (c : Dev nD) (t : Fin cfgA.N) (prev : (S512x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 t) :
    step0 m ρ c t prev = ((if cfgA.fresh (3 : Fin 4) t.val then default else prev.1), (kernelRun0_A c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) (hypsR0_A t q0).1 (hypsR0_A t q0).2.1).1, (kernelRun0_A c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) (hypsR0_A t q0).1 (hypsR0_A t q0).2.1).2.1, (kernelRun0_A c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) (hypsR0_A t q0).1 (hypsR0_A t q0).2.1).2.2.1) := by
  unfold step0; simp only [dif_pos q0]

theorem step0_B (c : Dev nD) (t : Fin cfgA.N) (prev : (S512x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 t) (q1 : P0_1 t) :
    step0 m ρ c t prev = (out0_B_3 c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_B t q0 q1).1 (hypsR0_B t q0 q1).2.1, (kernelRun0_B c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_B t q0 q1).1 (hypsR0_B t q0 q1).2.1).2.1, (kernelRun0_B c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_B t q0 q1).1 (hypsR0_B t q0 q1).2.1).2.2.1, (kernelRun0_B c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_B t q0 q1).1 (hypsR0_B t q0 q1).2.1).2.2.2.1) := by
  unfold step0; simp only [dif_neg q0, dif_pos q1]

theorem step0_C (c : Dev nD) (t : Fin cfgA.N) (prev : (S512x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 t) (q1 : ¬P0_1 t) :
    step0 m ρ c t prev = ((if cfgA.fresh (3 : Fin 4) t.val then default else prev.1), (kernelRun0_C c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_C t q0 q1).1 (hypsR0_C t q0 q1).2.1).1, (kernelRun0_C c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_C t q0 q1).1 (hypsR0_C t q0 q1).2.1).2.1, (kernelRun0_C c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) prev.2.1 prev.2.2.1 prev.2.2.2 (hypsR0_C t q0 q1).1 (hypsR0_C t q0 q1).2.1).2.2.1) := by
  unfold step0; simp only [dif_neg q0, dif_neg q1]

/-- What they held before position `t`. -/
def prev0T (c : Dev nD) (t : Fin (cfgA.N + 1)) : (S512x512.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 m ρ c (t.val - 1) (by omega)

theorem prev0T_castSucc (c : Dev nD) (t : Fin cfgA.N) : prev0T m ρ c t.castSucc = prev0 m ρ c t := by
  unfold prev0T prev0; simp only [Fin.val_castSucc]
theorem prev0T_succ (c : Dev nD) (t : Fin cfgA.N) : prev0T m ρ c t.succ = traj0 m ρ c t.val t.isLt := by
  unfold prev0T; simp only [Fin.val_succ, Nat.add_one_ne_zero, ↓reduceDIte, Nat.add_one_sub_one]

/-- The invariant before point `t`: the accumulators at what the steps so far left, and half of each table. -/
def Phi (m : (ℓ : Loc nD τ sig) → Buf (Elt Ideal) ℓ) (ρ : Dev nD → PrngReg) (c : Dev nD) (t : Fin (cfgA.N + 1)) : sProp 𝕄 :=
  iprop((∃ r, prngReg c r) ∗ (∃ a, ⌜sfresh0_0 t.val = false → a = (prev0T m ρ c t).2.1⌝ ∗ (scM0_0.view.loc (c : Thread nD τ) ↦{fullShare} a)) ∗ (∃ a, ⌜sfresh0_1 t.val = false → a = (prev0T m ρ c t).2.2.1⌝ ∗ (scM0_1.view.loc (c : Thread nD τ) ↦{fullShare} a)) ∗ (∃ a, ⌜sfresh0_2 t.val = false → a = (prev0T m ρ c t).2.2.2⌝ ∗ (scM0_2.view.loc (c : Thread nD τ) ↦{fullShare} a)) ∗ (tbM0_0.view.loc (c : Thread nD τ) ↦{fullShare.right} pinT_0) ∗ (tbM0_1.view.loc (c : Thread nD τ) ↦{fullShare.right} pinT_1) ∗ (tbM0_2.view.loc (c : Thread nD τ) ↦{fullShare.right} pinT_2) ∗ (tbM0_3.view.loc (c : Thread nD τ) ↦{fullShare.right} pinT_3) ∗ (tbM0_4.view.loc (c : Thread nD τ) ↦{fullShare.right} pinT_4) ∗ (tbM0_5.view.loc (c : Thread nD τ) ↦{fullShare.right} pinT_5))

/-- What the pipeline is told of every window at every point. -/
def dats (_ : Fin 1) (c : Dev nD) : Dat τ (Elt Ideal) Unit ℕ (UR sig nD τ) ℕ cfgA c where
  A w := (s₀ m ρ).mem ((cfgA.win w).arr.view.loc (c : Thread nD τ))
  after w t := match w with
    | ⟨0, _⟩ => iblk m ρ c (0 : Fin 4) t
    | ⟨1, _⟩ => iblk m ρ c (1 : Fin 4) t
    | ⟨2, _⟩ => iblk m ρ c (2 : Fin 4) t
    | ⟨3, _⟩ => (traj0 m ρ c t.val t.isLt).1
  Φ t := Phi m ρ c t
  q w := Pipeline.shareOf spec0 w
  owed _ := 0

theorem after0_0 (c : Dev nD) (t : Fin cfgA.N) : (dats m ρ 0 c).after (0 : Fin 4) t = iblk m ρ c (0 : Fin 4) t := rfl
theorem after0_1 (c : Dev nD) (t : Fin cfgA.N) : (dats m ρ 0 c).after (1 : Fin 4) t = iblk m ρ c (1 : Fin 4) t := rfl
theorem after0_2 (c : Dev nD) (t : Fin cfgA.N) : (dats m ρ 0 c).after (2 : Fin 4) t = iblk m ρ c (2 : Fin 4) t := rfl
theorem after0_3 (c : Dev nD) (t : Fin cfgA.N) : (dats m ρ 0 c).after (3 : Fin 4) t = (traj0 m ρ c t.val t.isLt).1 := rfl

/-- An input window holds its block when the body runs. -/
theorem before0_0 (c : Dev nD) (t : Fin cfgA.N) (d) : (dats m ρ 0 c).before (0 : Fin 4) t d = iblk m ρ c (0 : Fin 4) t :=
  ((dats m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin cfgA.N) (d) : (dats m ρ 0 c).before (1 : Fin 4) t d = iblk m ρ c (1 : Fin 4) t :=
  ((dats m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin cfgA.N) (d) : (dats m ρ 0 c).before (2 : Fin 4) t d = iblk m ρ c (2 : Fin 4) t :=
  ((dats m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The output's contents carry through the points that leave it alone. -/
theorem hcarry0_3 (c : Dev nD) : ∀ (t : Fin cfgA.N) (ht : t.val ≠ 0), cfgA.idle (3 : Fin 4) (cfgA.grid.coords t) = true → cfgA.fresh (3 : Fin 4) t.val = false →
    (dats m ρ 0 c).after (3 : Fin 4) t = (dats m ρ 0 c).after (3 : Fin 4) ⟨t.val - 1, by omega⟩ := by
  intro t ht hi hf
  rw [after0_3, after0_3, traj0_eq]
  by_cases q0 : P0_0 t
  · rw [step0_A m ρ c t _ q0]
    simp only [hf, Bool.false_eq_true, ↓reduceIte]
    unfold prev0; rw [dif_neg ht]
  · by_cases q1 : P0_1 t
    · obtain ⟨i3, -, -, -, -, -, -, -, -⟩ := sched0_B t q0 q1
      rw [i3] at hi; exact absurd hi (by decide)
    · rw [step0_C m ρ c t _ q0 q1]
      simp only [hf, Bool.false_eq_true, ↓reduceIte]
      unfold prev0; rw [dif_neg ht]

/-- The output buffer, when the body runs: anything if nothing was stored since its last write-back, else what the point before left. -/
theorem before0_3 (c : Dev nD) (t : Fin cfgA.N) (d) :
    (dats m ρ 0 c).before (3 : Fin 4) t d = if cfgA.fresh (3 : Fin 4) t.val then d else (prev0 m ρ c t).1 := by
  rw [(dats m ρ 0 c).before_out_traj (3 : Fin 4) rfl (fun _ _ => rfl) (hcarry0_3 m ρ c) t.val t rfl d]
  by_cases hf : cfgA.fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-- The body at point `t`, as the pipeline calls it. -/
abbrev bodyAt0 (t : Fin cfgA.N) : Prog (TpuEff nD τ sig (Elt Ideal) Λ₀ .tc) PUnit :=
  cc0_gqa_attention (crd t) (Memref.whole main_c) (Memref.isWhole_whole _) (Memref.whole main_c_0) (Memref.isWhole_whole _) (Memref.whole main_c_1) (Memref.isWhole_whole _) (Memref.whole main_c_2) (Memref.isWhole_whole _) (Memref.whole main_c_3) (Memref.isWhole_whole _) (Memref.whole main_c_4) (Memref.isWhole_whole _) (ms0_0 t) (hs0_0 t) (ms0_1 t) (hs0_1 t) (ms0_2 t) (hs0_2 t) (ms0_3 t) (hs0_3 t) (Memref.whole cc0_scratch0) (Memref.isWhole_whole _) (Memref.whole cc0_scratch1) (Memref.isWhole_whole _) (Memref.whole cc0_scratch2) (Memref.isWhole_whole _)

set_option maxHeartbeats 4000000 in
/-- The body at any point takes the invariant to the next. -/
theorem sound_body (c : Dev nD) (t : Fin cfgA.N) :
    iprop((dats m ρ 0 c).Φ t.castSucc ∗ (dats m ρ 0 c).owesAt () t.castSucc
        ∗ (∃ d, owns (c : Thread nD τ) (ms0_0 t) fullShare ((dats m ρ 0 c).before (0 : Fin 4) t d))
        ∗ (∃ d, owns (c : Thread nD τ) (ms0_1 t) fullShare ((dats m ρ 0 c).before (1 : Fin 4) t d))
        ∗ (∃ d, owns (c : Thread nD τ) (ms0_2 t) fullShare ((dats m ρ 0 c).before (2 : Fin 4) t d))
        ∗ (∃ d, owns (c : Thread nD τ) (ms0_3 t) fullShare ((dats m ρ 0 c).before (3 : Fin 4) t d)))
      ⊢ wp frame (wpE (defs₀ (F := Ideal)) Variants.none c none) Set.univ (bodyAt0 t) fun _ =>
          iprop((dats m ρ 0 c).Φ t.succ ∗ (dats m ρ 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m ρ 0 c).before w t d))
                  | true => owns (c : Thread nD τ) ((cfgA.win w).stage (cfgA.slots t w)) fullShare ((dats m ρ 0 c).after w t)
                | false => owns (c : Thread nD τ) ((cfgA.win w).stage (cfgA.slots t w)) fullShare ((dats m ρ 0 c).after w t)) := by
  rw [bigSep_W0]
  by_cases q0 : P0_0 t
  · obtain ⟨i3, f3, fr3, sfn0, sfn1, sfn2⟩ := sched0_A t q0
    have F0 := hypsR0_A t q0
    have hc0 := F0.1; have F1 := F0.2
    have k0_h2 := F1.1; have F2 := F1.2
    clear F0 F1 F2
    rewrite [i3]
    simp only [before0_0, before0_1, before0_2, before0_3, after0_0, after0_1, after0_2, after0_3, f3]
    simp only [fr3, Bool.false_eq_true, ↓reduceIte]
    rewrite [show (dats m ρ 0 c).Φ t.succ = Phi m ρ c t.succ from rfl, show (dats m ρ 0 c).Φ t.castSucc = Phi m ρ c t.castSucc from rfl,
      show (dats m ρ 0 c).owesAt () t.succ = (dats m ρ 0 c).owesAt () t.castSucc from rfl]
    try rewrite [traj0_eq, step0_A m ρ c t _ q0]
    unfold Phi; simp only [prev0T_castSucc, prev0T_succ, traj0_eq, step0_A m ρ c t _ q0, Fin.val_castSucc, Fin.val_succ]
    iintro ⟨⟨HP, ⟨%a0, %ha0, HS0⟩, ⟨%a1, %ha1, HS1⟩, ⟨%a2, %ha2, HS2⟩, HT0, HT1, HT2, HT3, HT4, HT5⟩, Ho, ⟨%d0, H0⟩, ⟨%d1, H1⟩, ⟨%d2, H2⟩, ⟨%d3, H3⟩⟩
    iapply ((kernelRun0_A c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) hc0 k0_h2).2.2.2 _ a0 a1 a2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    isplitl [HT3]; · iexact HT3
    isplitl [HT4]; · iexact HT4
    isplitl [HT5]; · iexact HT5
    isplitl [H3]; · iexact H3
    isplitl [HS0]; · iexact HS0
    isplitl [HS1]; · iexact HS1
    isplitl [HS2]; · iexact HS2
    iintro ⟨H0, H1, H2, HT0, HT1, HT2, HT3, HT4, HT5, H3, HS0, HS1, HS2⟩
    isplitl [HP HS0 HS1 HS2 HT0 HT1 HT2 HT3 HT4 HT5]
    · isplitl [HP]; · iexact HP
      isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HT0]
      · iexact HT0
      isplitl [HT1]
      · iexact HT1
      isplitl [HT2]
      · iexact HT2
      isplitl [HT3]
      · iexact HT3
      isplitl [HT4]
      · iexact HT4
      iexact HT5
    isplitl [Ho]; · iexact Ho
    isplitl [H0]
    · iapply owns_of_rep; iexact H0
    isplitl [H1]
    · iapply owns_of_rep; iexact H1
    isplitl [H2]
    · iapply owns_of_rep; iexact H2
    first | (iexists d3; iexact H3) | iexact H3
  · by_cases q1 : P0_1 t
    · obtain ⟨i3, f3, fr3, sf0, sfn0, sf1, sfn1, sf2, sfn2⟩ := sched0_B t q0 q1
      have F0 := hypsR0_B t q0 q1
      have hc0 := F0.1; have F1 := F0.2
      have k0_h2 := F1.1; have F2 := F1.2
      clear F0 F1 F2
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_B m ρ c t _ q0 q1]
      unfold Phi; simp only [prev0T_castSucc, prev0T_succ, traj0_eq, step0_B m ρ c t _ q0 q1, Fin.val_castSucc, Fin.val_succ]
      simp only [exists_held sf0, exists_held sf1, exists_held sf2]
      iintro ⟨⟨HP, HS0, HS1, HS2, HT0, HT1, HT2, HT3, HT4, HT5⟩, Ho, ⟨%d0, H0⟩, ⟨%d1, H1⟩, ⟨%d2, H2⟩, ⟨%d3, H3⟩⟩
      iapply ((kernelRun0_B c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) _ _ _ hc0 k0_h2).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [HT5]; · iexact HT5
      isplitl [H3]; · iexists _; iexact H3
      isplitl [HS0]; · iexact HS0
      isplitl [HS1]; · iexact HS1
      isplitl [HS2]; · iexact HS2
      iintro ⟨H0, H1, H2, HT0, HT1, HT2, HT3, HT4, HT5, ⟨%e3, H3⟩, HS0, HS1, HS2⟩
      isplitl [HP HS0 HS1 HS2 HT0 HT1 HT2 HT3 HT4 HT5]
      · isplitl [HP]; · iexact HP
        isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        isplitl [HT2]
        · iexact HT2
        isplitl [HT3]
        · iexact HT3
        isplitl [HT4]
        · iexact HT4
        iexact HT5
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_B_3 c _ _ _ _ _ _ _ _ _ _ _ _ _ _ _ _ _ _ _ _ _ _ _)
    · obtain ⟨i3, f3, fr3, sf0, sfn0, sf1, sfn1, sf2, sfn2⟩ := sched0_C t q0 q1
      have F0 := hypsR0_C t q0 q1
      have hc0 := F0.1; have F1 := F0.2
      have k0_h2 := F1.1; have F2 := F1.2
      clear F0 F1 F2
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_C m ρ c t _ q0 q1]
      unfold Phi; simp only [prev0T_castSucc, prev0T_succ, traj0_eq, step0_C m ρ c t _ q0 q1, Fin.val_castSucc, Fin.val_succ]
      simp only [exists_held sf0, exists_held sf1, exists_held sf2]
      iintro ⟨⟨HP, HS0, HS1, HS2, HT0, HT1, HT2, HT3, HT4, HT5⟩, Ho, ⟨%d0, H0⟩, ⟨%d1, H1⟩, ⟨%d2, H2⟩, ⟨%d3, H3⟩⟩
      iapply ((kernelRun0_C c (crd t) (ms0_0 t) (hs0_0 t) (ms0_1 t) (hs0_1 t) (ms0_2 t) (hs0_2 t) (ms0_3 t) (hs0_3 t) pinT_0 pinT_1 pinT_2 pinT_3 pinT_4 pinT_5 (iblk m ρ c (0 : Fin 4) t) (iblk m ρ c (1 : Fin 4) t) (iblk m ρ c (2 : Fin 4) t) _ _ _ hc0 k0_h2).2.2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [HT3]; · iexact HT3
      isplitl [HT4]; · iexact HT4
      isplitl [HT5]; · iexact HT5
      isplitl [H3]; · iexact H3
      isplitl [HS0]; · iexact HS0
      isplitl [HS1]; · iexact HS1
      isplitl [HS2]; · iexact HS2
      iintro ⟨H0, H1, H2, HT0, HT1, HT2, HT3, HT4, HT5, H3, HS0, HS1, HS2⟩
      isplitl [HP HS0 HS1 HS2 HT0 HT1 HT2 HT3 HT4 HT5]
      · isplitl [HP]; · iexact HP
        isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        isplitl [HT2]
        · iexact HT2
        isplitl [HT3]
        · iexact HT3
        isplitl [HT4]
        · iexact HT4
        iexact HT5
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3

theorem body_obligation (c : Dev nD) : BodyObligation (dats m ρ 0 c) (defs₀ (F := Ideal)) Variants.none () Set.univ := fun t => by
  rw [bigSep_W0]
  exact sound_body m ρ c t

theorem prefHeld_eq (c : Dev nD) (q : Fin 6 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2) ∗ (((c : Thread nD τ).loc main_c_2) ↦{q 3} v 3) ∗ (((c : Thread nD τ).loc main_c_3) ↦{q 4} v 4) ∗ (((c : Thread nD τ).loc main_c_4) ↦{q 5} v 5)) := by
  unfold Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

theorem phi0_intro (c : Dev nD) :
    iprop(Pipeline.ΦA spec0 c ∗ Pipeline.ΦT pre0 (adm).1 c) ⊢ (dats m ρ 0 c).Φ 0 := by
  unfold Pipeline.ΦA Pipeline.ΦT
  rw [prefHeld_eq, scopedRest0_eq, show (dats m ρ 0 c).Φ 0 = Phi m ρ c 0 from rfl]
  unfold Phi
  iintro ⟨⟨⟨⟨%a0, HS0⟩, ⟨%a1, HS1⟩, ⟨%a2, HS2⟩⟩, HP⟩, ⟨HT0, HT1, HT2, HT3, HT4, HT5⟩⟩
  isplitl [HP]; · iexact HP
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HS2]
  · iexists a2; isplitr; swap
    · iexact HS2
    · ipureintro; intro h; exact absurd (h.symm.trans (show sfresh0_2 0 = true from rfl)) Bool.false_ne_true
  isplitl [HT0]
  · iexact HT0
  isplitl [HT1]
  · iexact HT1
  isplitl [HT2]
  · iexact HT2
  isplitl [HT3]
  · iexact HT3
  isplitl [HT4]
  · iexact HT4
  iexact HT5

theorem phiN_exit (c : Dev nD) : (dats m ρ 0 c).Φ (Fin.last cfgA.N) ⊢ Pipeline.ΦA spec0 c := by
  unfold Pipeline.ΦA
  rw [scopedRest0_eq, show (dats m ρ 0 c).Φ (Fin.last cfgA.N) = Phi m ρ c (Fin.last _) from rfl]
  unfold Phi
  iintro ⟨HP, ⟨%a0, -, HS0⟩, ⟨%a1, -, HS1⟩, ⟨%a2, -, HS2⟩, -, -, -, -, -, -⟩
  isplitr [HP]
  · isplitl [HS0]
    · iexists a0; iexact HS0
    isplitl [HS1]
    · iexists a1; iexact HS1
    iexists a2; iexact HS2
  iexact HP

/-- Contents of the buffers when the pipeline starts: the launch memory with the tables written. -/
def V₀ (c : Dev nD) : Valuation τ sig (Elt Ideal) := StableHlo.after [hostOps0 (F := Ideal)].flatten (fun b => m (c, b))

/-- Writing the tables leaves the arrays as they were. -/
theorem V₀_arr (c : Dev nD) (w : Fin 4) : V₀ m c (Proc.devRef .tc (Pipeline.arrRef spec0 w)) = m (c, Proc.devRef .tc (Pipeline.arrRef spec0 w)) := by
  unfold V₀
  refine StableHlo.after_of_forall_not_mem _ _ fun op hop => ?_
  simp only [hostOps0, List.flatten_cons, List.flatten_nil, List.append_nil, List.mem_cons, List.not_mem_nil, or_false] at hop
  rcases hop with rfl | rfl | rfl | rfl | rfl | rfl <;> revert w <;> decide

/-- The tables hold the closed forms when the pipeline starts. -/
theorem V₀_pre (c : Dev nD) (k : Fin 6) : V₀ m c (Proc.devRef .tc (pre0.ref k)) = (adm).1 k := by
  match k with
  | 0 => exact (show _ = (fun i : S544.Idx => lit0 (S544.rowMajor i)) from rfl).trans lit0_eq
  | 1 => exact (show _ = (fun i : S544.Idx => lit1 (S544.rowMajor i)) from rfl).trans lit1_eq
  | 2 => exact (show _ = (fun i : S544.Idx => lit2 (S544.rowMajor i)) from rfl).trans lit2_eq
  | 3 => exact (show _ = (fun i : S544.Idx => lit3 (S544.rowMajor i)) from rfl).trans lit3_eq
  | 4 => exact (show _ = (fun i : S544.Idx => lit4 (S544.rowMajor i)) from rfl).trans lit4_eq
  | 5 => exact (show _ = (fun i : S544.Idx => lit5 (S544.rowMajor i)) from rfl).trans lit5_eq

/-- Every weakly fair execution terminates, with every array at its computed contents and every counter at zero. -/
theorem run_main : θ_run (defs (F := Ideal)) (onTc (τ := τ) (main (F := Ideal))) (s₀ m ρ) (fun r =>
    (∀ (c : Dev nD) (w : Fin 4), r.2.mem ((spec0 w).arr.view.loc (c : Thread nD τ)) = (dats m ρ 0 c).arrAt w cfgA.N) ∧ r.2.sem = fun _ => 0) :=
  Pipeline.θ_run_frameP_around_track_shared pcfgs (fun _ => adm) (dats m ρ) (0 : Fin 1) launch₀0 defs₀ Variants.none m ρ main
    (fun c => (body_obligation m ρ c).loose) (fun c w _ => rfl) (fun _ _ => rfl) (V₀ m) []
    (fun _ h => absurd h List.not_mem_nil) (fun _ h => absurd h List.not_mem_nil) (fun _ h => absurd h List.not_mem_nil)
    (Pipeline.hmainP_around pcfgs (0 : Fin 1) defs₀ Variants.none m main [hostOps0] []
      hostOps0_sub ⟨rfl, rfl, rfl, rfl, rfl, rfl⟩ (fun c => main_chain c))
    (fun c w => (V₀_arr m c w).symm) (V₀_pre m) (phi0_intro m ρ) (phiN_exit m ρ) _
    (fun r h => ⟨fun c w => (h.1 c).1 w, h.2⟩)

/-- The frame: every execution terminates, the arguments end unchanged and every counter ends at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c 0).trans ((dats m ρ 0 c).arrAt_in (0 : Fin 4) rfl _), (h.1 c 2).trans ((dats m ρ 0 c).arrAt_in (2 : Fin 4) rfl _)⟩, h.2⟩) (run_main m ρ)

end Cert.KernelIdeal.Attn

end
-- ==== Proof.Attn.KernelIdeal.Value.lean ====
/- The attention the kernel leaves, element by element: the accumulators between the steps of a query block, the block
   its last step writes, and the whole result. -/
module

public import proofs.«01_k».proof.Proof.Attn.Spec
public import proofs.«01_k».proof.Proof.Attn.KernelIdeal.Advance
public import proofs.«01_k».proof.Proof.Attn.KernelIdeal.Step
public import proofs.«01_k».proof.Proof.Attn.KernelIdeal.Places
public import proofs.«01_k».proof.Proof.Attn.KernelIdeal.Frame
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem Cert.Attn
open Idealize.ShloMosaic.Pipeline (Dat Cfg Window)

variable (m : (ℓ : Loc nD τ sig) → Buf (Elt Ideal) ℓ) (ρ : Dev nD → PrngReg) (c : Dev nD)

/-- The queries and keys, and the values, as the kernel finds them. -/
def keysOf : ℕ → ℕ → EReal := entry (n := 24576) (k := 5120) (m ((c : Thread nD τ).loc main_arg0))
def valuesOf : ℕ → ℕ → EReal := entry (n := 24576) (k := 6144) (m ((c : Thread nD τ).loc main_arg1))

/-! ### Arithmetic of the steps -/

/-- The row of a step's query `r`, the sequence it lies in, and the key block's place in that sequence. -/
theorem seq_key (x r j : ℕ) (hx : x < 544) (hr : r < 512) : lo (qtN x * 512 + r) + (posN x * 1024 + j) = ktN x * 1024 + j := by
  unfold lo qtN posN ktN
  by_cases h : x < 32
  · simp only [if_pos h]; rw [if_pos (by omega)]; omega
  · simp only [if_neg h]; rw [if_neg (by omega)]; omega

theorem seq_len (x r : ℕ) (hx : x < 544) (hr : r < 512) : len (qtN x * 512 + r) = (lastN x + 1) * 1024 := by
  unfold len qtN lastN
  by_cases h : x < 32
  · simp only [if_pos h]; rw [if_pos (by omega)]
  · simp only [if_neg h]; rw [if_neg (by omega)]

/-- The step before one that is not the first of its query block. -/
theorem step_back (n : ℕ) (h : posN (n % 544) ≠ 0) : n ≠ 0 ∧ (n - 1) % 544 = n % 544 - 1 ∧ (n - 1) / 544 = n / 544
    ∧ qtN (n % 544 - 1) = qtN (n % 544) ∧ posN (n % 544 - 1) + 1 = posN (n % 544) ∧ posN (n % 544 - 1) ≠ lastN (n % 544 - 1) := by
  have hx : n % 544 < 544 := Nat.mod_lt _ (by decide)
  have h0 : n % 544 ≠ 0 := fun e => h (by rw [e]; rfl)
  refine ⟨fun e => h0 (by rw [e]), by omega, by omega, ?_⟩
  generalize n % 544 = x at *
  unfold posN at h
  unfold qtN posN lastN
  by_cases h1 : x < 32
  · rw [if_pos h1] at h
    simp only [if_pos h1, if_pos (show x - 1 < 32 by omega)]; omega
  · rw [if_neg h1] at h
    simp only [if_neg h1, if_neg (show ¬ x - 1 < 32 by omega)]; omega

/-! ### The blocks -/

theorem queries_at (t : Fin cfgA.N) (r k : Fin 512) :
    iblk m ρ c (0 : Fin 4) t (ix2 r k) = keysOf m c (qtN (t.val % 544) * 512 + r.val) (t.val / 544 * 512 + k.val) := by
  obtain ⟨h0, h1⟩ := place_q t
  unfold iblk keysOf
  refine (entry_of _ (((cfgA.win (0 : Fin 4)).rect t).emb (ix2 r k)) ?_ ?_).symm
  · exact (Window.rect_emb_val (cfgA.win (0 : Fin 4)) t (ix2 r k) (0 : Fin 2)).trans (by rw [h0]; rfl)
  · exact (Window.rect_emb_val (cfgA.win (0 : Fin 4)) t (ix2 r k) (1 : Fin 2)).trans (by rw [h1]; rfl)

theorem keys_at (t : Fin cfgA.N) (j : Fin 1024) (e : Fin 128) :
    iblk m ρ c (1 : Fin 4) t (ix2 j e) = keysOf m c (ktN (t.val % 544) * 1024 + j.val) ((32 + t.val / 544) * 128 + e.val) := by
  obtain ⟨h0, h1⟩ := place_k t
  unfold iblk keysOf
  refine (entry_of _ (((cfgA.win (1 : Fin 4)).rect t).emb (ix2 j e)) ?_ ?_).symm
  · exact (Window.rect_emb_val (cfgA.win (1 : Fin 4)) t (ix2 j e) (0 : Fin 2)).trans (by rw [h0]; rfl)
  · exact (Window.rect_emb_val (cfgA.win (1 : Fin 4)) t (ix2 j e) (1 : Fin 2)).trans (by rw [h1]; rfl)

theorem values_at (t : Fin cfgA.N) (j : Fin 1024) (e : Fin 128) :
    iblk m ρ c (2 : Fin 4) t (ix2 j e) = valuesOf m c (ktN (t.val % 544) * 1024 + j.val) ((40 + t.val / 544) * 128 + e.val) := by
  obtain ⟨h0, h1⟩ := place_v t
  unfold iblk valuesOf
  refine (entry_of _ (((cfgA.win (2 : Fin 4)).rect t).emb (ix2 j e)) ?_ ?_).symm
  · exact (Window.rect_emb_val (cfgA.win (2 : Fin 4)) t (ix2 j e) (0 : Fin 2)).trans (by rw [h0]; rfl)
  · exact (Window.rect_emb_val (cfgA.win (2 : Fin 4)) t (ix2 j e) (1 : Fin 2)).trans (by rw [h1]; rfl)

/-- The scores and the values of query `r` of a point, in head `g` of its group. -/
abbrev sAt (n : ℕ) (g : Fin 4) (r : Fin 512) : ℕ → EReal :=
  scoreAt (keysOf m c) (qtN (n % 544) * 512 + r.val) (4 * (n / 544) + g.val) (lo (qtN (n % 544) * 512 + r.val))
abbrev vAt (n : ℕ) (g : Fin 4) (r : Fin 512) (d : Fin 128) : ℕ → EReal :=
  valueAt (valuesOf m c) (4 * (n / 544) + g.val) (lo (qtN (n % 544) * 512 + r.val)) d.val

theorem score_at (t : Fin cfgA.N) (g : Fin 4) (r : Fin 512) (j : Fin 1024) :
    score (iblk m ρ c (1 : Fin 4) t) (panel (iblk m ρ c (0 : Fin 4) t) g) r j
      = sAt m c t.val g r (posN (t.val % 544) * 1024 + j.val) := by
  unfold score sAt scoreAt
  refine Finset.sum_congr rfl fun e _ => ?_
  rw [seq_key _ _ _ (Nat.mod_lt _ (by decide)) r.isLt, keys_at]
  refine congrArg₂ (· * ·) ((queries_at m ρ c t r _).trans ?_) ?_
  · show keysOf m c _ (t.val / 544 * 512 + (128 * g.val + e.val)) = _
    congr 1; omega
  · have hg := g.isLt
    congr 1; omega

theorem value_at (t : Fin cfgA.N) (g : Fin 4) (r : Fin 512) (d : Fin 128) (j : Fin 1024) :
    iblk m ρ c (2 : Fin 4) t (ix2 j d) = vAt m c t.val g r d (posN (t.val % 544) * 1024 + j.val) := by
  unfold vAt valueAt
  rw [seq_key _ _ _ (Nat.mod_lt _ (by decide)) r.isLt, values_at]
  have hg := g.isLt
  congr 1; omega

/-! ### The accumulators between the steps of a query block -/

/-- The accumulators hold the maximum, the sum of the weights and the weighted values of the first `k` scores. -/
def Holds (n k : ℕ) (a : (S512x512.Idx → Elt Ideal .bf16) × Buf (Elt Ideal) ((c : Thread nD τ).loc cc0_scratch0)
    × Buf (Elt Ideal) ((c : Thread nD τ).loc cc0_scratch1) × Buf (Elt Ideal) ((c : Thread nD τ).loc cc0_scratch2)) : Prop :=
  ∀ (g : Fin 4) (r : Fin 512),
    scM0_0.view.read (Elt Ideal) a.2.1 (ix3 g r 0) = top (sAt m c n g r) k
    ∧ scM0_1.view.read (Elt Ideal) a.2.2.1 (ix3 g r 0) = mass (sAt m c n g r) k
    ∧ ∀ d : Fin 128, scM0_2.view.read (Elt Ideal) a.2.2.2 (ix3 g r d) = heap (sAt m c n g r) (vAt m c n g r d) k

theorem holds_first (t : Fin cfgA.N) (q0 : P0_0 t) : Holds m c t.val 1024 (traj0 m ρ c t.val t.isLt) := by
  have hp := (first_iff t).mp q0
  rw [traj0_eq, step0_A m ρ c t _ q0]
  intro g r
  dsimp only
  have hs : ∀ j : Fin 1024, score (iblk m ρ c (1 : Fin 4) t) (panel (iblk m ρ c (0 : Fin 4) t) g) r j = sAt m c t.val g r (0 + j.val) := by
    intro j; rw [score_at, hp, Nat.zero_mul]
  refine ⟨(runA_max _ _ _ _ _ _ _ _ _ _ _ _ _ _ _ _ _ _ _ _ _ g r).trans (newMax_top (n := 0) hs (top_zero _).symm),
    (runA_mass _ _ _ _ _ _ _ _ _ _ _ _ _ _ _ _ _ _ _ _ _ g r).trans (newMass_mass (n := 0) hs (top_zero _).symm (mass_zero _).symm), fun d => ?_⟩
  refine (runA_heap _ _ _ _ _ _ _ _ _ _ _ _ _ _ _ _ _ _ _ _ _ g r d).trans (newHeap_heap (n := 0) hs (fun j => ?_) (top_zero _).symm (heap_zero _ _).symm)
  rw [value_at m ρ c t g r d j, hp, Nat.zero_mul]

/-- What a step that is not a first one finds. -/
theorem prev_of (t : Fin cfgA.N) (h : posN (t.val % 544) ≠ 0)
    (ih : Holds m c (t.val - 1) ((posN ((t.val - 1) % 544) + 1) * 1024) (traj0 m ρ c (t.val - 1) (by omega))) :
    Holds m c t.val (posN (t.val % 544) * 1024) (prev0 m ρ c t) := by
  obtain ⟨h0, h1, h2, h3, h4, _⟩ := step_back t.val h
  unfold prev0
  rw [dif_neg h0]
  unfold Holds sAt vAt at ih ⊢
  rw [h1, h2, h3, h4] at ih
  exact ih

theorem holds_next (t : Fin cfgA.N) (q0 : ¬ P0_0 t) (q1 : ¬ P0_1 t)
    (ih : Holds m c t.val (posN (t.val % 544) * 1024) (prev0 m ρ c t)) :
    Holds m c t.val (posN (t.val % 544) * 1024 + 1024) (traj0 m ρ c t.val t.isLt) := by
  rw [traj0_eq, step0_C m ρ c t _ q0 q1]
  intro g r
  dsimp only
  obtain ⟨i0, i1, i2⟩ := ih g r
  refine ⟨(runC_max _ _ _ _ _ _ _ _ _ _ _ _ _ _ _ _ _ _ _ _ _ _ _ _ g r).trans (newMax_top (score_at m ρ c t g r) i0),
    (runC_mass _ _ _ _ _ _ _ _ _ _ _ _ _ _ _ _ _ _ _ _ _ _ _ _ g r).trans (newMass_mass (score_at m ρ c t g r) i0 i1), fun d => ?_⟩
  exact (runC_heap _ _ _ _ _ _ _ _ _ _ _ _ _ _ _ _ _ _ _ _ _ _ _ _ g r d).trans
    (newHeap_heap (score_at m ρ c t g r) (value_at m ρ c t g r d) i0 (i2 d))

/-- After every step but a last one the accumulators hold the keys so far. -/
theorem holds : ∀ (n : ℕ) (hn : n < cfgA.N), posN (n % 544) ≠ lastN (n % 544) →
    Holds m c n ((posN (n % 544) + 1) * 1024) (traj0 m ρ c n hn) := by
  intro n
  induction n using Nat.strong_induction_on with
  | _ n ih =>
    intro hn hl
    by_cases q0 : P0_0 ⟨n, hn⟩
    · have hp := (first_iff ⟨n, hn⟩).mp q0
      have := holds_first m ρ c ⟨n, hn⟩ q0
      simp only at hp this
      rw [hp]; exact this
    · have hp : posN (n % 544) ≠ 0 := fun h => q0 ((first_iff ⟨n, hn⟩).mpr h)
      have q1 : ¬ P0_1 ⟨n, hn⟩ := fun h => hl ((last_iff ⟨n, hn⟩).mp h)
      obtain ⟨h0, h1, h2, h3, h4, h5⟩ := step_back n hp
      have hprev := prev_of m ρ c ⟨n, hn⟩ hp (ih (n - 1) (by omega) (by have : n < cfgA.N := hn; omega) (by rw [h1]; exact h5))
      have := holds_next m ρ c ⟨n, hn⟩ q0 q1 hprev
      rw [Nat.add_mul, Nat.one_mul]; exact this

/-! ### The result -/

/-- A last step writes the attention of its 512 rows and of the four heads of its group. -/
theorem block_at (t : Fin cfgA.N) (q0 : ¬ P0_0 t) (q1 : P0_1 t) (r k : Fin 512) :
    (traj0 m ρ c t.val t.isLt).1 (ix2 r k)
      = attention (keysOf m c) (valuesOf m c) (qtN (t.val % 544) * 512 + r.val) (t.val / 544 * 512 + k.val) := by
  have hp : posN (t.val % 544) ≠ 0 := fun h => q0 ((first_iff t).mpr h)
  have hl := (last_iff t).mp q1
  obtain ⟨h0, h1, h2, h3, h4, h5⟩ := step_back t.val hp
  have hprev := prev_of m ρ c t hp (holds m ρ c (t.val - 1) (by have := t.isLt; omega) (by rw [h1]; exact h5))
  have hk := k.isLt
  let g : Fin 4 := ⟨k.val / 128, by omega⟩
  let d : Fin 128 := ⟨k.val % 128, Nat.mod_lt _ (by decide)⟩
  have hkg : k.val = 128 * g.val + d.val := by show k.val = 128 * (k.val / 128) + k.val % 128; omega
  obtain ⟨i0, i1, i2⟩ := hprev g r
  rw [traj0_eq, step0_B m ρ c t _ q0 q1]
  dsimp only
  refine (runB_out _ _ _ _ _ _ _ _ _ _ _ _ _ _ _ _ _ _ _ _ _ _ _ _ g r d k hkg).trans ?_
  rw [newHeap_heap (score_at m ρ c t g r) (value_at m ρ c t g r d) i0 (i2 d), newMass_mass (score_at m ρ c t g r) i0 i1]
  have e1 : (t.val / 544 * 512 + k.val) / 128 = 4 * (t.val / 544) + g.val := by show _ = _ + k.val / 128; omega
  have e2 : (t.val / 544 * 512 + k.val) % 128 = d.val := by show _ = k.val % 128; omega
  have e3 := seq_len (t.val % 544) r.val (Nat.mod_lt _ (by decide)) r.isLt
  unfold attention mean
  rw [e1, e2, e3, ← hl, Nat.add_mul, Nat.one_mul]

/-- The whole result. -/
def result : Buf (Elt Ideal) ((c : Thread nD τ).loc main_v0) :=
  fun i : S24576x4096.Idx => attention (keysOf m c) (valuesOf m c) (i 0).val (i 1).val

theorem last_of_flush (t : Fin cfgA.N) (hf : (cfgA.win (3 : Fin 4)).flush t = true) : ¬ P0_0 t ∧ P0_1 t := by
  by_cases q0 : P0_0 t
  · have := (sched0_A t q0).2.1; rw [hf] at this; exact absurd this (by decide)
  · by_cases q1 : P0_1 t
    · exact ⟨q0, q1⟩
    · have := (sched0_C t q0 q1).2.1; rw [hf] at this; exact absurd this (by decide)

theorem mem_out (t : Fin cfgA.N) (i : S24576x4096.Idx) :
    i ∈ ((cfgA.win (3 : Fin 4)).blk t).view.set
      ↔ ∀ a : Fin 2, (cfgA.win (3 : Fin 4)).index t a * S512x512.size a ≤ (i a).val
          ∧ (i a).val < (cfgA.win (3 : Fin 4)).index t a * S512x512.size a + S512x512.size a := by
  show i ∈ ((View.whole main_v0).slice ((cfgA.win (3 : Fin 4)).rect t)).set ↔ _
  rw [View.set_slice_whole, Rect.mem_set_unit]
  exact Iff.rfl

theorem cover (i : S24576x4096.Idx) : ∃ t : Fin cfgA.N, (cfgA.win (3 : Fin 4)).flush t = true ∧ i ∈ ((cfgA.win (3 : Fin 4)).blk t).view.set := by
  have b0 : (i 0).val < 24576 := (i 0).isLt
  have b1 : (i 1).val < 4096 := (i 1).isLt
  obtain ⟨x, hx, hq, hl, hp⟩ : ∃ x, x < 544 ∧ qtN x = (i 0).val / 512 ∧ posN x = lastN x ∧ posN x ≠ 0 := by
    by_cases h : (i 0).val < 8192
    · have hx : 2 * ((i 0).val / 512) + 1 < 32 := by omega
      refine ⟨2 * ((i 0).val / 512) + 1, by omega, ?_, ?_, ?_⟩
      · unfold qtN; rw [if_pos hx]; omega
      · unfold posN lastN; rw [if_pos hx, if_pos hx]; omega
      · unfold posN; rw [if_pos hx]; omega
    · have hx : ¬ 32 + ((i 0).val / 512 - 16) * 16 + 15 < 32 := by omega
      refine ⟨32 + ((i 0).val / 512 - 16) * 16 + 15, by omega, ?_, ?_, ?_⟩
      · unfold qtN; rw [if_neg hx]; omega
      · unfold posN lastN; rw [if_neg hx, if_neg hx]; omega
      · unfold posN; rw [if_neg hx]; omega
  have hN : cfgA.N = 4352 := by decide +kernel
  let t : Fin cfgA.N := ⟨(i 1).val / 512 * 544 + x, by rw [hN]; omega⟩
  have t0 : t.val % 544 = x := by show ((i 1).val / 512 * 544 + x) % 544 = x; omega
  have t1 : t.val / 544 = (i 1).val / 512 := by show ((i 1).val / 512 * 544 + x) / 544 = _; omega
  refine ⟨t, (sched0_B t (fun h => hp ?_) ((last_iff t).mpr ?_)).2.1, ?_⟩
  · have := (first_iff t).mp h; rwa [t0] at this
  · rw [t0]; exact hl
  · rw [mem_out]
    obtain ⟨p0, p1⟩ := place_o t
    rw [t0, hq] at p0
    rw [t1] at p1
    intro a
    match a with
    | 0 => rw [p0]; show (i 0).val / 512 * 512 ≤ (i 0).val ∧ (i 0).val < (i 0).val / 512 * 512 + 512; omega
    | 1 => rw [p1]; show (i 1).val / 512 * 512 ≤ (i 1).val ∧ (i 1).val < (i 1).val / 512 * 512 + 512; omega

theorem array_at : (dats m ρ 0 c).arrAt (3 : Fin 4) cfgA.N = result m c := by
  refine (dats m ρ 0 c).arrAt_eq_of_emb (3 : Fin 4) _ (fun t hf y => ?_) (cover)
  obtain ⟨q0, q1⟩ := last_of_flush t hf
  obtain ⟨p0, p1⟩ := place_o t
  show (traj0 m ρ c t.val t.isLt).1 y = attention (keysOf m c) (valuesOf m c) (((cfgA.win (3 : Fin 4)).rect t).emb y (0 : Fin 2)).val (((cfgA.win (3 : Fin 4)).rect t).emb y (1 : Fin 2)).val
  rw [Window.rect_emb_val (cfgA.win (3 : Fin 4)) t y (0 : Fin 2), Window.rect_emb_val (cfgA.win (3 : Fin 4)) t y (1 : Fin 2), p0, p1]
  refine Eq.trans (congrArg _ (funext fun a => ?_)) (block_at m ρ c t q0 q1 (y (0 : Fin 2)) (y (1 : Fin 2)))
  match a with
  | 0 => rfl
  | 1 => rfl

/-- Every run of the kernel leaves the attention in its result. -/
theorem run : θ_run (defs (F := Ideal)) (onTc (τ := τ) (main (F := Ideal))) ⟨m, fun _ => 0, ρ⟩ (fun r =>
    (∀ c : Dev nD, r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c 3).trans (array_at m ρ c),
    (h.1 c 0).trans ((dats m ρ 0 c).arrAt_in (0 : Fin 4) rfl _), (h.1 c 2).trans ((dats m ρ 0 c).arrAt_in (2 : Fin 4) rfl _)⟩, h.2⟩) (run_main m ρ)

end Cert.KernelIdeal.Attn

end
-- ==== Proof.Attn.Reference.Power.lean ====
/- The reference read element by element: its constants and its power of two. -/
module

public import proofs.«01_k».proof.Proof.Attn.Spec
public import proofs.«01_k».proof.Proof.Gen.ReferenceIdeal.Read
public import Idealize.ShloMosaic.Lib.KernelVsHost

@[expose] public section

set_option maxRecDepth 16384

noncomputable section

namespace Cert.ReferenceIdeal.Attn

open Cert.ReferenceIdeal Cert.ReferenceIdeal.Gen Cert.ReferenceIdeal.Read Cert.Attn
open Idealize.ShloMosaic

/-- The word of two. -/
theorem ofBits_two : Ideal.ofBits .f32 0x40000000#32 = ((2 : ℝ) : EReal) := by
  simp [Ideal.ofBits, Ideal.ieee, -EReal.coe_mul]
  norm_num

theorem ofBits_neg_inf : Ideal.ofBits .f32 0xFF800000#32 = (⊥ : EReal) := by
  unfold Ideal.ofBits; rfl

/-- A power of two is the kernel's exponential. -/
theorem pow_two (x : EReal) : Ideal.pow ((2 : ℝ) : EReal) x = Ideal.exp2 x := by
  induction x with
  | bot =>
    rw [Ideal.pow_coe_bot, if_neg (by norm_num), if_pos (by norm_num), Ideal.exp2_bot]
  | top =>
    rw [Ideal.pow_coe_top, if_neg (by norm_num), if_pos (by norm_num), Ideal.exp2_top]
  | coe r => rw [Ideal.pow_coe_coe, Ideal.exp2_coe]

theorem two_pow (a b : EReal) : FloatOps.hostPowf (F := Ideal) (φ := .f32) (FloatOps.ofBits .f32 0x40000000#32)
    (FloatOps.subf (F := Ideal) (φ := .f32) a b) = Ideal.exp2 (a - b) :=
  (congrArg (fun z => Ideal.pow z _) ofBits_two).trans (pow_two _)

end Cert.ReferenceIdeal.Attn

end
-- ==== Proof.Attn.Reference.Short.lean ====
/- The reference read element by element: the four sequences of 2048 rows. -/
module

public import proofs.«01_k».proof.Proof.Attn.Spec
public import proofs.«01_k».proof.Proof.Gen.ReferenceIdeal.Read
public import Idealize.ShloMosaic.Lib.KernelVsHost
public import proofs.«01_k».proof.Proof.Attn.Reference.Power

@[expose] public section

set_option maxRecDepth 16384

noncomputable section

namespace Cert.ReferenceIdeal.Attn

open Cert.ReferenceIdeal Cert.ReferenceIdeal.Gen Cert.ReferenceIdeal.Read Cert.Attn
open Idealize.ShloMosaic

variable (x0 : (⟨S24576x5120, .bf16⟩ : BufTy).Contents (Elt Ideal)) (x1 : (⟨S24576x6144, .bf16⟩ : BufTy).Contents (Elt Ideal))

theorem query0 (i : S4x2048x8x4x128.Idx) :
    val_main_v3 (F := Ideal) x0 i = entry x0 (0 + ((i 0).val * 2048 + (i 1).val)) (128 * (4 * (i 2).val + (i 3).val) + (i 4).val) := by
  have h0 : (i 0).val < 4 := (i 0).isLt
  have h1 : (i 1).val < 2048 := (i 1).isLt
  have h2 : (i 2).val < 8 := (i 2).isLt
  have h3 : (i 3).val < 4 := (i 3).isLt
  have h4 : (i 4).val < 128 := (i 4).isLt
  rw [val_main_v3_apply, val_main_v2_apply, val_main_v0_apply]
  refine (entry_of x0 (idx_main_v2 (idx_main_v3 i)) ?_ ?_).symm
  · show (((((i 0).val * 2048 + (i 1).val) * 8 + (i 2).val) * 4 + (i 3).val) * 128 + (i 4).val) / 4096 = _
    omega
  · show (((((i 0).val * 2048 + (i 1).val) * 8 + (i 2).val) * 4 + (i 3).val) * 128 + (i 4).val) % 4096 = _
    omega

theorem key0 (i : S4x2048x8x128.Idx) :
    val_main_v5 (F := Ideal) x0 i = entry x0 (0 + ((i 0).val * 2048 + (i 1).val)) (4096 + 128 * (i 2).val + (i 3).val) := by
  have h0 : (i 0).val < 4 := (i 0).isLt
  have h1 : (i 1).val < 2048 := (i 1).isLt
  have h2 : (i 2).val < 8 := (i 2).isLt
  have h3 : (i 3).val < 128 := (i 3).isLt
  rw [val_main_v5_apply, val_main_v4_apply, val_main_v0_apply]
  refine (entry_of x0 (idx_main_v4 (idx_main_v5 i)) ?_ ?_).symm
  · show ((((i 0).val * 2048 + (i 1).val) * 8 + (i 2).val) * 128 + (i 3).val) / 1024 = _
    omega
  · show 4096 + ((((i 0).val * 2048 + (i 1).val) * 8 + (i 2).val) * 128 + (i 3).val) % 1024 = _
    omega

theorem value0 (i : S4x2048x8x128.Idx) :
    val_main_v7 (F := Ideal) x1 i = entry x1 (0 + ((i 0).val * 2048 + (i 1).val)) (5120 + 128 * (i 2).val + (i 3).val) := by
  have h0 : (i 0).val < 4 := (i 0).isLt
  have h1 : (i 1).val < 2048 := (i 1).isLt
  have h2 : (i 2).val < 8 := (i 2).isLt
  have h3 : (i 3).val < 128 := (i 3).isLt
  rw [val_main_v7_apply, val_main_v6_apply, val_main_v1_apply]
  refine (entry_of x1 (idx_main_v6 (idx_main_v7 i)) ?_ ?_).symm
  · show ((((i 0).val * 2048 + (i 1).val) * 8 + (i 2).val) * 128 + (i 3).val) / 1024 = _
    omega
  · show 5120 + ((((i 0).val * 2048 + (i 1).val) * 8 + (i 2).val) * 128 + (i 3).val) % 1024 = _
    omega

/-- The scores of row `r` of sequence `b`, and the values of that sequence. -/
def scores0 (b r head : ℕ) : ℕ → EReal := scoreAt (entry x0) (0 + (b * 2048 + r)) head (0 + b * 2048)
def values0 (b head d : ℕ) : ℕ → EReal := valueAt (entry x1) head (0 + b * 2048) d

theorem score0 (i : S4x8x4x2048x2048.Idx) : val_main_v9 (F := Ideal) x0 i = scores0 x0 (i 0).val (i 3).val (4 * (i 1).val + (i 2).val) (i 4).val := by
  have h0 : (i 0).val < 4 := (i 0).isLt
  have h1 : (i 1).val < 8 := (i 1).isLt
  have h2 : (i 2).val < 4 := (i 2).isLt
  have h3 : (i 3).val < 2048 := (i 3).isLt
  have h4 : (i 4).val < 2048 := (i 4).isLt
  rw [val_main_v9_apply, val_main_v8_apply]
  unfold scores0 scoreAt
  refine Finset.sum_congr rfl fun e _ => ?_
  rw [key0, query0, mul_comm]
  have hq : (4 * (i 1).val + (i 2).val) / 4 = (i 1).val := by omega
  rw [hq, show 0 + (i 0).val * 2048 + (i 4).val = 0 + ((i 0).val * 2048 + (i 4).val) from Nat.add_assoc _ _ _]
  try rfl

theorem max0 (i : S4x8x4x2048.Idx) : val_main_v10 (F := Ideal) x0 i = top (scores0 x0 (i 0).val (i 3).val (4 * (i 1).val + (i 2).val)) 2048 := by
  have hr : S4x8x4x2048x2048.Reduces [4] S4x8x4x2048 := by decide
  have e := hostReduce_maximumf_eq_multiReduction (F := Ideal) (φ := .f32) (val_main_v9 (F := Ideal) x0) 0xFF800000#32
    reducesTo_S4x8x4x2048x2048_S4x8x4x2048_d4 h_S_ hr (.inl rfl) rfl
  unfold val_main_v10 val_main_cst
  rw [e]
  refine (Ideal.multiReduction_maximumf_single (φ := .f32) _ _ hr _ _ i).trans ?_
  unfold top
  rw [sup_fin]
  refine (congrArg (fun z => Finset.univ.fold max z _) ofBits_neg_inf).trans ?_
  refine congrArg (Finset.univ.fold max ⊥) (funext fun j => ?_)
  exact score0 x0 (hr.lift i j)

theorem spread0 (i : S4x8x4x2048x2048.Idx) : val_main_v12 (F := Ideal) x0 i = top (scores0 x0 (i 0).val (i 3).val (4 * (i 1).val + (i 2).val)) 2048 := by
  rw [val_main_v12_apply, val_main_v11_apply, max0]

theorem weight0 (i : S4x8x4x2048x2048.Idx) :
    val_main_v15 (F := Ideal) x0 i = Ideal.exp2 (scores0 x0 (i 0).val (i 3).val (4 * (i 1).val + (i 2).val) (i 4).val - top (scores0 x0 (i 0).val (i 3).val (4 * (i 1).val + (i 2).val)) 2048) := by
  rw [val_main_v15_apply, val_main_v14_apply, val_main_cst_0_apply, val_main_v13_apply, score0, spread0]
  exact two_pow _ _

theorem mass0 (i : S4x8x4x2048.Idx) : val_main_v16 (F := Ideal) x0 i = mass (scores0 x0 (i 0).val (i 3).val (4 * (i 1).val + (i 2).val)) 2048 := by
  rw [val_main_v16_apply]
  refine (congrArg (· + _) Ideal.ofBits_zero_f32).trans ?_
  rw [zero_add]
  unfold mass
  rw [Finset.sum_range]
  exact Finset.sum_congr rfl fun j _ => weight0 x0 (idx_main_v16 i j)

theorem heap0 (i : S4x2048x8x4x128.Idx) :
    val_main_v18 (F := Ideal) x0 x1 i
      = heap (scores0 x0 (i 0).val (i 1).val (4 * (i 2).val + (i 3).val)) (values0 x1 (i 0).val (4 * (i 2).val + (i 3).val) (i 4).val) 2048 := by
  have h0 : (i 0).val < 4 := (i 0).isLt
  have h1 : (i 1).val < 2048 := (i 1).isLt
  have h2 : (i 2).val < 8 := (i 2).isLt
  have h3 : (i 3).val < 4 := (i 3).isLt
  have h4 : (i 4).val < 128 := (i 4).isLt
  have hq : (4 * (i 2).val + (i 3).val) / 4 = (i 2).val := by omega
  rw [val_main_v18_apply, val_main_v17_apply]
  unfold heap
  rw [Finset.sum_range]
  refine Finset.sum_congr rfl fun j _ => ?_
  rw [weight0, value0, mul_comm]
  refine congrArg₂ (fun a b : EReal => a * b) rfl ?_
  unfold values0 valueAt
  rw [hq, show 0 + (i 0).val * 2048 + j.val = 0 + ((i 0).val * 2048 + j.val) from Nat.add_assoc _ _ _]
  try rfl

theorem share0 (i : S4x2048x8x4x128.Idx) :
    val_main_v21 (F := Ideal) x0 i = mass (scores0 x0 (i 0).val (i 1).val (4 * (i 2).val + (i 3).val)) 2048 := by
  rw [val_main_v21_apply, val_main_v20_apply, val_main_v19_apply, mass0]

theorem mean0 (i : S4x2048x8x4x128.Idx) :
    val_main_v22 (F := Ideal) x0 x1 i
      = mean (scores0 x0 (i 0).val (i 1).val (4 * (i 2).val + (i 3).val)) (values0 x1 (i 0).val (4 * (i 2).val + (i 3).val) (i 4).val) 2048 := by
  rw [val_main_v22_apply, heap0, share0]
  rfl

theorem rows0 (i : S8192x4096.Idx) :
    val_main_v24 (F := Ideal) x0 x1 i = attention (entry x0) (entry x1) (0 + (i 0).val) (i 1).val := by
  have h0 : (i 0).val < 8192 := (i 0).isLt
  have h1 : (i 1).val < 4096 := (i 1).isLt
  rw [val_main_v24_apply, val_main_v23_apply, mean0]
  have e2 : ((((i 0).val * 4096 + (i 1).val) / 8388608 * 2048 + ((i 0).val * 4096 + (i 1).val) / 4096 % 2048) * 4096 + ((i 0).val * 4096 + (i 1).val) % 4096) = ((i 0).val * 4096 + (i 1).val) := by omega
  show mean (scores0 x0 (((((i 0).val * 4096 + (i 1).val) / 8388608 * 2048 + ((i 0).val * 4096 + (i 1).val) / 4096 % 2048) * 4096 + ((i 0).val * 4096 + (i 1).val) % 4096) / 8388608) (((((i 0).val * 4096 + (i 1).val) / 8388608 * 2048 + ((i 0).val * 4096 + (i 1).val) / 4096 % 2048) * 4096 + ((i 0).val * 4096 + (i 1).val) % 4096) / 4096 % 2048) (4 * (((((i 0).val * 4096 + (i 1).val) / 8388608 * 2048 + ((i 0).val * 4096 + (i 1).val) / 4096 % 2048) * 4096 + ((i 0).val * 4096 + (i 1).val) % 4096) / 512 % 8) + ((((i 0).val * 4096 + (i 1).val) / 8388608 * 2048 + ((i 0).val * 4096 + (i 1).val) / 4096 % 2048) * 4096 + ((i 0).val * 4096 + (i 1).val) % 4096) / 128 % 4))
    (values0 x1 (((((i 0).val * 4096 + (i 1).val) / 8388608 * 2048 + ((i 0).val * 4096 + (i 1).val) / 4096 % 2048) * 4096 + ((i 0).val * 4096 + (i 1).val) % 4096) / 8388608) (4 * (((((i 0).val * 4096 + (i 1).val) / 8388608 * 2048 + ((i 0).val * 4096 + (i 1).val) / 4096 % 2048) * 4096 + ((i 0).val * 4096 + (i 1).val) % 4096) / 512 % 8) + ((((i 0).val * 4096 + (i 1).val) / 8388608 * 2048 + ((i 0).val * 4096 + (i 1).val) / 4096 % 2048) * 4096 + ((i 0).val * 4096 + (i 1).val) % 4096) / 128 % 4) (((((i 0).val * 4096 + (i 1).val) / 8388608 * 2048 + ((i 0).val * 4096 + (i 1).val) / 4096 % 2048) * 4096 + ((i 0).val * 4096 + (i 1).val) % 4096) % 128)) 2048 = _
  rw [e2]
  have hh : 4 * (((i 0).val * 4096 + (i 1).val) / 512 % 8) + ((i 0).val * 4096 + (i 1).val) / 128 % 4 = (i 1).val / 128 := by omega
  have hd : ((i 0).val * 4096 + (i 1).val) % 128 = (i 1).val % 128 := by omega
  have hr : ((i 0).val * 4096 + (i 1).val) / 4096 % 2048 = (i 0).val % 2048 := by omega
  have hb : ((i 0).val * 4096 + (i 1).val) / 8388608 = (i 0).val / 2048 := by omega
  have hlo : lo (0 + (i 0).val) = 0 + (i 0).val / 2048 * 2048 := by unfold lo; rw [if_pos (by omega)]; omega
  have hlen : len (0 + (i 0).val) = 2048 := by unfold len; rw [if_pos (by omega)]
  have hrow : 0 + ((i 0).val / 2048 * 2048 + (i 0).val % 2048) = 0 + (i 0).val := by omega
  rw [hh, hd, hr, hb]
  unfold attention scores0 values0
  rw [hlo, hlen, hrow]

end Cert.ReferenceIdeal.Attn

end
-- ==== Proof.Attn.Reference.Long.lean ====
/- The reference read element by element: the sequence of 16384 rows. -/
module

public import proofs.«01_k».proof.Proof.Attn.Spec
public import proofs.«01_k».proof.Proof.Gen.ReferenceIdeal.Read
public import Idealize.ShloMosaic.Lib.KernelVsHost
public import proofs.«01_k».proof.Proof.Attn.Reference.Power

@[expose] public section

set_option maxRecDepth 16384

noncomputable section

namespace Cert.ReferenceIdeal.Attn

open Cert.ReferenceIdeal Cert.ReferenceIdeal.Gen Cert.ReferenceIdeal.Read Cert.Attn
open Idealize.ShloMosaic

variable (x0 : (⟨S24576x5120, .bf16⟩ : BufTy).Contents (Elt Ideal)) (x1 : (⟨S24576x6144, .bf16⟩ : BufTy).Contents (Elt Ideal))

theorem query1 (i : S1x16384x8x4x128.Idx) :
    val_main_v26 (F := Ideal) x0 i = entry x0 (8192 + ((i 0).val * 16384 + (i 1).val)) (128 * (4 * (i 2).val + (i 3).val) + (i 4).val) := by
  have h0 : (i 0).val < 1 := (i 0).isLt
  have h1 : (i 1).val < 16384 := (i 1).isLt
  have h2 : (i 2).val < 8 := (i 2).isLt
  have h3 : (i 3).val < 4 := (i 3).isLt
  have h4 : (i 4).val < 128 := (i 4).isLt
  rw [val_main_v26_apply, val_main_v25_apply, val_main_v0_apply]
  refine (entry_of x0 (idx_main_v25 (idx_main_v26 i)) ?_ ?_).symm
  · show 8192 + (((((i 0).val * 16384 + (i 1).val) * 8 + (i 2).val) * 4 + (i 3).val) * 128 + (i 4).val) / 4096 = _
    omega
  · show (((((i 0).val * 16384 + (i 1).val) * 8 + (i 2).val) * 4 + (i 3).val) * 128 + (i 4).val) % 4096 = _
    omega

theorem key1 (i : S1x16384x8x128.Idx) :
    val_main_v28 (F := Ideal) x0 i = entry x0 (8192 + ((i 0).val * 16384 + (i 1).val)) (4096 + 128 * (i 2).val + (i 3).val) := by
  have h0 : (i 0).val < 1 := (i 0).isLt
  have h1 : (i 1).val < 16384 := (i 1).isLt
  have h2 : (i 2).val < 8 := (i 2).isLt
  have h3 : (i 3).val < 128 := (i 3).isLt
  rw [val_main_v28_apply, val_main_v27_apply, val_main_v0_apply]
  refine (entry_of x0 (idx_main_v27 (idx_main_v28 i)) ?_ ?_).symm
  · show 8192 + ((((i 0).val * 16384 + (i 1).val) * 8 + (i 2).val) * 128 + (i 3).val) / 1024 = _
    omega
  · show 4096 + ((((i 0).val * 16384 + (i 1).val) * 8 + (i 2).val) * 128 + (i 3).val) % 1024 = _
    omega

theorem value1 (i : S1x16384x8x128.Idx) :
    val_main_v30 (F := Ideal) x1 i = entry x1 (8192 + ((i 0).val * 16384 + (i 1).val)) (5120 + 128 * (i 2).val + (i 3).val) := by
  have h0 : (i 0).val < 1 := (i 0).isLt
  have h1 : (i 1).val < 16384 := (i 1).isLt
  have h2 : (i 2).val < 8 := (i 2).isLt
  have h3 : (i 3).val < 128 := (i 3).isLt
  rw [val_main_v30_apply, val_main_v29_apply, val_main_v1_apply]
  refine (entry_of x1 (idx_main_v29 (idx_main_v30 i)) ?_ ?_).symm
  · show 8192 + ((((i 0).val * 16384 + (i 1).val) * 8 + (i 2).val) * 128 + (i 3).val) / 1024 = _
    omega
  · show 5120 + ((((i 0).val * 16384 + (i 1).val) * 8 + (i 2).val) * 128 + (i 3).val) % 1024 = _
    omega

/-- The scores of row `r` of sequence `b`, and the values of that sequence. -/
def scores1 (b r head : ℕ) : ℕ → EReal := scoreAt (entry x0) (8192 + (b * 16384 + r)) head (8192 + b * 16384)
def values1 (b head d : ℕ) : ℕ → EReal := valueAt (entry x1) head (8192 + b * 16384) d

theorem score1 (i : S1x8x4x16384x16384.Idx) : val_main_v32 (F := Ideal) x0 i = scores1 x0 (i 0).val (i 3).val (4 * (i 1).val + (i 2).val) (i 4).val := by
  have h0 : (i 0).val < 1 := (i 0).isLt
  have h1 : (i 1).val < 8 := (i 1).isLt
  have h2 : (i 2).val < 4 := (i 2).isLt
  have h3 : (i 3).val < 16384 := (i 3).isLt
  have h4 : (i 4).val < 16384 := (i 4).isLt
  rw [val_main_v32_apply, val_main_v31_apply]
  unfold scores1 scoreAt
  refine Finset.sum_congr rfl fun e _ => ?_
  rw [key1, query1, mul_comm]
  have hq : (4 * (i 1).val + (i 2).val) / 4 = (i 1).val := by omega
  rw [hq, show 8192 + (i 0).val * 16384 + (i 4).val = 8192 + ((i 0).val * 16384 + (i 4).val) from Nat.add_assoc _ _ _]
  try rfl

theorem max1 (i : S1x8x4x16384.Idx) : val_main_v33 (F := Ideal) x0 i = top (scores1 x0 (i 0).val (i 3).val (4 * (i 1).val + (i 2).val)) 16384 := by
  have hr : S1x8x4x16384x16384.Reduces [4] S1x8x4x16384 := by decide
  have e := hostReduce_maximumf_eq_multiReduction (F := Ideal) (φ := .f32) (val_main_v32 (F := Ideal) x0) 0xFF800000#32
    reducesTo_S1x8x4x16384x16384_S1x8x4x16384_d4 h_S_ hr (.inl rfl) rfl
  unfold val_main_v33 val_main_cst_2
  rw [e]
  refine (Ideal.multiReduction_maximumf_single (φ := .f32) _ _ hr _ _ i).trans ?_
  unfold top
  rw [sup_fin]
  refine (congrArg (fun z => Finset.univ.fold max z _) ofBits_neg_inf).trans ?_
  refine congrArg (Finset.univ.fold max ⊥) (funext fun j => ?_)
  exact score1 x0 (hr.lift i j)

theorem spread1 (i : S1x8x4x16384x16384.Idx) : val_main_v35 (F := Ideal) x0 i = top (scores1 x0 (i 0).val (i 3).val (4 * (i 1).val + (i 2).val)) 16384 := by
  have z0 : (i 0).val = 0 := by have h : (i 0).val < 1 := (i 0).isLt; omega
  rw [val_main_v35_apply, val_main_v34_apply, max1]
  show top (scores1 x0 0 (i 3).val (4 * (i 1).val + (i 2).val)) 16384 = _
  rw [z0]

theorem weight1 (i : S1x8x4x16384x16384.Idx) :
    val_main_v38 (F := Ideal) x0 i = Ideal.exp2 (scores1 x0 (i 0).val (i 3).val (4 * (i 1).val + (i 2).val) (i 4).val - top (scores1 x0 (i 0).val (i 3).val (4 * (i 1).val + (i 2).val)) 16384) := by
  rw [val_main_v38_apply, val_main_v37_apply, val_main_cst_3_apply, val_main_v36_apply, score1, spread1]
  exact two_pow _ _

theorem mass1 (i : S1x8x4x16384.Idx) : val_main_v39 (F := Ideal) x0 i = mass (scores1 x0 (i 0).val (i 3).val (4 * (i 1).val + (i 2).val)) 16384 := by
  rw [val_main_v39_apply]
  refine (congrArg (· + _) Ideal.ofBits_zero_f32).trans ?_
  rw [zero_add]
  unfold mass
  rw [Finset.sum_range]
  exact Finset.sum_congr rfl fun j _ => weight1 x0 (idx_main_v39 i j)

theorem heap1 (i : S1x16384x8x4x128.Idx) :
    val_main_v41 (F := Ideal) x0 x1 i
      = heap (scores1 x0 (i 0).val (i 1).val (4 * (i 2).val + (i 3).val)) (values1 x1 (i 0).val (4 * (i 2).val + (i 3).val) (i 4).val) 16384 := by
  have h0 : (i 0).val < 1 := (i 0).isLt
  have h1 : (i 1).val < 16384 := (i 1).isLt
  have h2 : (i 2).val < 8 := (i 2).isLt
  have h3 : (i 3).val < 4 := (i 3).isLt
  have h4 : (i 4).val < 128 := (i 4).isLt
  have hq : (4 * (i 2).val + (i 3).val) / 4 = (i 2).val := by omega
  rw [val_main_v41_apply, val_main_v40_apply]
  unfold heap
  rw [Finset.sum_range]
  refine Finset.sum_congr rfl fun j _ => ?_
  rw [weight1, value1, mul_comm]
  refine congrArg₂ (fun a b : EReal => a * b) rfl ?_
  unfold values1 valueAt
  rw [hq, show 8192 + (i 0).val * 16384 + j.val = 8192 + ((i 0).val * 16384 + j.val) from Nat.add_assoc _ _ _]
  try rfl

theorem share1 (i : S1x16384x8x4x128.Idx) :
    val_main_v44 (F := Ideal) x0 i = mass (scores1 x0 (i 0).val (i 1).val (4 * (i 2).val + (i 3).val)) 16384 := by
  have z0 : (i 0).val = 0 := by have h : (i 0).val < 1 := (i 0).isLt; omega
  rw [val_main_v44_apply, val_main_v43_apply, val_main_v42_apply, mass1]
  show mass (scores1 x0 0 (i 1).val (4 * (i 2).val + (i 3).val)) 16384 = _
  rw [z0]

theorem mean1 (i : S1x16384x8x4x128.Idx) :
    val_main_v45 (F := Ideal) x0 x1 i
      = mean (scores1 x0 (i 0).val (i 1).val (4 * (i 2).val + (i 3).val)) (values1 x1 (i 0).val (4 * (i 2).val + (i 3).val) (i 4).val) 16384 := by
  rw [val_main_v45_apply, heap1, share1]
  rfl

theorem rows1 (i : S16384x4096.Idx) :
    val_main_v47 (F := Ideal) x0 x1 i = attention (entry x0) (entry x1) (8192 + (i 0).val) (i 1).val := by
  have h0 : (i 0).val < 16384 := (i 0).isLt
  have h1 : (i 1).val < 4096 := (i 1).isLt
  rw [val_main_v47_apply, val_main_v46_apply, mean1]
  have e2 : ((0 * 16384 + ((i 0).val * 4096 + (i 1).val) / 4096 % 16384) * 4096 + ((i 0).val * 4096 + (i 1).val) % 4096) = ((i 0).val * 4096 + (i 1).val) := by omega
  show mean (scores1 x0 (0) (((0 * 16384 + ((i 0).val * 4096 + (i 1).val) / 4096 % 16384) * 4096 + ((i 0).val * 4096 + (i 1).val) % 4096) / 4096 % 16384) (4 * (((0 * 16384 + ((i 0).val * 4096 + (i 1).val) / 4096 % 16384) * 4096 + ((i 0).val * 4096 + (i 1).val) % 4096) / 512 % 8) + ((0 * 16384 + ((i 0).val * 4096 + (i 1).val) / 4096 % 16384) * 4096 + ((i 0).val * 4096 + (i 1).val) % 4096) / 128 % 4))
    (values1 x1 (0) (4 * (((0 * 16384 + ((i 0).val * 4096 + (i 1).val) / 4096 % 16384) * 4096 + ((i 0).val * 4096 + (i 1).val) % 4096) / 512 % 8) + ((0 * 16384 + ((i 0).val * 4096 + (i 1).val) / 4096 % 16384) * 4096 + ((i 0).val * 4096 + (i 1).val) % 4096) / 128 % 4) (((0 * 16384 + ((i 0).val * 4096 + (i 1).val) / 4096 % 16384) * 4096 + ((i 0).val * 4096 + (i 1).val) % 4096) % 128)) 16384 = _
  rw [e2]
  have hh : 4 * (((i 0).val * 4096 + (i 1).val) / 512 % 8) + ((i 0).val * 4096 + (i 1).val) / 128 % 4 = (i 1).val / 128 := by omega
  have hd : ((i 0).val * 4096 + (i 1).val) % 128 = (i 1).val % 128 := by omega
  have hr : ((i 0).val * 4096 + (i 1).val) / 4096 % 16384 = (i 0).val % 16384 := by omega
  have hlo : lo (8192 + (i 0).val) = 8192 + 0 * 16384 := by unfold lo; rw [if_neg (by omega)]
  have hlen : len (8192 + (i 0).val) = 16384 := by unfold len; rw [if_neg (by omega)]
  have hrow : 8192 + (0 * 16384 + (i 0).val % 16384) = 8192 + (i 0).val := by omega
  rw [hh, hd, hr]
  unfold attention scores1 values1
  rw [hlo, hlen, hrow]

end Cert.ReferenceIdeal.Attn

end
-- ==== Proof.Attn.Reference.Whole.lean ====
/- The reference's whole result: the attention, element by element. -/
module

public import proofs.«01_k».proof.Proof.Attn.Reference.Short
public import proofs.«01_k».proof.Proof.Attn.Reference.Long

@[expose] public section

set_option maxRecDepth 16384

noncomputable section

namespace Cert.ReferenceIdeal.Attn

open Cert.ReferenceIdeal Cert.ReferenceIdeal.Gen Cert.ReferenceIdeal.Read Cert.Attn
open Idealize.ShloMosaic

variable (x0 : (⟨S24576x5120, .bf16⟩ : BufTy).Contents (Elt Ideal)) (x1 : (⟨S24576x6144, .bf16⟩ : BufTy).Contents (Elt Ideal))

theorem joined (i : S24576x4096.Idx) :
    val_main_v48 (F := Ideal) x0 x1 i = attention (entry x0) (entry x1) (i 0).val (i 1).val := by
  have b0 : (i 0).val < 24576 := (i 0).isLt
  have b1 : (i 1).val < 4096 := (i 1).isLt
  unfold val_main_v48
  by_cases h : (i 0).val < 8192
  · refine (concatenate_pair_apply_left (0 : Fin 2) (val_main_v24 (F := Ideal) x0 x1) (val_main_v47 (F := Ideal) x0 x1) _ i rfl
      (ix2 ⟨(i 0).val, h⟩ ⟨(i 1).val, b1⟩ : S8192x4096.Idx) (fun b => ?_)).trans ?_
    · match b with
      | 0 => rfl
      | 1 => rfl
    · rw [rows0]
      show attention _ _ (0 + (i 0).val) (i 1).val = _
      rw [Nat.zero_add]
  · refine (concatenate_pair_apply_right (0 : Fin 2) (val_main_v24 (F := Ideal) x0 x1) (val_main_v47 (F := Ideal) x0 x1) _ i rfl rfl
      (ix2 ⟨(i 0).val - 8192, by omega⟩ ⟨(i 1).val, b1⟩ : S16384x4096.Idx) (fun b hb => ?_) ?_).trans ?_
    · match b with
      | 0 => exact absurd rfl hb
      | 1 => rfl
    · show (i 0).val - 8192 + 8192 = (i 0).val
      omega
    · rw [rows1]
      show attention _ _ (8192 + ((i 0).val - 8192)) (i 1).val = _
      rw [show 8192 + ((i 0).val - 8192) = (i 0).val by omega]

/-- The result the reference leaves. -/
theorem whole (i : S24576x4096.Idx) :
    val_main_v49 (F := Ideal) x0 x1 i = attention (entry x0) (entry x1) (i 0).val (i 1).val := by
  rw [val_main_v49_apply]
  exact joined x0 x1 i

end Cert.ReferenceIdeal.Attn

end
-- ==== Proof.Products.Spec.lean ====
/- A product of two matrices, entry by entry, over the extended reals, and an accumulator that collects it from blocks of
   the contracted axis. -/
module

public import Idealize.ShloMosaic.Lib.Pointwise
public import Idealize.ShloMosaic.Lib.Pipeline.ValueKit

@[expose] public section

noncomputable section

namespace Cert.Products

open Idealize.ShloMosaic

/-- The matrix product `X W` at an entry. -/
def product {M K N : ℕ} (X : (⟨2, ![M, K]⟩ : Shape).Idx → EReal) (W : (⟨2, ![K, N]⟩ : Shape).Idx → EReal)
    (i : (⟨2, ![M, N]⟩ : Shape).Idx) : EReal :=
  ∑ k : Fin K, X (ix2 (i 0) k) * W (ix2 k (i 1))

/-- An accumulator that is set to a block product at the first of every `J` steps, and to which the other steps add
    theirs, holds after the last of them an entry of the whole product, provided that the blocks of those steps are,
    side by side, the entry's row and column. -/
theorem accumulated {P J M K N a n b : ℕ} [NeZero J] (hK : K = J * n)
    (acc : (p : ℕ) → p < P → (⟨2, ![a, b]⟩ : Shape).Idx → EReal)
    (x : Fin P → (⟨2, ![a, n]⟩ : Shape).Idx → EReal) (w : Fin P → (⟨2, ![n, b]⟩ : Shape).Idx → EReal)
    (X : (⟨2, ![M, K]⟩ : Shape).Idx → EReal) (W : (⟨2, ![K, N]⟩ : Shape).Idx → EReal)
    (first : ∀ t : Fin P, t.val % J = 0 → ∀ j, acc t.val t.isLt j = ∑ k : Fin n, x t (ix2 (j 0) k) * w t (ix2 k (j 1)))
    (next : ∀ t : Fin P, ¬ t.val % J = 0 → ∀ j, acc t.val t.isLt j
      = acc (t.val - 1) (Nat.lt_of_le_of_lt (Nat.sub_le _ _) t.isLt) j + ∑ k : Fin n, x t (ix2 (j 0) k) * w t (ix2 k (j 1)))
    (t : Fin P) (ht : t.val % J = J - 1) (y : (⟨2, ![a, b]⟩ : Shape).Idx) (i : (⟨2, ![M, N]⟩ : Shape).Idx)
    (row : ∀ (s : Fin J) (k : Fin n) (h : J * (t.val / J) + s.val < P) (hl : s.val * n + k.val < K),
      x ⟨J * (t.val / J) + s.val, h⟩ (ix2 (y 0) k) = X (ix2 (i 0) ⟨s.val * n + k.val, hl⟩))
    (column : ∀ (s : Fin J) (k : Fin n) (h : J * (t.val / J) + s.val < P) (hl : s.val * n + k.val < K),
      w ⟨J * (t.val / J) + s.val, h⟩ (ix2 k (y 1)) = W (ix2 ⟨s.val * n + k.val, hl⟩ (i 1))) :
    acc t.val t.isLt y = product X W i := by
  subst hK
  rw [Pipeline.eq_sum_fin_of_reset_step_apply_of_flush acc J (fun _ => 0)
    (fun t j => ∑ k : Fin n, x t (ix2 (j 0) k) * w t (ix2 k (j 1)))
    (fun t h j => by rw [first t h j, zero_add]) next t ht y, zero_add]
  unfold product
  refine Fin.sum_mul_add_congr fun s k hl => ?_
  rw [row s k _ hl, column s k _ hl]

end Cert.Products

end
-- ==== Proof.Products.SwigluValue.lean ====
/- The value of the gated up-projection: each block of the result is made from two accumulators, the gate's and the up
   branch's products. -/
module

public import proofs.«01_k».proof.Proof.Gen.SwigluIdeal.Value
public import proofs.«01_k».proof.Proof.Products.Spec

@[expose] public section

set_option maxRecDepth 16384

noncomputable section

namespace Cert.SwigluIdeal.Products

open Cert.SwigluIdeal Cert.SwigluIdeal.Gen
open Idealize.ShloMosaic Idealize.ShloMosaic.TcCoe Idealize.SL.Sem Cert.Products
open Idealize.ShloMosaic.Pipeline (Dat Cfg Window)

variable (m : (ℓ : Loc nD τ sig) → Buf (Elt Ideal) ℓ) (c : Dev nD)

/-- The block products the first step of a block stores. -/
theorem first (x : Vec Ideal S1024x1024 .bf16) (w : Vec Ideal S1024x512 .bf16) (j) :
    k0_pay2 (F := Ideal) x w j = ∑ k : Fin 1024, x (ix2 (j 0) k) * w (ix2 k (j 1)) := by pointwise [k0_pay2, k0_pay1]
theorem first_up (x : Vec Ideal S1024x1024 .bf16) (w : Vec Ideal S1024x512 .bf16) (j) :
    k0_pay5 (F := Ideal) x w j = ∑ k : Fin 1024, x (ix2 (j 0) k) * w (ix2 k (j 1)) := by pointwise [k0_pay5, k0_pay4]

/-- What a later step stores: its block products added to what is there. -/
theorem next (x : Vec Ideal S1024x1024 .bf16) (w : Vec Ideal S1024x512 .bf16) (a : Vec Ideal S1024x512 .f32) (j) :
    k0_pay3 (F := Ideal) x w a j = a j + ∑ k : Fin 1024, x (ix2 (j 0) k) * w (ix2 k (j 1)) := by pointwise [k0_pay3, k0_pay1]
theorem next_up (x : Vec Ideal S1024x1024 .bf16) (w : Vec Ideal S1024x512 .bf16) (a : Vec Ideal S1024x512 .f32) (j) :
    k0_pay6 (F := Ideal) x w a j = a j + ∑ k : Fin 1024, x (ix2 (j 0) k) * w (ix2 k (j 1)) := by pointwise [k0_pay6, k0_pay4]

/-- What the last step makes of the two accumulators: the swish of the gate, times the up branch. -/
theorem last (a b : Vec Ideal S1024x512 .f32) (j) :
    k0_pay7 (F := Ideal) a b j = a j * Ideal.logistic (a j) * b j := by
  pointwise [k0_pay7]

/-- The blocks a step works on. -/
theorem places : ∀ t : Fin cfg0.N, win0_0.index t = ![t.val / 64, t.val % 4] ∧ win0_1.index t = ![t.val % 4, t.val / 4 % 16]
    ∧ win0_2.index t = ![t.val % 4, t.val / 4 % 16] ∧ win0_3.index t = ![t.val / 64, t.val / 4 % 16] :=
  (by decide +kernel : ∀ t : Fin grid0.N, _)

/-- The gate's and the up branch's products. -/
def gate : S24576x8192.Idx → EReal :=
  product (M := 24576) (K := 4096) (N := 8192) (m ((c : Thread nD τ).loc main_arg0)) (m ((c : Thread nD τ).loc main_arg1))
def up : S24576x8192.Idx → EReal :=
  product (M := 24576) (K := 4096) (N := 8192) (m ((c : Thread nD τ).loc main_arg0)) (m ((c : Thread nD τ).loc main_arg2))

/-- The value of the call at an entry. -/
def result : S24576x8192.Idx → EReal := fun i => gate m c i * Ideal.logistic (gate m c i) * up m c i

/-- After the last step of a block the first accumulator holds the block's entries of the gate. -/
theorem gate_at (t : Fin cfg0.N) (h : t.val % 4 = 3) (y : S1024x512.Idx) (i : S24576x8192.Idx)
    (h0 : (i 0).val = t.val / 64 * 1024 + (y 0).val) (h1 : (i 1).val = t.val / 4 % 16 * 512 + (y 1).val) :
    (outsAt0 m c t.val t.isLt).2.1 y = gate m c i := by
  refine accumulated (J := 4) (n := 1024) rfl (fun n h => (outsAt0 m c n h).2.1) (fun p => iblk m c 0 p) (fun p => iblk m c 1 p) _ _
    (fun t h j => ?_) (fun t h j => ?_) t h y i (fun s k hs hl => ?_) (fun s k hs hl => ?_)
  · rw [outsAt0_A m c t h (by omega) h (by omega) (by omega)]; frame_out; rw [first]
  · by_cases h2 : t.val % 4 = 3
    · rw [outsAt0_C m c t h (by omega) h (by omega) h2]; frame_out; rw [next]
      exact congrArg (· + _) (congrFun ((Memref.isWhole_whole cc0_scratch0).read_unread (outsAt0 m c (t.val - 1) _).2.1) j)
    · rw [outsAt0_B m c t h (by omega) h (by omega) h2]; frame_out; rw [next]
      exact congrArg (· + _) (congrFun ((Memref.isWhole_whole cc0_scratch0).read_unread (outsAt0 m c (t.val - 1) _).2.1) j)
  · blk_ext [iblk, V, places ⟨_, hs⟩]
  · blk_ext [iblk, V, places ⟨_, hs⟩]

/-- And the second those of the up branch. -/
theorem up_at (t : Fin cfg0.N) (h : t.val % 4 = 3) (y : S1024x512.Idx) (i : S24576x8192.Idx)
    (h0 : (i 0).val = t.val / 64 * 1024 + (y 0).val) (h1 : (i 1).val = t.val / 4 % 16 * 512 + (y 1).val) :
    (outsAt0 m c t.val t.isLt).2.2 y = up m c i := by
  refine accumulated (J := 4) (n := 1024) rfl (fun n h => (outsAt0 m c n h).2.2) (fun p => iblk m c 0 p) (fun p => iblk m c 2 p) _ _
    (fun t h j => ?_) (fun t h j => ?_) t h y i (fun s k hs hl => ?_) (fun s k hs hl => ?_)
  · rw [outsAt0_A m c t h (by omega) h (by omega) (by omega)]; frame_out; rw [first_up]
  · by_cases h2 : t.val % 4 = 3
    · rw [outsAt0_C m c t h (by omega) h (by omega) h2]; frame_out; rw [next_up]
      exact congrArg (· + _) (congrFun ((Memref.isWhole_whole cc0_scratch1).read_unread (outsAt0 m c (t.val - 1) _).2.2) j)
    · rw [outsAt0_B m c t h (by omega) h (by omega) h2]; frame_out; rw [next_up]
      exact congrArg (· + _) (congrFun ((Memref.isWhole_whole cc0_scratch1).read_unread (outsAt0 m c (t.val - 1) _).2.2) j)
  · blk_ext [iblk, V, places ⟨_, hs⟩]
  · blk_ext [iblk, V, places ⟨_, hs⟩]

/-- The block the last step writes is made of the two accumulators as it leaves them. -/
theorem out_at (t : Fin cfg0.N) (h : t.val % 4 = 3) (y : S1024x512.Idx) :
    (outsAt0 m c t.val t.isLt).1 y = (outsAt0 m c t.val t.isLt).2.1 y * Ideal.logistic ((outsAt0 m c t.val t.isLt).2.1 y)
      * (outsAt0 m c t.val t.isLt).2.2 y := by
  rw [outsAt0_C m c t (by omega) (by omega) (by omega) (by omega) h]; frame_out
  rw [last]

/-- The array the kernel leaves. -/
theorem final : (dats m 0 c).arrAt 3 cfg0.N = result m c := by
  refine (dats m 0 c).arrAt_eq_of_covers 3 _ (by decide +kernel) fun t hf y => ?_
  have h := (flush0_3 t).mp hf
  blk_simp
  rw [after0_3]
  refine (out_at m c t h y).trans ?_
  have h0 : (((cfg0.win 3).blk t).view.emb y 0).val = t.val / 64 * 1024 + (y 0).val := by blk_simp [places t] <;> try omega
  have h1 : (((cfg0.win 3).blk t).view.emb y 1).val = t.val / 4 % 16 * 512 + (y 1).val := by blk_simp [places t] <;> try omega
  rw [gate_at m c t h y _ h0 h1, up_at m c t h y _ h0 h1]
  rfl

end Cert.SwigluIdeal.Products

end
-- ==== Proof.Products.SwigluReference.lean ====
/- What the reference of the gated up-projection computes, and that the kernel computes the same. -/
module

public import proofs.«01_k».proof.Defs
public import proofs.«01_k».proof.Proof.Gen.SwigluReferenceIdeal.Run
public import proofs.«01_k».proof.Proof.Gen.SwigluReferenceIdeal.Read
public import proofs.«01_k».proof.Proof.Products.SwigluValue

@[expose] public section

set_option maxRecDepth 16384

noncomputable section

namespace Cert.SwigluReferenceIdeal.Products

open Cert.SwigluReferenceIdeal Cert.SwigluReferenceIdeal.Read
open Idealize.ShloMosaic Idealize.ShloMosaic.TcCoe Idealize.SL.Sem Cert.Products

/-- The contractions the reference makes. -/
theorem gate (X : S24576x4096.Idx → EReal) (W : S4096x8192.Idx → EReal) (i : S24576x8192.Idx) :
    val_main_v3 (F := Ideal) X W i = product (M := 24576) (K := 4096) (N := 8192) X W i := by
  pointwise [val_main_v3, val_main_v0, val_main_v1, product]
theorem up (X : S24576x4096.Idx → EReal) (W : S4096x8192.Idx → EReal) (i : S24576x8192.Idx) :
    val_main_v5 (F := Ideal) X W i = product (M := 24576) (K := 4096) (N := 8192) X W i := by
  pointwise [val_main_v5, val_main_v0, val_main_v2, product]

/-- The reference's entries. -/
theorem whole (X : S24576x4096.Idx → EReal) (W U : S4096x8192.Idx → EReal) (i : S24576x8192.Idx) :
    val_main_v7 (F := Ideal) X W U i = product (M := 24576) (K := 4096) (N := 8192) X W i
      * Ideal.logistic (product (M := 24576) (K := 4096) (N := 8192) X W i) * product (M := 24576) (K := 4096) (N := 8192) X U i := by
  rw [← gate, ← up]
  pointwise [val_main_v7, val_main_v6, val_main_v4, val_main_call0_v5, val_main_call0_v4, val_main_call0_v3, val_main_call0_v2,
    val_main_call0_v1, val_main_call0_v0, val_main_call0_cst, val_main_call0_cst_0, Ideal.logistic]

/-- The reference ends with its arguments unchanged. -/
theorem frame : Cert.quiescent_SwigluReferenceIdeal := fun m ρ _ =>
  (θ_run Cert.SwigluReferenceIdeal.defs _ _).mono (fun r h => ⟨fun c => (h c).2, sem_eq_zero_of_no_sems (by decide) r.2⟩)
    (Cert.SwigluReferenceIdeal.Value.run (F := Ideal) m ρ)

/-- Both programs leave the same array, of the same arguments. -/
theorem algebraic : Cert.algebraic_SwigluIdeal_SwigluReferenceIdeal := by
  intro m g m' g' _ hagree
  refine ⟨fun c => Cert.SwigluIdeal.Products.result m c, ?_, ?_⟩
  · exact (θ_run Cert.SwigluIdeal.defs _ _).mono (fun r h c => ⟨(h c).1.trans (Cert.SwigluIdeal.Products.final m c), (h c).2⟩)
      (Cert.SwigluIdeal.Value.run_blocks m g)
  · refine (θ_run Cert.SwigluReferenceIdeal.defs _ _).mono (fun r h c => ⟨(h c).1.trans ?_, (h c).2⟩)
      (Cert.SwigluReferenceIdeal.Value.run (F := Ideal) m' g')
    refine (val_main_v7_eq _ _ _).trans (funext fun i => ?_)
    rw [(hagree c).1, (hagree c).2.1, (hagree c).2.2]
    exact whole _ _ _ i

end Cert.SwigluReferenceIdeal.Products

end
-- ==== Proof.Products.DownValue.lean ====
/- The value of the down-projection that is added to the residual: each block of the result is its block of the residual
   and a sum over eight blocks of the contracted axis, which is the whole contraction. -/
module

public import proofs.«01_k».proof.Proof.Gen.DownIdeal.Value
public import proofs.«01_k».proof.Proof.Products.Spec

@[expose] public section

set_option maxRecDepth 16384

noncomputable section

namespace Cert.DownIdeal.Products

open Cert.DownIdeal Cert.DownIdeal.Gen
open Idealize.ShloMosaic Idealize.ShloMosaic.TcCoe Idealize.SL.Sem Cert.Products
open Idealize.ShloMosaic.Pipeline (Dat Cfg Window)

variable (m : (ℓ : Loc nD τ sig) → Buf (Elt Ideal) ℓ) (c : Dev nD)

/-- The block product the first step of a block stores. -/
theorem first (x : Vec Ideal S1024x1024 .bf16) (w : Vec Ideal S1024x512 .bf16) (j) :
    k0_pay2 (F := Ideal) x w j = ∑ k : Fin 1024, x (ix2 (j 0) k) * w (ix2 k (j 1)) := by pointwise [k0_pay2, k0_pay1]

/-- What a later step stores: its block product added to what is there. -/
theorem next (x : Vec Ideal S1024x1024 .bf16) (w : Vec Ideal S1024x512 .bf16) (a : Vec Ideal S1024x512 .f32) (j) :
    k0_pay3 (F := Ideal) x w a j = a j + ∑ k : Fin 1024, x (ix2 (j 0) k) * w (ix2 k (j 1)) := by pointwise [k0_pay3, k0_pay1]

/-- What the last step writes: the residual plus the accumulator. -/
theorem last (a r : Vec Ideal S1024x512 .f32) (j) : k0_pay4 (F := Ideal) a r j = r j + a j := by pointwise [k0_pay4]

/-- The blocks a step works on. -/
theorem places : ∀ t : Fin cfg0.N, win0_0.index t = ![t.val / 64, t.val % 8] ∧ win0_1.index t = ![t.val % 8, t.val / 8 % 8]
    ∧ win0_2.index t = ![t.val / 64, t.val / 8 % 8] ∧ win0_3.index t = ![t.val / 64, t.val / 8 % 8] :=
  (by decide +kernel : ∀ t : Fin grid0.N, _)

/-- The product of the two matrices the kernel is given. -/
def whole : S24576x4096.Idx → EReal :=
  product (M := 24576) (K := 8192) (N := 4096) (m ((c : Thread nD τ).loc main_arg0)) (m ((c : Thread nD τ).loc main_arg1))

/-- The value of the call at an entry. -/
def result : S24576x4096.Idx → EReal := fun i =>
  (show S24576x4096.Idx → EReal from m ((c : Thread nD τ).loc main_arg2)) i + whole m c i

/-- After the last step of a block the accumulator holds the block's entries of the product. -/
theorem sum_at (t : Fin cfg0.N) (h : t.val % 8 = 7) (y : S1024x512.Idx) (i : S24576x4096.Idx)
    (h0 : (i 0).val = t.val / 64 * 1024 + (y 0).val) (h1 : (i 1).val = t.val / 8 % 8 * 512 + (y 1).val) :
    (outsAt0 m c t.val t.isLt).2 y = whole m c i := by
  refine accumulated (J := 8) (n := 1024) rfl (fun n h => (outsAt0 m c n h).2) (fun p => iblk m c 0 p) (fun p => iblk m c 1 p) _ _
    (fun t h j => ?_) (fun t h j => ?_) t h y i (fun s k hs hl => ?_) (fun s k hs hl => ?_)
  · rw [outsAt0_A m c t h (by omega) (by omega)]; frame_out; rw [first]
  · by_cases h2 : t.val % 8 = 7
    · rw [outsAt0_C m c t h (by omega) h2]; frame_out; rw [next]
      exact congrArg (· + _) (congrFun ((Memref.isWhole_whole cc0_scratch0).read_unread (outsAt0 m c (t.val - 1) _).2) j)
    · rw [outsAt0_B m c t h (by omega) h2]; frame_out; rw [next]
      exact congrArg (· + _) (congrFun ((Memref.isWhole_whole cc0_scratch0).read_unread (outsAt0 m c (t.val - 1) _).2) j)
  · blk_ext [iblk, V, places ⟨_, hs⟩]
  · blk_ext [iblk, V, places ⟨_, hs⟩]

/-- The block the last step writes is made of the accumulator as it leaves it. -/
theorem out_at (t : Fin cfg0.N) (h : t.val % 8 = 7) (y : S1024x512.Idx) :
    (outsAt0 m c t.val t.isLt).1 y = (show Vec Ideal S1024x512 .f32 from iblk m c 2 t) y + (outsAt0 m c t.val t.isLt).2 y := by
  rw [outsAt0_C m c t (by omega) (by omega) h]; frame_out
  rw [last]

/-- The array the kernel leaves. -/
theorem final : (dats m 0 c).arrAt 3 cfg0.N = result m c := by
  refine (dats m 0 c).arrAt_eq_of_covers 3 _ (by decide +kernel) fun t hf y => ?_
  have h := (flush0_3 t).mp hf
  blk_simp
  rw [after0_3]
  refine (out_at m c t h y).trans ?_
  have h0 : (((cfg0.win 3).blk t).view.emb y 0).val = t.val / 64 * 1024 + (y 0).val := by blk_simp [places t] <;> try omega
  have h1 : (((cfg0.win 3).blk t).view.emb y 1).val = t.val / 8 % 8 * 512 + (y 1).val := by blk_simp [places t] <;> try omega
  rw [sum_at m c t h y _ h0 h1]
  refine congrArg (fun r : EReal => r + _) ?_
  blk_ext [iblk, V, places t]

end Cert.DownIdeal.Products

end
-- ==== Proof.Products.DownReference.lean ====
/- What the reference of the down-projection computes, and that the kernel computes the same. -/
module

public import proofs.«01_k».proof.Defs
public import proofs.«01_k».proof.Proof.Gen.DownReferenceIdeal.Run
public import proofs.«01_k».proof.Proof.Gen.DownReferenceIdeal.Read
public import proofs.«01_k».proof.Proof.Products.DownValue

@[expose] public section

set_option maxRecDepth 16384

noncomputable section

namespace Cert.DownReferenceIdeal.Products

open Cert.DownReferenceIdeal Cert.DownReferenceIdeal.Read
open Idealize.ShloMosaic Idealize.ShloMosaic.TcCoe Idealize.SL.Sem Cert.Products

/-- The contraction the reference makes. -/
theorem dot (X : S24576x8192.Idx → EReal) (W : S8192x4096.Idx → EReal) (i : S24576x4096.Idx) :
    val_main_v2 (F := Ideal) X W i = product (M := 24576) (K := 8192) (N := 4096) X W i := by
  pointwise [val_main_v2, val_main_v0, val_main_v1, product]

/-- The reference's entries. -/
theorem whole (X : S24576x8192.Idx → EReal) (W : S8192x4096.Idx → EReal) (R : S24576x4096.Idx → EReal) (i : S24576x4096.Idx) :
    val_main_v3 (F := Ideal) X W R i = R i + product (M := 24576) (K := 8192) (N := 4096) X W i := by
  rw [← dot]
  rfl

/-- The reference ends with its arguments unchanged. -/
theorem frame : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- Both programs leave the same array, of the same arguments. -/
theorem algebraic : Cert.algebraic_DownIdeal_DownReferenceIdeal := by
  intro m g m' g' _ hagree
  refine ⟨fun c => Cert.DownIdeal.Products.result m c, ?_, ?_⟩
  · exact (θ_run Cert.DownIdeal.defs _ _).mono (fun r h c => ⟨(h c).1.trans (Cert.DownIdeal.Products.final m c), (h c).2⟩)
      (Cert.DownIdeal.Value.run_blocks m g)
  · refine (θ_run Cert.DownReferenceIdeal.defs _ _).mono (fun r h c => ⟨(h c).1.trans ?_, (h c).2⟩)
      (Cert.DownReferenceIdeal.Value.run (F := Ideal) m' g')
    refine (val_main_v3_eq _ _ _).trans (funext fun i => ?_)
    rw [(hagree c).1, (hagree c).2.1, (hagree c).2.2]
    exact whole _ _ _ i

end Cert.DownReferenceIdeal.Products

end
-- ==== Proof.Products.OutValue.lean ====
/- The value of a projection that is added to what it projects back to: each block of the result is its block of the
   residual and a sum over four blocks of the contracted axis, which is the whole contraction. -/
module

public import proofs.«01_k».proof.Proof.Gen.OutIdeal.Value
public import proofs.«01_k».proof.Proof.Products.Spec

@[expose] public section

set_option maxRecDepth 16384

noncomputable section

namespace Cert.OutIdeal.Products

open Cert.OutIdeal Cert.OutIdeal.Gen
open Idealize.ShloMosaic Idealize.ShloMosaic.TcCoe Idealize.SL.Sem Cert.Products
open Idealize.ShloMosaic.Pipeline (Dat Cfg Window)

variable (m : (ℓ : Loc nD τ sig) → Buf (Elt Ideal) ℓ) (c : Dev nD)

/-- The block product the first step of a block stores. -/
theorem first (x : Vec Ideal S1024x1024 .bf16) (w : Vec Ideal S1024x512 .bf16) (j) :
    k0_pay2 (F := Ideal) x w j = ∑ k : Fin 1024, x (ix2 (j 0) k) * w (ix2 k (j 1)) := by pointwise [k0_pay2, k0_pay1]

/-- What a later step stores: its block product added to what is there. -/
theorem next (x : Vec Ideal S1024x1024 .bf16) (w : Vec Ideal S1024x512 .bf16) (a : Vec Ideal S1024x512 .f32) (j) :
    k0_pay3 (F := Ideal) x w a j = a j + ∑ k : Fin 1024, x (ix2 (j 0) k) * w (ix2 k (j 1)) := by pointwise [k0_pay3, k0_pay1]

/-- What the last step writes: the residual plus the accumulator. -/
theorem last (a r : Vec Ideal S1024x512 .f32) (j) : k0_pay4 (F := Ideal) a r j = r j + a j := by pointwise [k0_pay4]

/-- The blocks a step works on. -/
theorem places : ∀ t : Fin cfg0.N, win0_0.index t = ![t.val / 32, t.val % 4] ∧ win0_1.index t = ![t.val % 4, t.val / 4 % 8]
    ∧ win0_2.index t = ![t.val / 32, t.val / 4 % 8] ∧ win0_3.index t = ![t.val / 32, t.val / 4 % 8] :=
  (by decide +kernel : ∀ t : Fin grid0.N, _)

/-- The product of the two matrices the kernel is given. -/
def whole : S24576x4096.Idx → EReal :=
  product (M := 24576) (K := 4096) (N := 4096) (m ((c : Thread nD τ).loc main_arg0)) (m ((c : Thread nD τ).loc main_arg1))

/-- The value of the call at an entry. -/
def result : S24576x4096.Idx → EReal := fun i =>
  (show S24576x4096.Idx → EReal from m ((c : Thread nD τ).loc main_arg2)) i + whole m c i

/-- After the last step of a block the accumulator holds the block's entries of the product. -/
theorem sum_at (t : Fin cfg0.N) (h : t.val % 4 = 3) (y : S1024x512.Idx) (i : S24576x4096.Idx)
    (h0 : (i 0).val = t.val / 32 * 1024 + (y 0).val) (h1 : (i 1).val = t.val / 4 % 8 * 512 + (y 1).val) :
    (outsAt0 m c t.val t.isLt).2 y = whole m c i := by
  refine accumulated (J := 4) (n := 1024) rfl (fun n h => (outsAt0 m c n h).2) (fun p => iblk m c 0 p) (fun p => iblk m c 1 p) _ _
    (fun t h j => ?_) (fun t h j => ?_) t h y i (fun s k hs hl => ?_) (fun s k hs hl => ?_)
  · rw [outsAt0_A m c t h (by omega) (by omega)]; frame_out; rw [first]
  · by_cases h2 : t.val % 4 = 3
    · rw [outsAt0_C m c t h (by omega) h2]; frame_out; rw [next]
      exact congrArg (· + _) (congrFun ((Memref.isWhole_whole cc0_scratch0).read_unread (outsAt0 m c (t.val - 1) _).2) j)
    · rw [outsAt0_B m c t h (by omega) h2]; frame_out; rw [next]
      exact congrArg (· + _) (congrFun ((Memref.isWhole_whole cc0_scratch0).read_unread (outsAt0 m c (t.val - 1) _).2) j)
  · blk_ext [iblk, V, places ⟨_, hs⟩]
  · blk_ext [iblk, V, places ⟨_, hs⟩]

/-- The block the last step writes is made of the accumulator as it leaves it. -/
theorem out_at (t : Fin cfg0.N) (h : t.val % 4 = 3) (y : S1024x512.Idx) :
    (outsAt0 m c t.val t.isLt).1 y = (show Vec Ideal S1024x512 .f32 from iblk m c 2 t) y + (outsAt0 m c t.val t.isLt).2 y := by
  rw [outsAt0_C m c t (by omega) (by omega) h]; frame_out
  rw [last]

/-- The array the kernel leaves. -/
theorem final : (dats m 0 c).arrAt 3 cfg0.N = result m c := by
  refine (dats m 0 c).arrAt_eq_of_covers 3 _ (by decide +kernel) fun t hf y => ?_
  have h := (flush0_3 t).mp hf
  blk_simp
  rw [after0_3]
  refine (out_at m c t h y).trans ?_
  have h0 : (((cfg0.win 3).blk t).view.emb y 0).val = t.val / 32 * 1024 + (y 0).val := by blk_simp [places t] <;> try omega
  have h1 : (((cfg0.win 3).blk t).view.emb y 1).val = t.val / 4 % 8 * 512 + (y 1).val := by blk_simp [places t] <;> try omega
  rw [sum_at m c t h y _ h0 h1]
  refine congrArg (fun r : EReal => r + _) ?_
  blk_ext [iblk, V, places t]

end Cert.OutIdeal.Products

end
-- ==== Proof.Products.OutReference.lean ====
/- What the reference of the projection back computes, and that the kernel computes the same. -/
module

public import proofs.«01_k».proof.Defs
public import proofs.«01_k».proof.Proof.Gen.OutReferenceIdeal.Run
public import proofs.«01_k».proof.Proof.Gen.OutReferenceIdeal.Read
public import proofs.«01_k».proof.Proof.Products.OutValue

@[expose] public section

set_option maxRecDepth 16384

noncomputable section

namespace Cert.OutReferenceIdeal.Products

open Cert.OutReferenceIdeal Cert.OutReferenceIdeal.Read
open Idealize.ShloMosaic Idealize.ShloMosaic.TcCoe Idealize.SL.Sem Cert.Products

/-- The contraction the reference makes. -/
theorem dot (X : S24576x4096.Idx → EReal) (W : S4096x4096.Idx → EReal) (i : S24576x4096.Idx) :
    val_main_v2 (F := Ideal) X W i = product (M := 24576) (K := 4096) (N := 4096) X W i := by
  pointwise [val_main_v2, val_main_v0, val_main_v1, product]

/-- The reference's entries. -/
theorem whole (X : S24576x4096.Idx → EReal) (W : S4096x4096.Idx → EReal) (R : S24576x4096.Idx → EReal) (i : S24576x4096.Idx) :
    val_main_v3 (F := Ideal) X W R i = R i + product (M := 24576) (K := 4096) (N := 4096) X W i := by
  rw [← dot]
  rfl

/-- The reference ends with its arguments unchanged. -/
theorem frame : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- Both programs leave the same array, of the same arguments. -/
theorem algebraic : Cert.algebraic_OutIdeal_OutReferenceIdeal := by
  intro m g m' g' _ hagree
  refine ⟨fun c => Cert.OutIdeal.Products.result m c, ?_, ?_⟩
  · exact (θ_run Cert.OutIdeal.defs _ _).mono (fun r h c => ⟨(h c).1.trans (Cert.OutIdeal.Products.final m c), (h c).2⟩)
      (Cert.OutIdeal.Value.run_blocks m g)
  · refine (θ_run Cert.OutReferenceIdeal.defs _ _).mono (fun r h c => ⟨(h c).1.trans ?_, (h c).2⟩)
      (Cert.OutReferenceIdeal.Value.run (F := Ideal) m' g')
    refine (val_main_v3_eq _ _ _).trans (funext fun i => ?_)
    rw [(hagree c).1, (hagree c).2.1, (hagree c).2.2]
    exact whole _ _ _ i

end Cert.OutReferenceIdeal.Products

end
-- ==== Proof.Products.ExpertsValue.lean ====
/- The value of the experts' gated up-projection: each block of the result belongs to one expert and is made from two
   accumulators, the products with that expert's two matrices, and from the weight the router gave the expert in each row. -/
module

public import proofs.«01_k».proof.Proof.Gen.ExpertsIdeal.Value
public import proofs.«01_k».proof.Proof.Products.Spec

@[expose] public section

set_option maxRecDepth 16384

noncomputable section

namespace Cert.ExpertsIdeal.Products

open Cert.ExpertsIdeal Cert.ExpertsIdeal.Gen
open Idealize.ShloMosaic Idealize.ShloMosaic.TcCoe Idealize.SL.Sem Cert.Products
open Idealize.ShloMosaic.Pipeline (Dat Cfg Window)

variable (m : (ℓ : Loc nD τ sig) → Buf (Elt Ideal) ℓ) (c : Dev nD)

/-- The block products the first step of a block stores. -/
theorem first (x : Vec Ideal S1024x1024 .bf16) (w : Vec Ideal S1x1024x512 .bf16) (j) :
    k0_pay2 (F := Ideal) x w j = ∑ k : Fin 1024, x (ix2 (j 0) k) * w (ix3 0 k (j 1)) := by pointwise [k0_pay2, k0_pay1]
theorem first_up (x : Vec Ideal S1024x1024 .bf16) (w : Vec Ideal S1x1024x512 .bf16) (j) :
    k0_pay5 (F := Ideal) x w j = ∑ k : Fin 1024, x (ix2 (j 0) k) * w (ix3 0 k (j 1)) := by pointwise [k0_pay5, k0_pay4]

/-- What a later step stores: its block products added to what is there. -/
theorem next (x : Vec Ideal S1024x1024 .bf16) (w : Vec Ideal S1x1024x512 .bf16) (a : Vec Ideal S1024x512 .f32) (j) :
    k0_pay3 (F := Ideal) x w a j = a j + ∑ k : Fin 1024, x (ix2 (j 0) k) * w (ix3 0 k (j 1)) := by pointwise [k0_pay3, k0_pay1]
theorem next_up (x : Vec Ideal S1024x1024 .bf16) (w : Vec Ideal S1x1024x512 .bf16) (a : Vec Ideal S1024x512 .f32) (j) :
    k0_pay6 (F := Ideal) x w a j = a j + ∑ k : Fin 1024, x (ix2 (j 0) k) * w (ix3 0 k (j 1)) := by pointwise [k0_pay6, k0_pay4]

/-- What the last step makes of the two accumulators and the router's weights: the swish of the gate, times the up branch,
    times the weight in the expert's own column. -/
theorem last (e : grid0.Coords) (a b : Vec Ideal S1024x512 .f32) (r : Vec Ideal S1024x128 .f32) (j) (h : (e 1).val < 128) :
    k0_pay7 (F := Ideal) e a b r j = a j * Ideal.logistic (a j) * b j * r (ix2 (j 0) ⟨(e 1).val, h⟩) := by
  pointwise [k0_pay7]
  refine congrArg (fun p : EReal => _ * p) ((Finset.sum_eq_single (⟨(e 1).val, h⟩ : Fin 128) (fun x _ hx => ?_) (fun hx => absurd (Finset.mem_univ _) hx)).trans ?_)
  · have hne : BitVec.ofNat 32 x.val ≠ BitVec.ofNat 32 (e 1).val := fun hh => hx (Fin.ext (by
      have h2 := congrArg BitVec.toNat hh
      rw [BitVec.toNat_ofNat, BitVec.toNat_ofNat, Nat.mod_eq_of_lt (x.isLt.trans (by decide)), Nat.mod_eq_of_lt (h.trans (by decide))] at h2
      exact h2))
    unfold Scalar.select IntOp.cmpi
    dsimp only
    rw [beq_eq_false_iff_ne.mpr hne]
    rfl
  · simp [Scalar.select, IntOp.cmpi]

/-- The blocks a step works on. -/
theorem places : ∀ t : Fin cfg0.N, win0_0.index t = ![t.val / 32, t.val % 4] ∧ win0_1.index t = ![t.val / 4 % 8, t.val % 4, 0]
    ∧ win0_2.index t = ![t.val / 4 % 8, t.val % 4, 0] ∧ win0_3.index t = ![t.val / 32, 0]
    ∧ win0_4.index t = ![t.val / 32, t.val / 4 % 8] :=
  (by decide +kernel : ∀ t : Fin grid0.N, _)

/-- The expert a step works for. -/
theorem expert : ∀ t : Fin cfg0.N, (grid0.coords t 1).val = t.val / 4 % 8 :=
  (by decide +kernel : ∀ t : Fin grid0.N, _)

/-- The expert a column belongs to, the column of the expert's own matrices it stands for, and the column of the router's
    weights that is the expert's. -/
def owner (j : Fin 4096) : Fin 8 := ⟨j.val / 512, by omega⟩
def column (j : Fin 4096) : Fin 512 := ⟨j.val % 512, by omega⟩
def weight (j : Fin 4096) : Fin 128 := ⟨j.val / 512, by omega⟩

/-- The products with an expert's two matrices. -/
def gate (e : Fin 8) : (⟨2, ![24576, 512]⟩ : Shape).Idx → EReal :=
  product (M := 24576) (K := 4096) (N := 512) (m ((c : Thread nD τ).loc main_arg0))
    fun i => (show S8x4096x512.Idx → EReal from m ((c : Thread nD τ).loc main_arg1)) (ix3 e (i 0) (i 1))
def up (e : Fin 8) : (⟨2, ![24576, 512]⟩ : Shape).Idx → EReal :=
  product (M := 24576) (K := 4096) (N := 512) (m ((c : Thread nD τ).loc main_arg0))
    fun i => (show S8x4096x512.Idx → EReal from m ((c : Thread nD τ).loc main_arg2)) (ix3 e (i 0) (i 1))

/-- The value of the call at an entry. -/
def result : S24576x4096.Idx → EReal := fun i =>
  gate m c (owner (i 1)) (ix2 (i 0) (column (i 1))) * Ideal.logistic (gate m c (owner (i 1)) (ix2 (i 0) (column (i 1))))
    * up m c (owner (i 1)) (ix2 (i 0) (column (i 1)))
    * (show S24576x128.Idx → EReal from m ((c : Thread nD τ).loc main_arg3)) (ix2 (i 0) (weight (i 1)))

/-- After the last step of a block the first accumulator holds the block's entries of the gate. -/
theorem gate_at (t : Fin cfg0.N) (h : t.val % 4 = 3) (y : S1024x512.Idx) (e : Fin 8) (i : (⟨2, ![24576, 512]⟩ : Shape).Idx)
    (h0 : (i 0).val = t.val / 32 * 1024 + (y 0).val) (h1 : (i 1).val = (y 1).val) (h2 : e.val = t.val / 4 % 8) :
    (outsAt0 m c t.val t.isLt).2.1 y = gate m c e i := by
  refine accumulated (J := 4) (n := 1024) rfl (fun n h => (outsAt0 m c n h).2.1) (fun p => iblk m c 0 p) (fun p j => (show Vec Ideal S1x1024x512 .bf16 from iblk m c 1 p) (ix3 0 (j 0) (j 1))) _ _
    (fun t h j => ?_) (fun t h j => ?_) t h y i (fun s k hs hl => ?_) (fun s k hs hl => ?_)
  · rw [outsAt0_A m c t h (by omega) h (by omega) (by omega)]; frame_out; rw [first]; rfl
  · by_cases h3 : t.val % 4 = 3
    · rw [outsAt0_C m c t h (by omega) h (by omega) h3]; frame_out; rw [next]
      exact congrArg (· + _) (congrFun ((Memref.isWhole_whole cc0_scratch0).read_unread (outsAt0 m c (t.val - 1) _).2.1) j)
    · rw [outsAt0_B m c t h (by omega) h (by omega) h3]; frame_out; rw [next]
      exact congrArg (· + _) (congrFun ((Memref.isWhole_whole cc0_scratch0).read_unread (outsAt0 m c (t.val - 1) _).2.1) j)
  · blk_ext [iblk, V, places ⟨_, hs⟩]
  · blk_ext [iblk, V, places ⟨_, hs⟩]

/-- And the second those of the up branch. -/
theorem up_at (t : Fin cfg0.N) (h : t.val % 4 = 3) (y : S1024x512.Idx) (e : Fin 8) (i : (⟨2, ![24576, 512]⟩ : Shape).Idx)
    (h0 : (i 0).val = t.val / 32 * 1024 + (y 0).val) (h1 : (i 1).val = (y 1).val) (h2 : e.val = t.val / 4 % 8) :
    (outsAt0 m c t.val t.isLt).2.2 y = up m c e i := by
  refine accumulated (J := 4) (n := 1024) rfl (fun n h => (outsAt0 m c n h).2.2) (fun p => iblk m c 0 p) (fun p j => (show Vec Ideal S1x1024x512 .bf16 from iblk m c 2 p) (ix3 0 (j 0) (j 1))) _ _
    (fun t h j => ?_) (fun t h j => ?_) t h y i (fun s k hs hl => ?_) (fun s k hs hl => ?_)
  · rw [outsAt0_A m c t h (by omega) h (by omega) (by omega)]; frame_out; rw [first_up]; rfl
  · by_cases h3 : t.val % 4 = 3
    · rw [outsAt0_C m c t h (by omega) h (by omega) h3]; frame_out; rw [next_up]
      exact congrArg (· + _) (congrFun ((Memref.isWhole_whole cc0_scratch1).read_unread (outsAt0 m c (t.val - 1) _).2.2) j)
    · rw [outsAt0_B m c t h (by omega) h (by omega) h3]; frame_out; rw [next_up]
      exact congrArg (· + _) (congrFun ((Memref.isWhole_whole cc0_scratch1).read_unread (outsAt0 m c (t.val - 1) _).2.2) j)
  · blk_ext [iblk, V, places ⟨_, hs⟩]
  · blk_ext [iblk, V, places ⟨_, hs⟩]

/-- The block the last step writes is made of the two accumulators as it leaves them. -/
theorem out_at (t : Fin cfg0.N) (h : t.val % 4 = 3) (y : S1024x512.Idx) (e : Fin 128) (h2 : e.val = t.val / 4 % 8) :
    (outsAt0 m c t.val t.isLt).1 y = (outsAt0 m c t.val t.isLt).2.1 y * Ideal.logistic ((outsAt0 m c t.val t.isLt).2.1 y)
      * (outsAt0 m c t.val t.isLt).2.2 y * (show Vec Ideal S1024x128 .f32 from iblk m c 3 t) (ix2 (y 0) e) := by
  have he : e = ⟨(grid0.coords t 1).val, by rw [expert t]; omega⟩ := Fin.ext (h2.trans (expert t).symm)
  rw [he]
  rw [outsAt0_C m c t (by omega) (by omega) (by omega) (by omega) h]; frame_out
  rw [last]

/-- The array the kernel leaves. -/
theorem final : (dats m 0 c).arrAt 4 cfg0.N = result m c := by
  refine (dats m 0 c).arrAt_eq_of_covers 4 _ (by decide +kernel) fun t hf y => ?_
  have h := (flush0_4 t).mp hf
  blk_simp
  rw [after0_4]
  have h0 : (((cfg0.win 4).blk t).view.emb y 0).val = t.val / 32 * 1024 + (y 0).val := by blk_simp [places t] <;> try omega
  have h1 : (((cfg0.win 4).blk t).view.emb y 1).val = t.val / 4 % 8 * 512 + (y 1).val := by blk_simp [places t] <;> try omega
  generalize ((cfg0.win 4).blk t).view.emb y = i at h0 h1
  have hy : (y 1).val < 512 := (y 1).isLt
  have h2 : (owner (i 1)).val = t.val / 4 % 8 := by unfold owner; simp only; omega
  have h3 : (column (i 1)).val = (y 1).val := by unfold column; simp only; omega
  refine (out_at m c t h y (weight (i 1)) h2).trans ?_
  rw [gate_at m c t h y (owner (i 1)) (ix2 (i 0) (column (i 1))) h0 h3 h2,
    up_at m c t h y (owner (i 1)) (ix2 (i 0) (column (i 1))) h0 h3 h2]
  refine congrArg (fun p : EReal => gate m c (owner (i 1)) (ix2 (i 0) (column (i 1)))
    * Ideal.logistic (gate m c (owner (i 1)) (ix2 (i 0) (column (i 1)))) * up m c (owner (i 1)) (ix2 (i 0) (column (i 1))) * p) ?_
  blk_ext [iblk, V, places t, weight]

end Cert.ExpertsIdeal.Products

end
-- ==== Proof.Products.ExpertsReference.lean ====
/- What the reference of the experts' up-projection computes, and that the kernel computes the same. -/
module

public import proofs.«01_k».proof.Defs
public import proofs.«01_k».proof.Proof.Gen.ExpertsReferenceIdeal.Run
public import proofs.«01_k».proof.Proof.Gen.ExpertsReferenceIdeal.Read
public import proofs.«01_k».proof.Proof.Products.ExpertsValue

@[expose] public section

set_option maxRecDepth 16384

noncomputable section

namespace Cert.ExpertsReferenceIdeal.Products

open Cert.ExpertsReferenceIdeal Cert.ExpertsReferenceIdeal.Read
open Idealize.ShloMosaic Idealize.ShloMosaic.TcCoe Idealize.SL.Sem Cert.Products

/-- The contractions the reference makes, one for each expert. -/
theorem gate (X : S24576x4096.Idx → EReal) (W : S8x4096x512.Idx → EReal) (i : S24576x8x512.Idx) :
    val_main_v3 (F := Ideal) X W i = product (M := 24576) (K := 4096) (N := 512) X (fun j => W (ix3 (i 1) (j 0) (j 1))) (ix2 (i 0) (i 2)) := by
  pointwise [val_main_v3, val_main_v0, val_main_v1, product]
theorem up (X : S24576x4096.Idx → EReal) (W : S8x4096x512.Idx → EReal) (i : S24576x8x512.Idx) :
    val_main_v4 (F := Ideal) X W i = product (M := 24576) (K := 4096) (N := 512) X (fun j => W (ix3 (i 1) (j 0) (j 1))) (ix2 (i 0) (i 2)) := by
  pointwise [val_main_v4, val_main_v0, val_main_v2, product]

/-- An expert's column of the router's weights. -/
def lane (e : Fin 8) : Fin 128 := ⟨e.val, by omega⟩

/-- The reference's entries, one expert at a time. -/
theorem each (X : S24576x4096.Idx → EReal) (W U : S8x4096x512.Idx → EReal) (R : S24576x128.Idx → EReal) (i : S24576x8x512.Idx) :
    val_main_v10 (F := Ideal) X W U R i = val_main_v3 (F := Ideal) X W i * Ideal.logistic (val_main_v3 (F := Ideal) X W i)
      * val_main_v4 (F := Ideal) X U i * R (ix2 (i 0) (lane (i 1))) := by
  pointwise [val_main_v10, val_main_v9, val_main_v8, val_main_v7, val_main_v6, val_main_v5, val_main_call0_v5, val_main_call0_v4,
    val_main_call0_v3, val_main_call0_v2, val_main_call0_v1, val_main_call0_v0, val_main_call0_cst, val_main_call0_cst_0, lane,
    Ideal.logistic]

open Cert.ExpertsIdeal.Products (owner column weight) in
/-- The reference's entries. -/
theorem whole (X : S24576x4096.Idx → EReal) (W U : S8x4096x512.Idx → EReal) (R : S24576x128.Idx → EReal) (i : S24576x4096.Idx) :
    val_main_v12 (F := Ideal) X W U R i =
      product (M := 24576) (K := 4096) (N := 512) X (fun j => W (ix3 (owner (i 1)) (j 0) (j 1))) (ix2 (i 0) (column (i 1)))
        * Ideal.logistic (product (M := 24576) (K := 4096) (N := 512) X (fun j => W (ix3 (owner (i 1)) (j 0) (j 1))) (ix2 (i 0) (column (i 1))))
        * product (M := 24576) (K := 4096) (N := 512) X (fun j => U (ix3 (owner (i 1)) (j 0) (j 1))) (ix2 (i 0) (column (i 1)))
        * R (ix2 (i 0) (weight (i 1))) := by
  refine Eq.trans ?_ ((each X W U R (ix3 (i 0) (owner (i 1)) (column (i 1)))).trans ?_)
  · pointwise [val_main_v12, val_main_v11, owner, column]
  · rw [gate, up]
    rfl

/-- The reference ends with its arguments unchanged. -/
theorem frame : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- Both programs leave the same array, of the same arguments. -/
theorem algebraic : Cert.algebraic_ExpertsIdeal_ExpertsReferenceIdeal := by
  intro m g m' g' _ hagree
  refine ⟨fun c => Cert.ExpertsIdeal.Products.result m c, ?_, ?_⟩
  · exact (θ_run Cert.ExpertsIdeal.defs _ _).mono (fun r h c => ⟨(h c).1.trans (Cert.ExpertsIdeal.Products.final m c), (h c).2⟩)
      (Cert.ExpertsIdeal.Value.run_blocks m g)
  · refine (θ_run Cert.ExpertsReferenceIdeal.defs _ _).mono (fun r h c => ⟨(h c).1.trans ?_, (h c).2⟩)
      (Cert.ExpertsReferenceIdeal.Value.run (F := Ideal) m' g')
    refine (val_main_v12_eq _ _ _ _).trans (funext fun i => ?_)
    rw [(hagree c).1, (hagree c).2.1, (hagree c).2.2.1, (hagree c).2.2.2]
    exact whole _ _ _ _ i

end Cert.ExpertsReferenceIdeal.Products

end
-- ==== Proof.Products.QkvValue.lean ====
/- The value of the projection to queries, keys and values of the grouped attention: each block of the result is a sum
   over four blocks of the contracted axis, which is the whole contraction. -/
module

public import proofs.«01_k».proof.Proof.Gen.QkvIdeal.Value
public import proofs.«01_k».proof.Proof.Products.Spec

@[expose] public section

set_option maxRecDepth 16384

noncomputable section

namespace Cert.QkvIdeal.Products

open Cert.QkvIdeal Cert.QkvIdeal.Gen
open Idealize.ShloMosaic Idealize.ShloMosaic.TcCoe Idealize.SL.Sem Cert.Products
open Idealize.ShloMosaic.Pipeline (Dat Cfg Window)

variable (m : (ℓ : Loc nD τ sig) → Buf (Elt Ideal) ℓ) (c : Dev nD)

/-- The block product the first step of a block stores. -/
theorem first (x : Vec Ideal S1024x1024 .bf16) (w : Vec Ideal S1024x1024 .bf16) (j) :
    k0_pay2 (F := Ideal) x w j = ∑ k : Fin 1024, x (ix2 (j 0) k) * w (ix2 k (j 1)) := by pointwise [k0_pay2, k0_pay1]

/-- What a later step stores: its block product added to what is there. -/
theorem next (x : Vec Ideal S1024x1024 .bf16) (w : Vec Ideal S1024x1024 .bf16) (a : Vec Ideal S1024x1024 .f32) (j) :
    k0_pay3 (F := Ideal) x w a j = a j + ∑ k : Fin 1024, x (ix2 (j 0) k) * w (ix2 k (j 1)) := by pointwise [k0_pay3, k0_pay1]

/-- What the last step writes: the accumulator. -/
theorem last (a : Vec Ideal S1024x1024 .f32) (j) : k0_pay4 (F := Ideal) a j = a j := by pointwise [k0_pay4]

/-- The blocks a step works on. -/
theorem places : ∀ t : Fin cfg0.N, win0_0.index t = ![t.val / 24, t.val % 4] ∧ win0_1.index t = ![t.val % 4, t.val / 4 % 6]
    ∧ win0_2.index t = ![t.val / 24, t.val / 4 % 6] :=
  (by decide +kernel : ∀ t : Fin grid0.N, _)

/-- The product of the two matrices the kernel is given. -/
def whole : S24576x6144.Idx → EReal :=
  product (M := 24576) (K := 4096) (N := 6144) (m ((c : Thread nD τ).loc main_arg0)) (m ((c : Thread nD τ).loc main_arg1))

/-- The value of the call at an entry. -/
def result : S24576x6144.Idx → EReal := whole m c

/-- After the last step of a block the accumulator holds the block's entries of the product. -/
theorem sum_at (t : Fin cfg0.N) (h : t.val % 4 = 3) (y : S1024x1024.Idx) (i : S24576x6144.Idx)
    (h0 : (i 0).val = t.val / 24 * 1024 + (y 0).val) (h1 : (i 1).val = t.val / 4 % 6 * 1024 + (y 1).val) :
    (outsAt0 m c t.val t.isLt).2 y = whole m c i := by
  refine accumulated (J := 4) (n := 1024) rfl (fun n h => (outsAt0 m c n h).2) (fun p => iblk m c 0 p) (fun p => iblk m c 1 p) _ _
    (fun t h j => ?_) (fun t h j => ?_) t h y i (fun s k hs hl => ?_) (fun s k hs hl => ?_)
  · rw [outsAt0_A m c t h (by omega) (by omega)]; frame_out; rw [first]
  · by_cases h2 : t.val % 4 = 3
    · rw [outsAt0_C m c t h (by omega) h2]; frame_out; rw [next]
      exact congrArg (· + _) (congrFun ((Memref.isWhole_whole cc0_scratch0).read_unread (outsAt0 m c (t.val - 1) _).2) j)
    · rw [outsAt0_B m c t h (by omega) h2]; frame_out; rw [next]
      exact congrArg (· + _) (congrFun ((Memref.isWhole_whole cc0_scratch0).read_unread (outsAt0 m c (t.val - 1) _).2) j)
  · blk_ext [iblk, V, places ⟨_, hs⟩]
  · blk_ext [iblk, V, places ⟨_, hs⟩]

/-- The block the last step writes is made of the accumulator as it leaves it. -/
theorem out_at (t : Fin cfg0.N) (h : t.val % 4 = 3) (y : S1024x1024.Idx) :
    (outsAt0 m c t.val t.isLt).1 y = (outsAt0 m c t.val t.isLt).2 y := by
  rw [outsAt0_C m c t (by omega) (by omega) h]; frame_out
  rw [last]

/-- The array the kernel leaves. -/
theorem final : (dats m 0 c).arrAt 2 cfg0.N = result m c := by
  refine (dats m 0 c).arrAt_eq_of_covers 2 _ (by decide +kernel) fun t hf y => ?_
  have h := (flush0_2 t).mp hf
  blk_simp
  rw [after0_2]
  refine (out_at m c t h y).trans ?_
  have h0 : (((cfg0.win 2).blk t).view.emb y 0).val = t.val / 24 * 1024 + (y 0).val := by blk_simp [places t] <;> try omega
  have h1 : (((cfg0.win 2).blk t).view.emb y 1).val = t.val / 4 % 6 * 1024 + (y 1).val := by blk_simp [places t] <;> try omega
  rw [sum_at m c t h y _ h0 h1]
  rfl

end Cert.QkvIdeal.Products

end
-- ==== Proof.Products.QkvReference.lean ====
/- What the reference of the grouped attention's projection computes, and that the kernel computes the same. -/
module

public import proofs.«01_k».proof.Defs
public import proofs.«01_k».proof.Proof.Gen.QkvReferenceIdeal.Run
public import proofs.«01_k».proof.Proof.Gen.QkvReferenceIdeal.Read
public import proofs.«01_k».proof.Proof.Products.QkvValue

@[expose] public section

set_option maxRecDepth 16384

noncomputable section

namespace Cert.QkvReferenceIdeal.Products

open Cert.QkvReferenceIdeal Cert.QkvReferenceIdeal.Read
open Idealize.ShloMosaic Idealize.ShloMosaic.TcCoe Idealize.SL.Sem Cert.Products

/-- The contraction the reference makes. -/
theorem dot (X : S24576x4096.Idx → EReal) (W : S4096x6144.Idx → EReal) (i : S24576x6144.Idx) :
    val_main_v2 (F := Ideal) X W i = product (M := 24576) (K := 4096) (N := 6144) X W i := by
  pointwise [val_main_v2, val_main_v0, val_main_v1, product]

/-- The reference's entries. -/
theorem whole (X : S24576x4096.Idx → EReal) (W : S4096x6144.Idx → EReal) (i : S24576x6144.Idx) :
    val_main_v3 (F := Ideal) X W i = product (M := 24576) (K := 4096) (N := 6144) X W i := by
  rw [← dot]
  rfl

/-- The reference ends with its arguments unchanged. -/
theorem frame : Cert.quiescent_QkvReferenceIdeal := fun m ρ _ =>
  (θ_run Cert.QkvReferenceIdeal.defs _ _).mono (fun r h => ⟨fun c => (h c).2, sem_eq_zero_of_no_sems (by decide) r.2⟩)
    (Cert.QkvReferenceIdeal.Value.run (F := Ideal) m ρ)

/-- Both programs leave the same array, of the same arguments. -/
theorem algebraic : Cert.algebraic_QkvIdeal_QkvReferenceIdeal := by
  intro m g m' g' _ hagree
  refine ⟨fun c => Cert.QkvIdeal.Products.result m c, ?_, ?_⟩
  · exact (θ_run Cert.QkvIdeal.defs _ _).mono (fun r h c => ⟨(h c).1.trans (Cert.QkvIdeal.Products.final m c), (h c).2⟩)
      (Cert.QkvIdeal.Value.run_blocks m g)
  · refine (θ_run Cert.QkvReferenceIdeal.defs _ _).mono (fun r h c => ⟨(h c).1.trans ?_, (h c).2⟩)
      (Cert.QkvReferenceIdeal.Value.run (F := Ideal) m' g')
    refine (val_main_v3_eq _ _).trans (funext fun i => ?_)
    rw [(hagree c).1, (hagree c).2]
    exact whole _ _ i

end Cert.QkvReferenceIdeal.Products

end
-- ==== Proof.Products.WideValue.lean ====
/- The value of the projection to queries, keys and values of the differential attention: each block of the result is a
   sum over four blocks of the contracted axis, which is the whole contraction. -/
module

public import proofs.«01_k».proof.Proof.Gen.WideIdeal.Value
public import proofs.«01_k».proof.Proof.Products.Spec

@[expose] public section

set_option maxRecDepth 16384

noncomputable section

namespace Cert.WideIdeal.Products

open Cert.WideIdeal Cert.WideIdeal.Gen
open Idealize.ShloMosaic Idealize.ShloMosaic.TcCoe Idealize.SL.Sem Cert.Products
open Idealize.ShloMosaic.Pipeline (Dat Cfg Window)

variable (m : (ℓ : Loc nD τ sig) → Buf (Elt Ideal) ℓ) (c : Dev nD)

/-- The block product the first step of a block stores. -/
theorem first (x : Vec Ideal S1024x1024 .bf16) (w : Vec Ideal S1024x1024 .bf16) (j) :
    k0_pay2 (F := Ideal) x w j = ∑ k : Fin 1024, x (ix2 (j 0) k) * w (ix2 k (j 1)) := by pointwise [k0_pay2, k0_pay1]

/-- What a later step stores: its block product added to what is there. -/
theorem next (x : Vec Ideal S1024x1024 .bf16) (w : Vec Ideal S1024x1024 .bf16) (a : Vec Ideal S1024x1024 .f32) (j) :
    k0_pay3 (F := Ideal) x w a j = a j + ∑ k : Fin 1024, x (ix2 (j 0) k) * w (ix2 k (j 1)) := by pointwise [k0_pay3, k0_pay1]

/-- What the last step writes: the accumulator. -/
theorem last (a : Vec Ideal S1024x1024 .f32) (j) : k0_pay4 (F := Ideal) a j = a j := by pointwise [k0_pay4]

/-- The blocks a step works on. -/
theorem places : ∀ t : Fin cfg0.N, win0_0.index t = ![t.val / 48, t.val % 4] ∧ win0_1.index t = ![t.val % 4, t.val / 4 % 12]
    ∧ win0_2.index t = ![t.val / 48, t.val / 4 % 12] :=
  (by decide +kernel : ∀ t : Fin grid0.N, _)

/-- The product of the two matrices the kernel is given. -/
def whole : S24576x12288.Idx → EReal :=
  product (M := 24576) (K := 4096) (N := 12288) (m ((c : Thread nD τ).loc main_arg0)) (m ((c : Thread nD τ).loc main_arg1))

/-- The value of the call at an entry. -/
def result : S24576x12288.Idx → EReal := whole m c

/-- After the last step of a block the accumulator holds the block's entries of the product. -/
theorem sum_at (t : Fin cfg0.N) (h : t.val % 4 = 3) (y : S1024x1024.Idx) (i : S24576x12288.Idx)
    (h0 : (i 0).val = t.val / 48 * 1024 + (y 0).val) (h1 : (i 1).val = t.val / 4 % 12 * 1024 + (y 1).val) :
    (outsAt0 m c t.val t.isLt).2 y = whole m c i := by
  refine accumulated (J := 4) (n := 1024) rfl (fun n h => (outsAt0 m c n h).2) (fun p => iblk m c 0 p) (fun p => iblk m c 1 p) _ _
    (fun t h j => ?_) (fun t h j => ?_) t h y i (fun s k hs hl => ?_) (fun s k hs hl => ?_)
  · rw [outsAt0_A m c t h (by omega) (by omega)]; frame_out; rw [first]
  · by_cases h2 : t.val % 4 = 3
    · rw [outsAt0_C m c t h (by omega) h2]; frame_out; rw [next]
      exact congrArg (· + _) (congrFun ((Memref.isWhole_whole cc0_scratch0).read_unread (outsAt0 m c (t.val - 1) _).2) j)
    · rw [outsAt0_B m c t h (by omega) h2]; frame_out; rw [next]
      exact congrArg (· + _) (congrFun ((Memref.isWhole_whole cc0_scratch0).read_unread (outsAt0 m c (t.val - 1) _).2) j)
  · blk_ext [iblk, V, places ⟨_, hs⟩]
  · blk_ext [iblk, V, places ⟨_, hs⟩]

/-- The block the last step writes is made of the accumulator as it leaves it. -/
theorem out_at (t : Fin cfg0.N) (h : t.val % 4 = 3) (y : S1024x1024.Idx) :
    (outsAt0 m c t.val t.isLt).1 y = (outsAt0 m c t.val t.isLt).2 y := by
  rw [outsAt0_C m c t (by omega) (by omega) h]; frame_out
  rw [last]

/-- The array the kernel leaves. -/
theorem final : (dats m 0 c).arrAt 2 cfg0.N = result m c := by
  refine (dats m 0 c).arrAt_eq_of_covers 2 _ (by decide +kernel) fun t hf y => ?_
  have h := (flush0_2 t).mp hf
  blk_simp
  rw [after0_2]
  refine (out_at m c t h y).trans ?_
  have h0 : (((cfg0.win 2).blk t).view.emb y 0).val = t.val / 48 * 1024 + (y 0).val := by blk_simp [places t] <;> try omega
  have h1 : (((cfg0.win 2).blk t).view.emb y 1).val = t.val / 4 % 12 * 1024 + (y 1).val := by blk_simp [places t] <;> try omega
  rw [sum_at m c t h y _ h0 h1]
  rfl

end Cert.WideIdeal.Products

end
-- ==== Proof.Products.WideReference.lean ====
/- What the reference of the differential attention's projection computes, and that the kernel computes the same. -/
module

public import proofs.«01_k».proof.Defs
public import proofs.«01_k».proof.Proof.Gen.WideReferenceIdeal.Run
public import proofs.«01_k».proof.Proof.Gen.WideReferenceIdeal.Read
public import proofs.«01_k».proof.Proof.Products.WideValue

@[expose] public section

set_option maxRecDepth 16384

noncomputable section

namespace Cert.WideReferenceIdeal.Products

open Cert.WideReferenceIdeal Cert.WideReferenceIdeal.Read
open Idealize.ShloMosaic Idealize.ShloMosaic.TcCoe Idealize.SL.Sem Cert.Products

/-- The contraction the reference makes. -/
theorem dot (X : S24576x4096.Idx → EReal) (W : S4096x12288.Idx → EReal) (i : S24576x12288.Idx) :
    val_main_v2 (F := Ideal) X W i = product (M := 24576) (K := 4096) (N := 12288) X W i := by
  pointwise [val_main_v2, val_main_v0, val_main_v1, product]

/-- The reference's entries. -/
theorem whole (X : S24576x4096.Idx → EReal) (W : S4096x12288.Idx → EReal) (i : S24576x12288.Idx) :
    val_main_v3 (F := Ideal) X W i = product (M := 24576) (K := 4096) (N := 12288) X W i := by
  rw [← dot]
  rfl

/-- The reference ends with its arguments unchanged. -/
theorem frame : Cert.quiescent_WideReferenceIdeal := fun m ρ _ =>
  (θ_run Cert.WideReferenceIdeal.defs _ _).mono (fun r h => ⟨fun c => (h c).2, sem_eq_zero_of_no_sems (by decide) r.2⟩)
    (Cert.WideReferenceIdeal.Value.run (F := Ideal) m ρ)

/-- Both programs leave the same array, of the same arguments. -/
theorem algebraic : Cert.algebraic_WideIdeal_WideReferenceIdeal := by
  intro m g m' g' _ hagree
  refine ⟨fun c => Cert.WideIdeal.Products.result m c, ?_, ?_⟩
  · exact (θ_run Cert.WideIdeal.defs _ _).mono (fun r h c => ⟨(h c).1.trans (Cert.WideIdeal.Products.final m c), (h c).2⟩)
      (Cert.WideIdeal.Value.run_blocks m g)
  · refine (θ_run Cert.WideReferenceIdeal.defs _ _).mono (fun r h c => ⟨(h c).1.trans ?_, (h c).2⟩)
      (Cert.WideReferenceIdeal.Value.run (F := Ideal) m' g')
    refine (val_main_v3_eq _ _).trans (funext fun i => ?_)
    rw [(hagree c).1, (hagree c).2]
    exact whole _ _ i

end Cert.WideReferenceIdeal.Products

end
-- ==== Proof.Products.GluValue.lean ====
/- The value of the first pointwise convolution and its gate: each block of the result is made from two accumulators, one
   for a block of the left half of the product's columns and one for the block of the right half. -/
module

public import proofs.«01_k».proof.Proof.Gen.GluIdeal.Value
public import proofs.«01_k».proof.Proof.Products.Spec

@[expose] public section

set_option maxRecDepth 16384

noncomputable section

namespace Cert.GluIdeal.Products

open Cert.GluIdeal Cert.GluIdeal.Gen
open Idealize.ShloMosaic Idealize.ShloMosaic.TcCoe Idealize.SL.Sem Cert.Products
open Idealize.ShloMosaic.Pipeline (Dat Cfg Window)

variable (m : (ℓ : Loc nD τ sig) → Buf (Elt Ideal) ℓ) (c : Dev nD)

/-- The block products the first step of a block stores. -/
theorem first (x : Vec Ideal S1024x1024 .bf16) (w : Vec Ideal S1024x512 .bf16) (j) :
    k0_pay2 (F := Ideal) x w j = ∑ k : Fin 1024, x (ix2 (j 0) k) * w (ix2 k (j 1)) := by pointwise [k0_pay2, k0_pay1]
theorem first_right (x : Vec Ideal S1024x1024 .bf16) (w : Vec Ideal S1024x512 .bf16) (j) :
    k0_pay5 (F := Ideal) x w j = ∑ k : Fin 1024, x (ix2 (j 0) k) * w (ix2 k (j 1)) := by pointwise [k0_pay5, k0_pay4]

/-- What a later step stores: its block products added to what is there. -/
theorem next (x : Vec Ideal S1024x1024 .bf16) (w : Vec Ideal S1024x512 .bf16) (a : Vec Ideal S1024x512 .f32) (j) :
    k0_pay3 (F := Ideal) x w a j = a j + ∑ k : Fin 1024, x (ix2 (j 0) k) * w (ix2 k (j 1)) := by pointwise [k0_pay3, k0_pay1]
theorem next_right (x : Vec Ideal S1024x1024 .bf16) (w : Vec Ideal S1024x512 .bf16) (a : Vec Ideal S1024x512 .f32) (j) :
    k0_pay6 (F := Ideal) x w a j = a j + ∑ k : Fin 1024, x (ix2 (j 0) k) * w (ix2 k (j 1)) := by pointwise [k0_pay6, k0_pay4]

/-- What the last step makes of the two accumulators and the biases: the left one times the logistic of the right one. -/
theorem last (a b : Vec Ideal S1024x512 .f32) (p q : Vec Ideal S1x512 .f32) (j) :
    k0_pay7 (F := Ideal) a p b q j = (a j + p (ix2 0 (j 1))) * Ideal.logistic (b j + q (ix2 0 (j 1))) := by
  pointwise [k0_pay7]

/-- The blocks a step works on. -/
theorem places : ∀ t : Fin cfg0.N, win0_0.index t = ![t.val / 32, t.val % 4] ∧ win0_1.index t = ![t.val % 4, t.val / 4 % 8]
    ∧ win0_2.index t = ![t.val % 4, t.val / 4 % 8 + 8] ∧ win0_3.index t = ![0, t.val / 4 % 8]
    ∧ win0_4.index t = ![0, t.val / 4 % 8 + 8] ∧ win0_5.index t = ![t.val / 32, t.val / 4 % 8] :=
  (by decide +kernel : ∀ t : Fin grid0.N, _)

/-- A column of the left half, and the column of the right half it is gated by. -/
def left (j : Fin 4096) : Fin 8192 := ⟨j.val, by omega⟩
def right (j : Fin 4096) : Fin 8192 := ⟨4096 + j.val, by omega⟩

/-- The product of the two matrices the kernel is given. -/
def whole : (⟨2, ![24576, 8192]⟩ : Shape).Idx → EReal :=
  product (M := 24576) (K := 4096) (N := 8192) (m ((c : Thread nD τ).loc main_arg0)) (m ((c : Thread nD τ).loc main_arg1))

/-- The biases. -/
def bias : S8192.Idx → EReal := m ((c : Thread nD τ).loc main_arg2)

/-- The value of the call at an entry. -/
def result : S24576x4096.Idx → EReal := fun i =>
  (whole m c (ix2 (i 0) (left (i 1))) + bias m c (ix1 (left (i 1))))
    * Ideal.logistic (whole m c (ix2 (i 0) (right (i 1))) + bias m c (ix1 (right (i 1))))

/-- The row of biases the kernel is launched with is the argument it is given. -/
theorem bias_at (j : S1x8192.Idx) : (show S1x8192.Idx → EReal from V m c main_v0) j = bias m c (ix1 (j 1)) := by
  unfold V
  after_results
  pointwise [bias]

/-- After the last step of a block the first accumulator holds the block's entries of the product. -/
theorem left_at (t : Fin cfg0.N) (h : t.val % 4 = 3) (y : S1024x512.Idx) (i : (⟨2, ![24576, 8192]⟩ : Shape).Idx)
    (h0 : (i 0).val = t.val / 32 * 1024 + (y 0).val) (h1 : (i 1).val = t.val / 4 % 8 * 512 + (y 1).val) :
    (outsAt0 m c t.val t.isLt).2.1 y = whole m c i := by
  refine accumulated (J := 4) (n := 1024) rfl (fun n h => (outsAt0 m c n h).2.1) (fun p => iblk m c 0 p) (fun p => iblk m c 1 p) _ _
    (fun t h j => ?_) (fun t h j => ?_) t h y i (fun s k hs hl => ?_) (fun s k hs hl => ?_)
  · rw [outsAt0_A m c t h (by omega) h (by omega) (by omega)]; frame_out; rw [first]
  · by_cases h2 : t.val % 4 = 3
    · rw [outsAt0_C m c t h (by omega) h (by omega) h2]; frame_out; rw [next]
      exact congrArg (· + _) (congrFun ((Memref.isWhole_whole cc0_scratch0).read_unread (outsAt0 m c (t.val - 1) _).2.1) j)
    · rw [outsAt0_B m c t h (by omega) h (by omega) h2]; frame_out; rw [next]
      exact congrArg (· + _) (congrFun ((Memref.isWhole_whole cc0_scratch0).read_unread (outsAt0 m c (t.val - 1) _).2.1) j)
  · blk_ext [iblk, V, places ⟨_, hs⟩]
  · blk_ext [iblk, V, places ⟨_, hs⟩]

/-- And the second those of the block of the right half. -/
theorem right_at (t : Fin cfg0.N) (h : t.val % 4 = 3) (y : S1024x512.Idx) (i : (⟨2, ![24576, 8192]⟩ : Shape).Idx)
    (h0 : (i 0).val = t.val / 32 * 1024 + (y 0).val) (h1 : (i 1).val = (t.val / 4 % 8 + 8) * 512 + (y 1).val) :
    (outsAt0 m c t.val t.isLt).2.2 y = whole m c i := by
  refine accumulated (J := 4) (n := 1024) rfl (fun n h => (outsAt0 m c n h).2.2) (fun p => iblk m c 0 p) (fun p => iblk m c 2 p) _ _
    (fun t h j => ?_) (fun t h j => ?_) t h y i (fun s k hs hl => ?_) (fun s k hs hl => ?_)
  · rw [outsAt0_A m c t h (by omega) h (by omega) (by omega)]; frame_out; rw [first_right]
  · by_cases h2 : t.val % 4 = 3
    · rw [outsAt0_C m c t h (by omega) h (by omega) h2]; frame_out; rw [next_right]
      exact congrArg (· + _) (congrFun ((Memref.isWhole_whole cc0_scratch1).read_unread (outsAt0 m c (t.val - 1) _).2.2) j)
    · rw [outsAt0_B m c t h (by omega) h (by omega) h2]; frame_out; rw [next_right]
      exact congrArg (· + _) (congrFun ((Memref.isWhole_whole cc0_scratch1).read_unread (outsAt0 m c (t.val - 1) _).2.2) j)
  · blk_ext [iblk, V, places ⟨_, hs⟩]
  · blk_ext [iblk, V, places ⟨_, hs⟩]

/-- The block the last step writes is made of the two accumulators as it leaves them. -/
theorem out_at (t : Fin cfg0.N) (h : t.val % 4 = 3) (y : S1024x512.Idx) :
    (outsAt0 m c t.val t.isLt).1 y =
      ((outsAt0 m c t.val t.isLt).2.1 y + (show Vec Ideal S1x512 .f32 from iblk m c 3 t) (ix2 0 (y 1)))
        * Ideal.logistic ((outsAt0 m c t.val t.isLt).2.2 y + (show Vec Ideal S1x512 .f32 from iblk m c 4 t) (ix2 0 (y 1))) := by
  rw [outsAt0_C m c t (by omega) (by omega) (by omega) (by omega) h]; frame_out
  rw [last]

/-- The array the kernel leaves. -/
theorem final : (dats m 0 c).arrAt 5 cfg0.N = result m c := by
  refine (dats m 0 c).arrAt_eq_of_covers 5 _ (by decide +kernel) fun t hf y => ?_
  have h := (flush0_5 t).mp hf
  blk_simp
  rw [after0_5]
  refine (out_at m c t h y).trans ?_
  have h0 : (((cfg0.win 5).blk t).view.emb y 0).val = t.val / 32 * 1024 + (y 0).val := by blk_simp [places t] <;> try omega
  have h1 : (((cfg0.win 5).blk t).view.emb y 1).val = t.val / 4 % 8 * 512 + (y 1).val := by blk_simp [places t] <;> try omega
  generalize ((cfg0.win 5).blk t).view.emb y = i at h0 h1
  have h2 : (right (i 1)).val = (t.val / 4 % 8 + 8) * 512 + (y 1).val := by unfold right; simp only; omega
  rw [left_at m c t h y (ix2 (i 0) (left (i 1))) h0 h1, right_at m c t h y (ix2 (i 0) (right (i 1))) h0 h2]
  refine congrArg₂ (fun p q : EReal => (_ + p) * Ideal.logistic (_ + q)) ?_ ?_
  · refine Eq.trans ?_ (bias_at m c (ix2 0 (left (i 1))))
    blk_ext [iblk, places t, left]
  · refine Eq.trans ?_ (bias_at m c (ix2 0 (right (i 1))))
    blk_ext [iblk, places t, right]

end Cert.GluIdeal.Products

end
-- ==== Proof.Products.GluReference.lean ====
/- What the reference of the gated pointwise convolution computes, and that the kernel computes the same. -/
module

public import proofs.«01_k».proof.Defs
public import proofs.«01_k».proof.Proof.Gen.GluReferenceIdeal.Run
public import proofs.«01_k».proof.Proof.Gen.GluReferenceIdeal.Read
public import proofs.«01_k».proof.Proof.Products.GluValue

@[expose] public section

set_option maxRecDepth 16384

noncomputable section

namespace Cert.GluReferenceIdeal.Products

open Cert.GluReferenceIdeal Cert.GluReferenceIdeal.Read
open Idealize.ShloMosaic Idealize.ShloMosaic.TcCoe Idealize.SL.Sem Cert.Products

/-- The contraction the reference makes. -/
theorem dot (X : S24576x4096.Idx → EReal) (W : S4096x8192.Idx → EReal) (i : S24576x8192.Idx) :
    val_main_v2 (F := Ideal) X W i = product (M := 24576) (K := 4096) (N := 8192) X W i := by
  pointwise [val_main_v2, val_main_v0, val_main_v1, product]

/-- The product with its biases. -/
theorem biased (X : S24576x4096.Idx → EReal) (W : S4096x8192.Idx → EReal) (B : S8192.Idx → EReal) (i : S24576x8192.Idx) :
    val_main_v5 (F := Ideal) X W B i = product (M := 24576) (K := 4096) (N := 8192) X W i + B (ix1 (i 1)) := by
  rw [← dot]
  pointwise [val_main_v5, val_main_v4, val_main_v3]

/-- The reference's gate: the left half times the logistic of the right half. -/
theorem gated (X : S24576x4096.Idx → EReal) (W : S4096x8192.Idx → EReal) (B : S8192.Idx → EReal) (i : S24576x4096.Idx) :
    val_main_v15 (F := Ideal) X W B i = val_main_v6 (F := Ideal) X W B i * Ideal.logistic (val_main_v7 (F := Ideal) X W B i) := by
  pointwise [val_main_v15, val_main_v14, val_main_v13, val_main_v12, val_main_v11, val_main_v10, val_main_v9, val_main_v8, val_main_cst,
    val_main_cst_0, Ideal.logistic]

/-- The reference's entries. -/
theorem whole (X : S24576x4096.Idx → EReal) (W : S4096x8192.Idx → EReal) (B : S8192.Idx → EReal) (i : S24576x4096.Idx) :
    val_main_v15 (F := Ideal) X W B i =
      (product (M := 24576) (K := 4096) (N := 8192) X W (ix2 (i 0) (Cert.GluIdeal.Products.left (i 1)))
          + B (ix1 (Cert.GluIdeal.Products.left (i 1))))
        * Ideal.logistic (product (M := 24576) (K := 4096) (N := 8192) X W (ix2 (i 0) (Cert.GluIdeal.Products.right (i 1)))
          + B (ix1 (Cert.GluIdeal.Products.right (i 1)))) := by
  rw [gated]
  refine congrArg₂ (fun p q : EReal => p * Ideal.logistic q) ?_ ?_
  · exact Eq.trans (by pointwise [val_main_v6, Cert.GluIdeal.Products.left])
      (biased X W B (ix2 (i 0) (Cert.GluIdeal.Products.left (i 1))))
  · exact Eq.trans (by pointwise [val_main_v7, Cert.GluIdeal.Products.right])
      (biased X W B (ix2 (i 0) (Cert.GluIdeal.Products.right (i 1))))

/-- The reference ends with its arguments unchanged. -/
theorem frame : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

/-- Both programs leave the same array, of the same arguments. -/
theorem algebraic : Cert.algebraic_GluIdeal_GluReferenceIdeal := by
  intro m g m' g' _ hagree
  refine ⟨fun c => Cert.GluIdeal.Products.result m c, ?_, ?_⟩
  · exact (θ_run Cert.GluIdeal.defs _ _).mono (fun r h c => ⟨(h c).1.trans (Cert.GluIdeal.Products.final m c), (h c).2⟩)
      (Cert.GluIdeal.Value.run_blocks m g)
  · refine (θ_run Cert.GluReferenceIdeal.defs _ _).mono (fun r h c => ⟨(h c).1.trans ?_, (h c).2⟩)
      (Cert.GluReferenceIdeal.Value.run (F := Ideal) m' g')
    refine (val_main_v15_eq _ _ _).trans (funext fun i => ?_)
    rw [(hagree c).1, (hagree c).2.1, (hagree c).2.2]
    exact whole _ _ _ i

end Cert.GluReferenceIdeal.Products

end
-- ==== Proof.Products.PwValue.lean ====
/- The value of the second pointwise convolution: a product that is added, with a bias, to the residual. -/
module

public import proofs.«01_k».proof.Proof.Gen.PwIdeal.Value
public import proofs.«01_k».proof.Proof.Products.Spec

@[expose] public section

set_option maxRecDepth 16384

noncomputable section

namespace Cert.PwIdeal.Products

open Cert.PwIdeal Cert.PwIdeal.Gen
open Idealize.ShloMosaic Idealize.ShloMosaic.TcCoe Idealize.SL.Sem Cert.Products
open Idealize.ShloMosaic.Pipeline (Dat Cfg Window)

variable (m : (ℓ : Loc nD τ sig) → Buf (Elt Ideal) ℓ) (c : Dev nD)

/-- The block product the first step of a block stores. -/
theorem first (x : Vec Ideal S1024x1024 .bf16) (w : Vec Ideal S1024x512 .bf16) (j) :
    k0_pay2 (F := Ideal) x w j = ∑ k : Fin 1024, x (ix2 (j 0) k) * w (ix2 k (j 1)) := by pointwise [k0_pay2, k0_pay1]

/-- What a later step stores: its block product added to what is there. -/
theorem next (x : Vec Ideal S1024x1024 .bf16) (w : Vec Ideal S1024x512 .bf16) (a : Vec Ideal S1024x512 .f32) (j) :
    k0_pay3 (F := Ideal) x w a j = a j + ∑ k : Fin 1024, x (ix2 (j 0) k) * w (ix2 k (j 1)) := by pointwise [k0_pay3, k0_pay1]

/-- What the last step writes: the residual plus the accumulator and the bias. -/
theorem last (a r : Vec Ideal S1024x512 .f32) (b : Vec Ideal S1x512 .f32) (j) :
    k0_pay4 (F := Ideal) a b r j = r j + (a j + b (ix2 0 (j 1))) := by pointwise [k0_pay4]

/-- The blocks a step works on. -/
theorem places : ∀ t : Fin cfg0.N, win0_0.index t = ![t.val / 32, t.val % 4] ∧ win0_1.index t = ![t.val % 4, t.val / 4 % 8]
    ∧ win0_2.index t = ![t.val / 32, t.val / 4 % 8] ∧ win0_3.index t = ![0, t.val / 4 % 8] ∧ win0_4.index t = ![t.val / 32, t.val / 4 % 8] :=
  (by decide +kernel : ∀ t : Fin grid0.N, _)

/-- The product of the two matrices the kernel is given. -/
def whole : S24576x4096.Idx → EReal :=
  product (M := 24576) (K := 4096) (N := 4096) (m ((c : Thread nD τ).loc main_arg0)) (m ((c : Thread nD τ).loc main_arg1))

/-- The value of the call at an entry. -/
def result : S24576x4096.Idx → EReal := fun i =>
  (show S24576x4096.Idx → EReal from m ((c : Thread nD τ).loc main_arg2)) i
    + (whole m c i + (show S4096.Idx → EReal from m ((c : Thread nD τ).loc main_arg3)) (ix1 (i 1)))

/-- The row of biases the kernel is launched with is the argument it is given. -/
theorem bias_at (j : S1x4096.Idx) :
    (show S1x4096.Idx → EReal from V m c main_v0) j = (show S4096.Idx → EReal from m ((c : Thread nD τ).loc main_arg3)) (ix1 (j 1)) := by
  unfold V
  after_results
  pointwise

/-- After the last step of a block the accumulator holds the block's entries of the product. -/
theorem sum_at (t : Fin cfg0.N) (h : t.val % 4 = 3) (y : S1024x512.Idx) (i : S24576x4096.Idx)
    (h0 : (i 0).val = t.val / 32 * 1024 + (y 0).val) (h1 : (i 1).val = t.val / 4 % 8 * 512 + (y 1).val) :
    (outsAt0 m c t.val t.isLt).2 y = whole m c i := by
  refine accumulated (J := 4) (n := 1024) rfl (fun n h => (outsAt0 m c n h).2) (fun p => iblk m c 0 p) (fun p => iblk m c 1 p) _ _
    (fun t h j => ?_) (fun t h j => ?_) t h y i (fun s k hs hl => ?_) (fun s k hs hl => ?_)
  · rw [outsAt0_A m c t h (by omega) (by omega)]; frame_out; rw [first]
  · by_cases h2 : t.val % 4 = 3
    · rw [outsAt0_C m c t h (by omega) h2]; frame_out; rw [next]
      exact congrArg (· + _) (congrFun ((Memref.isWhole_whole cc0_scratch0).read_unread (outsAt0 m c (t.val - 1) _).2) j)
    · rw [outsAt0_B m c t h (by omega) h2]; frame_out; rw [next]
      exact congrArg (· + _) (congrFun ((Memref.isWhole_whole cc0_scratch0).read_unread (outsAt0 m c (t.val - 1) _).2) j)
  · blk_ext [iblk, V, places ⟨_, hs⟩]
  · blk_ext [iblk, V, places ⟨_, hs⟩]

/-- The block the last step writes is made of the accumulator as it leaves it. -/
theorem out_at (t : Fin cfg0.N) (h : t.val % 4 = 3) (y : S1024x512.Idx) :
    (outsAt0 m c t.val t.isLt).1 y = (show Vec Ideal S1024x512 .f32 from iblk m c 2 t) y
    + ((outsAt0 m c t.val t.isLt).2 y + (show Vec Ideal S1x512 .f32 from iblk m c 3 t) (ix2 0 (y 1))) := by
  rw [outsAt0_C m c t (by omega) (by omega) h]; frame_out
  rw [last]

/-- The array the kernel leaves. -/
theorem final : (dats m 0 c).arrAt 4 cfg0.N = result m c := by
  refine (dats m 0 c).arrAt_eq_of_covers 4 _ (by decide +kernel) fun t hf y => ?_
  have h := (flush0_4 t).mp hf
  blk_simp
  rw [after0_4]
  refine (out_at m c t h y).trans ?_
  have h0 : (((cfg0.win 4).blk t).view.emb y 0).val = t.val / 32 * 1024 + (y 0).val := by blk_simp [places t] <;> try omega
  have h1 : (((cfg0.win 4).blk t).view.emb y 1).val = t.val / 4 % 8 * 512 + (y 1).val := by blk_simp [places t] <;> try omega
  rw [sum_at m c t h y _ h0 h1]
  refine congrArg₂ (fun a b : EReal => a + b) ?_ (congrArg (fun b : EReal => whole m c _ + b) ?_)
  · blk_ext [iblk, V, places t]
  · refine Eq.trans ?_ (bias_at m c (ix2 0 (((cfg0.win 4).blk t).view.emb y 1)))
    blk_ext [iblk, places t]

end Cert.PwIdeal.Products

end
-- ==== Proof.Products.PwReference.lean ====
/- What the reference of the second pointwise convolution computes, and that the kernel computes the same. -/
module

public import proofs.«01_k».proof.Defs
public import proofs.«01_k».proof.Proof.Gen.PwReferenceIdeal.Run
public import proofs.«01_k».proof.Proof.Gen.PwReferenceIdeal.Read
public import proofs.«01_k».proof.Proof.Products.PwValue

@[expose] public section

set_option maxRecDepth 16384

noncomputable section

namespace Cert.PwReferenceIdeal.Products

open Cert.PwReferenceIdeal Cert.PwReferenceIdeal.Read
open Idealize.ShloMosaic Idealize.ShloMosaic.TcCoe Idealize.SL.Sem Cert.Products

/-- The contraction the reference makes. -/
theorem dot (X : S24576x4096.Idx → EReal) (W : S4096x4096.Idx → EReal) (i : S24576x4096.Idx) :
    val_main_v2 (F := Ideal) X W i = product (M := 24576) (K := 4096) (N := 4096) X W i := by
  pointwise [val_main_v2, val_main_v0, val_main_v1, product]

/-- The reference's entries. -/
theorem whole (X : S24576x4096.Idx → EReal) (W : S4096x4096.Idx → EReal) (R : S24576x4096.Idx → EReal) (B : S4096.Idx → EReal)
    (i : S24576x4096.Idx) :
    val_main_v6 (F := Ideal) X W R B i = R i + (product (M := 24576) (K := 4096) (N := 4096) X W i + B (ix1 (i 1))) := by
  rw [← dot]
  pointwise [val_main_v6, val_main_v5, val_main_v4, val_main_v3]

/-- The reference ends with its arguments unchanged. -/
theorem frame : Cert.quiescent_PwReferenceIdeal := fun m ρ _ =>
  (θ_run Cert.PwReferenceIdeal.defs _ _).mono (fun r h => ⟨fun c => (h c).2, sem_eq_zero_of_no_sems (by decide) r.2⟩)
    (Cert.PwReferenceIdeal.Value.run (F := Ideal) m ρ)

/-- Both programs leave the same array, of the same arguments. -/
theorem algebraic : Cert.algebraic_PwIdeal_PwReferenceIdeal := by
  intro m g m' g' _ hagree
  refine ⟨fun c => Cert.PwIdeal.Products.result m c, ?_, ?_⟩
  · exact (θ_run Cert.PwIdeal.defs _ _).mono (fun r h c => ⟨(h c).1.trans (Cert.PwIdeal.Products.final m c), (h c).2⟩)
      (Cert.PwIdeal.Value.run_blocks m g)
  · refine (θ_run Cert.PwReferenceIdeal.defs _ _).mono (fun r h c => ⟨(h c).1.trans ?_, (h c).2⟩)
      (Cert.PwReferenceIdeal.Value.run (F := Ideal) m' g')
    refine (val_main_v6_eq _ _ _ _).trans (funext fun i => ?_)
    rw [(hagree c).1, (hagree c).2.1, (hagree c).2.2.1, (hagree c).2.2.2]
    exact whole _ _ _ _ i

end Cert.PwReferenceIdeal.Products

end
-- ==== Proof.Norms.Spec.lean ====
/- The two norms of a row of 4096 extended reals. -/
module

public import Idealize.ShloMosaic.Lib.Pointwise
public import Idealize.ShloMosaic.Lib.Pipeline.ValueKit

@[expose] public section

noncomputable section

namespace Cert.Norms

open Idealize.ShloMosaic

/-- The mean of a row of 4096 entries. -/
def mean (x : Fin 4096 → EReal) : EReal := Ideal.div (∑ k, x k) (Ideal.ofBits .f32 0x45800000#32)

/-- One over the root of the mean square, with the small constant that keeps it from zero. -/
def scale (x : Fin 4096 → EReal) : EReal := Ideal.rsqrt (mean (fun k => x k * x k) + Ideal.ofBits .f32 0x358637BD#32)

/-- A row over the root of its mean square. -/
def byRoot (x : Fin 4096 → EReal) (j : Fin 4096) : EReal := x j * scale x

/-- A row less its mean. -/
def centred (x : Fin 4096 → EReal) (j : Fin 4096) : EReal := x j - mean x

/-- The activation: a number times its logistic. -/
def act (y : EReal) : EReal := y * Ideal.logistic y

/-- Row `r` of the matrix. -/
def row {n : ℕ} (X : (⟨2, ![n, 4096]⟩ : Shape).Idx → EReal) (r : Fin n) : Fin 4096 → EReal := fun k => X (ix2 r k)

end Cert.Norms

end
-- ==== Proof.Norms.NormValue.lean ====
/- The value of the norm by the root of the mean square. -/
module

public import proofs.«01_k».proof.Proof.Gen.NormIdeal.Value
public import proofs.«01_k».proof.Proof.Norms.Spec

@[expose] public section

set_option maxRecDepth 16384

noncomputable section

namespace Cert.NormIdeal.Norms

open Cert.NormIdeal Cert.NormIdeal.Gen
open Idealize.ShloMosaic Idealize.ShloMosaic.TcCoe Idealize.SL.Sem Cert.Norms
open Idealize.ShloMosaic.Pipeline (Dat Cfg Window)

variable (m : (ℓ : Loc nD τ sig) → Buf (Elt Ideal) ℓ) (c : Dev nD)

/-- What a step writes, in terms of its rows. -/
theorem block (x : Vec Ideal S256x4096 .f32) (g : Vec Ideal S1x4096 .f32) (j) :
    k0_pay1 (F := Ideal) x g j = byRoot (row (n := 256) x (j 0)) (j 1) * g (ix2 0 (j 1)) := by
  pointwise [k0_pay1, byRoot, scale, mean, row]

/-- The rows a step works on. -/
theorem places : ∀ t : Fin cfg0.N, win0_0.index t = ![t.val, 0] ∧ win0_1.index t = ![0, 0] ∧ win0_2.index t = ![t.val, 0] :=
  (by decide +kernel : ∀ t : Fin grid0.N, _)

/-- The value of the call at an entry. -/
def result : S24576x4096.Idx → EReal := fun i =>
  byRoot (row (n := 24576) (show S24576x4096.Idx → EReal from m ((c : Thread nD τ).loc main_arg0)) (i 0)) (i 1) * (show S4096.Idx → EReal from m ((c : Thread nD τ).loc main_arg1)) (ix1 (i 1))

/-- The row of factors the kernel is launched with is the argument it is given. -/
theorem arg1_at (j : S1x4096.Idx) :
    (show S1x4096.Idx → EReal from V m c main_v0) j = (show S4096.Idx → EReal from m ((c : Thread nD τ).loc main_arg1)) (ix1 (j 1)) := by
  unfold V
  after_results
  pointwise

/-- The array the kernel leaves. -/
theorem final : (dats m 0 c).arrAt 2 cfg0.N = result m c := by
  refine (dats m 0 c).arrAt_eq_of_covers 2 _ (by decide +kernel) fun t hf y => ?_
  blk_simp
  rw [after0_2]
  unfold out0_2
  frame_out
  rw [block]
  have h1 : ((cfg0.win 2).blk t).view.emb y 1 = y 1 := Fin.ext (by blk_simp [places t] <;> try omega)
  have hr : row (n := 256) (iblk m c 0 t) (y 0)
      = row (n := 24576) (show S24576x4096.Idx → EReal from m ((c : Thread nD τ).loc main_arg0)) (((cfg0.win 2).blk t).view.emb y 0) :=
    funext fun k => by
      unfold row
      blk_ext [iblk, V, places t]
  have e1 : (show Vec Ideal S1x4096 .f32 from iblk m c 1 t) (ix2 0 (y 1))
      = (show S4096.Idx → EReal from m ((c : Thread nD τ).loc main_arg1)) (ix1 (((cfg0.win 2).blk t).view.emb y 1)) := by
    refine Eq.trans ?_ (arg1_at m c (ix2 0 (((cfg0.win 2).blk t).view.emb y 1)))
    blk_ext [iblk, places t]
  unfold result
  rw [← hr, ← e1, h1]

end Cert.NormIdeal.Norms

end
-- ==== Proof.Norms.NormReference.lean ====
/- What the reference of the norm by the root of the mean square computes, and that the kernel computes the same. -/
module

public import proofs.«01_k».proof.Defs
public import proofs.«01_k».proof.Proof.Gen.NormReferenceIdeal.Run
public import proofs.«01_k».proof.Proof.Gen.NormReferenceIdeal.Read
public import proofs.«01_k».proof.Proof.Norms.NormValue

@[expose] public section

set_option maxRecDepth 16384

noncomputable section

namespace Cert.NormReferenceIdeal.Norms

open Cert.NormReferenceIdeal Cert.NormReferenceIdeal.Read
open Idealize.ShloMosaic Idealize.ShloMosaic.TcCoe Idealize.SL.Sem Cert.Norms

/-- The reference's entries. -/
theorem whole (X : S24576x4096.Idx → EReal) (G : S4096.Idx → EReal) (i : S24576x4096.Idx) :
    val_main_v13 (F := Ideal) X G i = byRoot (row (n := 24576) X (i 0)) (i 1) * G (ix1 (i 1)) := by
  pointwise [val_main_v0, val_main_cst, val_main_v1, val_main_v2, val_main_cst_0, val_main_v3, val_main_v4, val_main_cst_1,
    val_main_v5, val_main_v6, val_main_v7, val_main_v8, val_main_v9, val_main_v10, val_main_v11, val_main_v12,
    val_main_v13, byRoot, scale, mean, row]

/-- The reference ends with its arguments unchanged. -/
theorem frame : Cert.quiescent_NormReferenceIdeal := fun m ρ _ =>
  (θ_run Cert.NormReferenceIdeal.defs _ _).mono (fun r h => ⟨fun c => (h c).2, sem_eq_zero_of_no_sems (by decide) r.2⟩)
    (Cert.NormReferenceIdeal.Value.run (F := Ideal) m ρ)

/-- Both programs leave the same array, of the same arguments. -/
theorem algebraic : Cert.algebraic_NormIdeal_NormReferenceIdeal := by
  intro m g m' g' _ hagree
  refine ⟨fun c => Cert.NormIdeal.Norms.result m c, ?_, ?_⟩
  · exact (θ_run Cert.NormIdeal.defs _ _).mono (fun r h c => ⟨(h c).1.trans (Cert.NormIdeal.Norms.final m c), (h c).2⟩)
      (Cert.NormIdeal.Value.run_blocks m g)
  · refine (θ_run Cert.NormReferenceIdeal.defs _ _).mono (fun r h c => ⟨(h c).1.trans ?_, (h c).2⟩)
      (Cert.NormReferenceIdeal.Value.run (F := Ideal) m' g')
    refine (val_main_v13_eq _ _).trans (funext fun i => ?_)
    rw [(hagree c).1, (hagree c).2]
    exact whole _ _ i

end Cert.NormReferenceIdeal.Norms

end
-- ==== Proof.Norms.LayernormValue.lean ====
/- The value of the layer norm with its activation. -/
module

public import proofs.«01_k».proof.Proof.Gen.LayernormIdeal.Value
public import proofs.«01_k».proof.Proof.Norms.Spec

@[expose] public section

set_option maxRecDepth 16384

noncomputable section

namespace Cert.LayernormIdeal.Norms

open Cert.LayernormIdeal Cert.LayernormIdeal.Gen
open Idealize.ShloMosaic Idealize.ShloMosaic.TcCoe Idealize.SL.Sem Cert.Norms
open Idealize.ShloMosaic.Pipeline (Dat Cfg Window)

variable (m : (ℓ : Loc nD τ sig) → Buf (Elt Ideal) ℓ) (c : Dev nD)

/-- What a step writes, in terms of its rows. -/
theorem block (x : Vec Ideal S256x4096 .f32) (g b : Vec Ideal S1x4096 .f32) (j) :
    k0_pay1 (F := Ideal) x g b j = act (byRoot (centred (row (n := 256) x (j 0))) (j 1) * g (ix2 0 (j 1)) + b (ix2 0 (j 1))) := by
  pointwise [k0_pay1, act, byRoot, centred, scale, mean, row]

/-- The rows a step works on. -/
theorem places : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The value of the call at an entry. -/
def result : S24576x4096.Idx → EReal := fun i =>
  act (byRoot (centred (row (n := 24576) (show S24576x4096.Idx → EReal from m ((c : Thread nD τ).loc main_arg0)) (i 0))) (i 1) * (show S4096.Idx → EReal from m ((c : Thread nD τ).loc main_arg1)) (ix1 (i 1)) + (show S4096.Idx → EReal from m ((c : Thread nD τ).loc main_arg2)) (ix1 (i 1)))

/-- The row of factors the kernel is launched with is the argument it is given. -/
theorem arg1_at (j : S1x4096.Idx) :
    (show S1x4096.Idx → EReal from V m c main_v0) j = (show S4096.Idx → EReal from m ((c : Thread nD τ).loc main_arg1)) (ix1 (j 1)) := by
  unfold V
  after_results
  pointwise

/-- The row of shifts the kernel is launched with is the argument it is given. -/
theorem arg2_at (j : S1x4096.Idx) :
    (show S1x4096.Idx → EReal from V m c main_v1) j = (show S4096.Idx → EReal from m ((c : Thread nD τ).loc main_arg2)) (ix1 (j 1)) := by
  unfold V
  after_results
  pointwise

/-- The array the kernel leaves. -/
theorem final : (dats m 0 c).arrAt 3 cfg0.N = result m c := by
  refine (dats m 0 c).arrAt_eq_of_covers 3 _ (by decide +kernel) fun t hf y => ?_
  blk_simp
  rw [after0_3]
  unfold out0_3
  frame_out
  rw [block]
  have h1 : ((cfg0.win 3).blk t).view.emb y 1 = y 1 := Fin.ext (by blk_simp [places t] <;> try omega)
  have hr : row (n := 256) (iblk m c 0 t) (y 0)
      = row (n := 24576) (show S24576x4096.Idx → EReal from m ((c : Thread nD τ).loc main_arg0)) (((cfg0.win 3).blk t).view.emb y 0) :=
    funext fun k => by
      unfold row
      blk_ext [iblk, V, places t]
  have e1 : (show Vec Ideal S1x4096 .f32 from iblk m c 1 t) (ix2 0 (y 1))
      = (show S4096.Idx → EReal from m ((c : Thread nD τ).loc main_arg1)) (ix1 (((cfg0.win 3).blk t).view.emb y 1)) := by
    refine Eq.trans ?_ (arg1_at m c (ix2 0 (((cfg0.win 3).blk t).view.emb y 1)))
    blk_ext [iblk, places t]
  have e2 : (show Vec Ideal S1x4096 .f32 from iblk m c 2 t) (ix2 0 (y 1))
      = (show S4096.Idx → EReal from m ((c : Thread nD τ).loc main_arg2)) (ix1 (((cfg0.win 3).blk t).view.emb y 1)) := by
    refine Eq.trans ?_ (arg2_at m c (ix2 0 (((cfg0.win 3).blk t).view.emb y 1)))
    blk_ext [iblk, places t]
  unfold result
  rw [← hr, ← e1, ← e2, h1]

end Cert.LayernormIdeal.Norms

end
-- ==== Proof.Norms.LayernormReference.lean ====
/- What the reference of the layer norm with its activation computes, and that the kernel computes the same. -/
module

public import proofs.«01_k».proof.Defs
public import proofs.«01_k».proof.Proof.Gen.LayernormReferenceIdeal.Run
public import proofs.«01_k».proof.Proof.Gen.LayernormReferenceIdeal.Read
public import proofs.«01_k».proof.Proof.Norms.LayernormValue

@[expose] public section

set_option maxRecDepth 16384

noncomputable section

namespace Cert.LayernormReferenceIdeal.Norms

open Cert.LayernormReferenceIdeal Cert.LayernormReferenceIdeal.Read
open Idealize.ShloMosaic Idealize.ShloMosaic.TcCoe Idealize.SL.Sem Cert.Norms

/-- The reference's entries. -/
theorem whole (X : S24576x4096.Idx → EReal) (G B : S4096.Idx → EReal) (i : S24576x4096.Idx) :
    val_main_v25 (F := Ideal) X G B i = act (byRoot (centred (row (n := 24576) X (i 0))) (i 1) * G (ix1 (i 1)) + B (ix1 (i 1))) := by
  pointwise [val_main_cst, val_main_v0, val_main_v1, val_main_cst_0, val_main_v2, val_main_v3, val_main_v4, val_main_v5,
    val_main_v6, val_main_cst_1, val_main_v7, val_main_v8, val_main_cst_2, val_main_v9, val_main_v10,
    val_main_v11, val_main_v12, val_main_cst_3, val_main_v13, val_main_v14, val_main_v15, val_main_v16,
    val_main_v17, val_main_v18, val_main_v19, val_main_v20, val_main_v21, val_main_v22, val_main_v23,
    val_main_call0_v0, val_main_call0_v1, val_main_call0_cst, val_main_call0_v2, val_main_call0_v3,
    val_main_call0_cst_0, val_main_call0_v4, val_main_call0_v5, val_main_v24, val_main_v25, act, byRoot, centred,
    scale, mean, row, Ideal.logistic]

/-- The reference ends with its arguments unchanged. -/
theorem frame : Cert.quiescent_LayernormReferenceIdeal := fun m ρ _ =>
  (θ_run Cert.LayernormReferenceIdeal.defs _ _).mono (fun r h => ⟨fun c => (h c).2, sem_eq_zero_of_no_sems (by decide) r.2⟩)
    (Cert.LayernormReferenceIdeal.Value.run (F := Ideal) m ρ)

/-- Both programs leave the same array, of the same arguments. -/
theorem algebraic : Cert.algebraic_LayernormIdeal_LayernormReferenceIdeal := by
  intro m g m' g' _ hagree
  refine ⟨fun c => Cert.LayernormIdeal.Norms.result m c, ?_, ?_⟩
  · exact (θ_run Cert.LayernormIdeal.defs _ _).mono (fun r h c => ⟨(h c).1.trans (Cert.LayernormIdeal.Norms.final m c), (h c).2⟩)
      (Cert.LayernormIdeal.Value.run_blocks m g)
  · refine (θ_run Cert.LayernormReferenceIdeal.defs _ _).mono (fun r h c => ⟨(h c).1.trans ?_, (h c).2⟩)
      (Cert.LayernormReferenceIdeal.Value.run (F := Ideal) m' g')
    refine (val_main_v25_eq _ _).trans (funext fun i => ?_)
    rw [(hagree c).1, (hagree c).2.1, (hagree c).2.2]
    exact whole _ _ _ i

end Cert.LayernormReferenceIdeal.Norms

end
-- ==== Proof.Norms.Heads.lean ====
/- The norm of heads of 128 columns, over the extended reals. -/
module

public import proofs.«01_k».proof.Proof.Attn.Spec
public import Idealize.ShloMosaic.Lib.Pointwise
public import Idealize.ShloMosaic.Lib.Pipeline.ValueKit

@[expose] public section

noncomputable section

namespace Cert.Norms

open Idealize.ShloMosaic Cert.Attn

/-- One over the root of the mean square of a head, with the small constant that keeps it from zero. -/
def rootOf (x : Fin 128 → EReal) : EReal :=
  Ideal.rsqrt (Ideal.div (∑ k, x k * x k) (Ideal.ofBits .f32 0x43000000#32) + Ideal.ofBits .f32 0x358637BD#32)

/-- The place of a column in its head. -/
def lane (c : ℕ) : Fin 128 := ⟨c % 128, Nat.mod_lt _ (by decide)⟩

/-- The head of 128 columns that column `c` of row `r` lies in. -/
def headOf {n k : ℕ} (X : (⟨2, ![n, k]⟩ : Shape).Idx → EReal) (r c : ℕ) : Fin 128 → EReal := fun l => entry X r (c / 128 * 128 + l.val)

/-- An entry over the root of its head's mean square. -/
def headAt {n k : ℕ} (X : (⟨2, ![n, k]⟩ : Shape).Idx → EReal) (r c : ℕ) : EReal := entry X r c * rootOf (headOf X r c)

end Cert.Norms

end
-- ==== Proof.Norms.PrepValue.lean ====
/- The value of the norm of the queries and keys: each head of 128 columns over the root of its mean square, times the
   queries' or the keys' factors, the queries also times the scores' factor. -/
module

public import proofs.«01_k».proof.Proof.Gen.PrepIdeal.Value
public import proofs.«01_k».proof.Proof.Norms.Heads
public import Idealize.ShloMosaic.Lib.Pipeline.CanonAppend

@[expose] public section

set_option maxRecDepth 16384

noncomputable section

namespace Cert.PrepIdeal.Norms

open Cert.PrepIdeal Cert.PrepIdeal.Gen
open Idealize.ShloMosaic Idealize.ShloMosaic.TcCoe Idealize.SL.Sem Cert.Norms Cert.Attn
open Idealize.ShloMosaic.Pipeline (Dat Cfg Window)

variable (m : (ℓ : Loc nD τ sig) → Buf (Elt Ideal) ℓ) (c : Dev nD)

/-- The comparison of a block's number with the queries' eight blocks. -/
theorem isQuery : ∀ n : Fin 16, Scalar.cmpi .slt (BitVec.ofNat 32 n.val) 8#32 = if n.val < 8 then 1#1 else 0#1 := by decide

/-- The factors of a block: the queries' in its first eight blocks of columns, else the keys'. -/
theorem gain (i : grid0.Coords) (g h : Vec Ideal S1x128 .f32) (j) :
    k0_pay1 (F := Ideal) i g h j = if (i 1).val < 8 then g j else h j := by
  have e := isQuery (i 1)
  unfold k0_pay1
  dsimp only
  rw [e]
  split <;> pointwise

/-- The factor of the scores in the queries' blocks, else 1. -/
theorem factor (i : grid0.Coords) :
    k0_pay2 (F := Ideal) i = if (i 1).val < 8 then Ideal.ofBits .f32 0x3E0293EE#32 else 1 := by
  have e := isQuery (i 1)
  unfold k0_pay2
  dsimp only
  rw [e]
  split <;> pointwise

/-- The four stores of a step, each of one head. -/
theorem head1 (i : grid0.Coords) (g h : Vec Ideal S1x128 .f32) (v : Vec Ideal S512x128 .bf16) (j) :
    k0_pay3 (F := Ideal) i g h v j = v j * rootOf (fun k => v (ix2 (j 0) k)) * k0_pay1 (F := Ideal) i g h (ix2 0 (j 1)) * k0_pay2 (F := Ideal) i := by
  pointwise [k0_pay3, rootOf]
theorem head2 (i : grid0.Coords) (g h : Vec Ideal S1x128 .f32) (v : Vec Ideal S512x128 .bf16) (j) :
    k0_pay6 (F := Ideal) (k0_pay2 (F := Ideal) i) (k0_pay4 v) (k0_pay5 i g h) j
      = v j * rootOf (fun k => v (ix2 (j 0) k)) * k0_pay1 (F := Ideal) i g h (ix2 0 (j 1)) * k0_pay2 (F := Ideal) i := by
  pointwise [k0_pay6, k0_pay4, k0_pay5, rootOf]
theorem head3 (p : Vec Ideal S1x128 .f32) (q : EReal) (v : Vec Ideal S512x128 .bf16) (j) :
    k0_pay7 (F := Ideal) p q v j = v j * rootOf (fun k => v (ix2 (j 0) k)) * p (ix2 0 (j 1)) * q := by
  pointwise [k0_pay7, rootOf]
theorem head4 (p : Vec Ideal S1x128 .f32) (q : EReal) (v : Vec Ideal S512x128 .bf16) (j) :
    k0_pay8 (F := Ideal) p q v j = v j * rootOf (fun k => v (ix2 (j 0) k)) * p (ix2 0 (j 1)) * q := by
  pointwise [k0_pay8, rootOf]

/-- One head of the block, loaded: its entries are the block's, 128 columns for each head before it. -/
theorem loaded (x : Vec Ideal S512x512 .bf16) (a : ℕ) (inb) (ha : a % 128 = 0) (g : Vec Ideal S1x128 .f32) (q : EReal)
    (j : S512x128.Idx) :
    (View.ld (Val := Elt Ideal) (e' := .bf16) x (Rect.unit (s := S512x512) ![0, a] S512x128.size inb)) j
        * rootOf (fun k => (View.ld (Val := Elt Ideal) (e' := .bf16) x (Rect.unit (s := S512x512) ![0, a] S512x128.size inb)) (ix2 (j 0) k))
        * g (ix2 0 (j 1)) * q
      = headAt (n := 512) (k := 512) x (j 0).val (a + (j 1).val)
        * g (ix2 0 (lane (a + (j 1).val))) * q := by
  have ld : ∀ k : Fin 128, View.ld (Val := Elt Ideal) (e' := .bf16) x (Rect.unit (s := S512x512) ![0, a] S512x128.size inb) (ix2 (j 0) k)
      = entry (n := 512) (k := 512) x (j 0).val (a + k.val) := fun k => by
    have h1 : a + 128 ≤ 512 := inb 1
    refine (View.ld_unit_apply_of x ![0, a] S512x128.size inb (ix2 (j 0) k)
      (ix2 (n0 := 512) (n1 := 512) (j 0) ⟨a + k.val, by omega⟩) fun b => ?_).trans (entry_of _ _ rfl rfl).symm
    match b with
    | 0 => exact (Nat.zero_add _).symm
    | 1 => rfl
  have hj : (j 1).val < 128 := (j 1).isLt
  have hl : lane (a + (j 1).val) = j 1 := Fin.ext (show (a + (j 1).val) % 128 = (j 1).val by omega)
  have hr : (fun k : Fin 128 => View.ld (Val := Elt Ideal) (e' := .bf16) x
      (Rect.unit (s := S512x512) ![0, a] S512x128.size inb) (ix2 (j 0) k)) = headOf (n := 512) (k := 512) x (j 0).val (a + (j 1).val) :=
    funext fun k => (ld k).trans (congrArg (entry (n := 512) (k := 512) x (j 0).val) (by omega))
  have h0 : View.ld (Val := Elt Ideal) (e' := .bf16) x (Rect.unit (s := S512x512) ![0, a] S512x128.size inb) j
      = entry (n := 512) (k := 512) x (j 0).val (a + (j 1).val) := (congrArg _ (ix2_eta j).symm).trans (ld (j 1))
  rw [hl, hr, h0]
  rfl

/-- Where a head's entries lie in its block. -/
theorem row_of (a : ℕ) (inb) (z : S512x128.Idx) : ((Rect.unit (s := S512x512) ![0, a] S512x128.size inb).emb z 0).val = (z 0).val :=
  (Rect.idx_unit_val _ _ inb z 0).trans (Nat.zero_add _)
theorem col_of (a : ℕ) (inb) (z : S512x128.Idx) : ((Rect.unit (s := S512x512) ![0, a] S512x128.size inb).emb z 1).val = a + (z 1).val :=
  Rect.idx_unit_val _ _ inb z 1

/-- What a step writes: each head of its block over the root of its mean square, times the factors. -/
theorem block (i : grid0.Coords) (x : Vec Ideal S512x512 .bf16) (g h : Vec Ideal S1x128 .f32) (y : S512x512.Idx) :
    out0_3 (F := Ideal) i x g h y = headAt (n := 512) (k := 512) x (y 0).val (y 1).val
      * (if (i 1).val < 8 then g (ix2 0 (lane (y 1).val)) else h (ix2 0 (lane (y 1).val)))
      * (if (i 1).val < 8 then Ideal.ofBits .f32 0x3E0293EE#32 else 1) := by
  rw [← gain i g h, ← factor i]
  unfold out0_3 k0_pay9
  rw [View.ld_unit_lit inb_S1x128_S1x128_0_0 g (by decide), View.ld_unit_lit inb_S1x128_S1x128_0_0 h (by decide)]
  generalize hL : [_, _, _, _] = L
  have cv : ∃ p ∈ L, y ∈ p.1.set := hL ▸ cover0_3 _ _ _ _ y
  have e := View.canon_append_of_pieces
    (fun y : S512x512.Idx => headAt (n := 512) (k := 512) x (y 0).val (y 1).val * k0_pay1 (F := Ideal) i g h (ix2 0 (lane (y 1).val))
      * k0_pay2 (F := Ideal) i) [] L (fun p hp z => ?_) y cv
  · rwa [List.append_nil] at e
  subst hL
  simp only [List.mem_cons, List.not_mem_nil, or_false] at hp
  rcases hp with rfl | rfl | rfl | rfl
  · exact (head4 _ _ _ _).trans ((loaded x 384 _ rfl _ _ z).trans (by rw [← row_of 384 _ z, ← col_of 384 _ z]))
  · exact (head3 _ _ _ _).trans ((loaded x 256 _ rfl _ _ z).trans (by rw [← row_of 256 _ z, ← col_of 256 _ z]))
  · exact (head2 _ _ _ _ _).trans ((loaded x 128 _ rfl _ _ z).trans (by rw [← row_of 128 _ z, ← col_of 128 _ z]))
  · exact (head1 _ _ _ _ _).trans ((loaded x 0 _ rfl _ _ z).trans (by rw [← row_of 0 _ z, ← col_of 0 _ z]))

/-- The rows and columns a step works on, and its place among the columns. -/
theorem places : ∀ t : Fin cfg0.N, win0_0.index t = ![t.val / 16, t.val % 16] ∧ win0_1.index t = ![0, 0] ∧ win0_2.index t = ![0, 0]
    ∧ win0_3.index t = ![t.val / 16, t.val % 16] ∧ (grid0.coords t 1).val = t.val % 16 :=
  (by decide +kernel : ∀ t : Fin grid0.N, _)

/-- The call's first argument, and its rows of factors, as arrays. -/
abbrev argX : S24576x12288.Idx → EReal := m ((c : Thread nD τ).loc main_arg0)
abbrev argQ : S128.Idx → EReal := m ((c : Thread nD τ).loc main_arg1)
abbrev argK : S128.Idx → EReal := m ((c : Thread nD τ).loc main_arg2)

/-- The value of the call at an entry. -/
def result : S24576x8192.Idx → EReal := fun i =>
  headAt (n := 24576) (k := 12288) (argX m c) (i 0).val (i 1).val
    * (if (i 1).val < 4096 then argQ m c (ix1 (lane (i 1).val)) else argK m c (ix1 (lane (i 1).val)))
    * (if (i 1).val < 4096 then Ideal.ofBits .f32 0x3E0293EE#32 else 1)

/-- The rows of factors the kernel is launched with are the arguments it is given. -/
theorem arg1_at (j : S1x128.Idx) : (show S1x128.Idx → EReal from V m c main_v0) j = argQ m c (ix1 (j 1)) := by
  unfold V
  after_results
  pointwise
theorem arg2_at (j : S1x128.Idx) : (show S1x128.Idx → EReal from V m c main_v1) j = argK m c (ix1 (j 1)) := by
  unfold V
  after_results
  pointwise

/-- An entry of a step's block of the first argument. -/
theorem entry_block (t : Fin cfg0.N) (r l : ℕ) (hr : r < 512) (hl : l < 512) :
    entry (n := 512) (k := 512) (iblk m c 0 t) r l
      = entry (n := 24576) (k := 12288) (argX m c) (t.val / 16 * 512 + r) (t.val % 16 * 512 + l) := by
  have ht : t.val < 768 := t.isLt
  refine (entry_of (iblk m c 0 t) (ix2 (n0 := 512) (n1 := 512) ⟨r, hr⟩ ⟨l, hl⟩) rfl rfl).trans (Eq.trans ?_
    (entry_of (argX m c) (ix2 (n0 := 24576) (n1 := 12288) ⟨t.val / 16 * 512 + r, by omega⟩ ⟨t.val % 16 * 512 + l, by omega⟩) rfl rfl).symm)
  blk_ext [iblk, V, places t]

/-- The array the kernel leaves. -/
theorem final : (dats m 0 c).arrAt 3 cfg0.N = result m c := by
  refine (dats m 0 c).arrAt_eq_of_covers 3 _ (by decide +kernel) fun t hf y => ?_
  blk_simp
  rw [after0_3]
  refine (block _ _ _ _ y).trans ?_
  have ht : t.val < 768 := t.isLt
  have hy0 : (y 0).val < 512 := (y 0).isLt
  have hy1 : (y 1).val < 512 := (y 1).isLt
  have h0 : (((cfg0.win 3).blk t).view.emb y 0).val = t.val / 16 * 512 + (y 0).val := by blk_simp [places t] <;> try omega
  have h1 : (((cfg0.win 3).blk t).view.emb y 1).val = t.val % 16 * 512 + (y 1).val := by blk_simp [places t] <;> try omega
  have hh : headAt (n := 512) (k := 512) (iblk m c 0 t) (y 0).val (y 1).val
      = headAt (n := 24576) (k := 12288) (argX m c) (t.val / 16 * 512 + (y 0).val) (t.val % 16 * 512 + (y 1).val) := by
    unfold headAt
    rw [entry_block m c t _ _ hy0 hy1]
    refine congrArg _ (congrArg rootOf (funext fun k => ?_))
    unfold headOf
    rw [entry_block m c t _ _ hy0 (by omega)]
    exact congrArg _ (by omega)
  have hl : lane (t.val % 16 * 512 + (y 1).val) = lane (y 1).val := Fin.ext (show _ % 128 = _ % 128 by omega)
  have e1 : (show Vec Ideal S1x128 .f32 from iblk m c 1 t) (ix2 0 (lane (y 1).val)) = argQ m c (ix1 (lane (y 1).val)) := by
    refine Eq.trans ?_ (arg1_at m c (ix2 0 (lane (y 1).val)))
    blk_ext [iblk, places t]
  have e2 : (show Vec Ideal S1x128 .f32 from iblk m c 2 t) (ix2 0 (lane (y 1).val)) = argK m c (ix1 (lane (y 1).val)) := by
    refine Eq.trans ?_ (arg2_at m c (ix2 0 (lane (y 1).val)))
    blk_ext [iblk, places t]
  have hc : ((grid0.coords t 1).val < 8) = (t.val % 16 * 512 + (y 1).val < 4096) := by
    rw [(places t).2.2.2.2]
    exact propext (by omega)
  unfold result
  rw [h0, h1, hh, hl, ← e1, ← e2]
  simp only [hc]

end Cert.PrepIdeal.Norms

end
-- ==== Proof.Norms.PrepReference.lean ====
/- What the reference of the norm of the queries and keys computes, and that the kernel computes the same. -/
module

public import proofs.«01_k».proof.Defs
public import proofs.«01_k».proof.Proof.Gen.PrepReferenceIdeal.Run
public import proofs.«01_k».proof.Proof.Gen.PrepReferenceIdeal.Read
public import proofs.«01_k».proof.Proof.Norms.PrepValue

@[expose] public section

set_option maxRecDepth 16384

noncomputable section

namespace Cert.PrepReferenceIdeal.Norms

open Cert.PrepReferenceIdeal Cert.PrepReferenceIdeal.Read
open Idealize.ShloMosaic Idealize.ShloMosaic.TcCoe Idealize.SL.Sem Cert.Norms Cert.Attn

/-- The queries and the keys, by their heads. -/
theorem query (X : S24576x12288.Idx → EReal) (j : S24576x16x2x128.Idx) :
    val_main_v2 (F := Ideal) X j = entry (n := 24576) (k := 12288) X (j 0).val ((j 1).val * 256 + (j 2).val * 128 + (j 3).val) := by
  have h1 : (j 1).val < 16 := (j 1).isLt
  have h2 : (j 2).val < 2 := (j 2).isLt
  have h3 : (j 3).val < 128 := (j 3).isLt
  refine Eq.trans ?_ (entry_of X (ix2 (n0 := 24576) (n1 := 12288) (j 0) ⟨(j 1).val * 256 + (j 2).val * 128 + (j 3).val, by omega⟩) rfl rfl).symm
  pointwise [val_main_v2, val_main_v1, val_main_v0]
theorem key (X : S24576x12288.Idx → EReal) (j : S24576x16x2x128.Idx) :
    val_main_v4 (F := Ideal) X j = entry (n := 24576) (k := 12288) X (j 0).val (4096 + ((j 1).val * 256 + (j 2).val * 128 + (j 3).val)) := by
  have h1 : (j 1).val < 16 := (j 1).isLt
  have h2 : (j 2).val < 2 := (j 2).isLt
  have h3 : (j 3).val < 128 := (j 3).isLt
  refine Eq.trans ?_ (entry_of X (ix2 (n0 := 24576) (n1 := 12288) (j 0) ⟨4096 + ((j 1).val * 256 + (j 2).val * 128 + (j 3).val), by omega⟩) rfl rfl).symm
  pointwise [val_main_v4, val_main_v3, val_main_v0]

/-- Each head over the root of its mean square, times the factors. -/
theorem queries (X : S24576x12288.Idx → EReal) (G : S128.Idx → EReal) (j : S24576x16x2x128.Idx) :
    val_main_v19 (F := Ideal) X G j = val_main_v2 (F := Ideal) X j * rootOf (fun k => val_main_v2 (F := Ideal) X (ix4 (j 0) (j 1) (j 2) k))
      * G (ix1 (j 3)) * Ideal.ofBits .f32 0x3E0293EE#32 := by
  pointwise [val_main_v5, val_main_v6, val_main_v7, val_main_v8, val_main_v9, val_main_v10, val_main_v11, val_main_v12, val_main_v13,
    val_main_v14, val_main_v15, val_main_v16, val_main_v17, val_main_v18, val_main_v19, val_main_cst, val_main_cst_0, val_main_cst_1,
    val_main_cst_2, rootOf]
theorem keys (X : S24576x12288.Idx → EReal) (G : S128.Idx → EReal) (j : S24576x16x2x128.Idx) :
    val_main_v32 (F := Ideal) X G j = val_main_v4 (F := Ideal) X j * rootOf (fun k => val_main_v4 (F := Ideal) X (ix4 (j 0) (j 1) (j 2) k))
      * G (ix1 (j 3)) := by
  pointwise [val_main_v20, val_main_v21, val_main_v22, val_main_v23, val_main_v24, val_main_v25, val_main_v26, val_main_v27, val_main_v28,
    val_main_v29, val_main_v30, val_main_v31, val_main_v32, val_main_cst_3, val_main_cst_4, val_main_cst_5, rootOf]

/-- The head a column of the queries or keys lies in. -/
def split (r : Fin 24576) (l : ℕ) (hl : l < 4096) : S24576x16x2x128.Idx :=
  ix4 r ⟨l / 256, by omega⟩ ⟨l / 128 % 2, by omega⟩ ⟨l % 128, by omega⟩

theorem joined (X : S24576x12288.Idx → EReal) (G K : S128.Idx → EReal) (i : S24576x8192.Idx) :
    val_main_v36 (F := Ideal) X G K i = if h : (i 1).val < 4096 then val_main_v19 (F := Ideal) X G (split (i 0) (i 1).val h)
      else val_main_v32 (F := Ideal) X K (split (i 0) ((i 1).val - 4096) (by have h : (i 1).val < 8192 := (i 1).isLt; omega)) := by
  by_cases h : (i 1).val < 4096
  · rw [dif_pos h]
    pointwise [val_main_v36, val_main_v35, val_main_v33, split]
    exact dif_pos h
  · rw [dif_neg h]
    pointwise [val_main_v36, val_main_v35, val_main_v34, split]
    exact dif_neg h

/-- The reference's entries. -/
theorem whole (X : S24576x12288.Idx → EReal) (G K : S128.Idx → EReal) (i : S24576x8192.Idx) :
    val_main_v36 (F := Ideal) X G K i = headAt (n := 24576) (k := 12288) X (i 0).val (i 1).val
      * (if (i 1).val < 4096 then G (ix1 (lane (i 1).val)) else K (ix1 (lane (i 1).val)))
      * (if (i 1).val < 4096 then Ideal.ofBits .f32 0x3E0293EE#32 else 1) := by
  have hi : (i 1).val < 8192 := (i 1).isLt
  rw [joined]
  by_cases h : (i 1).val < 4096
  · rw [dif_pos h, if_pos h, if_pos h, queries]
    simp only [query]
    show entry X (i 0).val ((i 1).val / 256 * 256 + (i 1).val / 128 % 2 * 128 + (i 1).val % 128)
        * rootOf (fun k : Fin 128 => entry X (i 0).val ((i 1).val / 256 * 256 + (i 1).val / 128 % 2 * 128 + k.val)) * G (ix1 (lane (i 1).val)) * _
      = entry X (i 0).val (i 1).val * rootOf (fun k : Fin 128 => entry X (i 0).val ((i 1).val / 128 * 128 + k.val)) * _ * _
    rw [show (i 1).val / 256 * 256 + (i 1).val / 128 % 2 * 128 = (i 1).val / 128 * 128 by omega,
      show (i 1).val / 128 * 128 + (i 1).val % 128 = (i 1).val by omega]
  · rw [dif_neg h, if_neg h, if_neg h, keys, mul_one]
    simp only [key]
    have e : ∀ k : ℕ, 4096 + (((i 1).val - 4096) / 256 * 256 + ((i 1).val - 4096) / 128 % 2 * 128 + k) = (i 1).val / 128 * 128 + k := fun k => by omega
    have el : (⟨((i 1).val - 4096) % 128, by omega⟩ : Fin 128) = lane (i 1).val := Fin.ext (show _ % 128 = _ % 128 by omega)
    show entry X (i 0).val (4096 + (((i 1).val - 4096) / 256 * 256 + ((i 1).val - 4096) / 128 % 2 * 128 + ((i 1).val - 4096) % 128))
        * rootOf (fun k : Fin 128 => entry X (i 0).val (4096 + (((i 1).val - 4096) / 256 * 256 + ((i 1).val - 4096) / 128 % 2 * 128 + k.val)))
        * K (ix1 ⟨((i 1).val - 4096) % 128, _⟩)
      = entry X (i 0).val (i 1).val * rootOf (fun k : Fin 128 => entry X (i 0).val ((i 1).val / 128 * 128 + k.val)) * _
    simp only [e]
    rw [el, show (i 1).val / 128 * 128 + ((i 1).val - 4096) % 128 = (i 1).val by omega]

/-- The reference ends with its arguments unchanged. -/
theorem frame : Cert.quiescent_PrepReferenceIdeal := fun m ρ _ =>
  (θ_run Cert.PrepReferenceIdeal.defs _ _).mono (fun r h => ⟨fun c => (h c).2, sem_eq_zero_of_no_sems (by decide) r.2⟩)
    (Cert.PrepReferenceIdeal.Value.run (F := Ideal) m ρ)

/-- Both programs leave the same array, of the same arguments. -/
theorem algebraic : Cert.algebraic_PrepIdeal_PrepReferenceIdeal := by
  intro m g m' g' _ hagree
  refine ⟨fun c => Cert.PrepIdeal.Norms.result m c, ?_, ?_⟩
  · exact (θ_run Cert.PrepIdeal.defs _ _).mono (fun r h c => ⟨(h c).1.trans (Cert.PrepIdeal.Norms.final m c), (h c).2⟩)
      (Cert.PrepIdeal.Value.run_blocks m g)
  · refine (θ_run Cert.PrepReferenceIdeal.defs _ _).mono (fun r h c => ⟨(h c).1.trans ?_, (h c).2⟩)
      (Cert.PrepReferenceIdeal.Value.run (F := Ideal) m' g')
    refine (val_main_v36_eq _ _ _).trans (funext fun i => ?_)
    rw [(hagree c).1, (hagree c).2.1, (hagree c).2.2]
    exact whole _ _ _ i

end Cert.PrepReferenceIdeal.Norms

end
-- ==== Proof.Norms.Rotary.lean ====
/- The rotation of heads of 128 columns by row and column, over the extended reals. -/
module

public import proofs.«01_k».proof.Proof.Norms.Heads

@[expose] public section

noncomputable section

namespace Cert.Norms

open Idealize.ShloMosaic Cert.Attn

/-- A head over the root of its mean square, times the factors. -/
def normed (x g : Fin 128 → EReal) : Fin 128 → EReal := fun l => x l * rootOf x * g l

/-- A head turned by three tables: itself, and itself shifted by 32 columns either way. -/
def turned (y c a b : Fin 128 → EReal) : Fin 128 → EReal := fun l =>
  y l * c l + y ⟨(l.val + 128 - 96) % 128, Nat.mod_lt _ (by decide)⟩ * a l + y ⟨(l.val + 128 - 32) % 128, Nat.mod_lt _ (by decide)⟩ * b l

/-- Each half of a head, its own two halves exchanged and the one that comes first negated. -/
def exchanged (y : Fin 128 → EReal) : Fin 128 → EReal := fun l =>
  if l.val % 64 < 32 then -y ⟨(l.val + 128 - 96) % 128, Nat.mod_lt _ (by decide)⟩ else y ⟨(l.val + 128 - 32) % 128, Nat.mod_lt _ (by decide)⟩

/-- The same, quarter by quarter. -/
theorem exchanged_eq (y : Fin 128 → EReal) (l : Fin 128) : exchanged y l =
    if h : l.val < 64 then
      if h₁ : l.val < 32 then -y ⟨32 + l.val, by omega⟩ else y ⟨l.val - 32, by omega⟩
    else if h₁ : l.val - 64 < 32 then -y ⟨64 + (32 + (l.val - 64)), by omega⟩ else y ⟨64 + (l.val - 64 - 32), by omega⟩ := by
  have hl : l.val < 128 := l.isLt
  unfold exchanged
  split_ifs <;> first
    | (exfalso; omega)
    | exact congrArg (fun k => -y k) (Fin.ext (by dsimp only; omega))
    | exact congrArg y (Fin.ext (by dsimp only; omega))

/-- A head rotated by the angles whose cosines and sines are given. -/
def rotated (y c s : Fin 128 → EReal) : Fin 128 → EReal := fun l => y l * c l + exchanged y l * s l

/-- The three tables of a rotation. -/
theorem turned_eq (y c s : Fin 128 → EReal) :
    turned y c (fun l => if l.val % 64 < 32 then -s l else 0) (fun l => if l.val % 64 < 32 then 0 else s l) = rotated y c s := by
  funext l
  unfold turned rotated exchanged
  by_cases h : l.val % 64 < 32
  · simp only [h, if_true, mul_zero, add_zero, mul_neg, neg_mul]
  · simp only [h, if_false, mul_zero, add_zero]

end Cert.Norms

end
-- ==== Proof.Norms.RopeValue.lean ====
/- The value of the norm of the queries and keys with their rotation: each head of 128 columns over the root of its mean
   square, times the queries' or the keys' factors, rotated, the queries also times the scores' factor. -/
module

public import proofs.«01_k».proof.Proof.Gen.RopeIdeal.Value
public import proofs.«01_k».proof.Proof.Norms.Rotary
public import Idealize.ShloMosaic.Lib.Pipeline.CanonAppend

@[expose] public section

set_option maxRecDepth 16384

noncomputable section

namespace Cert.RopeIdeal.Norms

open Cert.RopeIdeal Cert.RopeIdeal.Gen
open Idealize.ShloMosaic Idealize.ShloMosaic.TcCoe Idealize.SL.Sem Cert.Norms Cert.Attn
open Idealize.ShloMosaic.Pipeline (Dat Cfg Window)

variable (m : (ℓ : Loc nD τ sig) → Buf (Elt Ideal) ℓ) (c : Dev nD)

/-- The comparison of a block's number with the queries' eight blocks. -/
theorem isQuery : ∀ n : Fin 10, Scalar.cmpi .slt (BitVec.ofNat 32 n.val) 8#32 = if n.val < 8 then 1#1 else 0#1 := by decide

/-- The factors of a block: the queries' in its first eight blocks of columns, else the keys'. -/
theorem gain (i : grid0.Coords) (g h : Vec Ideal S1x128 .f32) (j) :
    k0_pay2 (F := Ideal) i g h j = if (i 1).val < 8 then g j else h j := by
  have e := isQuery (i 1)
  unfold k0_pay2
  dsimp only
  rw [e]
  split <;> pointwise

/-- The factor of the scores in the queries' blocks, else 1. -/
theorem factor (i : grid0.Coords) :
    k0_pay3 (F := Ideal) i = if (i 1).val < 8 then Ideal.ofBits .f32 0x3E0293EE#32 else 1 := by
  have e := isQuery (i 1)
  unfold k0_pay3
  dsimp only
  rw [e]
  split <;> pointwise

/-- The four stores of a step, each of one head. -/
theorem head1 (i : grid0.Coords) (g h : Vec Ideal S1x128 .f32) (x3 x4 x5 : Vec Ideal S512x128 .f32) (v : Vec Ideal S512x128 .bf16) (j) :
    k0_pay4 (F := Ideal) i g h v x3 x4 x5 j
      = turned (normed (fun l => v (ix2 (j 0) l)) (fun l => k0_pay2 (F := Ideal) i g h (ix2 0 l))) (fun l => x3 (ix2 (j 0) l)) (fun l => x4 (ix2 (j 0) l))
        (fun l => x5 (ix2 (j 0) l)) (j 1) * k0_pay3 (F := Ideal) i := by
  pointwise [k0_pay4, turned, normed, rootOf]
theorem head2 (p : Vec Ideal S1x128 .f32) (q : EReal) (x3 x4 x5 : Vec Ideal S512x128 .f32) (v : Vec Ideal S512x128 .bf16) (j) :
    k0_pay5 (F := Ideal) p q v x3 x4 x5 j
      = turned (normed (fun l => v (ix2 (j 0) l)) (fun l => p (ix2 0 l))) (fun l => x3 (ix2 (j 0) l)) (fun l => x4 (ix2 (j 0) l))
        (fun l => x5 (ix2 (j 0) l)) (j 1) * q := by
  pointwise [k0_pay5, turned, normed, rootOf]
theorem head3 (p : Vec Ideal S1x128 .f32) (q : EReal) (x3 x4 x5 : Vec Ideal S512x128 .f32) (v : Vec Ideal S512x128 .bf16) (j) :
    k0_pay8 (F := Ideal) p q (k0_pay6 v) (k0_pay7 v) (Scalar.ofBits .f32 0x358637BD#32) x3 x4 x5 j
      = turned (normed (fun l => v (ix2 (j 0) l)) (fun l => p (ix2 0 l))) (fun l => x3 (ix2 (j 0) l)) (fun l => x4 (ix2 (j 0) l))
        (fun l => x5 (ix2 (j 0) l)) (j 1) * q := by
  pointwise [k0_pay8, k0_pay6, k0_pay7, turned, normed, rootOf]
theorem head4 (p : Vec Ideal S1x128 .f32) (q : EReal) (x3 x4 x5 : Vec Ideal S512x128 .f32) (v : Vec Ideal S512x128 .bf16) (j) :
    k0_pay1 (F := Ideal) q (k0_pay9 p v) (k0_pay10 p v x3) (k0_pay11 p v) x4 x5 j
      = turned (normed (fun l => v (ix2 (j 0) l)) (fun l => p (ix2 0 l))) (fun l => x3 (ix2 (j 0) l)) (fun l => x4 (ix2 (j 0) l))
        (fun l => x5 (ix2 (j 0) l)) (j 1) * q := by
  pointwise [k0_pay1, k0_pay9, k0_pay10, k0_pay11, turned, normed, rootOf]

/-- One head of the block, loaded: its entries are the block's, 128 columns for each head before it. -/
theorem loaded (x : Vec Ideal S512x512 .bf16) (a : ℕ) (inb) (ha : a % 128 = 0) (j : S512x128.Idx) :
    (fun l => (View.ld (Val := Elt Ideal) (e' := .bf16) x (Rect.unit (s := S512x512) ![0, a] S512x128.size inb)) (ix2 (j 0) l))
      = headOf (n := 512) (k := 512) x (j 0).val (a + (j 1).val) := by
  funext k
  have h1 : a + 128 ≤ 512 := inb 1
  have hj : (j 1).val < 128 := (j 1).isLt
  refine ((View.ld_unit_apply_of x ![0, a] S512x128.size inb (ix2 (j 0) k)
    (ix2 (n0 := 512) (n1 := 512) (j 0) ⟨a + k.val, by omega⟩) fun b => ?_).trans (entry_of _ _ rfl rfl).symm).trans
    (congrArg (entry (n := 512) (k := 512) x (j 0).val) (show a + k.val = (a + (j 1).val) / 128 * 128 + k.val by omega))
  match b with
  | 0 => exact (Nat.zero_add _).symm
  | 1 => rfl

theorem lane_of (a : ℕ) (ha : a % 128 = 0) (j : S512x128.Idx) : lane (a + (j 1).val) = j 1 :=
  have hj : (j 1).val < 128 := (j 1).isLt
  Fin.ext (show (a + (j 1).val) % 128 = (j 1).val by omega)

/-- Where a head's entries lie in its block. -/
theorem row_of (a : ℕ) (inb) (z : S512x128.Idx) : ((Rect.unit (s := S512x512) ![0, a] S512x128.size inb).emb z 0).val = (z 0).val :=
  (Rect.idx_unit_val _ _ inb z 0).trans (Nat.zero_add _)
theorem col_of (a : ℕ) (inb) (z : S512x128.Idx) : ((Rect.unit (s := S512x512) ![0, a] S512x128.size inb).emb z 1).val = a + (z 1).val :=
  Rect.idx_unit_val _ _ inb z 1

/-- A head's entries at their places in the block. -/
theorem at_piece (x3 x4 x5 : Vec Ideal S512x128 .f32) (a : ℕ) (inb) (ha : a % 128 = 0) (z : S512x128.Idx) (x : Vec Ideal S512x512 .bf16)
    (g : Fin 128 → EReal) (q : EReal) :
    turned (normed (headOf (n := 512) (k := 512) x (z 0).val (a + (z 1).val)) g) (fun l => x3 (ix2 (z 0) l)) (fun l => x4 (ix2 (z 0) l))
        (fun l => x5 (ix2 (z 0) l)) (z 1) * q
      = (fun y : S512x512.Idx => turned (normed (headOf (n := 512) (k := 512) x (y 0).val (y 1).val) g) (fun l => x3 (ix2 (y 0) l))
        (fun l => x4 (ix2 (y 0) l)) (fun l => x5 (ix2 (y 0) l)) (lane (y 1).val) * q)
          ((Rect.unit (s := S512x512) ![0, a] S512x128.size inb).emb z) := by
  have e0 : (Rect.unit (s := S512x512) ![0, a] S512x128.size inb).emb z 0 = z 0 := Fin.ext (row_of a inb z)
  show _ = turned _ _ _ _ _ * q
  rw [e0, col_of a inb z, lane_of a ha z]

/-- What a step writes: each head of its block over the root of its mean square, times the factors, turned by the tables. -/
theorem block (i : grid0.Coords) (x : Vec Ideal S512x512 .bf16) (g h : Vec Ideal S1x128 .f32) (x3 x4 x5 : Vec Ideal S512x128 .f32)
    (y : S512x512.Idx) :
    out0_6 (F := Ideal) i x g h x3 x4 x5 y = turned (normed (headOf (n := 512) (k := 512) x (y 0).val (y 1).val)
        (fun l => if (i 1).val < 8 then g (ix2 0 l) else h (ix2 0 l))) (fun l => x3 (ix2 (y 0) l)) (fun l => x4 (ix2 (y 0) l))
        (fun l => x5 (ix2 (y 0) l)) (lane (y 1).val)
      * (if (i 1).val < 8 then Ideal.ofBits .f32 0x3E0293EE#32 else 1) := by
  simp only [← gain i g h]
  rw [← factor i]
  unfold out0_6 k0_pay12
  rw [View.ld_unit_lit inb_S1x128_S1x128_0_0 g (by decide), View.ld_unit_lit inb_S1x128_S1x128_0_0 h (by decide),
    View.ld_unit_lit inb_S512x128_S512x128_0_0 x3 (by decide), View.ld_unit_lit inb_S512x128_S512x128_0_0 x4 (by decide),
    View.ld_unit_lit inb_S512x128_S512x128_0_0 x5 (by decide)]
  generalize hL : [_, _, _, _] = L
  have cv : ∃ p ∈ L, y ∈ p.1.set := hL ▸ cover0_6 _ _ _ _ y
  have e := View.canon_append_of_pieces
    (fun y : S512x512.Idx => turned (normed (headOf (n := 512) (k := 512) x (y 0).val (y 1).val)
        (fun l => k0_pay2 (F := Ideal) i g h (ix2 0 l))) (fun l => x3 (ix2 (y 0) l)) (fun l => x4 (ix2 (y 0) l))
        (fun l => x5 (ix2 (y 0) l)) (lane (y 1).val) * k0_pay3 (F := Ideal) i) [] L (fun p hp z => ?_) y cv
  · rwa [List.append_nil] at e
  subst hL
  simp only [List.mem_cons, List.not_mem_nil, or_false] at hp
  rcases hp with rfl | rfl | rfl | rfl
  · refine (head4 _ _ _ _ _ _ _).trans ?_
    exact (congrArg (fun r => turned (normed r _) _ _ _ (z 1) * _) (loaded x 384 inb_S512x512_S512x128_0_384 rfl z)).trans
      (at_piece x3 x4 x5 384 inb_S512x512_S512x128_0_384 rfl z x _ _)
  · refine (head3 _ _ _ _ _ _ _).trans ?_
    exact (congrArg (fun r => turned (normed r _) _ _ _ (z 1) * _) (loaded x 256 inb_S512x512_S512x128_0_256 rfl z)).trans
      (at_piece x3 x4 x5 256 inb_S512x512_S512x128_0_256 rfl z x _ _)
  · refine (head2 _ _ _ _ _ _ _).trans ?_
    exact (congrArg (fun r => turned (normed r _) _ _ _ (z 1) * _) (loaded x 128 inb_S512x512_S512x128_0_128 rfl z)).trans
      (at_piece x3 x4 x5 128 inb_S512x512_S512x128_0_128 rfl z x _ _)
  · refine (head1 _ _ _ _ _ _ _ _).trans ?_
    exact (congrArg (fun r => turned (normed r _) _ _ _ (z 1) * _) (loaded x 0 inb_S512x512_S512x128_0_0 rfl z)).trans
      (at_piece x3 x4 x5 0 inb_S512x512_S512x128_0_0 rfl z x _ _)

/-- The rows and columns a step works on, and its place among the columns. -/
theorem places : ∀ t : Fin cfg0.N, win0_0.index t = ![t.val / 10, t.val % 10] ∧ win0_1.index t = ![0, 0] ∧ win0_2.index t = ![0, 0]
    ∧ win0_3.index t = ![t.val / 10, 0] ∧ win0_4.index t = ![t.val / 10, 0] ∧ win0_5.index t = ![t.val / 10, 0]
    ∧ win0_6.index t = ![t.val / 10, t.val % 10] ∧ (grid0.coords t 1).val = t.val % 10 :=
  (by decide +kernel : ∀ t : Fin grid0.N, _)

/-- The call's first argument, its rows of factors and its tables, as arrays. -/
abbrev argX : S24576x6144.Idx → EReal := m ((c : Thread nD τ).loc main_arg0)
abbrev argQ : S128.Idx → EReal := m ((c : Thread nD τ).loc main_arg1)
abbrev argK : S128.Idx → EReal := m ((c : Thread nD τ).loc main_arg2)
abbrev argC : S24576x128.Idx → EReal := m ((c : Thread nD τ).loc main_arg3)
abbrev argS : S24576x128.Idx → EReal := m ((c : Thread nD τ).loc main_arg4)

/-- The value of the call at an entry. -/
def result : S24576x5120.Idx → EReal := fun i =>
  rotated (normed (headOf (n := 24576) (k := 6144) (argX m c) (i 0).val (i 1).val)
      (fun l => if (i 1).val < 4096 then argQ m c (ix1 l) else argK m c (ix1 l)))
    (fun l => argC m c (ix2 (i 0) l)) (fun l => argS m c (ix2 (i 0) l)) (lane (i 1).val)
    * (if (i 1).val < 4096 then Ideal.ofBits .f32 0x3E0293EE#32 else 1)

/-- The rows of factors the kernel is launched with are the arguments it is given. -/
theorem arg1_at (j : S1x128.Idx) : (show S1x128.Idx → EReal from V m c main_v9) j = argQ m c (ix1 (j 1)) := by
  unfold V
  simp only [hostOps0, hostOps0_1, hostOps0_2, hostOps0_3, hostOps0_4, hostOps0_5, hostOps0_6, List.flatten_cons, List.flatten_nil,
    List.cons_append, List.nil_append]
  after_results_simp
  pointwise
theorem arg2_at (j : S1x128.Idx) : (show S1x128.Idx → EReal from V m c main_v10) j = argK m c (ix1 (j 1)) := by
  unfold V
  simp only [hostOps0, hostOps0_1, hostOps0_2, hostOps0_3, hostOps0_4, hostOps0_5, hostOps0_6, List.flatten_cons, List.flatten_nil,
    List.cons_append, List.nil_append]
  after_results_simp
  pointwise

/-- The mask of the columns that come first in their half of a head: the remainder of a column's number by 64, below 32. -/
theorem mask : ∀ n : Fin 128, IntOp.cmpi CmpIPredicate.slt
    (Scalar.select (IntOp.andi (IntOp.cmpi CmpIPredicate.ne (IntOp.cmpi CmpIPredicate.slt
          (IntOp.remsi ArithUnit.host (BitVec.ofNat 32 n.val) (Scalar.select (IntOp.cmpi CmpIPredicate.eq 64#32 0#32) 1#32 64#32)) 0#32)
          (IntOp.cmpi CmpIPredicate.slt (Scalar.select (IntOp.cmpi CmpIPredicate.eq 64#32 0#32) 1#32 64#32) 0#32))
        (IntOp.cmpi CmpIPredicate.ne (IntOp.remsi ArithUnit.host (BitVec.ofNat 32 n.val) (Scalar.select (IntOp.cmpi CmpIPredicate.eq 64#32 0#32) 1#32 64#32)) 0#32))
      (IntOp.addi (IntOp.remsi ArithUnit.host (BitVec.ofNat 32 n.val) (Scalar.select (IntOp.cmpi CmpIPredicate.eq 64#32 0#32) 1#32 64#32)) (Scalar.select (IntOp.cmpi CmpIPredicate.eq 64#32 0#32) 1#32 64#32))
      (IntOp.remsi ArithUnit.host (BitVec.ofNat 32 n.val) (Scalar.select (IntOp.cmpi CmpIPredicate.eq 64#32 0#32) 1#32 64#32))) 32#32
    = if n.val % 64 < 32 then 1#1 else 0#1 := by decide +kernel

/-- The tables it is launched with: the cosines, and the sines split between the two shifts. -/
theorem arg4_at (j : S24576x128.Idx) :
    (show S24576x128.Idx → EReal from V m c main_v6) j = if (j 1).val % 64 < 32 then -argS m c j else 0 := by
  unfold V
  simp only [hostOps0, hostOps0_1, hostOps0_2, hostOps0_3, hostOps0_4, hostOps0_5, hostOps0_6, List.flatten_cons, List.flatten_nil,
    List.cons_append, List.nil_append]
  after_results_simp
  dsimp only [StableHlo.TRef.ofBuf, StableHlo.TRef.toBuf, StableHlo.TRef.of, id, cast_eq]
  pointwise
  refine (congrArg (fun b => Scalar.select b _ _) (mask (j 1))).trans ?_
  split <;> rfl
theorem arg5_at (j : S24576x128.Idx) :
    (show S24576x128.Idx → EReal from V m c main_v8) j = if (j 1).val % 64 < 32 then 0 else argS m c j := by
  unfold V
  simp only [hostOps0, hostOps0_1, hostOps0_2, hostOps0_3, hostOps0_4, hostOps0_5, hostOps0_6, List.flatten_cons, List.flatten_nil,
    List.cons_append, List.nil_append]
  after_results_simp
  dsimp only [StableHlo.TRef.ofBuf, StableHlo.TRef.toBuf, StableHlo.TRef.of, id, cast_eq]
  pointwise
  refine (congrArg (fun b => Scalar.select b _ _) (mask (j 1))).trans ?_
  split <;> rfl

/-- An entry of a step's block of the first argument. -/
theorem entry_block (t : Fin cfg0.N) (r l : ℕ) (hr : r < 512) (hl : l < 512) :
    entry (n := 512) (k := 512) (iblk m c 0 t) r l
      = entry (n := 24576) (k := 6144) (argX m c) (t.val / 10 * 512 + r) (t.val % 10 * 512 + l) := by
  have ht : t.val < 480 := t.isLt
  refine (entry_of (iblk m c 0 t) (ix2 (n0 := 512) (n1 := 512) ⟨r, hr⟩ ⟨l, hl⟩) rfl rfl).trans (Eq.trans ?_
    (entry_of (argX m c) (ix2 (n0 := 24576) (n1 := 6144) ⟨t.val / 10 * 512 + r, by omega⟩ ⟨t.val % 10 * 512 + l, by omega⟩) rfl rfl).symm)
  blk_ext [iblk, V, places t]

/-- The place of a step's entry in the result. -/
theorem row_at (t : Fin cfg0.N) (y : S512x512.Idx) : (((cfg0.win 6).blk t).view.emb y 0).val = t.val / 10 * 512 + (y 0).val := by
  blk_simp [places t] <;> try omega
theorem col_at (t : Fin cfg0.N) (y : S512x512.Idx) : (((cfg0.win 6).blk t).view.emb y 1).val = t.val % 10 * 512 + (y 1).val := by
  blk_simp [places t] <;> try omega

/-- The head of a step's entry. -/
theorem head_block (t : Fin cfg0.N) (y : S512x512.Idx) : headOf (n := 512) (k := 512) (iblk m c 0 t) (y 0).val (y 1).val
    = headOf (n := 24576) (k := 6144) (argX m c) (((cfg0.win 6).blk t).view.emb y 0).val (((cfg0.win 6).blk t).view.emb y 1).val := by
  have hy0 : (y 0).val < 512 := (y 0).isLt
  have hy1 : (y 1).val < 512 := (y 1).isLt
  rw [row_at, col_at]
  funext k
  unfold headOf
  rw [entry_block m c t _ _ hy0 (by omega)]
  exact congrArg _ (by omega)

/-- The rows of factors and of the tables that a step reads. -/
theorem row1 (t : Fin cfg0.N) (l : Fin 128) : (show Vec Ideal S1x128 .f32 from iblk m c 1 t) (ix2 0 l) = argQ m c (ix1 l) := by
  refine Eq.trans ?_ (arg1_at m c (ix2 0 l))
  blk_ext [iblk, places t]
theorem row2 (t : Fin cfg0.N) (l : Fin 128) : (show Vec Ideal S1x128 .f32 from iblk m c 2 t) (ix2 0 l) = argK m c (ix1 l) := by
  refine Eq.trans ?_ (arg2_at m c (ix2 0 l))
  blk_ext [iblk, places t]
theorem row3 (t : Fin cfg0.N) (y : S512x512.Idx) (l : Fin 128) : (show Vec Ideal S512x128 .f32 from iblk m c 3 t) (ix2 (y 0) l)
    = argC m c (ix2 (((cfg0.win 6).blk t).view.emb y 0) l) := by
  refine Eq.trans ?_ (congrFun (V_main_arg3 m c) (ix2 (n0 := 24576) (n1 := 128) (((cfg0.win 6).blk t).view.emb y 0) l))
  blk_ext [iblk, places t]
theorem row4 (t : Fin cfg0.N) (y : S512x512.Idx) (l : Fin 128) : (show Vec Ideal S512x128 .f32 from iblk m c 4 t) (ix2 (y 0) l)
    = if l.val % 64 < 32 then -argS m c (ix2 (((cfg0.win 6).blk t).view.emb y 0) l) else 0 := by
  refine Eq.trans ?_ (arg4_at m c (ix2 (n0 := 24576) (n1 := 128) (((cfg0.win 6).blk t).view.emb y 0) l))
  blk_ext [iblk, places t]
theorem row5 (t : Fin cfg0.N) (y : S512x512.Idx) (l : Fin 128) : (show Vec Ideal S512x128 .f32 from iblk m c 5 t) (ix2 (y 0) l)
    = if l.val % 64 < 32 then 0 else argS m c (ix2 (((cfg0.win 6).blk t).view.emb y 0) l) := by
  refine Eq.trans ?_ (arg5_at m c (ix2 (n0 := 24576) (n1 := 128) (((cfg0.win 6).blk t).view.emb y 0) l))
  blk_ext [iblk, places t]

/-- A step's columns are the queries' in the first eight blocks. -/
theorem is_query (t : Fin cfg0.N) (y : S512x512.Idx) :
    ((grid0.coords t 1).val < 8) = ((((cfg0.win 6).blk t).view.emb y 1).val < 4096) := by
  have hy1 : (y 1).val < 512 := (y 1).isLt
  rw [(places t).2.2.2.2.2.2.2, col_at]
  exact propext (by omega)

/-- What a step writes is the result's block. -/
theorem step (t : Fin cfg0.N) (y : S512x512.Idx) :
    out0_6 (F := Ideal) (grid0.coords t) (iblk m c 0 t) (iblk m c 1 t) (iblk m c 2 t) (iblk m c 3 t) (iblk m c 4 t) (iblk m c 5 t) y
      = result m c (((cfg0.win 6).blk t).view.emb y) := by
  have hl : lane (((cfg0.win 6).blk t).view.emb y 1).val = lane (y 1).val := by
    rw [col_at]
    exact Fin.ext (show _ % 128 = _ % 128 by omega)
  refine (block _ _ _ _ _ _ _ y).trans ?_
  rw [head_block, funext (row3 m c t y), funext (row4 m c t y), funext (row5 m c t y), turned_eq, ← hl]
  simp only [row1, row2, is_query t y]
  rfl

/-- The array the kernel leaves. -/
theorem final : (dats m 0 c).arrAt 6 cfg0.N = result m c := by
  refine (dats m 0 c).arrAt_eq_of_covers 6 _ (by decide +kernel) fun t hf y => ?_
  blk_simp
  rw [after0_6]
  exact step m c t y

end Cert.RopeIdeal.Norms

end
-- ==== Proof.Norms.RopeReference.lean ====
/- What the reference of the norm of the queries and keys with their rotation computes, and that the kernel computes the same. -/
module

public import proofs.«01_k».proof.Defs
public import proofs.«01_k».proof.Proof.Gen.RopeReferenceIdeal.Run
public import proofs.«01_k».proof.Proof.Gen.RopeReferenceIdeal.Read
public import proofs.«01_k».proof.Proof.Norms.RopeValue

@[expose] public section

set_option maxRecDepth 16384

noncomputable section

namespace Cert.RopeReferenceIdeal.Norms

open Cert.RopeReferenceIdeal Cert.RopeReferenceIdeal.Read
open Idealize.ShloMosaic Idealize.ShloMosaic.TcCoe Idealize.SL.Sem Cert.Norms Cert.Attn

/-- The queries and the keys, by their heads. -/
theorem query (X : S24576x6144.Idx → EReal) (j : S24576x8x4x128.Idx) :
    val_main_v2 (F := Ideal) X j = entry (n := 24576) (k := 6144) X (j 0).val ((j 1).val * 512 + (j 2).val * 128 + (j 3).val) := by
  have h1 : (j 1).val < 8 := (j 1).isLt
  have h2 : (j 2).val < 4 := (j 2).isLt
  have h3 : (j 3).val < 128 := (j 3).isLt
  refine Eq.trans ?_ (entry_of X (ix2 (n0 := 24576) (n1 := 6144) (j 0) ⟨(j 1).val * 512 + (j 2).val * 128 + (j 3).val, by omega⟩) rfl rfl).symm
  pointwise [val_main_v2, val_main_v1, val_main_v0]
theorem key (X : S24576x6144.Idx → EReal) (j : S24576x8x128.Idx) :
    val_main_v4 (F := Ideal) X j = entry (n := 24576) (k := 6144) X (j 0).val (4096 + ((j 1).val * 128 + (j 2).val)) := by
  have h1 : (j 1).val < 8 := (j 1).isLt
  have h2 : (j 2).val < 128 := (j 2).isLt
  refine Eq.trans ?_ (entry_of X (ix2 (n0 := 24576) (n1 := 6144) (j 0) ⟨4096 + ((j 1).val * 128 + (j 2).val), by omega⟩) rfl rfl).symm
  pointwise [val_main_v4, val_main_v3, val_main_v0]

/-- Each head over the root of its mean square, times the factors. -/
theorem queries (X : S24576x6144.Idx → EReal) (G : S128.Idx → EReal) (j : S24576x8x4x128.Idx) :
    val_main_v17 (F := Ideal) X G j = normed (fun k => val_main_v2 (F := Ideal) X (ix4 (j 0) (j 1) (j 2) k)) (fun k => G (ix1 k)) (j 3) := by
  pointwise [val_main_v5, val_main_v6, val_main_v7, val_main_v8, val_main_v9, val_main_v10, val_main_v11, val_main_v12, val_main_v13, val_main_v14, val_main_v15, val_main_v16, val_main_v17, val_main_cst, val_main_cst_0, val_main_cst_1, normed, rootOf]
theorem keys (X : S24576x6144.Idx → EReal) (G : S128.Idx → EReal) (j : S24576x8x128.Idx) :
    val_main_v50 (F := Ideal) X G j = normed (fun k => val_main_v4 (F := Ideal) X (ix3 (j 0) (j 1) k)) (fun k => G (ix1 k)) (j 2) := by
  pointwise [val_main_v38, val_main_v39, val_main_v40, val_main_v41, val_main_v42, val_main_v43, val_main_v44, val_main_v45, val_main_v46, val_main_v47, val_main_v48, val_main_v49, val_main_v50, val_main_cst_3, val_main_cst_4, val_main_cst_5, normed, rootOf]

/-- The halves of the heads exchanged. -/
theorem queriesExchanged (X : S24576x6144.Idx → EReal) (G : S128.Idx → EReal) (j : S24576x8x4x128.Idx) :
    val_main_v30 (F := Ideal) X G j = exchanged (fun k => val_main_v17 (F := Ideal) X G (ix4 (j 0) (j 1) (j 2) k)) (j 3) := by
  refine Eq.trans ?_ (exchanged_eq (fun k => val_main_v17 (F := Ideal) X G (ix4 (j 0) (j 1) (j 2) k)) (j 3)).symm
  pointwise [val_main_v20, val_main_v21, val_main_v22, val_main_v23, val_main_v24, val_main_v25, val_main_v26, val_main_v27, val_main_v28, val_main_v29, val_main_v30]
theorem keysExchanged (X : S24576x6144.Idx → EReal) (G : S128.Idx → EReal) (j : S24576x8x128.Idx) :
    val_main_v63 (F := Ideal) X G j = exchanged (fun k => val_main_v50 (F := Ideal) X G (ix3 (j 0) (j 1) k)) (j 2) := by
  refine Eq.trans ?_ (exchanged_eq (fun k => val_main_v50 (F := Ideal) X G (ix3 (j 0) (j 1) k)) (j 2)).symm
  pointwise [val_main_v53, val_main_v54, val_main_v55, val_main_v56, val_main_v57, val_main_v58, val_main_v59, val_main_v60, val_main_v61, val_main_v62, val_main_v63]

/-- The heads rotated, the queries' also times the scores' factor. -/
theorem queriesRotated (X : S24576x6144.Idx → EReal) (G : S128.Idx → EReal) (C S : S24576x128.Idx → EReal) (j : S24576x8x4x128.Idx) :
    val_main_v37 (F := Ideal) X G C S j = rotated (normed (fun k => val_main_v2 (F := Ideal) X (ix4 (j 0) (j 1) (j 2) k)) (fun k => G (ix1 k)))
      (fun k => C (ix2 (j 0) k)) (fun k => S (ix2 (j 0) k)) (j 3) * Ideal.ofBits .f32 0x3E0293EE#32 := by
  have e : val_main_v37 (F := Ideal) X G C S j = (val_main_v17 (F := Ideal) X G j * C (ix2 (j 0) (j 3))
      + val_main_v30 (F := Ideal) X G j * S (ix2 (j 0) (j 3))) * Ideal.ofBits .f32 0x3E0293EE#32 := by
    pointwise [val_main_v18, val_main_v19, val_main_v31, val_main_v32, val_main_v33, val_main_v34, val_main_v35, val_main_v36, val_main_v37, val_main_cst_2]
  rw [e, queriesExchanged, queries, funext fun k => queries X G (ix4 (j 0) (j 1) (j 2) k)]
  rfl
theorem keysRotated (X : S24576x6144.Idx → EReal) (G : S128.Idx → EReal) (C S : S24576x128.Idx → EReal) (j : S24576x8x128.Idx) :
    val_main_v68 (F := Ideal) X G C S j = rotated (normed (fun k => val_main_v4 (F := Ideal) X (ix3 (j 0) (j 1) k)) (fun k => G (ix1 k)))
      (fun k => C (ix2 (j 0) k)) (fun k => S (ix2 (j 0) k)) (j 2) := by
  have e : val_main_v68 (F := Ideal) X G C S j = val_main_v50 (F := Ideal) X G j * C (ix2 (j 0) (j 2))
      + val_main_v63 (F := Ideal) X G j * S (ix2 (j 0) (j 2)) := by
    pointwise [val_main_v51, val_main_v52, val_main_v64, val_main_v65, val_main_v66, val_main_v67, val_main_v68]
  rw [e, keysExchanged, keys, funext fun k => keys X G (ix3 (j 0) (j 1) k)]
  rfl

/-- The head a column of the queries or keys lies in. -/
def splitQuery (r : Fin 24576) (l : ℕ) (hl : l < 4096) : S24576x8x4x128.Idx :=
  ix4 r ⟨l / 512, by omega⟩ ⟨l / 128 % 4, by omega⟩ ⟨l % 128, by omega⟩
def splitKey (r : Fin 24576) (l : ℕ) (hl : l < 1024) : S24576x8x128.Idx :=
  ix3 r ⟨l / 128, by omega⟩ ⟨l % 128, by omega⟩

theorem joined (X : S24576x6144.Idx → EReal) (G K : S128.Idx → EReal) (C S : S24576x128.Idx → EReal) (i : S24576x5120.Idx) :
    val_main_v72 (F := Ideal) X G K C S i = if h : (i 1).val < 4096 then val_main_v37 (F := Ideal) X G C S (splitQuery (i 0) (i 1).val h)
      else val_main_v68 (F := Ideal) X K C S (splitKey (i 0) ((i 1).val - 4096) (by have h : (i 1).val < 5120 := (i 1).isLt; omega)) := by
  by_cases h : (i 1).val < 4096
  · rw [dif_pos h]
    pointwise [val_main_v72, val_main_v71, val_main_v69, splitQuery]
    exact dif_pos h
  · rw [dif_neg h]
    pointwise [val_main_v72, val_main_v71, val_main_v70, splitKey]
    exact dif_neg h

/-- The reference's entries. -/
theorem whole (X : S24576x6144.Idx → EReal) (G K : S128.Idx → EReal) (C S : S24576x128.Idx → EReal) (i : S24576x5120.Idx) :
    val_main_v72 (F := Ideal) X G K C S i = rotated (normed (headOf (n := 24576) (k := 6144) X (i 0).val (i 1).val)
        (fun l => if (i 1).val < 4096 then G (ix1 l) else K (ix1 l)))
      (fun l => C (ix2 (i 0) l)) (fun l => S (ix2 (i 0) l)) (lane (i 1).val)
      * (if (i 1).val < 4096 then Ideal.ofBits .f32 0x3E0293EE#32 else 1) := by
  have hi : (i 1).val < 5120 := (i 1).isLt
  rw [joined]
  by_cases h : (i 1).val < 4096
  · have e : (fun k => val_main_v2 (F := Ideal) X (ix4 (i 0) ⟨(i 1).val / 512, by omega⟩ ⟨(i 1).val / 128 % 4, by omega⟩ k))
        = headOf (n := 24576) (k := 6144) X (i 0).val (i 1).val := funext fun k => by
      rw [query]
      exact congrArg (entry (n := 24576) (k := 6144) X (i 0).val)
        (show (i 1).val / 512 * 512 + (i 1).val / 128 % 4 * 128 + k.val = (i 1).val / 128 * 128 + k.val by omega)
    simp only [h, dif_pos, if_true]
    rw [queriesRotated, ← e]
    rfl
  · have e : (fun k => val_main_v4 (F := Ideal) X (ix3 (i 0) ⟨((i 1).val - 4096) / 128, by omega⟩ k))
        = headOf (n := 24576) (k := 6144) X (i 0).val (i 1).val := funext fun k => by
      rw [key]
      exact congrArg (entry (n := 24576) (k := 6144) X (i 0).val)
        (show 4096 + (((i 1).val - 4096) / 128 * 128 + k.val) = (i 1).val / 128 * 128 + k.val by omega)
    have el : (⟨((i 1).val - 4096) % 128, by omega⟩ : Fin 128) = lane (i 1).val := Fin.ext (show _ % 128 = _ % 128 by omega)
    rw [dif_neg h]
    simp only [h, if_false, mul_one]
    rw [keysRotated, ← e, ← el]
    rfl

/-- The reference ends with its arguments unchanged. -/
theorem frame : Cert.quiescent_RopeReferenceIdeal := fun m ρ _ =>
  (θ_run Cert.RopeReferenceIdeal.defs _ _).mono (fun r h => ⟨fun c => (h c).2, sem_eq_zero_of_no_sems (by decide) r.2⟩)
    (Cert.RopeReferenceIdeal.Value.run (F := Ideal) m ρ)

/-- Both programs leave the same array, of the same arguments. -/
theorem algebraic : Cert.algebraic_RopeIdeal_RopeReferenceIdeal := by
  intro m g m' g' _ hagree
  refine ⟨fun c => Cert.RopeIdeal.Norms.result m c, ?_, ?_⟩
  · exact (θ_run Cert.RopeIdeal.defs _ _).mono (fun r h c => ⟨(h c).1.trans (Cert.RopeIdeal.Norms.final m c), (h c).2⟩)
      (Cert.RopeIdeal.Value.run_blocks m g)
  · refine (θ_run Cert.RopeReferenceIdeal.defs _ _).mono (fun r h c => ⟨(h c).1.trans ?_, (h c).2⟩)
      (Cert.RopeReferenceIdeal.Value.run (F := Ideal) m' g')
    refine (val_main_v72_eq _ _).trans (funext fun i => ?_)
    rw [(hagree c).1, (hagree c).2.1, (hagree c).2.2.1, (hagree c).2.2.2.1, (hagree c).2.2.2.2]
    exact whole _ _ _ _ _ i

end Cert.RopeReferenceIdeal.Norms

end
-- ==== Proof.Conv.Spec.lean ====
/- The depthwise convolution over the tokens of a sequence, as a sum that grows by one shifted product at a time. -/
module

public import proofs.«01_k».proof.Proof.Attn.Spec
public import Idealize.ShloMosaic.Lib.Pointwise
public import Idealize.ShloMosaic.Lib.Pipeline.ValueKit

@[expose] public section

noncomputable section

namespace Cert.Conv

open Idealize.ShloMosaic Cert.Attn

/-- A sum of the first `n` terms on top of `z`, grown term by term. -/
def grow (z : EReal) (f : ℕ → EReal) : ℕ → EReal
  | 0 => z
  | n + 1 => grow z f n + f n

theorem grow_from (z : EReal) (f : ℕ → EReal) (n : ℕ) : grow z f n = grow 0 f n + z := by
  induction n with
  | zero => exact (zero_add z).symm
  | succ n ih => show grow z f n + f n = grow 0 f n + f n + z; rw [ih, add_right_comm]

theorem grow_congr (z : EReal) {f g : ℕ → EReal} (n : ℕ) (h : ∀ t < n, f t = g t) : grow z f n = grow z g n := by
  induction n with
  | zero => rfl
  | succ n ih => exact congrArg₂ (· + ·) (ih fun t ht => h t (by omega)) (h n (by omega))

/-- The first token of the sequence a token lies in, and the token after its last one: four sequences of 2048 tokens and
    one of 16384. -/
def low (r : ℕ) : ℕ := if r < 8192 then r / 2048 * 2048 else 8192
def high (r : ℕ) : ℕ := if r < 8192 then r / 2048 * 2048 + 2048 else 24576

/-- What the convolution's entry `t` meets at token `r`: the token `t - 15` further on in the same sequence, or zero. -/
def tap (X : ℕ → ℕ → EReal) (r l t : ℕ) : EReal := if low r + 15 ≤ r + t ∧ r + t < high r + 15 then X (r + t - 15) l else 0

/-- The convolution at a token and a column. -/
def conv (X W : ℕ → ℕ → EReal) (b : EReal) (r l : ℕ) : EReal := grow 0 (fun t => tap X r l t * W t l) 31 + b

end Cert.Conv

end
-- ==== Proof.Conv.Step.lean ====
/- What a step of the depthwise convolution writes. -/
module

public import proofs.«01_k».proof.Proof.Gen.DwconvIdeal.Frame
public import proofs.«01_k».proof.Proof.Conv.Spec
public import Idealize.ShloMosaic.Lib.Pipeline.FrameBody
public import Idealize.ShloMosaic.Lib.WholeRead

@[expose] public section

set_option maxRecDepth 16384

noncomputable section

namespace Cert.DwconvIdeal.Conv

open Cert.DwconvIdeal Cert.DwconvIdeal.Gen
open Idealize.ShloMosaic Idealize.ShloMosaic.Pipeline Cert.Attn Cert.Conv

theorem hit (a : ℕ) (inb) (P : S32x512.Idx → Elt Ideal .f32) (L : List (View.Piece (Elt Ideal) S256x512 .f32)) (r : Fin 256) (l : Fin 512) (q : Fin 32)
    (h : r.val = a + q.val) :
    View.canon (⟨(Rect.unit ![a, 0] S32x512.size inb : Rect S256x512), P⟩ :: L) (ix2 r l) = P (ix2 q l) := by
  refine Eq.trans (congrArg _ (funext fun d => Fin.ext ?_))
    (View.canon_cons_emb (Rect.unit ![a, 0] S32x512.size inb : Rect S256x512) P L (ix2 q l))
  match d with
  | 0 => show r.val = a + 1 * q.val; omega
  | 1 => show l.val = 0 + 1 * l.val; omega

theorem miss (a : ℕ) (inb) (P : S32x512.Idx → Elt Ideal .f32) (L : List (View.Piece (Elt Ideal) S256x512 .f32)) (r : Fin 256) (l : Fin 512)
    (h : ¬ (a ≤ r.val ∧ r.val < a + 32)) :
    View.canon (⟨(Rect.unit ![a, 0] S32x512.size inb : Rect S256x512), P⟩ :: L) (ix2 r l) = View.canon L (ix2 r l) := by
  refine View.canon_cons_of_not_mem _ L fun hm => h ?_
  obtain ⟨x, hx⟩ := LoadRect.exists_idx_of_mem _ hm
  have e : a + 1 * (x 0).val = r.val := congrArg (fun y : S256x512.Idx => (y 0).val) hx
  have h0 : (x 0).val < 32 := (x 0).isLt
  omega

section Loads
variable {κ : Kind} {sp : Space}

theorem win_at (v : View sig κ sp S288x512 .f32) (L : List (View.Piece (Elt Ideal) S288x512 .f32)) (o : ℕ) (inb) (q : Fin 32) (l : Fin 512) :
    v.readCov L (Rect.unit (s := S288x512) ![o, 0] ![32, 512] inb).toLoadRect (ix2 q l) = entry (n := 288) (k := 512) (View.canon L) (o + q.val) l.val := by
  refine (congrFun (View.readCov_eq_canon' v L _) _).trans (entry_of _ _ ?_ ?_).symm
  · show o + 1 * q.val = _; omega
  · show 0 + 1 * l.val = _; omega

theorem w_at (m : Memref sig κ sp S31x512 .f32) (h : m.IsWhole) (x : S31x512.Idx → Elt Ideal .f32) (o : ℕ) (inb) (l : Fin 512) :
    m.view.readAt (Elt Ideal) (Rect.unit (s := S31x512) ![o, 0] ![1, 512] inb).toLoadRect (h.unread x) (ix2 0 l) = entry (n := 31) (k := 512) x o l.val := by
  refine (h.readAt_unread x _ _).trans (entry_of _ _ ?_ ?_).symm
  · show o + 1 * 0 = _; omega
  · show 0 + 1 * l.val = _; omega

theorem b_at (m : Memref sig κ sp S1x512 .f32) (h : m.IsWhole) (x : S1x512.Idx → Elt Ideal .f32) (inb) (l : Fin 512) :
    m.view.readAt (Elt Ideal) (Rect.unit (s := S1x512) ![0, 0] ![1, 512] inb).toLoadRect (h.unread x) (ix2 0 l) = entry (n := 1) (k := 512) x 0 l.val := by
  refine (h.readAt_unread x _ _).trans (entry_of _ _ ?_ ?_).symm
  · rfl
  · show 0 + 1 * l.val = _; omega

theorem whole16 (m : Memref sig κ sp S16x512 .bf16) (h : m.IsWhole) (x : S16x512.Idx → Elt Ideal .bf16) (inb) :
    m.view.readAt (Elt Ideal) (Rect.unit (s := S16x512) ![0, 0] S16x512.size inb).toLoadRect (h.unread x) = x := by
  refine funext fun i => (h.readAt_unread x _ _).trans (congrArg x (funext fun d => Fin.ext ?_))
  match d with
  | 0 => show 0 + 1 * (i 0).val = (i 0).val; omega
  | 1 => show 0 + 1 * (i 1).val = (i 1).val; omega

theorem whole256 (m : Memref sig κ sp S256x512 .bf16) (h : m.IsWhole) (x : S256x512.Idx → Elt Ideal .bf16) (inb) :
    m.view.readAt (Elt Ideal) (Rect.unit (s := S256x512) ![0, 0] S256x512.size inb).toLoadRect (h.unread x) = x := by
  refine funext fun i => (h.readAt_unread x _ _).trans (congrArg x (funext fun d => Fin.ext ?_))
  match d with
  | 0 => show 0 + 1 * (i 0).val = (i 0).val; omega
  | 1 => show 0 + 1 * (i 1).val = (i 1).val; omega

end Loads

/-! ### The window: sixteen rows before the tile, the tile, sixteen rows after it -/

/-- Row `q` of the window; the rows before and after the tile are there where the tile's sequence goes on. -/
def row (p0 p1 : Prop) [Decidable p0] [Decidable p1] (x0 : S16x512.Idx → EReal) (x1 : S256x512.Idx → EReal) (x2 : S16x512.Idx → EReal) (q l : ℕ) : EReal :=
  if q < 16 then (if p0 then entry (n := 16) (k := 512) x0 q l else 0)
  else if q < 272 then entry (n := 256) (k := 512) x1 (q - 16) l
  else if p1 then entry (n := 16) (k := 512) x2 (q - 272) l else 0

theorem row_words (u v u' v' : BitVec 32) (x0 : S16x512.Idx → EReal) (x1 : S256x512.Idx → EReal) (x2 : S16x512.Idx → EReal) (q l : ℕ) (hu : u = u') (hv : v = v') :
    row (u = 1#32) (v = 1#32) x0 x1 x2 q l = row (u' = 1#32) (v' = 1#32) x0 x1 x2 q l := by
  subst hu hv; rfl

theorem hit16 (a : ℕ) (inb) (P : S16x512.Idx → Elt Ideal .f32) (L : List (View.Piece (Elt Ideal) S288x512 .f32)) (r : Fin 288) (l : Fin 512) (q : Fin 16)
    (h : r.val = a + q.val) :
    View.canon (⟨(Rect.unit ![a, 0] S16x512.size inb : Rect S288x512), P⟩ :: L) (ix2 r l) = P (ix2 q l) := by
  refine Eq.trans (congrArg _ (funext fun d => Fin.ext ?_))
    (View.canon_cons_emb (Rect.unit ![a, 0] S16x512.size inb : Rect S288x512) P L (ix2 q l))
  match d with
  | 0 => show r.val = a + 1 * q.val; omega
  | 1 => show l.val = 0 + 1 * l.val; omega

theorem hit256 (a : ℕ) (inb) (P : S256x512.Idx → Elt Ideal .f32) (L : List (View.Piece (Elt Ideal) S288x512 .f32)) (r : Fin 288) (l : Fin 512) (q : Fin 256)
    (h : r.val = a + q.val) :
    View.canon (⟨(Rect.unit ![a, 0] S256x512.size inb : Rect S288x512), P⟩ :: L) (ix2 r l) = P (ix2 q l) := by
  refine Eq.trans (congrArg _ (funext fun d => Fin.ext ?_))
    (View.canon_cons_emb (Rect.unit ![a, 0] S256x512.size inb : Rect S288x512) P L (ix2 q l))
  match d with
  | 0 => show r.val = a + 1 * q.val; omega
  | 1 => show l.val = 0 + 1 * l.val; omega

theorem miss16 (a : ℕ) (inb) (P : S16x512.Idx → Elt Ideal .f32) (L : List (View.Piece (Elt Ideal) S288x512 .f32)) (r : Fin 288) (l : Fin 512)
    (h : ¬ (a ≤ r.val ∧ r.val < a + 16)) :
    View.canon (⟨(Rect.unit ![a, 0] S16x512.size inb : Rect S288x512), P⟩ :: L) (ix2 r l) = View.canon L (ix2 r l) := by
  refine View.canon_cons_of_not_mem _ L fun hm => h ?_
  obtain ⟨x, hx⟩ := LoadRect.exists_idx_of_mem _ hm
  have e : a + 1 * (x 0).val = r.val := congrArg (fun y : S288x512.Idx => (y 0).val) hx
  have h0 : (x 0).val < 16 := (x 0).isLt
  omega

theorem miss256 (a : ℕ) (inb) (P : S256x512.Idx → Elt Ideal .f32) (L : List (View.Piece (Elt Ideal) S288x512 .f32)) (r : Fin 288) (l : Fin 512)
    (h : ¬ (a ≤ r.val ∧ r.val < a + 256)) :
    View.canon (⟨(Rect.unit ![a, 0] S256x512.size inb : Rect S288x512), P⟩ :: L) (ix2 r l) = View.canon L (ix2 r l) := by
  refine View.canon_cons_of_not_mem _ L fun hm => h ?_
  obtain ⟨x, hx⟩ := LoadRect.exists_idx_of_mem _ hm
  have e : a + 1 * (x 0).val = r.val := congrArg (fun y : S288x512.Idx => (y 0).val) hx
  have h0 : (x 0).val < 256 := (x 0).isLt
  omega

theorem pick (w : BitVec 32) {S : Shape} (a b : S.Idx → EReal) (i : S.Idx) :
    (Scalar.select (Scalar.cmpi .eq w 1#32) a b) i = if w = 1#32 then a i else b i := by
  by_cases h : w = 1#32
  · subst h; rfl
  · rw [if_neg h]
    have : Scalar.cmpi .eq w 1#32 = 0#1 := by
      show BitVec.ofBool (w == 1#32) = 0#1
      rw [beq_false_of_ne h]; rfl
    rw [this]; rfl

theorem before_at (w : BitVec 32) (x : Vec Ideal S16x512 .bf16) (i : S16x512.Idx) : k0_pay3 (F := Ideal) w x i = if w = 1#32 then x i else 0 := by
  have e : k0_pay2 (F := Ideal) i = 0 := by pointwise [k0_pay2]
  unfold k0_pay3
  rw [shapeCast_self, pick, e]; rfl

theorem tile_at (x : Vec Ideal S256x512 .bf16) (i : S256x512.Idx) : k0_pay4 (F := Ideal) x i = x i := by
  unfold k0_pay4
  rw [shapeCast_self]; rfl

theorem after_at (w : BitVec 32) (x : Vec Ideal S16x512 .bf16) (i : S16x512.Idx) : k0_pay5 (F := Ideal) w x i = if w = 1#32 then x i else 0 := by
  have e : k0_pay2 (F := Ideal) i = 0 := by pointwise [k0_pay2]
  unfold k0_pay5
  rw [shapeCast_self, pick, e]; rfl

theorem scratch_at (w0 w1 : BitVec 32) (x0 : Vec Ideal S16x512 .bf16) (x1 : Vec Ideal S256x512 .bf16) (x2 : Vec Ideal S16x512 .bf16) (i0 i1 i2) (q l : ℕ) (hq : q < 288) (hl : l < 512) :
    entry (n := 288) (k := 512) (View.canon ([⟨(Rect.unit ![272, 0] S16x512.size i2 : Rect S288x512), k0_pay5 (F := Ideal) w1 x2⟩,
        ⟨(Rect.unit ![16, 0] S256x512.size i1 : Rect S288x512), k0_pay4 (F := Ideal) x1⟩,
        ⟨(Rect.unit ![0, 0] S16x512.size i0 : Rect S288x512), k0_pay3 (F := Ideal) w0 x0⟩] : List (View.Piece (Elt Ideal) S288x512 .f32))) q l
      = row (w0 = 1#32) (w1 = 1#32) x0 x1 x2 q l := by
  refine (entry_of _ (ix2 (⟨q, hq⟩ : Fin 288) (⟨l, hl⟩ : Fin 512)) rfl rfl).trans ?_
  unfold row
  by_cases h0 : q < 16
  · rw [if_pos h0]
    refine (miss16 272 _ _ _ ⟨q, hq⟩ ⟨l, hl⟩ (by show ¬ (272 ≤ q ∧ _); omega)).trans ((miss256 16 _ _ _ ⟨q, hq⟩ ⟨l, hl⟩ (by show ¬ (16 ≤ q ∧ _); omega)).trans
      ((hit16 0 _ _ _ ⟨q, hq⟩ ⟨l, hl⟩ ⟨q, h0⟩ (Nat.zero_add q).symm).trans ((before_at _ _ _).trans ?_)))
    rw [show entry (n := 16) (k := 512) x0 q l = _ from entry_of x0 (ix2 (⟨q, h0⟩ : Fin 16) (⟨l, hl⟩ : Fin 512)) rfl rfl]
  · rw [if_neg h0]
    by_cases h1 : q < 272
    · rw [if_pos h1]
      refine (miss16 272 _ _ _ ⟨q, hq⟩ ⟨l, hl⟩ (by show ¬ (272 ≤ q ∧ _); omega)).trans
        ((hit256 16 _ _ _ ⟨q, hq⟩ ⟨l, hl⟩ ⟨q - 16, by omega⟩ (by show q = 16 + (q - 16); omega)).trans ((tile_at _ _).trans ?_))
      exact (entry_of x1 (ix2 (⟨q - 16, by omega⟩ : Fin 256) (⟨l, hl⟩ : Fin 512)) rfl rfl).symm
    · rw [if_neg h1]
      refine (hit16 272 _ _ _ ⟨q, hq⟩ ⟨l, hl⟩ ⟨q - 272, by omega⟩ (by show q = 272 + (q - 272); omega)).trans ((after_at _ _ _).trans ?_)
      rw [show entry (n := 16) (k := 512) x2 (q - 272) l = _ from entry_of x2 (ix2 (⟨q - 272, by omega⟩ : Fin 16) (⟨l, hl⟩ : Fin 512)) rfl rfl]

variable (c : Dev nD) (i : grid0.Coords) (arg4 : Memref sig .tc .vmem S16x512 .bf16) (harg4 : arg4.IsWhole) (arg5 : Memref sig .tc .vmem S256x512 .bf16) (harg5 : arg5.IsWhole) (arg6 : Memref sig .tc .vmem S16x512 .bf16) (harg6 : arg6.IsWhole) (arg7 : Memref sig .tc .vmem S31x512 .f32) (harg7 : arg7.IsWhole) (arg8 : Memref sig .tc .vmem S1x512 .f32) (harg8 : arg8.IsWhole) (arg9 : Memref sig .tc .vmem S256x512 .f32) (harg9 : arg9.IsWhole) (arg10 : Memref sig .tc .vmem S288x512 .f32) (harg10 : arg10.IsWhole)
    (x0 : Vec Ideal S16x512 .bf16) (x1 : Vec Ideal S256x512 .bf16) (x2 : Vec Ideal S16x512 .bf16) (x3 : Vec Ideal S31x512 .f32) (x4 : Vec Ideal S1x512 .f32) (xt0 : TbBuf0 (F := Ideal) c tbM0_0) (xt1 : TbBuf0 (F := Ideal) c tbM0_1)

/-- The tables' words of a point's row tile. -/
def word0 : BitVec 32 := tbM0_0.view.read (Elt Ideal) xt0 (ix1 (i 0))
def word1 : BitVec 32 := tbM0_1.view.read (Elt Ideal) xt1 (ix1 (i 0))

theorem off_at (n : Fin 96) : (BitVec.ofNat 32 n.val).toNat = n.val := by
  have h := n.isLt
  rw [BitVec.toNat_ofNat]; omega

theorem word0_at (inb) (h) : tbM0_0.view.readAt (Elt Ideal) (Rect.unit (s := S96) (have arg0 := BitVec.ofNat 32 (i 0).val; have v1 := Scalar.indexCast arg0; ![BitVec.toNat v1]) S1.size inb).toLoadRect xt0
    (Shape.Idx.first h) = word0 c i xt0 := by
  refine congrArg (tbM0_0.view.read (Elt Ideal) xt0) (funext fun d => Fin.ext ?_)
  match d with
  | 0 => exact (Nat.add_zero _).trans (off_at (i 0))

theorem word1_at (inb) (h) : tbM0_1.view.readAt (Elt Ideal) (Rect.unit (s := S96) (have arg0 := BitVec.ofNat 32 (i 0).val; have v1 := Scalar.indexCast arg0; ![BitVec.toNat v1]) S1.size inb).toLoadRect xt1
    (Shape.Idx.first h) = word1 c i xt1 := by
  refine congrArg (tbM0_1.view.read (Elt Ideal) xt1) (funext fun d => Fin.ext ?_)
  match d with
  | 0 => exact (Nat.add_zero _).trans (off_at (i 0))

/-! ### The tile the step writes, in its eight parts of 32 rows -/

/-- What the step writes at row `r` of its tile. -/
def made (r l : ℕ) : EReal := grow (entry (n := 1) (k := 512) x4 0 l)
  (fun t => row (word0 c i xt0 = 1#32) (word1 c i xt1 = 1#32) x0 x1 x2 (1 + t + r) l * entry (n := 31) (k := 512) x3 t l) 31

theorem part0 (r : Fin 256) (l : Fin 512) (q : Fin 32) (h : r.val = 0 + q.val) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hq := q.isLt
  unfold out0_A_5 kernelRun0_A; dsimp only; sl_unfold_words
  refine (congrFun (View.read_writes_junk_eq_canon VO0_5 _) _).trans ?_
  refine (miss 224 _ _ _ r l (by omega)).trans ?_
  refine (miss 192 _ _ _ r l (by omega)).trans ?_
  refine (miss 160 _ _ _ r l (by omega)).trans ?_
  refine (miss 128 _ _ _ r l (by omega)).trans ?_
  refine (miss 96 _ _ _ r l (by omega)).trans ?_
  refine (miss 64 _ _ _ r l (by omega)).trans ?_
  refine (miss 32 _ _ _ r l (by omega)).trans ?_
  refine (hit 0 _ _ _ r l q h).trans ?_
  generalize hL : ([_, _, _] : List (View.Piece (Elt Ideal) S288x512 .f32)) = L
  have hw : ∀ a b : ℕ, a < 288 → b < 512 → entry (n := 288) (k := 512) (View.canon L) a b = row (word0 c i xt0 = 1#32) (word1 c i xt1 = 1#32) x0 x1 x2 a b := by
    intro a b ha hb
    subst hL
    refine (scratch_at _ _ _ _ _ _ _ _ a b ha hb).trans ?_
    rw [whole16 _ harg4 x0, whole256 _ harg5 x1, whole16 _ harg6 x2]
    exact row_words _ _ _ _ _ _ _ _ _ (word0_at c i xt0 _ _) (word1_at c i xt1 _ _)
  clear hL
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [win_at, w_at, b_at]
  have e : ∀ a b : ℕ, a + b = 31 → entry (n := 288) (k := 512) (View.canon L) (1 + a + 0 + q.val) l.val = row (word0 c i xt0 = 1#32) (word1 c i xt1 = 1#32) x0 x1 x2 (1 + a + r.val) l.val := by
    intro a b hab
    rw [h, Nat.add_assoc (1 + a)]
    exact hw _ _ (by omega) l.isLt
  unfold made
  simp only [grow]
  rw [← e 0 31 rfl, ← e 1 30 rfl, ← e 2 29 rfl, ← e 3 28 rfl, ← e 4 27 rfl, ← e 5 26 rfl, ← e 6 25 rfl, ← e 7 24 rfl, ← e 8 23 rfl, ← e 9 22 rfl, ← e 10 21 rfl, ← e 11 20 rfl, ← e 12 19 rfl, ← e 13 18 rfl, ← e 14 17 rfl, ← e 15 16 rfl, ← e 16 15 rfl, ← e 17 14 rfl, ← e 18 13 rfl, ← e 19 12 rfl, ← e 20 11 rfl, ← e 21 10 rfl, ← e 22 9 rfl, ← e 23 8 rfl, ← e 24 7 rfl, ← e 25 6 rfl, ← e 26 5 rfl, ← e 27 4 rfl, ← e 28 3 rfl, ← e 29 2 rfl, ← e 30 1 rfl]
  try simp only [Nat.reduceAdd, zero_add]

theorem part1 (r : Fin 256) (l : Fin 512) (q : Fin 32) (h : r.val = 32 + q.val) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hq := q.isLt
  unfold out0_A_5 kernelRun0_A; dsimp only; sl_unfold_words
  refine (congrFun (View.read_writes_junk_eq_canon VO0_5 _) _).trans ?_
  refine (miss 224 _ _ _ r l (by omega)).trans ?_
  refine (miss 192 _ _ _ r l (by omega)).trans ?_
  refine (miss 160 _ _ _ r l (by omega)).trans ?_
  refine (miss 128 _ _ _ r l (by omega)).trans ?_
  refine (miss 96 _ _ _ r l (by omega)).trans ?_
  refine (miss 64 _ _ _ r l (by omega)).trans ?_
  refine (hit 32 _ _ _ r l q h).trans ?_
  generalize hL : ([_, _, _] : List (View.Piece (Elt Ideal) S288x512 .f32)) = L
  have hw : ∀ a b : ℕ, a < 288 → b < 512 → entry (n := 288) (k := 512) (View.canon L) a b = row (word0 c i xt0 = 1#32) (word1 c i xt1 = 1#32) x0 x1 x2 a b := by
    intro a b ha hb
    subst hL
    refine (scratch_at _ _ _ _ _ _ _ _ a b ha hb).trans ?_
    rw [whole16 _ harg4 x0, whole256 _ harg5 x1, whole16 _ harg6 x2]
    exact row_words _ _ _ _ _ _ _ _ _ (word0_at c i xt0 _ _) (word1_at c i xt1 _ _)
  clear hL
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [win_at, w_at, b_at]
  have e : ∀ a b : ℕ, a + b = 31 → entry (n := 288) (k := 512) (View.canon L) (1 + a + 32 + q.val) l.val = row (word0 c i xt0 = 1#32) (word1 c i xt1 = 1#32) x0 x1 x2 (1 + a + r.val) l.val := by
    intro a b hab
    rw [h, Nat.add_assoc (1 + a)]
    exact hw _ _ (by omega) l.isLt
  unfold made
  simp only [grow]
  rw [← e 0 31 rfl, ← e 1 30 rfl, ← e 2 29 rfl, ← e 3 28 rfl, ← e 4 27 rfl, ← e 5 26 rfl, ← e 6 25 rfl, ← e 7 24 rfl, ← e 8 23 rfl, ← e 9 22 rfl, ← e 10 21 rfl, ← e 11 20 rfl, ← e 12 19 rfl, ← e 13 18 rfl, ← e 14 17 rfl, ← e 15 16 rfl, ← e 16 15 rfl, ← e 17 14 rfl, ← e 18 13 rfl, ← e 19 12 rfl, ← e 20 11 rfl, ← e 21 10 rfl, ← e 22 9 rfl, ← e 23 8 rfl, ← e 24 7 rfl, ← e 25 6 rfl, ← e 26 5 rfl, ← e 27 4 rfl, ← e 28 3 rfl, ← e 29 2 rfl, ← e 30 1 rfl]
  try simp only [Nat.reduceAdd, zero_add]

theorem part2 (r : Fin 256) (l : Fin 512) (q : Fin 32) (h : r.val = 64 + q.val) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hq := q.isLt
  unfold out0_A_5 kernelRun0_A; dsimp only; sl_unfold_words
  refine (congrFun (View.read_writes_junk_eq_canon VO0_5 _) _).trans ?_
  refine (miss 224 _ _ _ r l (by omega)).trans ?_
  refine (miss 192 _ _ _ r l (by omega)).trans ?_
  refine (miss 160 _ _ _ r l (by omega)).trans ?_
  refine (miss 128 _ _ _ r l (by omega)).trans ?_
  refine (miss 96 _ _ _ r l (by omega)).trans ?_
  refine (hit 64 _ _ _ r l q h).trans ?_
  generalize hL : ([_, _, _] : List (View.Piece (Elt Ideal) S288x512 .f32)) = L
  have hw : ∀ a b : ℕ, a < 288 → b < 512 → entry (n := 288) (k := 512) (View.canon L) a b = row (word0 c i xt0 = 1#32) (word1 c i xt1 = 1#32) x0 x1 x2 a b := by
    intro a b ha hb
    subst hL
    refine (scratch_at _ _ _ _ _ _ _ _ a b ha hb).trans ?_
    rw [whole16 _ harg4 x0, whole256 _ harg5 x1, whole16 _ harg6 x2]
    exact row_words _ _ _ _ _ _ _ _ _ (word0_at c i xt0 _ _) (word1_at c i xt1 _ _)
  clear hL
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [win_at, w_at, b_at]
  have e : ∀ a b : ℕ, a + b = 31 → entry (n := 288) (k := 512) (View.canon L) (1 + a + 64 + q.val) l.val = row (word0 c i xt0 = 1#32) (word1 c i xt1 = 1#32) x0 x1 x2 (1 + a + r.val) l.val := by
    intro a b hab
    rw [h, Nat.add_assoc (1 + a)]
    exact hw _ _ (by omega) l.isLt
  unfold made
  simp only [grow]
  rw [← e 0 31 rfl, ← e 1 30 rfl, ← e 2 29 rfl, ← e 3 28 rfl, ← e 4 27 rfl, ← e 5 26 rfl, ← e 6 25 rfl, ← e 7 24 rfl, ← e 8 23 rfl, ← e 9 22 rfl, ← e 10 21 rfl, ← e 11 20 rfl, ← e 12 19 rfl, ← e 13 18 rfl, ← e 14 17 rfl, ← e 15 16 rfl, ← e 16 15 rfl, ← e 17 14 rfl, ← e 18 13 rfl, ← e 19 12 rfl, ← e 20 11 rfl, ← e 21 10 rfl, ← e 22 9 rfl, ← e 23 8 rfl, ← e 24 7 rfl, ← e 25 6 rfl, ← e 26 5 rfl, ← e 27 4 rfl, ← e 28 3 rfl, ← e 29 2 rfl, ← e 30 1 rfl]
  try simp only [Nat.reduceAdd, zero_add]

theorem part3 (r : Fin 256) (l : Fin 512) (q : Fin 32) (h : r.val = 96 + q.val) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hq := q.isLt
  unfold out0_A_5 kernelRun0_A; dsimp only; sl_unfold_words
  refine (congrFun (View.read_writes_junk_eq_canon VO0_5 _) _).trans ?_
  refine (miss 224 _ _ _ r l (by omega)).trans ?_
  refine (miss 192 _ _ _ r l (by omega)).trans ?_
  refine (miss 160 _ _ _ r l (by omega)).trans ?_
  refine (miss 128 _ _ _ r l (by omega)).trans ?_
  refine (hit 96 _ _ _ r l q h).trans ?_
  generalize hL : ([_, _, _] : List (View.Piece (Elt Ideal) S288x512 .f32)) = L
  have hw : ∀ a b : ℕ, a < 288 → b < 512 → entry (n := 288) (k := 512) (View.canon L) a b = row (word0 c i xt0 = 1#32) (word1 c i xt1 = 1#32) x0 x1 x2 a b := by
    intro a b ha hb
    subst hL
    refine (scratch_at _ _ _ _ _ _ _ _ a b ha hb).trans ?_
    rw [whole16 _ harg4 x0, whole256 _ harg5 x1, whole16 _ harg6 x2]
    exact row_words _ _ _ _ _ _ _ _ _ (word0_at c i xt0 _ _) (word1_at c i xt1 _ _)
  clear hL
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [win_at, w_at, b_at]
  have e : ∀ a b : ℕ, a + b = 31 → entry (n := 288) (k := 512) (View.canon L) (1 + a + 96 + q.val) l.val = row (word0 c i xt0 = 1#32) (word1 c i xt1 = 1#32) x0 x1 x2 (1 + a + r.val) l.val := by
    intro a b hab
    rw [h, Nat.add_assoc (1 + a)]
    exact hw _ _ (by omega) l.isLt
  unfold made
  simp only [grow]
  rw [← e 0 31 rfl, ← e 1 30 rfl, ← e 2 29 rfl, ← e 3 28 rfl, ← e 4 27 rfl, ← e 5 26 rfl, ← e 6 25 rfl, ← e 7 24 rfl, ← e 8 23 rfl, ← e 9 22 rfl, ← e 10 21 rfl, ← e 11 20 rfl, ← e 12 19 rfl, ← e 13 18 rfl, ← e 14 17 rfl, ← e 15 16 rfl, ← e 16 15 rfl, ← e 17 14 rfl, ← e 18 13 rfl, ← e 19 12 rfl, ← e 20 11 rfl, ← e 21 10 rfl, ← e 22 9 rfl, ← e 23 8 rfl, ← e 24 7 rfl, ← e 25 6 rfl, ← e 26 5 rfl, ← e 27 4 rfl, ← e 28 3 rfl, ← e 29 2 rfl, ← e 30 1 rfl]
  try simp only [Nat.reduceAdd, zero_add]

theorem part4 (r : Fin 256) (l : Fin 512) (q : Fin 32) (h : r.val = 128 + q.val) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hq := q.isLt
  unfold out0_A_5 kernelRun0_A; dsimp only; sl_unfold_words
  refine (congrFun (View.read_writes_junk_eq_canon VO0_5 _) _).trans ?_
  refine (miss 224 _ _ _ r l (by omega)).trans ?_
  refine (miss 192 _ _ _ r l (by omega)).trans ?_
  refine (miss 160 _ _ _ r l (by omega)).trans ?_
  refine (hit 128 _ _ _ r l q h).trans ?_
  generalize hL : ([_, _, _] : List (View.Piece (Elt Ideal) S288x512 .f32)) = L
  have hw : ∀ a b : ℕ, a < 288 → b < 512 → entry (n := 288) (k := 512) (View.canon L) a b = row (word0 c i xt0 = 1#32) (word1 c i xt1 = 1#32) x0 x1 x2 a b := by
    intro a b ha hb
    subst hL
    refine (scratch_at _ _ _ _ _ _ _ _ a b ha hb).trans ?_
    rw [whole16 _ harg4 x0, whole256 _ harg5 x1, whole16 _ harg6 x2]
    exact row_words _ _ _ _ _ _ _ _ _ (word0_at c i xt0 _ _) (word1_at c i xt1 _ _)
  clear hL
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [win_at, w_at, b_at]
  have e : ∀ a b : ℕ, a + b = 31 → entry (n := 288) (k := 512) (View.canon L) (1 + a + 128 + q.val) l.val = row (word0 c i xt0 = 1#32) (word1 c i xt1 = 1#32) x0 x1 x2 (1 + a + r.val) l.val := by
    intro a b hab
    rw [h, Nat.add_assoc (1 + a)]
    exact hw _ _ (by omega) l.isLt
  unfold made
  simp only [grow]
  rw [← e 0 31 rfl, ← e 1 30 rfl, ← e 2 29 rfl, ← e 3 28 rfl, ← e 4 27 rfl, ← e 5 26 rfl, ← e 6 25 rfl, ← e 7 24 rfl, ← e 8 23 rfl, ← e 9 22 rfl, ← e 10 21 rfl, ← e 11 20 rfl, ← e 12 19 rfl, ← e 13 18 rfl, ← e 14 17 rfl, ← e 15 16 rfl, ← e 16 15 rfl, ← e 17 14 rfl, ← e 18 13 rfl, ← e 19 12 rfl, ← e 20 11 rfl, ← e 21 10 rfl, ← e 22 9 rfl, ← e 23 8 rfl, ← e 24 7 rfl, ← e 25 6 rfl, ← e 26 5 rfl, ← e 27 4 rfl, ← e 28 3 rfl, ← e 29 2 rfl, ← e 30 1 rfl]
  try simp only [Nat.reduceAdd, zero_add]

theorem part5 (r : Fin 256) (l : Fin 512) (q : Fin 32) (h : r.val = 160 + q.val) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hq := q.isLt
  unfold out0_A_5 kernelRun0_A; dsimp only; sl_unfold_words
  refine (congrFun (View.read_writes_junk_eq_canon VO0_5 _) _).trans ?_
  refine (miss 224 _ _ _ r l (by omega)).trans ?_
  refine (miss 192 _ _ _ r l (by omega)).trans ?_
  refine (hit 160 _ _ _ r l q h).trans ?_
  generalize hL : ([_, _, _] : List (View.Piece (Elt Ideal) S288x512 .f32)) = L
  have hw : ∀ a b : ℕ, a < 288 → b < 512 → entry (n := 288) (k := 512) (View.canon L) a b = row (word0 c i xt0 = 1#32) (word1 c i xt1 = 1#32) x0 x1 x2 a b := by
    intro a b ha hb
    subst hL
    refine (scratch_at _ _ _ _ _ _ _ _ a b ha hb).trans ?_
    rw [whole16 _ harg4 x0, whole256 _ harg5 x1, whole16 _ harg6 x2]
    exact row_words _ _ _ _ _ _ _ _ _ (word0_at c i xt0 _ _) (word1_at c i xt1 _ _)
  clear hL
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [win_at, w_at, b_at]
  have e : ∀ a b : ℕ, a + b = 31 → entry (n := 288) (k := 512) (View.canon L) (1 + a + 160 + q.val) l.val = row (word0 c i xt0 = 1#32) (word1 c i xt1 = 1#32) x0 x1 x2 (1 + a + r.val) l.val := by
    intro a b hab
    rw [h, Nat.add_assoc (1 + a)]
    exact hw _ _ (by omega) l.isLt
  unfold made
  simp only [grow]
  rw [← e 0 31 rfl, ← e 1 30 rfl, ← e 2 29 rfl, ← e 3 28 rfl, ← e 4 27 rfl, ← e 5 26 rfl, ← e 6 25 rfl, ← e 7 24 rfl, ← e 8 23 rfl, ← e 9 22 rfl, ← e 10 21 rfl, ← e 11 20 rfl, ← e 12 19 rfl, ← e 13 18 rfl, ← e 14 17 rfl, ← e 15 16 rfl, ← e 16 15 rfl, ← e 17 14 rfl, ← e 18 13 rfl, ← e 19 12 rfl, ← e 20 11 rfl, ← e 21 10 rfl, ← e 22 9 rfl, ← e 23 8 rfl, ← e 24 7 rfl, ← e 25 6 rfl, ← e 26 5 rfl, ← e 27 4 rfl, ← e 28 3 rfl, ← e 29 2 rfl, ← e 30 1 rfl]
  try simp only [Nat.reduceAdd, zero_add]

theorem part6 (r : Fin 256) (l : Fin 512) (q : Fin 32) (h : r.val = 192 + q.val) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hq := q.isLt
  unfold out0_A_5 kernelRun0_A; dsimp only; sl_unfold_words
  refine (congrFun (View.read_writes_junk_eq_canon VO0_5 _) _).trans ?_
  refine (miss 224 _ _ _ r l (by omega)).trans ?_
  refine (hit 192 _ _ _ r l q h).trans ?_
  generalize hL : ([_, _, _] : List (View.Piece (Elt Ideal) S288x512 .f32)) = L
  have hw : ∀ a b : ℕ, a < 288 → b < 512 → entry (n := 288) (k := 512) (View.canon L) a b = row (word0 c i xt0 = 1#32) (word1 c i xt1 = 1#32) x0 x1 x2 a b := by
    intro a b ha hb
    subst hL
    refine (scratch_at _ _ _ _ _ _ _ _ a b ha hb).trans ?_
    rw [whole16 _ harg4 x0, whole256 _ harg5 x1, whole16 _ harg6 x2]
    exact row_words _ _ _ _ _ _ _ _ _ (word0_at c i xt0 _ _) (word1_at c i xt1 _ _)
  clear hL
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [win_at, w_at, b_at]
  have e : ∀ a b : ℕ, a + b = 31 → entry (n := 288) (k := 512) (View.canon L) (1 + a + 192 + q.val) l.val = row (word0 c i xt0 = 1#32) (word1 c i xt1 = 1#32) x0 x1 x2 (1 + a + r.val) l.val := by
    intro a b hab
    rw [h, Nat.add_assoc (1 + a)]
    exact hw _ _ (by omega) l.isLt
  unfold made
  simp only [grow]
  rw [← e 0 31 rfl, ← e 1 30 rfl, ← e 2 29 rfl, ← e 3 28 rfl, ← e 4 27 rfl, ← e 5 26 rfl, ← e 6 25 rfl, ← e 7 24 rfl, ← e 8 23 rfl, ← e 9 22 rfl, ← e 10 21 rfl, ← e 11 20 rfl, ← e 12 19 rfl, ← e 13 18 rfl, ← e 14 17 rfl, ← e 15 16 rfl, ← e 16 15 rfl, ← e 17 14 rfl, ← e 18 13 rfl, ← e 19 12 rfl, ← e 20 11 rfl, ← e 21 10 rfl, ← e 22 9 rfl, ← e 23 8 rfl, ← e 24 7 rfl, ← e 25 6 rfl, ← e 26 5 rfl, ← e 27 4 rfl, ← e 28 3 rfl, ← e 29 2 rfl, ← e 30 1 rfl]
  try simp only [Nat.reduceAdd, zero_add]

theorem part7 (r : Fin 256) (l : Fin 512) (q : Fin 32) (h : r.val = 224 + q.val) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hq := q.isLt
  unfold out0_A_5 kernelRun0_A; dsimp only; sl_unfold_words
  refine (congrFun (View.read_writes_junk_eq_canon VO0_5 _) _).trans ?_
  refine (hit 224 _ _ _ r l q h).trans ?_
  generalize hL : ([_, _, _] : List (View.Piece (Elt Ideal) S288x512 .f32)) = L
  have hw : ∀ a b : ℕ, a < 288 → b < 512 → entry (n := 288) (k := 512) (View.canon L) a b = row (word0 c i xt0 = 1#32) (word1 c i xt1 = 1#32) x0 x1 x2 a b := by
    intro a b ha hb
    subst hL
    refine (scratch_at _ _ _ _ _ _ _ _ a b ha hb).trans ?_
    rw [whole16 _ harg4 x0, whole256 _ harg5 x1, whole16 _ harg6 x2]
    exact row_words _ _ _ _ _ _ _ _ _ (word0_at c i xt0 _ _) (word1_at c i xt1 _ _)
  clear hL
  pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [win_at, w_at, b_at]
  have e : ∀ a b : ℕ, a + b = 31 → entry (n := 288) (k := 512) (View.canon L) (1 + a + 224 + q.val) l.val = row (word0 c i xt0 = 1#32) (word1 c i xt1 = 1#32) x0 x1 x2 (1 + a + r.val) l.val := by
    intro a b hab
    rw [h, Nat.add_assoc (1 + a)]
    exact hw _ _ (by omega) l.isLt
  unfold made
  simp only [grow]
  rw [← e 0 31 rfl, ← e 1 30 rfl, ← e 2 29 rfl, ← e 3 28 rfl, ← e 4 27 rfl, ← e 5 26 rfl, ← e 6 25 rfl, ← e 7 24 rfl, ← e 8 23 rfl, ← e 9 22 rfl, ← e 10 21 rfl, ← e 11 20 rfl, ← e 12 19 rfl, ← e 13 18 rfl, ← e 14 17 rfl, ← e 15 16 rfl, ← e 16 15 rfl, ← e 17 14 rfl, ← e 18 13 rfl, ← e 19 12 rfl, ← e 20 11 rfl, ← e 21 10 rfl, ← e 22 9 rfl, ← e 23 8 rfl, ← e 24 7 rfl, ← e 25 6 rfl, ← e 26 5 rfl, ← e 27 4 rfl, ← e 28 3 rfl, ← e 29 2 rfl, ← e 30 1 rfl]
  try simp only [Nat.reduceAdd, zero_add]

/-- What the step writes. -/
theorem step (r : Fin 256) (l : Fin 512) :
    out0_A_5 c i arg4 harg4 arg5 harg5 arg6 harg6 arg7 harg7 arg8 harg8 arg9 harg9 arg10 harg10 x0 x1 x2 x3 x4 xt0 xt1 (ix2 r l) = made c i x0 x1 x2 x3 x4 xt0 xt1 r.val l.val := by
  have hr := r.isLt
  by_cases h0 : r.val < 32
  · exact part0 c i arg4 harg4 arg5 harg5 arg6 harg6 arg7 harg7 arg8 harg8 arg9 harg9 arg10 harg10 x0 x1 x2 x3 x4 xt0 xt1 r l ⟨r.val - 0, by omega⟩ (by show r.val = 0 + (r.val - 0); omega)
  by_cases h1 : r.val < 64
  · exact part1 c i arg4 harg4 arg5 harg5 arg6 harg6 arg7 harg7 arg8 harg8 arg9 harg9 arg10 harg10 x0 x1 x2 x3 x4 xt0 xt1 r l ⟨r.val - 32, by omega⟩ (by show r.val = 32 + (r.val - 32); omega)
  by_cases h2 : r.val < 96
  · exact part2 c i arg4 harg4 arg5 harg5 arg6 harg6 arg7 harg7 arg8 harg8 arg9 harg9 arg10 harg10 x0 x1 x2 x3 x4 xt0 xt1 r l ⟨r.val - 64, by omega⟩ (by show r.val = 64 + (r.val - 64); omega)
  by_cases h3 : r.val < 128
  · exact part3 c i arg4 harg4 arg5 harg5 arg6 harg6 arg7 harg7 arg8 harg8 arg9 harg9 arg10 harg10 x0 x1 x2 x3 x4 xt0 xt1 r l ⟨r.val - 96, by omega⟩ (by show r.val = 96 + (r.val - 96); omega)
  by_cases h4 : r.val < 160
  · exact part4 c i arg4 harg4 arg5 harg5 arg6 harg6 arg7 harg7 arg8 harg8 arg9 harg9 arg10 harg10 x0 x1 x2 x3 x4 xt0 xt1 r l ⟨r.val - 128, by omega⟩ (by show r.val = 128 + (r.val - 128); omega)
  by_cases h5 : r.val < 192
  · exact part5 c i arg4 harg4 arg5 harg5 arg6 harg6 arg7 harg7 arg8 harg8 arg9 harg9 arg10 harg10 x0 x1 x2 x3 x4 xt0 xt1 r l ⟨r.val - 160, by omega⟩ (by show r.val = 160 + (r.val - 160); omega)
  by_cases h6 : r.val < 224
  · exact part6 c i arg4 harg4 arg5 harg5 arg6 harg6 arg7 harg7 arg8 harg8 arg9 harg9 arg10 harg10 x0 x1 x2 x3 x4 xt0 xt1 r l ⟨r.val - 192, by omega⟩ (by show r.val = 192 + (r.val - 192); omega)
  by_cases h7 : r.val < 256
  · exact part7 c i arg4 harg4 arg5 harg5 arg6 harg6 arg7 harg7 arg8 harg8 arg9 harg9 arg10 harg10 x0 x1 x2 x3 x4 xt0 xt1 r l ⟨r.val - 224, by omega⟩ (by show r.val = 224 + (r.val - 224); omega)
  exact absurd hr h7

end Cert.DwconvIdeal.Conv

end
-- ==== Proof.Conv.Value.lean ====
/- The depthwise convolution the kernel leaves in its result. -/
module

public import proofs.«01_k».proof.Proof.Conv.Step

@[expose] public section

set_option maxRecDepth 16384

noncomputable section

namespace Cert.DwconvIdeal.Conv

open Cert.DwconvIdeal Cert.DwconvIdeal.Gen
open Idealize.ShloMosaic Idealize.ShloMosaic.TcCoe Idealize.SL.Sem Cert.Attn Cert.Conv
open Idealize.ShloMosaic.Pipeline (Dat Cfg Window)

/-- The row tiles that open a sequence, and those that close one. -/
def opens (n : ℕ) : Prop := n = 0 ∨ n = 8 ∨ n = 16 ∨ n = 24 ∨ n = 32
def closes (n : ℕ) : Prop := n = 7 ∨ n = 15 ∨ n = 23 ∨ n = 31 ∨ n = 95

instance (n : ℕ) : Decidable (opens n) := by unfold opens; infer_instance
instance (n : ℕ) : Decidable (closes n) := by unfold closes; infer_instance

theorem lit0_iff : ∀ n : Fin 96, lit0 n = 1#32 ↔ ¬ opens n.val := by decide +kernel
theorem lit1_iff : ∀ n : Fin 96, lit1 n = 1#32 ↔ ¬ closes n.val := by decide +kernel

theorem rowMajor_96 (i : S96.Idx) : S96.rowMajor i = i 0 := Fin.ext (Shape.rowMajor_val_one (d := ![96]) i)

/-! ### Arithmetic of the rows -/

/-- A row of the window of row tile `n` is what the convolution meets there. -/
theorem row_tap (X : ℕ → ℕ → EReal) (n r s l L : ℕ) (p0 p1 : Prop) [Decidable p0] [Decidable p1] (h0 : p0 ↔ ¬ opens n) (h1 : p1 ↔ ¬ closes n)
    (x0 : S16x512.Idx → EReal) (x1 : S256x512.Idx → EReal) (x2 : S16x512.Idx → EReal)
    (e0 : ∀ q < 16, n ≠ 0 → entry (n := 16) (k := 512) x0 q l = X (256 * n - 16 + q) L)
    (e1 : ∀ q < 256, entry (n := 256) (k := 512) x1 q l = X (256 * n + q) L)
    (e2 : ∀ q < 16, n ≠ 95 → entry (n := 16) (k := 512) x2 q l = X (256 * n + 256 + q) L)
    (hn : n < 96) (hr : r < 256) (hs : s < 31) :
    row p0 p1 x0 x1 x2 (1 + s + r) l = tap X (256 * n + r) L s := by
  unfold opens at h0
  unfold closes at h1
  unfold row tap low high
  by_cases a : 1 + s + r < 16
  · rw [if_pos a]
    by_cases p : p0
    · have hp := h0.mp p
      rw [if_pos p, e0 _ a (by omega)]
      by_cases b : 256 * n + r < 8192
      · rw [if_pos b, if_pos b, if_pos (by omega)]; congr 1; omega
      · rw [if_neg b, if_neg b, if_pos (by omega)]; congr 1; omega
    · have hp : n = 0 ∨ n = 8 ∨ n = 16 ∨ n = 24 ∨ n = 32 := by by_contra h; exact p (h0.mpr h)
      rw [if_neg p]
      by_cases b : 256 * n + r < 8192
      · rw [if_pos b, if_pos b, if_neg (by omega)]
      · rw [if_neg b, if_neg b, if_neg (by omega)]
  · rw [if_neg a]
    by_cases a' : 1 + s + r < 272
    · rw [if_pos a', e1 _ (by omega)]
      by_cases b : 256 * n + r < 8192
      · rw [if_pos b, if_pos b, if_pos (by omega)]; congr 1; omega
      · rw [if_neg b, if_neg b, if_pos (by omega)]; congr 1; omega
    · rw [if_neg a']
      by_cases p : p1
      · have hp := h1.mp p
        rw [if_pos p, e2 _ (by omega) (by omega)]
        by_cases b : 256 * n + r < 8192
        · rw [if_pos b, if_pos b, if_pos (by omega)]; congr 1; omega
        · rw [if_neg b, if_neg b, if_pos (by omega)]; congr 1; omega
      · have hp : n = 7 ∨ n = 15 ∨ n = 23 ∨ n = 31 ∨ n = 95 := by by_contra h; exact p (h1.mpr h)
        rw [if_neg p]
        by_cases b : 256 * n + r < 8192
        · rw [if_pos b, if_pos b, if_neg (by omega)]
        · rw [if_neg b, if_neg b, if_neg (by omega)]

/-! ### Where the blocks lie -/

theorem coord : ∀ t : Fin grid0.N, (grid0.coords t 0).val = t.val / 8 := by decide +kernel
theorem map0 : ∀ t : Fin grid0.N, cc0_transform_0 (grid0.coords t) (0 : Fin 2) = 16 * (t.val / 8) - 1 ∧ cc0_transform_0 (grid0.coords t) (1 : Fin 2) = t.val % 8 := by decide +kernel
theorem map1 : ∀ t : Fin grid0.N, cc0_transform_1 (grid0.coords t) (0 : Fin 2) = t.val / 8 ∧ cc0_transform_1 (grid0.coords t) (1 : Fin 2) = t.val % 8 := by decide +kernel
theorem map2 : ∀ t : Fin grid0.N, (t.val / 8 ≠ 95 → cc0_transform_2 (grid0.coords t) (0 : Fin 2) = 16 * (t.val / 8) + 16) ∧ cc0_transform_2 (grid0.coords t) (1 : Fin 2) = t.val % 8 := by decide +kernel
theorem map3 : ∀ t : Fin grid0.N, cc0_transform_3 (grid0.coords t) (0 : Fin 2) = 0 ∧ cc0_transform_3 (grid0.coords t) (1 : Fin 2) = t.val % 8 := by decide +kernel
theorem map4 : ∀ t : Fin grid0.N, cc0_transform_4 (grid0.coords t) (0 : Fin 2) = 0 ∧ cc0_transform_4 (grid0.coords t) (1 : Fin 2) = t.val % 8 := by decide +kernel
theorem map5 : ∀ t : Fin grid0.N, cc0_transform_5 (grid0.coords t) (0 : Fin 2) = t.val / 8 ∧ cc0_transform_5 (grid0.coords t) (1 : Fin 2) = t.val % 8 := by decide +kernel

variable (m : (ℓ : Loc nD τ sig) → Buf (Elt Ideal) ℓ) (ρ : Dev nD → PrngReg) (hO : Ok m) (c : Dev nD)

/-- The tokens, the weights and the bias, as the kernel finds them. -/
def tokens : ℕ → ℕ → EReal := entry (n := 24576) (k := 4096) (m ((c : Thread nD τ).loc main_arg0))
def weights : ℕ → ℕ → EReal := entry (n := 31) (k := 4096) (m ((c : Thread nD τ).loc main_arg1))
def bias (l : Fin 4096) : EReal := (m ((c : Thread nD τ).loc main_arg2) : S4096.Idx → EReal) (ix1 l)

theorem V_main_v0 (j : S1x4096.Idx) : (V m c main_v0 : S1x4096.Idx → EReal) j = bias m c (j 1) := by
  unfold V
  after_results
  pointwise [bias]

theorem word0_iff (i : grid0.Coords) : word0 c i (tbl m 0) = 1#32 ↔ ¬ opens (i 0).val := by
  have e : word0 c i (tbl m 0) = lit0 (S96.rowMajor (ix1 (i 0))) := rfl
  rw [e, rowMajor_96]; exact lit0_iff _
theorem word1_iff (i : grid0.Coords) : word1 c i (tbl m 1) = 1#32 ↔ ¬ closes (i 0).val := by
  have e : word1 c i (tbl m 1) = lit1 (S96.rowMajor (ix1 (i 0))) := rfl
  rw [e, rowMajor_96]; exact lit1_iff _

theorem before_blk (t : Fin (cfgM m hO).N) (q : Fin 16) (l : Fin 512) (h : t.val / 8 ≠ 0) :
    iblk m hO c 0 t (ix2 q l) = tokens m c (256 * (t.val / 8) - 16 + q.val) (t.val % 8 * 512 + l.val) := by
  obtain ⟨h0, h1⟩ := map0 t
  unfold iblk tokens
  refine (congrFun (V_main_arg0 m c) ((((cfgM m hO).win 0).rect t).emb (ix2 q l))).trans (entry_of _ ((((cfgM m hO).win 0).rect t).emb (ix2 q l)) ?_ ?_).symm
  · refine (Window.rect_emb_val ((cfgM m hO).win 0) t (ix2 q l) (0 : Fin 2)).trans ?_
    show cc0_transform_0 (grid0.coords t) (0 : Fin 2) * 16 + q.val = _
    rw [h0]; omega
  · refine (Window.rect_emb_val ((cfgM m hO).win 0) t (ix2 q l) (1 : Fin 2)).trans ?_
    show cc0_transform_0 (grid0.coords t) (1 : Fin 2) * 512 + l.val = _
    rw [h1]

theorem tile_blk (t : Fin (cfgM m hO).N) (q : Fin 256) (l : Fin 512) :
    iblk m hO c 1 t (ix2 q l) = tokens m c (256 * (t.val / 8) + q.val) (t.val % 8 * 512 + l.val) := by
  obtain ⟨h0, h1⟩ := map1 t
  unfold iblk tokens
  refine (congrFun (V_main_arg0 m c) ((((cfgM m hO).win 1).rect t).emb (ix2 q l))).trans (entry_of _ ((((cfgM m hO).win 1).rect t).emb (ix2 q l)) ?_ ?_).symm
  · refine (Window.rect_emb_val ((cfgM m hO).win 1) t (ix2 q l) (0 : Fin 2)).trans ?_
    show cc0_transform_1 (grid0.coords t) (0 : Fin 2) * 256 + q.val = _
    rw [h0]; omega
  · refine (Window.rect_emb_val ((cfgM m hO).win 1) t (ix2 q l) (1 : Fin 2)).trans ?_
    show cc0_transform_1 (grid0.coords t) (1 : Fin 2) * 512 + l.val = _
    rw [h1]

theorem after_blk (t : Fin (cfgM m hO).N) (q : Fin 16) (l : Fin 512) (h : t.val / 8 ≠ 95) :
    iblk m hO c 2 t (ix2 q l) = tokens m c (256 * (t.val / 8) + 256 + q.val) (t.val % 8 * 512 + l.val) := by
  obtain ⟨h0, h1⟩ := map2 t
  have h0 := h0 h
  unfold iblk tokens
  refine (congrFun (V_main_arg0 m c) ((((cfgM m hO).win 2).rect t).emb (ix2 q l))).trans (entry_of _ ((((cfgM m hO).win 2).rect t).emb (ix2 q l)) ?_ ?_).symm
  · refine (Window.rect_emb_val ((cfgM m hO).win 2) t (ix2 q l) (0 : Fin 2)).trans ?_
    show cc0_transform_2 (grid0.coords t) (0 : Fin 2) * 16 + q.val = _
    rw [h0]; omega
  · refine (Window.rect_emb_val ((cfgM m hO).win 2) t (ix2 q l) (1 : Fin 2)).trans ?_
    show cc0_transform_2 (grid0.coords t) (1 : Fin 2) * 512 + l.val = _
    rw [h1]

theorem weights_blk (t : Fin (cfgM m hO).N) (q : Fin 31) (l : Fin 512) :
    iblk m hO c 3 t (ix2 q l) = weights m c q.val (t.val % 8 * 512 + l.val) := by
  obtain ⟨h0, h1⟩ := map3 t
  unfold iblk weights
  refine (congrFun (V_main_arg1 m c) ((((cfgM m hO).win 3).rect t).emb (ix2 q l))).trans (entry_of _ ((((cfgM m hO).win 3).rect t).emb (ix2 q l)) ?_ ?_).symm
  · refine (Window.rect_emb_val ((cfgM m hO).win 3) t (ix2 q l) (0 : Fin 2)).trans ?_
    show cc0_transform_3 (grid0.coords t) (0 : Fin 2) * 31 + q.val = _
    rw [h0]; omega
  · refine (Window.rect_emb_val ((cfgM m hO).win 3) t (ix2 q l) (1 : Fin 2)).trans ?_
    show cc0_transform_3 (grid0.coords t) (1 : Fin 2) * 512 + l.val = _
    rw [h1]

theorem bias_blk (t : Fin (cfgM m hO).N) (l : Fin 512) (L : Fin 4096) (hL : L.val = t.val % 8 * 512 + l.val) :
    iblk m hO c 4 t (ix2 0 l) = bias m c L := by
  obtain ⟨h0, h1⟩ := map4 t
  unfold iblk
  refine (V_main_v0 m c ((((cfgM m hO).win 4).rect t).emb (ix2 0 l))).trans (congrArg (bias m c) (Fin.ext ?_))
  refine (Window.rect_emb_val ((cfgM m hO).win 4) t (ix2 0 l) (1 : Fin 2)).trans ?_
  show cc0_transform_4 (grid0.coords t) (1 : Fin 2) * 512 + l.val = _
  rw [h1, hL]

/-! ### The result -/

theorem block_at (t : Fin (cfgM m hO).N) (r : Fin 256) (l : Fin 512) (L : Fin 4096) (hL : L.val = t.val % 8 * 512 + l.val) :
    outsAt0 m hO c t (ix2 r l) = conv (tokens m c) (weights m c) (bias m c L) (256 * (t.val / 8) + r.val) L.val := by
  unfold outsAt0
  refine (step _ _ _ _ _ _ _ _ _ _ _ _ _ _ _ _ _ _ _ _ _ _ _ r l).trans ?_
  have ht : t.val < 768 := t.isLt
  have hi := coord t
  unfold made conv
  rw [grow_from]
  refine congrArg₂ (· + ·) (grow_congr 0 31 fun s hs => congrArg₂ (· * ·) ?_ ?_) ?_
  · refine row_tap (tokens m c) (t.val / 8) r.val s l.val L.val _ _ ?_ ?_ _ _ _ ?_ ?_ ?_ (by omega) r.isLt hs
    · rw [← hi]; exact word0_iff m c _
    · rw [← hi]; exact word1_iff m c _
    · intro q hq h
      rw [hL]
      exact (entry_of _ (ix2 (⟨q, hq⟩ : Fin 16) l) rfl rfl).trans (before_blk m hO c t ⟨q, hq⟩ l h)
    · intro q hq
      rw [hL]
      exact (entry_of _ (ix2 (⟨q, hq⟩ : Fin 256) l) rfl rfl).trans (tile_blk m hO c t ⟨q, hq⟩ l)
    · intro q hq h
      rw [hL]
      exact (entry_of _ (ix2 (⟨q, hq⟩ : Fin 16) l) rfl rfl).trans (after_blk m hO c t ⟨q, hq⟩ l h)
  · rw [hL]
    exact (entry_of _ (ix2 (⟨s, hs⟩ : Fin 31) l) rfl rfl).trans (weights_blk m hO c t ⟨s, hs⟩ l)
  · exact (entry_of _ (ix2 (0 : Fin 1) l) rfl rfl).trans (bias_blk m hO c t l L hL)

/-- The whole result. -/
def result : Buf (Elt Ideal) ((c : Thread nD τ).loc main_v1) :=
  fun i : S24576x4096.Idx => conv (tokens m c) (weights m c) (bias m c (i 1)) (i 0).val (i 1).val

theorem mem_out (t : Fin (cfgM m hO).N) (i : S24576x4096.Idx) :
    i ∈ (((cfgM m hO).win 5).blk t).view.set
      ↔ ∀ a : Fin 2, ((cfgM m hO).win 5).index t a * S256x512.size a ≤ (i a).val
          ∧ (i a).val < ((cfgM m hO).win 5).index t a * S256x512.size a + S256x512.size a := by
  show i ∈ ((View.whole main_v1).slice (((cfgM m hO).win 5).rect t)).set ↔ _
  refine (iff_of_eq (congrArg (i ∈ ·) (View.set_slice_whole (b := main_v1) (((cfgM m hO).win 5).rect t)))).trans ?_
  exact Rect.mem_set_unit

theorem cover (i : S24576x4096.Idx) : ∃ t : Fin (cfgM m hO).N, ((cfgM m hO).win 5).flush t = true ∧ i ∈ (((cfgM m hO).win 5).blk t).view.set := by
  have b0 : (i 0).val < 24576 := (i 0).isLt
  have b1 : (i 1).val < 4096 := (i 1).isLt
  have hN : (cfgM m hO).N = 768 := (by decide +kernel : grid0.N = 768)
  let t : Fin (cfgM m hO).N := ⟨(i 0).val / 256 * 8 + (i 1).val / 512, by rw [hN]; omega⟩
  have t0 : t.val / 8 = (i 0).val / 256 := by show ((i 0).val / 256 * 8 + (i 1).val / 512) / 8 = _; omega
  have t1 : t.val % 8 = (i 1).val / 512 := by show ((i 0).val / 256 * 8 + (i 1).val / 512) % 8 = _; omega
  refine ⟨t, flush0_5 (adm m hO) t, (mem_out m hO t i).mpr ?_⟩
  obtain ⟨p0, p1⟩ := map5 t
  rw [t0] at p0
  rw [t1] at p1
  intro a
  match a with
  | 0 =>
    show cc0_transform_5 (grid0.coords t) (0 : Fin 2) * 256 ≤ (i 0).val ∧ (i 0).val < cc0_transform_5 (grid0.coords t) (0 : Fin 2) * 256 + 256
    rw [p0]; omega
  | 1 =>
    show cc0_transform_5 (grid0.coords t) (1 : Fin 2) * 512 ≤ (i 1).val ∧ (i 1).val < cc0_transform_5 (grid0.coords t) (1 : Fin 2) * 512 + 512
    rw [p1]; omega

theorem block_y (t : Fin (cfgM m hO).N) (y : S256x512.Idx) (L : Fin 4096) (hL : L.val = t.val % 8 * 512 + (y 1).val) :
    outsAt0 m hO c t y = conv (tokens m c) (weights m c) (bias m c L) (256 * (t.val / 8) + (y 0).val) L.val := by
  have e : y = ix2 (n0 := 256) (n1 := 512) (y 0) (y 1) := funext fun a => match a with
    | 0 => rfl
    | 1 => rfl
  exact (congrArg (outsAt0 m hO c t) e).trans (block_at m hO c t (y 0) (y 1) L hL)

theorem emb_row (t : Fin (cfgM m hO).N) (y : S256x512.Idx) :
    ((((cfgM m hO).win 5).rect t).emb y (0 : Fin 2)).val = 256 * (t.val / 8) + (y 0).val := by
  refine (Window.rect_emb_val ((cfgM m hO).win 5) t y (0 : Fin 2)).trans ?_
  show cc0_transform_5 (grid0.coords t) (0 : Fin 2) * 256 + (y 0).val = _
  rw [(map5 t).1]; omega

theorem emb_col (t : Fin (cfgM m hO).N) (y : S256x512.Idx) :
    ((((cfgM m hO).win 5).rect t).emb y (1 : Fin 2)).val = t.val % 8 * 512 + (y 1).val := by
  refine (Window.rect_emb_val ((cfgM m hO).win 5) t y (1 : Fin 2)).trans ?_
  show cc0_transform_5 (grid0.coords t) (1 : Fin 2) * 512 + (y 1).val = _
  rw [(map5 t).2]

theorem result_at (i : S24576x4096.Idx) (R : ℕ) (hR : (i 0).val = R) :
    result m c i = conv (tokens m c) (weights m c) (bias m c (i 1)) R (i 1).val := by subst hR; rfl

theorem array_at : (dats m hO 0 c).arrAt 5 (cfgM m hO).N = result m c :=
  (dats m hO 0 c).arrAt_eq_of_emb 5 _ (fun t _ y => (congrFun (after0_5 m hO c t) y).trans
    ((block_y m hO c t y ((((cfgM m hO).win 5).rect t).emb y (1 : Fin 2)) (emb_col m hO t y)).trans
      (result_at m c ((((cfgM m hO).win 5).rect t).emb y) _ (emb_row m hO t y)).symm)) (cover m hO)

/-- Every run of the kernel leaves the convolution in its result. -/
theorem run : θ_run (defs (F := Ideal)) (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 5).trans (array_at m trivial c),
      ((h c).1 2).trans (((dats m trivial 0 c).arrAt_in 2 rfl _).trans ((A_eq m trivial c 2).trans (V_main_arg0 m c))),
      ((h c).1 3).trans (((dats m trivial 0 c).arrAt_in 3 rfl _).trans ((A_eq m trivial c 3).trans (V_main_arg1 m c))),
      ((h c).2 main_arg2 (by decide : main_arg2 ∈ Pipeline.restRefs sig spec0)).trans (V_main_arg2 m c)⟩) (run_main m ρ trivial)

end Cert.DwconvIdeal.Conv

end
-- ==== Proof.Conv.Reference.lean ====
/- What the reference of the depthwise convolution computes, and that the kernel computes the same. -/
module

public import proofs.«01_k».proof.Defs
public import proofs.«01_k».proof.Proof.Gen.DwconvReferenceIdeal.Run
public import proofs.«01_k».proof.Proof.Gen.DwconvReferenceIdeal.Read
public import proofs.«01_k».proof.Proof.Conv.Value

@[expose] public section

set_option maxRecDepth 16384

noncomputable section

namespace Cert.DwconvReferenceIdeal.Conv

open Cert.DwconvReferenceIdeal Cert.DwconvReferenceIdeal.Read
open Idealize.ShloMosaic Idealize.ShloMosaic.TcCoe Idealize.SL.Sem Cert.Conv Cert.Attn

/-- A row of a sequence of `len` tokens from token `start` on, with fifteen rows of zeros before it and after it. -/
def padded (X : S24576x4096.Idx → EReal) (start len q l : ℕ) : EReal :=
  if 15 ≤ q ∧ q < len + 15 then entry (n := 24576) (k := 4096) X (start + (q - 15)) l else 0

theorem zero_word : FloatOps.sitofp (F := Ideal) .f32 0#32 = 0 := by
  show ((((0#32 : BitVec 32).toInt : ℤ) : ℝ) : EReal) = 0
  simp

theorem zero_prompt (i : S_.Idx) : val_main_call0_v0 (F := Ideal) i = 0 := by
  pointwise [val_main_call0_v0, val_main_c]
  exact zero_word
theorem zero_sample (i : S_.Idx) : val_main_call1_v0 (F := Ideal) i = 0 := by
  pointwise [val_main_call1_v0, val_main_c_0]
  exact zero_word

theorem prompt_row (X : S24576x4096.Idx → EReal) (j : S4x2048x4096.Idx) :
    val_main_v2 (F := Ideal) X j = entry (n := 24576) (k := 4096) X ((j 0).val * 2048 + (j 1).val) (j 2).val := by
  have h0 : (j 0).val < 4 := (j 0).isLt
  have h1 : (j 1).val < 2048 := (j 1).isLt
  have h2 : (j 2).val < 4096 := (j 2).isLt
  rw [val_main_v2_apply, val_main_v1_apply, val_main_v0_apply]
  refine (entry_of X _ ?_ ?_).symm
  · show (((j 0).val * 2048 + (j 1).val) * 4096 + (j 2).val) / 4096 = _; omega
  · show (((j 0).val * 2048 + (j 1).val) * 4096 + (j 2).val) % 4096 = _; omega

theorem sample_row (X : S24576x4096.Idx → EReal) (j : S1x16384x4096.Idx) :
    val_main_v226 (F := Ideal) X j = entry (n := 24576) (k := 4096) X (8192 + (j 1).val) (j 2).val := by
  have h0 : (j 0).val < 1 := (j 0).isLt
  have h1 : (j 1).val < 16384 := (j 1).isLt
  have h2 : (j 2).val < 4096 := (j 2).isLt
  rw [val_main_v226_apply, val_main_v225_apply, val_main_v0_apply]
  refine (entry_of X _ ?_ ?_).symm
  · show 8192 + (((j 0).val * 16384 + (j 1).val) * 4096 + (j 2).val) / 4096 = _; omega
  · show (((j 0).val * 16384 + (j 1).val) * 4096 + (j 2).val) % 4096 = _; omega

theorem prompt_padded (X : S24576x4096.Idx → EReal) (j : S4x2078x4096.Idx) :
    val_main_v3 (F := Ideal) X j = padded X ((j 0).val * 2048) 2048 (j 1).val (j 2).val := by
  unfold padded
  have h1 : (j 1).val < 2078 := (j 1).isLt
  pointwise [val_main_v3]
  by_cases a : 15 ≤ (j 1).val ∧ (j 1).val - 15 < 2048
  · rw [dif_pos a, if_pos (by omega)]
    exact prompt_row X _
  · rw [dif_neg a, if_neg (by omega)]
    exact zero_prompt _

theorem sample_padded (X : S24576x4096.Idx → EReal) (j : S1x16414x4096.Idx) :
    val_main_v227 (F := Ideal) X j = padded X 8192 16384 (j 1).val (j 2).val := by
  unfold padded
  have h1 : (j 1).val < 16414 := (j 1).isLt
  pointwise [val_main_v227]
  by_cases a : 15 ≤ (j 1).val ∧ (j 1).val - 15 < 16384
  · rw [dif_pos a, if_pos (by omega)]
    exact sample_row X _
  · rw [dif_neg a, if_neg (by omega)]
    exact zero_sample _

theorem prompt_0 (X : S24576x4096.Idx → EReal) (W : S31x4096.Idx → EReal) (j : S4x2048x4096.Idx) :
    val_main_v11 (F := Ideal) X W j = 0 + padded X ((j 0).val * 2048) 2048 ((j 1).val + 0) (j 2).val * entry (n := 31) (k := 4096) W 0 (j 2).val := by
  have h2 : (j 2).val < 4096 := (j 2).isLt
  refine congrArg₂ (fun a b : EReal => a + b) (show _ = (0 : EReal) from ?_) (congrArg₂ (fun a b : EReal => a * b) ?_ ?_)
  · pointwise [val_main_v10, val_main_cst]
  · exact (val_main_v4_apply (F := Ideal) X j).trans (prompt_padded X (idx_main_v4 j))
  · rw [val_main_v8_apply, val_main_v7_apply, val_main_v6_apply, val_main_v5_apply]
    exact (entry_of W _ rfl (Nat.mod_eq_of_lt h2)).symm

theorem prompt_1 (X : S24576x4096.Idx → EReal) (W : S31x4096.Idx → EReal) (j : S4x2048x4096.Idx) :
    val_main_v18 (F := Ideal) X W j = val_main_v11 (F := Ideal) X W j + padded X ((j 0).val * 2048) 2048 ((j 1).val + 1) (j 2).val * entry (n := 31) (k := 4096) W 1 (j 2).val := by
  have h2 : (j 2).val < 4096 := (j 2).isLt
  refine congrArg₂ (fun a b : EReal => a + b) rfl (congrArg₂ (fun a b : EReal => a * b) ?_ ?_)
  · rw [Nat.add_comm (j 1).val]; exact (val_main_v12_apply (F := Ideal) X j).trans (prompt_padded X (idx_main_v12 j))
  · rw [val_main_v16_apply, val_main_v15_apply, val_main_v14_apply, val_main_v13_apply]
    exact (entry_of W _ rfl (Nat.mod_eq_of_lt h2)).symm

theorem prompt_2 (X : S24576x4096.Idx → EReal) (W : S31x4096.Idx → EReal) (j : S4x2048x4096.Idx) :
    val_main_v25 (F := Ideal) X W j = val_main_v18 (F := Ideal) X W j + padded X ((j 0).val * 2048) 2048 ((j 1).val + 2) (j 2).val * entry (n := 31) (k := 4096) W 2 (j 2).val := by
  have h2 : (j 2).val < 4096 := (j 2).isLt
  refine congrArg₂ (fun a b : EReal => a + b) rfl (congrArg₂ (fun a b : EReal => a * b) ?_ ?_)
  · rw [Nat.add_comm (j 1).val]; exact (val_main_v19_apply (F := Ideal) X j).trans (prompt_padded X (idx_main_v19 j))
  · rw [val_main_v23_apply, val_main_v22_apply, val_main_v21_apply, val_main_v20_apply]
    exact (entry_of W _ rfl (Nat.mod_eq_of_lt h2)).symm

theorem prompt_3 (X : S24576x4096.Idx → EReal) (W : S31x4096.Idx → EReal) (j : S4x2048x4096.Idx) :
    val_main_v32 (F := Ideal) X W j = val_main_v25 (F := Ideal) X W j + padded X ((j 0).val * 2048) 2048 ((j 1).val + 3) (j 2).val * entry (n := 31) (k := 4096) W 3 (j 2).val := by
  have h2 : (j 2).val < 4096 := (j 2).isLt
  refine congrArg₂ (fun a b : EReal => a + b) rfl (congrArg₂ (fun a b : EReal => a * b) ?_ ?_)
  · rw [Nat.add_comm (j 1).val]; exact (val_main_v26_apply (F := Ideal) X j).trans (prompt_padded X (idx_main_v26 j))
  · rw [val_main_v30_apply, val_main_v29_apply, val_main_v28_apply, val_main_v27_apply]
    exact (entry_of W _ rfl (Nat.mod_eq_of_lt h2)).symm

theorem prompt_4 (X : S24576x4096.Idx → EReal) (W : S31x4096.Idx → EReal) (j : S4x2048x4096.Idx) :
    val_main_v39 (F := Ideal) X W j = val_main_v32 (F := Ideal) X W j + padded X ((j 0).val * 2048) 2048 ((j 1).val + 4) (j 2).val * entry (n := 31) (k := 4096) W 4 (j 2).val := by
  have h2 : (j 2).val < 4096 := (j 2).isLt
  refine congrArg₂ (fun a b : EReal => a + b) rfl (congrArg₂ (fun a b : EReal => a * b) ?_ ?_)
  · rw [Nat.add_comm (j 1).val]; exact (val_main_v33_apply (F := Ideal) X j).trans (prompt_padded X (idx_main_v33 j))
  · rw [val_main_v37_apply, val_main_v36_apply, val_main_v35_apply, val_main_v34_apply]
    exact (entry_of W _ rfl (Nat.mod_eq_of_lt h2)).symm

theorem prompt_5 (X : S24576x4096.Idx → EReal) (W : S31x4096.Idx → EReal) (j : S4x2048x4096.Idx) :
    val_main_v46 (F := Ideal) X W j = val_main_v39 (F := Ideal) X W j + padded X ((j 0).val * 2048) 2048 ((j 1).val + 5) (j 2).val * entry (n := 31) (k := 4096) W 5 (j 2).val := by
  have h2 : (j 2).val < 4096 := (j 2).isLt
  refine congrArg₂ (fun a b : EReal => a + b) rfl (congrArg₂ (fun a b : EReal => a * b) ?_ ?_)
  · rw [Nat.add_comm (j 1).val]; exact (val_main_v40_apply (F := Ideal) X j).trans (prompt_padded X (idx_main_v40 j))
  · rw [val_main_v44_apply, val_main_v43_apply, val_main_v42_apply, val_main_v41_apply]
    exact (entry_of W _ rfl (Nat.mod_eq_of_lt h2)).symm

theorem prompt_6 (X : S24576x4096.Idx → EReal) (W : S31x4096.Idx → EReal) (j : S4x2048x4096.Idx) :
    val_main_v53 (F := Ideal) X W j = val_main_v46 (F := Ideal) X W j + padded X ((j 0).val * 2048) 2048 ((j 1).val + 6) (j 2).val * entry (n := 31) (k := 4096) W 6 (j 2).val := by
  have h2 : (j 2).val < 4096 := (j 2).isLt
  refine congrArg₂ (fun a b : EReal => a + b) rfl (congrArg₂ (fun a b : EReal => a * b) ?_ ?_)
  · rw [Nat.add_comm (j 1).val]; exact (val_main_v47_apply (F := Ideal) X j).trans (prompt_padded X (idx_main_v47 j))
  · rw [val_main_v51_apply, val_main_v50_apply, val_main_v49_apply, val_main_v48_apply]
    exact (entry_of W _ rfl (Nat.mod_eq_of_lt h2)).symm

theorem prompt_7 (X : S24576x4096.Idx → EReal) (W : S31x4096.Idx → EReal) (j : S4x2048x4096.Idx) :
    val_main_v60 (F := Ideal) X W j = val_main_v53 (F := Ideal) X W j + padded X ((j 0).val * 2048) 2048 ((j 1).val + 7) (j 2).val * entry (n := 31) (k := 4096) W 7 (j 2).val := by
  have h2 : (j 2).val < 4096 := (j 2).isLt
  refine congrArg₂ (fun a b : EReal => a + b) rfl (congrArg₂ (fun a b : EReal => a * b) ?_ ?_)
  · rw [Nat.add_comm (j 1).val]; exact (val_main_v54_apply (F := Ideal) X j).trans (prompt_padded X (idx_main_v54 j))
  · rw [val_main_v58_apply, val_main_v57_apply, val_main_v56_apply, val_main_v55_apply]
    exact (entry_of W _ rfl (Nat.mod_eq_of_lt h2)).symm

theorem prompt_8 (X : S24576x4096.Idx → EReal) (W : S31x4096.Idx → EReal) (j : S4x2048x4096.Idx) :
    val_main_v67 (F := Ideal) X W j = val_main_v60 (F := Ideal) X W j + padded X ((j 0).val * 2048) 2048 ((j 1).val + 8) (j 2).val * entry (n := 31) (k := 4096) W 8 (j 2).val := by
  have h2 : (j 2).val < 4096 := (j 2).isLt
  refine congrArg₂ (fun a b : EReal => a + b) rfl (congrArg₂ (fun a b : EReal => a * b) ?_ ?_)
  · rw [Nat.add_comm (j 1).val]; exact (val_main_v61_apply (F := Ideal) X j).trans (prompt_padded X (idx_main_v61 j))
  · rw [val_main_v65_apply, val_main_v64_apply, val_main_v63_apply, val_main_v62_apply]
    exact (entry_of W _ rfl (Nat.mod_eq_of_lt h2)).symm

theorem prompt_9 (X : S24576x4096.Idx → EReal) (W : S31x4096.Idx → EReal) (j : S4x2048x4096.Idx) :
    val_main_v74 (F := Ideal) X W j = val_main_v67 (F := Ideal) X W j + padded X ((j 0).val * 2048) 2048 ((j 1).val + 9) (j 2).val * entry (n := 31) (k := 4096) W 9 (j 2).val := by
  have h2 : (j 2).val < 4096 := (j 2).isLt
  refine congrArg₂ (fun a b : EReal => a + b) rfl (congrArg₂ (fun a b : EReal => a * b) ?_ ?_)
  · rw [Nat.add_comm (j 1).val]; exact (val_main_v68_apply (F := Ideal) X j).trans (prompt_padded X (idx_main_v68 j))
  · rw [val_main_v72_apply, val_main_v71_apply, val_main_v70_apply, val_main_v69_apply]
    exact (entry_of W _ rfl (Nat.mod_eq_of_lt h2)).symm

theorem prompt_10 (X : S24576x4096.Idx → EReal) (W : S31x4096.Idx → EReal) (j : S4x2048x4096.Idx) :
    val_main_v81 (F := Ideal) X W j = val_main_v74 (F := Ideal) X W j + padded X ((j 0).val * 2048) 2048 ((j 1).val + 10) (j 2).val * entry (n := 31) (k := 4096) W 10 (j 2).val := by
  have h2 : (j 2).val < 4096 := (j 2).isLt
  refine congrArg₂ (fun a b : EReal => a + b) rfl (congrArg₂ (fun a b : EReal => a * b) ?_ ?_)
  · rw [Nat.add_comm (j 1).val]; exact (val_main_v75_apply (F := Ideal) X j).trans (prompt_padded X (idx_main_v75 j))
  · rw [val_main_v79_apply, val_main_v78_apply, val_main_v77_apply, val_main_v76_apply]
    exact (entry_of W _ rfl (Nat.mod_eq_of_lt h2)).symm

theorem prompt_11 (X : S24576x4096.Idx → EReal) (W : S31x4096.Idx → EReal) (j : S4x2048x4096.Idx) :
    val_main_v88 (F := Ideal) X W j = val_main_v81 (F := Ideal) X W j + padded X ((j 0).val * 2048) 2048 ((j 1).val + 11) (j 2).val * entry (n := 31) (k := 4096) W 11 (j 2).val := by
  have h2 : (j 2).val < 4096 := (j 2).isLt
  refine congrArg₂ (fun a b : EReal => a + b) rfl (congrArg₂ (fun a b : EReal => a * b) ?_ ?_)
  · rw [Nat.add_comm (j 1).val]; exact (val_main_v82_apply (F := Ideal) X j).trans (prompt_padded X (idx_main_v82 j))
  · rw [val_main_v86_apply, val_main_v85_apply, val_main_v84_apply, val_main_v83_apply]
    exact (entry_of W _ rfl (Nat.mod_eq_of_lt h2)).symm

theorem prompt_12 (X : S24576x4096.Idx → EReal) (W : S31x4096.Idx → EReal) (j : S4x2048x4096.Idx) :
    val_main_v95 (F := Ideal) X W j = val_main_v88 (F := Ideal) X W j + padded X ((j 0).val * 2048) 2048 ((j 1).val + 12) (j 2).val * entry (n := 31) (k := 4096) W 12 (j 2).val := by
  have h2 : (j 2).val < 4096 := (j 2).isLt
  refine congrArg₂ (fun a b : EReal => a + b) rfl (congrArg₂ (fun a b : EReal => a * b) ?_ ?_)
  · rw [Nat.add_comm (j 1).val]; exact (val_main_v89_apply (F := Ideal) X j).trans (prompt_padded X (idx_main_v89 j))
  · rw [val_main_v93_apply, val_main_v92_apply, val_main_v91_apply, val_main_v90_apply]
    exact (entry_of W _ rfl (Nat.mod_eq_of_lt h2)).symm

theorem prompt_13 (X : S24576x4096.Idx → EReal) (W : S31x4096.Idx → EReal) (j : S4x2048x4096.Idx) :
    val_main_v102 (F := Ideal) X W j = val_main_v95 (F := Ideal) X W j + padded X ((j 0).val * 2048) 2048 ((j 1).val + 13) (j 2).val * entry (n := 31) (k := 4096) W 13 (j 2).val := by
  have h2 : (j 2).val < 4096 := (j 2).isLt
  refine congrArg₂ (fun a b : EReal => a + b) rfl (congrArg₂ (fun a b : EReal => a * b) ?_ ?_)
  · rw [Nat.add_comm (j 1).val]; exact (val_main_v96_apply (F := Ideal) X j).trans (prompt_padded X (idx_main_v96 j))
  · rw [val_main_v100_apply, val_main_v99_apply, val_main_v98_apply, val_main_v97_apply]
    exact (entry_of W _ rfl (Nat.mod_eq_of_lt h2)).symm

theorem prompt_14 (X : S24576x4096.Idx → EReal) (W : S31x4096.Idx → EReal) (j : S4x2048x4096.Idx) :
    val_main_v109 (F := Ideal) X W j = val_main_v102 (F := Ideal) X W j + padded X ((j 0).val * 2048) 2048 ((j 1).val + 14) (j 2).val * entry (n := 31) (k := 4096) W 14 (j 2).val := by
  have h2 : (j 2).val < 4096 := (j 2).isLt
  refine congrArg₂ (fun a b : EReal => a + b) rfl (congrArg₂ (fun a b : EReal => a * b) ?_ ?_)
  · rw [Nat.add_comm (j 1).val]; exact (val_main_v103_apply (F := Ideal) X j).trans (prompt_padded X (idx_main_v103 j))
  · rw [val_main_v107_apply, val_main_v106_apply, val_main_v105_apply, val_main_v104_apply]
    exact (entry_of W _ rfl (Nat.mod_eq_of_lt h2)).symm

theorem prompt_15 (X : S24576x4096.Idx → EReal) (W : S31x4096.Idx → EReal) (j : S4x2048x4096.Idx) :
    val_main_v116 (F := Ideal) X W j = val_main_v109 (F := Ideal) X W j + padded X ((j 0).val * 2048) 2048 ((j 1).val + 15) (j 2).val * entry (n := 31) (k := 4096) W 15 (j 2).val := by
  have h2 : (j 2).val < 4096 := (j 2).isLt
  refine congrArg₂ (fun a b : EReal => a + b) rfl (congrArg₂ (fun a b : EReal => a * b) ?_ ?_)
  · rw [Nat.add_comm (j 1).val]; exact (val_main_v110_apply (F := Ideal) X j).trans (prompt_padded X (idx_main_v110 j))
  · rw [val_main_v114_apply, val_main_v113_apply, val_main_v112_apply, val_main_v111_apply]
    exact (entry_of W _ rfl (Nat.mod_eq_of_lt h2)).symm

theorem prompt_16 (X : S24576x4096.Idx → EReal) (W : S31x4096.Idx → EReal) (j : S4x2048x4096.Idx) :
    val_main_v123 (F := Ideal) X W j = val_main_v116 (F := Ideal) X W j + padded X ((j 0).val * 2048) 2048 ((j 1).val + 16) (j 2).val * entry (n := 31) (k := 4096) W 16 (j 2).val := by
  have h2 : (j 2).val < 4096 := (j 2).isLt
  refine congrArg₂ (fun a b : EReal => a + b) rfl (congrArg₂ (fun a b : EReal => a * b) ?_ ?_)
  · rw [Nat.add_comm (j 1).val]; exact (val_main_v117_apply (F := Ideal) X j).trans (prompt_padded X (idx_main_v117 j))
  · rw [val_main_v121_apply, val_main_v120_apply, val_main_v119_apply, val_main_v118_apply]
    exact (entry_of W _ rfl (Nat.mod_eq_of_lt h2)).symm

theorem prompt_17 (X : S24576x4096.Idx → EReal) (W : S31x4096.Idx → EReal) (j : S4x2048x4096.Idx) :
    val_main_v130 (F := Ideal) X W j = val_main_v123 (F := Ideal) X W j + padded X ((j 0).val * 2048) 2048 ((j 1).val + 17) (j 2).val * entry (n := 31) (k := 4096) W 17 (j 2).val := by
  have h2 : (j 2).val < 4096 := (j 2).isLt
  refine congrArg₂ (fun a b : EReal => a + b) rfl (congrArg₂ (fun a b : EReal => a * b) ?_ ?_)
  · rw [Nat.add_comm (j 1).val]; exact (val_main_v124_apply (F := Ideal) X j).trans (prompt_padded X (idx_main_v124 j))
  · rw [val_main_v128_apply, val_main_v127_apply, val_main_v126_apply, val_main_v125_apply]
    exact (entry_of W _ rfl (Nat.mod_eq_of_lt h2)).symm

theorem prompt_18 (X : S24576x4096.Idx → EReal) (W : S31x4096.Idx → EReal) (j : S4x2048x4096.Idx) :
    val_main_v137 (F := Ideal) X W j = val_main_v130 (F := Ideal) X W j + padded X ((j 0).val * 2048) 2048 ((j 1).val + 18) (j 2).val * entry (n := 31) (k := 4096) W 18 (j 2).val := by
  have h2 : (j 2).val < 4096 := (j 2).isLt
  refine congrArg₂ (fun a b : EReal => a + b) rfl (congrArg₂ (fun a b : EReal => a * b) ?_ ?_)
  · rw [Nat.add_comm (j 1).val]; exact (val_main_v131_apply (F := Ideal) X j).trans (prompt_padded X (idx_main_v131 j))
  · rw [val_main_v135_apply, val_main_v134_apply, val_main_v133_apply, val_main_v132_apply]
    exact (entry_of W _ rfl (Nat.mod_eq_of_lt h2)).symm

theorem prompt_19 (X : S24576x4096.Idx → EReal) (W : S31x4096.Idx → EReal) (j : S4x2048x4096.Idx) :
    val_main_v144 (F := Ideal) X W j = val_main_v137 (F := Ideal) X W j + padded X ((j 0).val * 2048) 2048 ((j 1).val + 19) (j 2).val * entry (n := 31) (k := 4096) W 19 (j 2).val := by
  have h2 : (j 2).val < 4096 := (j 2).isLt
  refine congrArg₂ (fun a b : EReal => a + b) rfl (congrArg₂ (fun a b : EReal => a * b) ?_ ?_)
  · rw [Nat.add_comm (j 1).val]; exact (val_main_v138_apply (F := Ideal) X j).trans (prompt_padded X (idx_main_v138 j))
  · rw [val_main_v142_apply, val_main_v141_apply, val_main_v140_apply, val_main_v139_apply]
    exact (entry_of W _ rfl (Nat.mod_eq_of_lt h2)).symm

theorem prompt_20 (X : S24576x4096.Idx → EReal) (W : S31x4096.Idx → EReal) (j : S4x2048x4096.Idx) :
    val_main_v151 (F := Ideal) X W j = val_main_v144 (F := Ideal) X W j + padded X ((j 0).val * 2048) 2048 ((j 1).val + 20) (j 2).val * entry (n := 31) (k := 4096) W 20 (j 2).val := by
  have h2 : (j 2).val < 4096 := (j 2).isLt
  refine congrArg₂ (fun a b : EReal => a + b) rfl (congrArg₂ (fun a b : EReal => a * b) ?_ ?_)
  · rw [Nat.add_comm (j 1).val]; exact (val_main_v145_apply (F := Ideal) X j).trans (prompt_padded X (idx_main_v145 j))
  · rw [val_main_v149_apply, val_main_v148_apply, val_main_v147_apply, val_main_v146_apply]
    exact (entry_of W _ rfl (Nat.mod_eq_of_lt h2)).symm

theorem prompt_21 (X : S24576x4096.Idx → EReal) (W : S31x4096.Idx → EReal) (j : S4x2048x4096.Idx) :
    val_main_v158 (F := Ideal) X W j = val_main_v151 (F := Ideal) X W j + padded X ((j 0).val * 2048) 2048 ((j 1).val + 21) (j 2).val * entry (n := 31) (k := 4096) W 21 (j 2).val := by
  have h2 : (j 2).val < 4096 := (j 2).isLt
  refine congrArg₂ (fun a b : EReal => a + b) rfl (congrArg₂ (fun a b : EReal => a * b) ?_ ?_)
  · rw [Nat.add_comm (j 1).val]; exact (val_main_v152_apply (F := Ideal) X j).trans (prompt_padded X (idx_main_v152 j))
  · rw [val_main_v156_apply, val_main_v155_apply, val_main_v154_apply, val_main_v153_apply]
    exact (entry_of W _ rfl (Nat.mod_eq_of_lt h2)).symm

theorem prompt_22 (X : S24576x4096.Idx → EReal) (W : S31x4096.Idx → EReal) (j : S4x2048x4096.Idx) :
    val_main_v165 (F := Ideal) X W j = val_main_v158 (F := Ideal) X W j + padded X ((j 0).val * 2048) 2048 ((j 1).val + 22) (j 2).val * entry (n := 31) (k := 4096) W 22 (j 2).val := by
  have h2 : (j 2).val < 4096 := (j 2).isLt
  refine congrArg₂ (fun a b : EReal => a + b) rfl (congrArg₂ (fun a b : EReal => a * b) ?_ ?_)
  · rw [Nat.add_comm (j 1).val]; exact (val_main_v159_apply (F := Ideal) X j).trans (prompt_padded X (idx_main_v159 j))
  · rw [val_main_v163_apply, val_main_v162_apply, val_main_v161_apply, val_main_v160_apply]
    exact (entry_of W _ rfl (Nat.mod_eq_of_lt h2)).symm

theorem prompt_23 (X : S24576x4096.Idx → EReal) (W : S31x4096.Idx → EReal) (j : S4x2048x4096.Idx) :
    val_main_v172 (F := Ideal) X W j = val_main_v165 (F := Ideal) X W j + padded X ((j 0).val * 2048) 2048 ((j 1).val + 23) (j 2).val * entry (n := 31) (k := 4096) W 23 (j 2).val := by
  have h2 : (j 2).val < 4096 := (j 2).isLt
  refine congrArg₂ (fun a b : EReal => a + b) rfl (congrArg₂ (fun a b : EReal => a * b) ?_ ?_)
  · rw [Nat.add_comm (j 1).val]; exact (val_main_v166_apply (F := Ideal) X j).trans (prompt_padded X (idx_main_v166 j))
  · rw [val_main_v170_apply, val_main_v169_apply, val_main_v168_apply, val_main_v167_apply]
    exact (entry_of W _ rfl (Nat.mod_eq_of_lt h2)).symm

theorem prompt_24 (X : S24576x4096.Idx → EReal) (W : S31x4096.Idx → EReal) (j : S4x2048x4096.Idx) :
    val_main_v179 (F := Ideal) X W j = val_main_v172 (F := Ideal) X W j + padded X ((j 0).val * 2048) 2048 ((j 1).val + 24) (j 2).val * entry (n := 31) (k := 4096) W 24 (j 2).val := by
  have h2 : (j 2).val < 4096 := (j 2).isLt
  refine congrArg₂ (fun a b : EReal => a + b) rfl (congrArg₂ (fun a b : EReal => a * b) ?_ ?_)
  · rw [Nat.add_comm (j 1).val]; exact (val_main_v173_apply (F := Ideal) X j).trans (prompt_padded X (idx_main_v173 j))
  · rw [val_main_v177_apply, val_main_v176_apply, val_main_v175_apply, val_main_v174_apply]
    exact (entry_of W _ rfl (Nat.mod_eq_of_lt h2)).symm

theorem prompt_25 (X : S24576x4096.Idx → EReal) (W : S31x4096.Idx → EReal) (j : S4x2048x4096.Idx) :
    val_main_v186 (F := Ideal) X W j = val_main_v179 (F := Ideal) X W j + padded X ((j 0).val * 2048) 2048 ((j 1).val + 25) (j 2).val * entry (n := 31) (k := 4096) W 25 (j 2).val := by
  have h2 : (j 2).val < 4096 := (j 2).isLt
  refine congrArg₂ (fun a b : EReal => a + b) rfl (congrArg₂ (fun a b : EReal => a * b) ?_ ?_)
  · rw [Nat.add_comm (j 1).val]; exact (val_main_v180_apply (F := Ideal) X j).trans (prompt_padded X (idx_main_v180 j))
  · rw [val_main_v184_apply, val_main_v183_apply, val_main_v182_apply, val_main_v181_apply]
    exact (entry_of W _ rfl (Nat.mod_eq_of_lt h2)).symm

theorem prompt_26 (X : S24576x4096.Idx → EReal) (W : S31x4096.Idx → EReal) (j : S4x2048x4096.Idx) :
    val_main_v193 (F := Ideal) X W j = val_main_v186 (F := Ideal) X W j + padded X ((j 0).val * 2048) 2048 ((j 1).val + 26) (j 2).val * entry (n := 31) (k := 4096) W 26 (j 2).val := by
  have h2 : (j 2).val < 4096 := (j 2).isLt
  refine congrArg₂ (fun a b : EReal => a + b) rfl (congrArg₂ (fun a b : EReal => a * b) ?_ ?_)
  · rw [Nat.add_comm (j 1).val]; exact (val_main_v187_apply (F := Ideal) X j).trans (prompt_padded X (idx_main_v187 j))
  · rw [val_main_v191_apply, val_main_v190_apply, val_main_v189_apply, val_main_v188_apply]
    exact (entry_of W _ rfl (Nat.mod_eq_of_lt h2)).symm

theorem prompt_27 (X : S24576x4096.Idx → EReal) (W : S31x4096.Idx → EReal) (j : S4x2048x4096.Idx) :
    val_main_v200 (F := Ideal) X W j = val_main_v193 (F := Ideal) X W j + padded X ((j 0).val * 2048) 2048 ((j 1).val + 27) (j 2).val * entry (n := 31) (k := 4096) W 27 (j 2).val := by
  have h2 : (j 2).val < 4096 := (j 2).isLt
  refine congrArg₂ (fun a b : EReal => a + b) rfl (congrArg₂ (fun a b : EReal => a * b) ?_ ?_)
  · rw [Nat.add_comm (j 1).val]; exact (val_main_v194_apply (F := Ideal) X j).trans (prompt_padded X (idx_main_v194 j))
  · rw [val_main_v198_apply, val_main_v197_apply, val_main_v196_apply, val_main_v195_apply]
    exact (entry_of W _ rfl (Nat.mod_eq_of_lt h2)).symm

theorem prompt_28 (X : S24576x4096.Idx → EReal) (W : S31x4096.Idx → EReal) (j : S4x2048x4096.Idx) :
    val_main_v207 (F := Ideal) X W j = val_main_v200 (F := Ideal) X W j + padded X ((j 0).val * 2048) 2048 ((j 1).val + 28) (j 2).val * entry (n := 31) (k := 4096) W 28 (j 2).val := by
  have h2 : (j 2).val < 4096 := (j 2).isLt
  refine congrArg₂ (fun a b : EReal => a + b) rfl (congrArg₂ (fun a b : EReal => a * b) ?_ ?_)
  · rw [Nat.add_comm (j 1).val]; exact (val_main_v201_apply (F := Ideal) X j).trans (prompt_padded X (idx_main_v201 j))
  · rw [val_main_v205_apply, val_main_v204_apply, val_main_v203_apply, val_main_v202_apply]
    exact (entry_of W _ rfl (Nat.mod_eq_of_lt h2)).symm

theorem prompt_29 (X : S24576x4096.Idx → EReal) (W : S31x4096.Idx → EReal) (j : S4x2048x4096.Idx) :
    val_main_v214 (F := Ideal) X W j = val_main_v207 (F := Ideal) X W j + padded X ((j 0).val * 2048) 2048 ((j 1).val + 29) (j 2).val * entry (n := 31) (k := 4096) W 29 (j 2).val := by
  have h2 : (j 2).val < 4096 := (j 2).isLt
  refine congrArg₂ (fun a b : EReal => a + b) rfl (congrArg₂ (fun a b : EReal => a * b) ?_ ?_)
  · rw [Nat.add_comm (j 1).val]; exact (val_main_v208_apply (F := Ideal) X j).trans (prompt_padded X (idx_main_v208 j))
  · rw [val_main_v212_apply, val_main_v211_apply, val_main_v210_apply, val_main_v209_apply]
    exact (entry_of W _ rfl (Nat.mod_eq_of_lt h2)).symm

theorem prompt_30 (X : S24576x4096.Idx → EReal) (W : S31x4096.Idx → EReal) (j : S4x2048x4096.Idx) :
    val_main_v221 (F := Ideal) X W j = val_main_v214 (F := Ideal) X W j + padded X ((j 0).val * 2048) 2048 ((j 1).val + 30) (j 2).val * entry (n := 31) (k := 4096) W 30 (j 2).val := by
  have h2 : (j 2).val < 4096 := (j 2).isLt
  refine congrArg₂ (fun a b : EReal => a + b) rfl (congrArg₂ (fun a b : EReal => a * b) ?_ ?_)
  · rw [Nat.add_comm (j 1).val]; exact (val_main_v215_apply (F := Ideal) X j).trans (prompt_padded X (idx_main_v215 j))
  · rw [val_main_v219_apply, val_main_v218_apply, val_main_v217_apply, val_main_v216_apply]
    exact (entry_of W _ rfl (Nat.mod_eq_of_lt h2)).symm

theorem prompt_sum (X : S24576x4096.Idx → EReal) (W : S31x4096.Idx → EReal) (B : S4096.Idx → EReal) (j : S4x2048x4096.Idx) :
    val_main_v224 (F := Ideal) X W B j = grow 0 (fun t => padded X ((j 0).val * 2048) 2048 ((j 1).val + t) (j 2).val * entry (n := 31) (k := 4096) W t (j 2).val) 31 + B (ix1 (j 2)) := by
  refine congrArg₂ (· + ·) ?_ ?_
  · rw [prompt_30, prompt_29, prompt_28, prompt_27, prompt_26, prompt_25, prompt_24, prompt_23, prompt_22, prompt_21, prompt_20, prompt_19, prompt_18, prompt_17, prompt_16, prompt_15, prompt_14, prompt_13, prompt_12, prompt_11, prompt_10, prompt_9, prompt_8, prompt_7, prompt_6, prompt_5, prompt_4, prompt_3, prompt_2, prompt_1, prompt_0]
    rfl
  · rw [val_main_v223_apply, val_main_v222_apply]
    refine congrArg B (funext fun a => ?_)
    match a with
    | 0 => rfl

theorem sample_0 (X : S24576x4096.Idx → EReal) (W : S31x4096.Idx → EReal) (j : S1x16384x4096.Idx) :
    val_main_v235 (F := Ideal) X W j = 0 + padded X 8192 16384 ((j 1).val + 0) (j 2).val * entry (n := 31) (k := 4096) W 0 (j 2).val := by
  have h2 : (j 2).val < 4096 := (j 2).isLt
  refine congrArg₂ (fun a b : EReal => a + b) (show _ = (0 : EReal) from ?_) (congrArg₂ (fun a b : EReal => a * b) ?_ ?_)
  · pointwise [val_main_v234, val_main_cst_1]
  · exact (val_main_v228_apply (F := Ideal) X j).trans (sample_padded X (idx_main_v228 j))
  · rw [val_main_v232_apply, val_main_v231_apply, val_main_v230_apply, val_main_v229_apply]
    exact (entry_of W _ rfl (Nat.mod_eq_of_lt h2)).symm

theorem sample_1 (X : S24576x4096.Idx → EReal) (W : S31x4096.Idx → EReal) (j : S1x16384x4096.Idx) :
    val_main_v242 (F := Ideal) X W j = val_main_v235 (F := Ideal) X W j + padded X 8192 16384 ((j 1).val + 1) (j 2).val * entry (n := 31) (k := 4096) W 1 (j 2).val := by
  have h2 : (j 2).val < 4096 := (j 2).isLt
  refine congrArg₂ (fun a b : EReal => a + b) rfl (congrArg₂ (fun a b : EReal => a * b) ?_ ?_)
  · rw [Nat.add_comm (j 1).val]; exact (val_main_v236_apply (F := Ideal) X j).trans (sample_padded X (idx_main_v236 j))
  · rw [val_main_v240_apply, val_main_v239_apply, val_main_v238_apply, val_main_v237_apply]
    exact (entry_of W _ rfl (Nat.mod_eq_of_lt h2)).symm

theorem sample_2 (X : S24576x4096.Idx → EReal) (W : S31x4096.Idx → EReal) (j : S1x16384x4096.Idx) :
    val_main_v249 (F := Ideal) X W j = val_main_v242 (F := Ideal) X W j + padded X 8192 16384 ((j 1).val + 2) (j 2).val * entry (n := 31) (k := 4096) W 2 (j 2).val := by
  have h2 : (j 2).val < 4096 := (j 2).isLt
  refine congrArg₂ (fun a b : EReal => a + b) rfl (congrArg₂ (fun a b : EReal => a * b) ?_ ?_)
  · rw [Nat.add_comm (j 1).val]; exact (val_main_v243_apply (F := Ideal) X j).trans (sample_padded X (idx_main_v243 j))
  · rw [val_main_v247_apply, val_main_v246_apply, val_main_v245_apply, val_main_v244_apply]
    exact (entry_of W _ rfl (Nat.mod_eq_of_lt h2)).symm

theorem sample_3 (X : S24576x4096.Idx → EReal) (W : S31x4096.Idx → EReal) (j : S1x16384x4096.Idx) :
    val_main_v256 (F := Ideal) X W j = val_main_v249 (F := Ideal) X W j + padded X 8192 16384 ((j 1).val + 3) (j 2).val * entry (n := 31) (k := 4096) W 3 (j 2).val := by
  have h2 : (j 2).val < 4096 := (j 2).isLt
  refine congrArg₂ (fun a b : EReal => a + b) rfl (congrArg₂ (fun a b : EReal => a * b) ?_ ?_)
  · rw [Nat.add_comm (j 1).val]; exact (val_main_v250_apply (F := Ideal) X j).trans (sample_padded X (idx_main_v250 j))
  · rw [val_main_v254_apply, val_main_v253_apply, val_main_v252_apply, val_main_v251_apply]
    exact (entry_of W _ rfl (Nat.mod_eq_of_lt h2)).symm

theorem sample_4 (X : S24576x4096.Idx → EReal) (W : S31x4096.Idx → EReal) (j : S1x16384x4096.Idx) :
    val_main_v263 (F := Ideal) X W j = val_main_v256 (F := Ideal) X W j + padded X 8192 16384 ((j 1).val + 4) (j 2).val * entry (n := 31) (k := 4096) W 4 (j 2).val := by
  have h2 : (j 2).val < 4096 := (j 2).isLt
  refine congrArg₂ (fun a b : EReal => a + b) rfl (congrArg₂ (fun a b : EReal => a * b) ?_ ?_)
  · rw [Nat.add_comm (j 1).val]; exact (val_main_v257_apply (F := Ideal) X j).trans (sample_padded X (idx_main_v257 j))
  · rw [val_main_v261_apply, val_main_v260_apply, val_main_v259_apply, val_main_v258_apply]
    exact (entry_of W _ rfl (Nat.mod_eq_of_lt h2)).symm

theorem sample_5 (X : S24576x4096.Idx → EReal) (W : S31x4096.Idx → EReal) (j : S1x16384x4096.Idx) :
    val_main_v270 (F := Ideal) X W j = val_main_v263 (F := Ideal) X W j + padded X 8192 16384 ((j 1).val + 5) (j 2).val * entry (n := 31) (k := 4096) W 5 (j 2).val := by
  have h2 : (j 2).val < 4096 := (j 2).isLt
  refine congrArg₂ (fun a b : EReal => a + b) rfl (congrArg₂ (fun a b : EReal => a * b) ?_ ?_)
  · rw [Nat.add_comm (j 1).val]; exact (val_main_v264_apply (F := Ideal) X j).trans (sample_padded X (idx_main_v264 j))
  · rw [val_main_v268_apply, val_main_v267_apply, val_main_v266_apply, val_main_v265_apply]
    exact (entry_of W _ rfl (Nat.mod_eq_of_lt h2)).symm

theorem sample_6 (X : S24576x4096.Idx → EReal) (W : S31x4096.Idx → EReal) (j : S1x16384x4096.Idx) :
    val_main_v277 (F := Ideal) X W j = val_main_v270 (F := Ideal) X W j + padded X 8192 16384 ((j 1).val + 6) (j 2).val * entry (n := 31) (k := 4096) W 6 (j 2).val := by
  have h2 : (j 2).val < 4096 := (j 2).isLt
  refine congrArg₂ (fun a b : EReal => a + b) rfl (congrArg₂ (fun a b : EReal => a * b) ?_ ?_)
  · rw [Nat.add_comm (j 1).val]; exact (val_main_v271_apply (F := Ideal) X j).trans (sample_padded X (idx_main_v271 j))
  · rw [val_main_v275_apply, val_main_v274_apply, val_main_v273_apply, val_main_v272_apply]
    exact (entry_of W _ rfl (Nat.mod_eq_of_lt h2)).symm

theorem sample_7 (X : S24576x4096.Idx → EReal) (W : S31x4096.Idx → EReal) (j : S1x16384x4096.Idx) :
    val_main_v284 (F := Ideal) X W j = val_main_v277 (F := Ideal) X W j + padded X 8192 16384 ((j 1).val + 7) (j 2).val * entry (n := 31) (k := 4096) W 7 (j 2).val := by
  have h2 : (j 2).val < 4096 := (j 2).isLt
  refine congrArg₂ (fun a b : EReal => a + b) rfl (congrArg₂ (fun a b : EReal => a * b) ?_ ?_)
  · rw [Nat.add_comm (j 1).val]; exact (val_main_v278_apply (F := Ideal) X j).trans (sample_padded X (idx_main_v278 j))
  · rw [val_main_v282_apply, val_main_v281_apply, val_main_v280_apply, val_main_v279_apply]
    exact (entry_of W _ rfl (Nat.mod_eq_of_lt h2)).symm

theorem sample_8 (X : S24576x4096.Idx → EReal) (W : S31x4096.Idx → EReal) (j : S1x16384x4096.Idx) :
    val_main_v291 (F := Ideal) X W j = val_main_v284 (F := Ideal) X W j + padded X 8192 16384 ((j 1).val + 8) (j 2).val * entry (n := 31) (k := 4096) W 8 (j 2).val := by
  have h2 : (j 2).val < 4096 := (j 2).isLt
  refine congrArg₂ (fun a b : EReal => a + b) rfl (congrArg₂ (fun a b : EReal => a * b) ?_ ?_)
  · rw [Nat.add_comm (j 1).val]; exact (val_main_v285_apply (F := Ideal) X j).trans (sample_padded X (idx_main_v285 j))
  · rw [val_main_v289_apply, val_main_v288_apply, val_main_v287_apply, val_main_v286_apply]
    exact (entry_of W _ rfl (Nat.mod_eq_of_lt h2)).symm

theorem sample_9 (X : S24576x4096.Idx → EReal) (W : S31x4096.Idx → EReal) (j : S1x16384x4096.Idx) :
    val_main_v298 (F := Ideal) X W j = val_main_v291 (F := Ideal) X W j + padded X 8192 16384 ((j 1).val + 9) (j 2).val * entry (n := 31) (k := 4096) W 9 (j 2).val := by
  have h2 : (j 2).val < 4096 := (j 2).isLt
  refine congrArg₂ (fun a b : EReal => a + b) rfl (congrArg₂ (fun a b : EReal => a * b) ?_ ?_)
  · rw [Nat.add_comm (j 1).val]; exact (val_main_v292_apply (F := Ideal) X j).trans (sample_padded X (idx_main_v292 j))
  · rw [val_main_v296_apply, val_main_v295_apply, val_main_v294_apply, val_main_v293_apply]
    exact (entry_of W _ rfl (Nat.mod_eq_of_lt h2)).symm

theorem sample_10 (X : S24576x4096.Idx → EReal) (W : S31x4096.Idx → EReal) (j : S1x16384x4096.Idx) :
    val_main_v305 (F := Ideal) X W j = val_main_v298 (F := Ideal) X W j + padded X 8192 16384 ((j 1).val + 10) (j 2).val * entry (n := 31) (k := 4096) W 10 (j 2).val := by
  have h2 : (j 2).val < 4096 := (j 2).isLt
  refine congrArg₂ (fun a b : EReal => a + b) rfl (congrArg₂ (fun a b : EReal => a * b) ?_ ?_)
  · rw [Nat.add_comm (j 1).val]; exact (val_main_v299_apply (F := Ideal) X j).trans (sample_padded X (idx_main_v299 j))
  · rw [val_main_v303_apply, val_main_v302_apply, val_main_v301_apply, val_main_v300_apply]
    exact (entry_of W _ rfl (Nat.mod_eq_of_lt h2)).symm

theorem sample_11 (X : S24576x4096.Idx → EReal) (W : S31x4096.Idx → EReal) (j : S1x16384x4096.Idx) :
    val_main_v312 (F := Ideal) X W j = val_main_v305 (F := Ideal) X W j + padded X 8192 16384 ((j 1).val + 11) (j 2).val * entry (n := 31) (k := 4096) W 11 (j 2).val := by
  have h2 : (j 2).val < 4096 := (j 2).isLt
  refine congrArg₂ (fun a b : EReal => a + b) rfl (congrArg₂ (fun a b : EReal => a * b) ?_ ?_)
  · rw [Nat.add_comm (j 1).val]; exact (val_main_v306_apply (F := Ideal) X j).trans (sample_padded X (idx_main_v306 j))
  · rw [val_main_v310_apply, val_main_v309_apply, val_main_v308_apply, val_main_v307_apply]
    exact (entry_of W _ rfl (Nat.mod_eq_of_lt h2)).symm

theorem sample_12 (X : S24576x4096.Idx → EReal) (W : S31x4096.Idx → EReal) (j : S1x16384x4096.Idx) :
    val_main_v319 (F := Ideal) X W j = val_main_v312 (F := Ideal) X W j + padded X 8192 16384 ((j 1).val + 12) (j 2).val * entry (n := 31) (k := 4096) W 12 (j 2).val := by
  have h2 : (j 2).val < 4096 := (j 2).isLt
  refine congrArg₂ (fun a b : EReal => a + b) rfl (congrArg₂ (fun a b : EReal => a * b) ?_ ?_)
  · rw [Nat.add_comm (j 1).val]; exact (val_main_v313_apply (F := Ideal) X j).trans (sample_padded X (idx_main_v313 j))
  · rw [val_main_v317_apply, val_main_v316_apply, val_main_v315_apply, val_main_v314_apply]
    exact (entry_of W _ rfl (Nat.mod_eq_of_lt h2)).symm

theorem sample_13 (X : S24576x4096.Idx → EReal) (W : S31x4096.Idx → EReal) (j : S1x16384x4096.Idx) :
    val_main_v326 (F := Ideal) X W j = val_main_v319 (F := Ideal) X W j + padded X 8192 16384 ((j 1).val + 13) (j 2).val * entry (n := 31) (k := 4096) W 13 (j 2).val := by
  have h2 : (j 2).val < 4096 := (j 2).isLt
  refine congrArg₂ (fun a b : EReal => a + b) rfl (congrArg₂ (fun a b : EReal => a * b) ?_ ?_)
  · rw [Nat.add_comm (j 1).val]; exact (val_main_v320_apply (F := Ideal) X j).trans (sample_padded X (idx_main_v320 j))
  · rw [val_main_v324_apply, val_main_v323_apply, val_main_v322_apply, val_main_v321_apply]
    exact (entry_of W _ rfl (Nat.mod_eq_of_lt h2)).symm

theorem sample_14 (X : S24576x4096.Idx → EReal) (W : S31x4096.Idx → EReal) (j : S1x16384x4096.Idx) :
    val_main_v333 (F := Ideal) X W j = val_main_v326 (F := Ideal) X W j + padded X 8192 16384 ((j 1).val + 14) (j 2).val * entry (n := 31) (k := 4096) W 14 (j 2).val := by
  have h2 : (j 2).val < 4096 := (j 2).isLt
  refine congrArg₂ (fun a b : EReal => a + b) rfl (congrArg₂ (fun a b : EReal => a * b) ?_ ?_)
  · rw [Nat.add_comm (j 1).val]; exact (val_main_v327_apply (F := Ideal) X j).trans (sample_padded X (idx_main_v327 j))
  · rw [val_main_v331_apply, val_main_v330_apply, val_main_v329_apply, val_main_v328_apply]
    exact (entry_of W _ rfl (Nat.mod_eq_of_lt h2)).symm

theorem sample_15 (X : S24576x4096.Idx → EReal) (W : S31x4096.Idx → EReal) (j : S1x16384x4096.Idx) :
    val_main_v340 (F := Ideal) X W j = val_main_v333 (F := Ideal) X W j + padded X 8192 16384 ((j 1).val + 15) (j 2).val * entry (n := 31) (k := 4096) W 15 (j 2).val := by
  have h2 : (j 2).val < 4096 := (j 2).isLt
  refine congrArg₂ (fun a b : EReal => a + b) rfl (congrArg₂ (fun a b : EReal => a * b) ?_ ?_)
  · rw [Nat.add_comm (j 1).val]; exact (val_main_v334_apply (F := Ideal) X j).trans (sample_padded X (idx_main_v334 j))
  · rw [val_main_v338_apply, val_main_v337_apply, val_main_v336_apply, val_main_v335_apply]
    exact (entry_of W _ rfl (Nat.mod_eq_of_lt h2)).symm

theorem sample_16 (X : S24576x4096.Idx → EReal) (W : S31x4096.Idx → EReal) (j : S1x16384x4096.Idx) :
    val_main_v347 (F := Ideal) X W j = val_main_v340 (F := Ideal) X W j + padded X 8192 16384 ((j 1).val + 16) (j 2).val * entry (n := 31) (k := 4096) W 16 (j 2).val := by
  have h2 : (j 2).val < 4096 := (j 2).isLt
  refine congrArg₂ (fun a b : EReal => a + b) rfl (congrArg₂ (fun a b : EReal => a * b) ?_ ?_)
  · rw [Nat.add_comm (j 1).val]; exact (val_main_v341_apply (F := Ideal) X j).trans (sample_padded X (idx_main_v341 j))
  · rw [val_main_v345_apply, val_main_v344_apply, val_main_v343_apply, val_main_v342_apply]
    exact (entry_of W _ rfl (Nat.mod_eq_of_lt h2)).symm

theorem sample_17 (X : S24576x4096.Idx → EReal) (W : S31x4096.Idx → EReal) (j : S1x16384x4096.Idx) :
    val_main_v354 (F := Ideal) X W j = val_main_v347 (F := Ideal) X W j + padded X 8192 16384 ((j 1).val + 17) (j 2).val * entry (n := 31) (k := 4096) W 17 (j 2).val := by
  have h2 : (j 2).val < 4096 := (j 2).isLt
  refine congrArg₂ (fun a b : EReal => a + b) rfl (congrArg₂ (fun a b : EReal => a * b) ?_ ?_)
  · rw [Nat.add_comm (j 1).val]; exact (val_main_v348_apply (F := Ideal) X j).trans (sample_padded X (idx_main_v348 j))
  · rw [val_main_v352_apply, val_main_v351_apply, val_main_v350_apply, val_main_v349_apply]
    exact (entry_of W _ rfl (Nat.mod_eq_of_lt h2)).symm

theorem sample_18 (X : S24576x4096.Idx → EReal) (W : S31x4096.Idx → EReal) (j : S1x16384x4096.Idx) :
    val_main_v361 (F := Ideal) X W j = val_main_v354 (F := Ideal) X W j + padded X 8192 16384 ((j 1).val + 18) (j 2).val * entry (n := 31) (k := 4096) W 18 (j 2).val := by
  have h2 : (j 2).val < 4096 := (j 2).isLt
  refine congrArg₂ (fun a b : EReal => a + b) rfl (congrArg₂ (fun a b : EReal => a * b) ?_ ?_)
  · rw [Nat.add_comm (j 1).val]; exact (val_main_v355_apply (F := Ideal) X j).trans (sample_padded X (idx_main_v355 j))
  · rw [val_main_v359_apply, val_main_v358_apply, val_main_v357_apply, val_main_v356_apply]
    exact (entry_of W _ rfl (Nat.mod_eq_of_lt h2)).symm

theorem sample_19 (X : S24576x4096.Idx → EReal) (W : S31x4096.Idx → EReal) (j : S1x16384x4096.Idx) :
    val_main_v368 (F := Ideal) X W j = val_main_v361 (F := Ideal) X W j + padded X 8192 16384 ((j 1).val + 19) (j 2).val * entry (n := 31) (k := 4096) W 19 (j 2).val := by
  have h2 : (j 2).val < 4096 := (j 2).isLt
  refine congrArg₂ (fun a b : EReal => a + b) rfl (congrArg₂ (fun a b : EReal => a * b) ?_ ?_)
  · rw [Nat.add_comm (j 1).val]; exact (val_main_v362_apply (F := Ideal) X j).trans (sample_padded X (idx_main_v362 j))
  · rw [val_main_v366_apply, val_main_v365_apply, val_main_v364_apply, val_main_v363_apply]
    exact (entry_of W _ rfl (Nat.mod_eq_of_lt h2)).symm

theorem sample_20 (X : S24576x4096.Idx → EReal) (W : S31x4096.Idx → EReal) (j : S1x16384x4096.Idx) :
    val_main_v375 (F := Ideal) X W j = val_main_v368 (F := Ideal) X W j + padded X 8192 16384 ((j 1).val + 20) (j 2).val * entry (n := 31) (k := 4096) W 20 (j 2).val := by
  have h2 : (j 2).val < 4096 := (j 2).isLt
  refine congrArg₂ (fun a b : EReal => a + b) rfl (congrArg₂ (fun a b : EReal => a * b) ?_ ?_)
  · rw [Nat.add_comm (j 1).val]; exact (val_main_v369_apply (F := Ideal) X j).trans (sample_padded X (idx_main_v369 j))
  · rw [val_main_v373_apply, val_main_v372_apply, val_main_v371_apply, val_main_v370_apply]
    exact (entry_of W _ rfl (Nat.mod_eq_of_lt h2)).symm

theorem sample_21 (X : S24576x4096.Idx → EReal) (W : S31x4096.Idx → EReal) (j : S1x16384x4096.Idx) :
    val_main_v382 (F := Ideal) X W j = val_main_v375 (F := Ideal) X W j + padded X 8192 16384 ((j 1).val + 21) (j 2).val * entry (n := 31) (k := 4096) W 21 (j 2).val := by
  have h2 : (j 2).val < 4096 := (j 2).isLt
  refine congrArg₂ (fun a b : EReal => a + b) rfl (congrArg₂ (fun a b : EReal => a * b) ?_ ?_)
  · rw [Nat.add_comm (j 1).val]; exact (val_main_v376_apply (F := Ideal) X j).trans (sample_padded X (idx_main_v376 j))
  · rw [val_main_v380_apply, val_main_v379_apply, val_main_v378_apply, val_main_v377_apply]
    exact (entry_of W _ rfl (Nat.mod_eq_of_lt h2)).symm

theorem sample_22 (X : S24576x4096.Idx → EReal) (W : S31x4096.Idx → EReal) (j : S1x16384x4096.Idx) :
    val_main_v389 (F := Ideal) X W j = val_main_v382 (F := Ideal) X W j + padded X 8192 16384 ((j 1).val + 22) (j 2).val * entry (n := 31) (k := 4096) W 22 (j 2).val := by
  have h2 : (j 2).val < 4096 := (j 2).isLt
  refine congrArg₂ (fun a b : EReal => a + b) rfl (congrArg₂ (fun a b : EReal => a * b) ?_ ?_)
  · rw [Nat.add_comm (j 1).val]; exact (val_main_v383_apply (F := Ideal) X j).trans (sample_padded X (idx_main_v383 j))
  · rw [val_main_v387_apply, val_main_v386_apply, val_main_v385_apply, val_main_v384_apply]
    exact (entry_of W _ rfl (Nat.mod_eq_of_lt h2)).symm

theorem sample_23 (X : S24576x4096.Idx → EReal) (W : S31x4096.Idx → EReal) (j : S1x16384x4096.Idx) :
    val_main_v396 (F := Ideal) X W j = val_main_v389 (F := Ideal) X W j + padded X 8192 16384 ((j 1).val + 23) (j 2).val * entry (n := 31) (k := 4096) W 23 (j 2).val := by
  have h2 : (j 2).val < 4096 := (j 2).isLt
  refine congrArg₂ (fun a b : EReal => a + b) rfl (congrArg₂ (fun a b : EReal => a * b) ?_ ?_)
  · rw [Nat.add_comm (j 1).val]; exact (val_main_v390_apply (F := Ideal) X j).trans (sample_padded X (idx_main_v390 j))
  · rw [val_main_v394_apply, val_main_v393_apply, val_main_v392_apply, val_main_v391_apply]
    exact (entry_of W _ rfl (Nat.mod_eq_of_lt h2)).symm

theorem sample_24 (X : S24576x4096.Idx → EReal) (W : S31x4096.Idx → EReal) (j : S1x16384x4096.Idx) :
    val_main_v403 (F := Ideal) X W j = val_main_v396 (F := Ideal) X W j + padded X 8192 16384 ((j 1).val + 24) (j 2).val * entry (n := 31) (k := 4096) W 24 (j 2).val := by
  have h2 : (j 2).val < 4096 := (j 2).isLt
  refine congrArg₂ (fun a b : EReal => a + b) rfl (congrArg₂ (fun a b : EReal => a * b) ?_ ?_)
  · rw [Nat.add_comm (j 1).val]; exact (val_main_v397_apply (F := Ideal) X j).trans (sample_padded X (idx_main_v397 j))
  · rw [val_main_v401_apply, val_main_v400_apply, val_main_v399_apply, val_main_v398_apply]
    exact (entry_of W _ rfl (Nat.mod_eq_of_lt h2)).symm

theorem sample_25 (X : S24576x4096.Idx → EReal) (W : S31x4096.Idx → EReal) (j : S1x16384x4096.Idx) :
    val_main_v410 (F := Ideal) X W j = val_main_v403 (F := Ideal) X W j + padded X 8192 16384 ((j 1).val + 25) (j 2).val * entry (n := 31) (k := 4096) W 25 (j 2).val := by
  have h2 : (j 2).val < 4096 := (j 2).isLt
  refine congrArg₂ (fun a b : EReal => a + b) rfl (congrArg₂ (fun a b : EReal => a * b) ?_ ?_)
  · rw [Nat.add_comm (j 1).val]; exact (val_main_v404_apply (F := Ideal) X j).trans (sample_padded X (idx_main_v404 j))
  · rw [val_main_v408_apply, val_main_v407_apply, val_main_v406_apply, val_main_v405_apply]
    exact (entry_of W _ rfl (Nat.mod_eq_of_lt h2)).symm

theorem sample_26 (X : S24576x4096.Idx → EReal) (W : S31x4096.Idx → EReal) (j : S1x16384x4096.Idx) :
    val_main_v417 (F := Ideal) X W j = val_main_v410 (F := Ideal) X W j + padded X 8192 16384 ((j 1).val + 26) (j 2).val * entry (n := 31) (k := 4096) W 26 (j 2).val := by
  have h2 : (j 2).val < 4096 := (j 2).isLt
  refine congrArg₂ (fun a b : EReal => a + b) rfl (congrArg₂ (fun a b : EReal => a * b) ?_ ?_)
  · rw [Nat.add_comm (j 1).val]; exact (val_main_v411_apply (F := Ideal) X j).trans (sample_padded X (idx_main_v411 j))
  · rw [val_main_v415_apply, val_main_v414_apply, val_main_v413_apply, val_main_v412_apply]
    exact (entry_of W _ rfl (Nat.mod_eq_of_lt h2)).symm

theorem sample_27 (X : S24576x4096.Idx → EReal) (W : S31x4096.Idx → EReal) (j : S1x16384x4096.Idx) :
    val_main_v424 (F := Ideal) X W j = val_main_v417 (F := Ideal) X W j + padded X 8192 16384 ((j 1).val + 27) (j 2).val * entry (n := 31) (k := 4096) W 27 (j 2).val := by
  have h2 : (j 2).val < 4096 := (j 2).isLt
  refine congrArg₂ (fun a b : EReal => a + b) rfl (congrArg₂ (fun a b : EReal => a * b) ?_ ?_)
  · rw [Nat.add_comm (j 1).val]; exact (val_main_v418_apply (F := Ideal) X j).trans (sample_padded X (idx_main_v418 j))
  · rw [val_main_v422_apply, val_main_v421_apply, val_main_v420_apply, val_main_v419_apply]
    exact (entry_of W _ rfl (Nat.mod_eq_of_lt h2)).symm

theorem sample_28 (X : S24576x4096.Idx → EReal) (W : S31x4096.Idx → EReal) (j : S1x16384x4096.Idx) :
    val_main_v431 (F := Ideal) X W j = val_main_v424 (F := Ideal) X W j + padded X 8192 16384 ((j 1).val + 28) (j 2).val * entry (n := 31) (k := 4096) W 28 (j 2).val := by
  have h2 : (j 2).val < 4096 := (j 2).isLt
  refine congrArg₂ (fun a b : EReal => a + b) rfl (congrArg₂ (fun a b : EReal => a * b) ?_ ?_)
  · rw [Nat.add_comm (j 1).val]; exact (val_main_v425_apply (F := Ideal) X j).trans (sample_padded X (idx_main_v425 j))
  · rw [val_main_v429_apply, val_main_v428_apply, val_main_v427_apply, val_main_v426_apply]
    exact (entry_of W _ rfl (Nat.mod_eq_of_lt h2)).symm

theorem sample_29 (X : S24576x4096.Idx → EReal) (W : S31x4096.Idx → EReal) (j : S1x16384x4096.Idx) :
    val_main_v438 (F := Ideal) X W j = val_main_v431 (F := Ideal) X W j + padded X 8192 16384 ((j 1).val + 29) (j 2).val * entry (n := 31) (k := 4096) W 29 (j 2).val := by
  have h2 : (j 2).val < 4096 := (j 2).isLt
  refine congrArg₂ (fun a b : EReal => a + b) rfl (congrArg₂ (fun a b : EReal => a * b) ?_ ?_)
  · rw [Nat.add_comm (j 1).val]; exact (val_main_v432_apply (F := Ideal) X j).trans (sample_padded X (idx_main_v432 j))
  · rw [val_main_v436_apply, val_main_v435_apply, val_main_v434_apply, val_main_v433_apply]
    exact (entry_of W _ rfl (Nat.mod_eq_of_lt h2)).symm

theorem sample_30 (X : S24576x4096.Idx → EReal) (W : S31x4096.Idx → EReal) (j : S1x16384x4096.Idx) :
    val_main_v445 (F := Ideal) X W j = val_main_v438 (F := Ideal) X W j + padded X 8192 16384 ((j 1).val + 30) (j 2).val * entry (n := 31) (k := 4096) W 30 (j 2).val := by
  have h2 : (j 2).val < 4096 := (j 2).isLt
  refine congrArg₂ (fun a b : EReal => a + b) rfl (congrArg₂ (fun a b : EReal => a * b) ?_ ?_)
  · rw [Nat.add_comm (j 1).val]; exact (val_main_v439_apply (F := Ideal) X j).trans (sample_padded X (idx_main_v439 j))
  · rw [val_main_v443_apply, val_main_v442_apply, val_main_v441_apply, val_main_v440_apply]
    exact (entry_of W _ rfl (Nat.mod_eq_of_lt h2)).symm

theorem sample_sum (X : S24576x4096.Idx → EReal) (W : S31x4096.Idx → EReal) (B : S4096.Idx → EReal) (j : S1x16384x4096.Idx) :
    val_main_v448 (F := Ideal) X W B j = grow 0 (fun t => padded X 8192 16384 ((j 1).val + t) (j 2).val * entry (n := 31) (k := 4096) W t (j 2).val) 31 + B (ix1 (j 2)) := by
  refine congrArg₂ (· + ·) ?_ ?_
  · rw [sample_30, sample_29, sample_28, sample_27, sample_26, sample_25, sample_24, sample_23, sample_22, sample_21, sample_20, sample_19, sample_18, sample_17, sample_16, sample_15, sample_14, sample_13, sample_12, sample_11, sample_10, sample_9, sample_8, sample_7, sample_6, sample_5, sample_4, sample_3, sample_2, sample_1, sample_0]
    rfl
  · rw [val_main_v447_apply, val_main_v446_apply]
    refine congrArg B (funext fun a => ?_)
    match a with
    | 0 => rfl

/-- The reference's entries, sequence by sequence. -/
theorem joined (X : S24576x4096.Idx → EReal) (W : S31x4096.Idx → EReal) (B : S4096.Idx → EReal) (i : S24576x4096.Idx) :
    val_main_v451 (F := Ideal) X W B i = if h : (i 0).val < 8192
      then val_main_v224 (F := Ideal) X W B (ix3 (n0 := 4) (n1 := 2048) (n2 := 4096) ⟨(i 0).val / 2048, by omega⟩ ⟨(i 0).val % 2048, by omega⟩ (i 1))
      else val_main_v448 (F := Ideal) X W B (ix3 (n0 := 1) (n1 := 16384) (n2 := 4096) 0 ⟨(i 0).val - 8192, by have h : (i 0).val < 24576 := (i 0).isLt; omega⟩ (i 1)) := by
  have h1 : (i 1).val < 4096 := (i 1).isLt
  by_cases h : (i 0).val < 8192
  · rw [dif_pos h]
    pointwise [val_main_v451, val_main_v449]
    exact dif_pos h
  · rw [dif_neg h]
    pointwise [val_main_v451, val_main_v450]
    exact dif_neg h

theorem whole (X : S24576x4096.Idx → EReal) (W : S31x4096.Idx → EReal) (B : S4096.Idx → EReal) (i : S24576x4096.Idx) :
    val_main_v451 (F := Ideal) X W B i = conv (entry (n := 24576) (k := 4096) X) (entry (n := 31) (k := 4096) W) (B (ix1 (i 1))) (i 0).val (i 1).val := by
  have hi : (i 0).val < 24576 := (i 0).isLt
  rw [joined]
  unfold conv
  by_cases h : (i 0).val < 8192
  · rw [dif_pos h, prompt_sum]
    refine congrArg₂ (· + ·) (grow_congr 0 31 fun t ht => congrArg (· * _) ?_) rfl
    show padded X ((i 0).val / 2048 * 2048) 2048 ((i 0).val % 2048 + t) (i 1).val = _
    unfold padded tap low high
    rw [if_pos h, if_pos h]
    by_cases a : 15 ≤ (i 0).val % 2048 + t ∧ (i 0).val % 2048 + t < 2048 + 15
    · rw [if_pos a, if_pos (by omega)]; congr 1; omega
    · rw [if_neg a, if_neg (by omega)]
  · rw [dif_neg h, sample_sum]
    refine congrArg₂ (· + ·) (grow_congr 0 31 fun t ht => congrArg (· * _) ?_) rfl
    show padded X 8192 16384 ((i 0).val - 8192 + t) (i 1).val = _
    unfold padded tap low high
    rw [if_neg h, if_neg h]
    by_cases a : 15 ≤ (i 0).val - 8192 + t ∧ (i 0).val - 8192 + t < 16384 + 15
    · rw [if_pos a, if_pos (by omega)]; congr 1; omega
    · rw [if_neg a, if_neg (by omega)]

/-- The reference ends with its arguments unchanged. -/
theorem frame : Cert.quiescent_DwconvReferenceIdeal := fun m ρ _ =>
  (θ_run Cert.DwconvReferenceIdeal.defs _ _).mono (fun r h => ⟨fun c => (h c).2, sem_eq_zero_of_no_sems (by decide) r.2⟩)
    (Cert.DwconvReferenceIdeal.Value.run (F := Ideal) m ρ)

theorem same (m : (ℓ : Loc Cert.DwconvIdeal.nD Cert.DwconvIdeal.τ Cert.DwconvIdeal.sig) → Buf (Elt Ideal) ℓ) (c : Dev Cert.DwconvIdeal.nD)
    (X : S24576x4096.Idx → EReal) (W : S31x4096.Idx → EReal) (B : S4096.Idx → EReal)
    (hX : X = m ((c.tc : Thread Cert.DwconvIdeal.nD Cert.DwconvIdeal.τ).loc Cert.DwconvIdeal.main_arg0))
    (hW : W = m ((c.tc : Thread Cert.DwconvIdeal.nD Cert.DwconvIdeal.τ).loc Cert.DwconvIdeal.main_arg1))
    (hB : B = m ((c.tc : Thread Cert.DwconvIdeal.nD Cert.DwconvIdeal.τ).loc Cert.DwconvIdeal.main_arg2)) :
    val_main_v451 (F := Ideal) X W B = Cert.DwconvIdeal.Conv.result m c := by
  subst hX hW hB
  exact funext fun i => whole _ _ _ i

/-- Both programs leave the same array, of the same arguments. -/
theorem algebraic : Cert.algebraic_DwconvIdeal_DwconvReferenceIdeal := by
  intro m g m' g' _ hagree
  refine ⟨fun c => Cert.DwconvIdeal.Conv.result m c, Cert.DwconvIdeal.Conv.run m g, ?_⟩
  refine (θ_run Cert.DwconvReferenceIdeal.defs _ _).mono (fun r h c => ⟨(h c).1.trans ?_, (h c).2⟩)
    (Cert.DwconvReferenceIdeal.Value.run (F := Ideal) m' g')
  exact (val_main_v451_eq _).trans (same m c _ _ _ (hagree c).1 (hagree c).2.1 (hagree c).2.2)

end Cert.DwconvReferenceIdeal.Conv

end
-- ==== Proof.lean ====
/- The proof of the claims: the frames and the values of the attention, of the layer's matrix products and of its norms. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluReferenceIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.Wide
public import proofs.«01_k».proof.Proof.Gen.Wide.Skeleton
public import proofs.«01_k».proof.Proof.Gen.Wide.Launch
public import proofs.«01_k».proof.Proof.Gen.Wide.Points
public import proofs.«01_k».proof.Proof.Gen.Wide.Frame
public import proofs.«01_k».proof.Proof.Gen.WideIdeal
public import proofs.«01_k».proof.Proof.Gen.WideIdeal.Skeleton
public import proofs.«01_k».proof.Proof.Gen.WideIdeal.Launch
public import proofs.«01_k».proof.Proof.Gen.WideIdeal.Points
public import proofs.«01_k».proof.Proof.Gen.WideIdeal.Frame
public import proofs.«01_k».proof.Proof.Gen.WideReferenceIdeal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluReferenceIdeal
public import proofs.«01_k».proof.Proof.Gen.Pw
public import proofs.«01_k».proof.Proof.Gen.Pw.Skeleton
public import proofs.«01_k».proof.Proof.Gen.Pw.Launch
public import proofs.«01_k».proof.Proof.Gen.Pw.Points
public import proofs.«01_k».proof.Proof.Gen.Pw.Frame
public import proofs.«01_k».proof.Proof.Gen.PwIdeal
public import proofs.«01_k».proof.Proof.Gen.PwIdeal.Skeleton
public import proofs.«01_k».proof.Proof.Gen.PwIdeal.Launch
public import proofs.«01_k».proof.Proof.Gen.PwIdeal.Points
public import proofs.«01_k».proof.Proof.Gen.PwIdeal.Frame
public import proofs.«01_k».proof.Proof.Gen.PwReferenceIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.Layernorm
public import proofs.«01_k».proof.Proof.Gen.Layernorm.Skeleton
public import proofs.«01_k».proof.Proof.Gen.Layernorm.Launch
public import proofs.«01_k».proof.Proof.Gen.Layernorm.Points
public import proofs.«01_k».proof.Proof.Gen.Layernorm.Frame
public import proofs.«01_k».proof.Proof.Gen.LayernormIdeal
public import proofs.«01_k».proof.Proof.Gen.LayernormIdeal.Skeleton
public import proofs.«01_k».proof.Proof.Gen.LayernormIdeal.Launch
public import proofs.«01_k».proof.Proof.Gen.LayernormIdeal.Points
public import proofs.«01_k».proof.Proof.Gen.LayernormIdeal.Frame
public import proofs.«01_k».proof.Proof.Gen.LayernormReferenceIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepReferenceIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeReferenceIdeal
public import proofs.«01_k».proof.Proof.Gen.Dwconv
public import proofs.«01_k».proof.Proof.Gen.Dwconv.Skeleton
public import proofs.«01_k».proof.Proof.Gen.Dwconv.Launch
public import proofs.«01_k».proof.Proof.Gen.Dwconv.Points
public import proofs.«01_k».proof.Proof.Gen.Dwconv.Frame
public import proofs.«01_k».proof.Proof.Gen.DwconvIdeal
public import proofs.«01_k».proof.Proof.Gen.DwconvIdeal.Skeleton
public import proofs.«01_k».proof.Proof.Gen.DwconvIdeal.Launch
public import proofs.«01_k».proof.Proof.Gen.DwconvIdeal.Points
public import proofs.«01_k».proof.Proof.Gen.DwconvIdeal.Frame
public import proofs.«01_k».proof.Proof.Gen.DwconvReferenceIdeal
public import proofs.«01_k».proof.Proof.Gen.ReferenceIdeal.Run
public import proofs.«01_k».proof.Proof.Gen.ReferenceIdeal.Read
public import proofs.«01_k».proof.Proof.Gen.SwigluReferenceIdeal.Run
public import proofs.«01_k».proof.Proof.Gen.SwigluReferenceIdeal.Read
public import proofs.«01_k».proof.Proof.Gen.DownReferenceIdeal.Run
public import proofs.«01_k».proof.Proof.Gen.DownReferenceIdeal.Read
public import proofs.«01_k».proof.Proof.Gen.OutReferenceIdeal.Run
public import proofs.«01_k».proof.Proof.Gen.OutReferenceIdeal.Read
public import proofs.«01_k».proof.Proof.Gen.ExpertsReferenceIdeal.Run
public import proofs.«01_k».proof.Proof.Gen.ExpertsReferenceIdeal.Read
public import proofs.«01_k».proof.Proof.Gen.QkvReferenceIdeal.Run
public import proofs.«01_k».proof.Proof.Gen.QkvReferenceIdeal.Read
public import proofs.«01_k».proof.Proof.Gen.WideReferenceIdeal.Run
public import proofs.«01_k».proof.Proof.Gen.WideReferenceIdeal.Read
public import proofs.«01_k».proof.Proof.Gen.GluReferenceIdeal.Run
public import proofs.«01_k».proof.Proof.Gen.GluReferenceIdeal.Read
public import proofs.«01_k».proof.Proof.Gen.PwReferenceIdeal.Run
public import proofs.«01_k».proof.Proof.Gen.PwReferenceIdeal.Read
public import proofs.«01_k».proof.Proof.Gen.SwigluIdeal.Value
public import proofs.«01_k».proof.Proof.Gen.DownIdeal.Value
public import proofs.«01_k».proof.Proof.Gen.OutIdeal.Value
public import proofs.«01_k».proof.Proof.Gen.ExpertsIdeal.Value
public import proofs.«01_k».proof.Proof.Gen.QkvIdeal.Value
public import proofs.«01_k».proof.Proof.Gen.WideIdeal.Value
public import proofs.«01_k».proof.Proof.Gen.GluIdeal.Value
public import proofs.«01_k».proof.Proof.Gen.PwIdeal.Value
public import proofs.«01_k».proof.Proof.Gen.NormReferenceIdeal.Run
public import proofs.«01_k».proof.Proof.Gen.NormReferenceIdeal.Read
public import proofs.«01_k».proof.Proof.Gen.NormIdeal.Value
public import proofs.«01_k».proof.Proof.Gen.LayernormReferenceIdeal.Run
public import proofs.«01_k».proof.Proof.Gen.LayernormReferenceIdeal.Read
public import proofs.«01_k».proof.Proof.Gen.LayernormIdeal.Value
public import proofs.«01_k».proof.Proof.Gen.PrepReferenceIdeal.Run
public import proofs.«01_k».proof.Proof.Gen.PrepReferenceIdeal.Read
public import proofs.«01_k».proof.Proof.Gen.PrepIdeal.Value
public import proofs.«01_k».proof.Proof.Gen.RopeReferenceIdeal.Run
public import proofs.«01_k».proof.Proof.Gen.RopeReferenceIdeal.Read
public import proofs.«01_k».proof.Proof.Gen.RopeIdeal.Value
public import proofs.«01_k».proof.Proof.Gen.DwconvReferenceIdeal.Run
public import proofs.«01_k».proof.Proof.Gen.DwconvReferenceIdeal.Read
public import proofs.«01_k».proof.Proof.Attn.Kernel.Frame
public import proofs.«01_k».proof.Proof.Attn.KernelIdeal.Value
public import proofs.«01_k».proof.Proof.Attn.Reference.Whole
public import proofs.«01_k».proof.Proof.Products.SwigluReference
public import proofs.«01_k».proof.Proof.Products.DownReference
public import proofs.«01_k».proof.Proof.Products.OutReference
public import proofs.«01_k».proof.Proof.Products.ExpertsReference
public import proofs.«01_k».proof.Proof.Products.QkvReference
public import proofs.«01_k».proof.Proof.Products.WideReference
public import proofs.«01_k».proof.Proof.Products.GluReference
public import proofs.«01_k».proof.Proof.Products.PwReference
public import proofs.«01_k».proof.Proof.Norms.NormReference
public import proofs.«01_k».proof.Proof.Norms.LayernormReference
public import proofs.«01_k».proof.Proof.Norms.PrepReference
public import proofs.«01_k».proof.Proof.Norms.RopeReference
public import proofs.«01_k».proof.Proof.Conv.Reference
public import Idealize.ShloMosaic.Adequacy
public import Idealize.ShloMosaic.Init

@[expose] public section

noncomputable section

namespace Cert.Proof

open Idealize.ShloMosaic Idealize.SL.Sem Cert.Kernel

/-- The reference ends with its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs leave the attention of the same arguments. -/
theorem algebraic : Cert.algebraic_KernelIdeal_ReferenceIdeal := by
  intro m g m' g' _ hagree
  refine ⟨fun c => Cert.KernelIdeal.Attn.result m c, ?_, ?_⟩
  · exact (θ_run Cert.KernelIdeal.defs _ _).mono (fun r h => h.1) (Cert.KernelIdeal.Attn.run m g)
  · refine (θ_run Cert.ReferenceIdeal.defs _ _).mono (fun r h c => ⟨(h c).1.trans ?_, (h c).2⟩)
      (Cert.ReferenceIdeal.Value.run (F := Ideal) m' g')
    refine (Cert.ReferenceIdeal.Read.val_main_v49_eq m' c).trans (funext fun i => ?_)
    rw [(hagree c).1, (hagree c).2]
    exact Cert.ReferenceIdeal.Attn.whole _ _ i

/-- Every claim: the stated facts, the frames, and the values. -/
theorem claim : Cert.Claim := ⟨Cert.Kernel.Gen.facts, Cert.KernelIdeal.Gen.facts, Cert.ReferenceIdeal.Gen.facts,
  Cert.Swiglu.Gen.facts, Cert.SwigluIdeal.Gen.facts, Cert.SwigluReferenceIdeal.Gen.facts,
  Cert.Down.Gen.facts, Cert.DownIdeal.Gen.facts, Cert.DownReferenceIdeal.Gen.facts,
  Cert.Out.Gen.facts, Cert.OutIdeal.Gen.facts, Cert.OutReferenceIdeal.Gen.facts,
  Cert.Experts.Gen.facts, Cert.ExpertsIdeal.Gen.facts, Cert.ExpertsReferenceIdeal.Gen.facts,
  Cert.Qkv.Gen.facts, Cert.QkvIdeal.Gen.facts, Cert.QkvReferenceIdeal.Gen.facts,
  Cert.Wide.Gen.facts, Cert.WideIdeal.Gen.facts, Cert.WideReferenceIdeal.Gen.facts,
  Cert.Glu.Gen.facts, Cert.GluIdeal.Gen.facts, Cert.GluReferenceIdeal.Gen.facts,
  Cert.Pw.Gen.facts, Cert.PwIdeal.Gen.facts, Cert.PwReferenceIdeal.Gen.facts,
  Cert.Norm.Gen.facts, Cert.NormIdeal.Gen.facts, Cert.NormReferenceIdeal.Gen.facts,
  Cert.Layernorm.Gen.facts, Cert.LayernormIdeal.Gen.facts, Cert.LayernormReferenceIdeal.Gen.facts,
  Cert.Prep.Gen.facts, Cert.PrepIdeal.Gen.facts, Cert.PrepReferenceIdeal.Gen.facts,
  Cert.Rope.Gen.facts, Cert.RopeIdeal.Gen.facts, Cert.RopeReferenceIdeal.Gen.facts,
  Cert.Dwconv.Gen.facts, Cert.DwconvIdeal.Gen.facts, Cert.DwconvReferenceIdeal.Gen.facts,
  fun m ρ _ => Cert.Kernel.Attn.frame m ρ, fun m ρ _ => Cert.KernelIdeal.Attn.frame m ρ, frame_reference,
  fun m ρ _ => Cert.Swiglu.Gen.frame m ρ, fun m ρ _ => Cert.SwigluIdeal.Gen.frame m ρ, Cert.SwigluReferenceIdeal.Products.frame,
  fun m ρ _ => Cert.Down.Gen.frame m ρ, fun m ρ _ => Cert.DownIdeal.Gen.frame m ρ, Cert.DownReferenceIdeal.Products.frame,
  fun m ρ _ => Cert.Out.Gen.frame m ρ, fun m ρ _ => Cert.OutIdeal.Gen.frame m ρ, Cert.OutReferenceIdeal.Products.frame,
  fun m ρ _ => Cert.Experts.Gen.frame m ρ, fun m ρ _ => Cert.ExpertsIdeal.Gen.frame m ρ, Cert.ExpertsReferenceIdeal.Products.frame,
  fun m ρ _ => Cert.Qkv.Gen.frame m ρ, fun m ρ _ => Cert.QkvIdeal.Gen.frame m ρ, Cert.QkvReferenceIdeal.Products.frame,
  fun m ρ _ => Cert.Wide.Gen.frame m ρ, fun m ρ _ => Cert.WideIdeal.Gen.frame m ρ, Cert.WideReferenceIdeal.Products.frame,
  fun m ρ _ => Cert.Glu.Gen.frame m ρ, fun m ρ _ => Cert.GluIdeal.Gen.frame m ρ, Cert.GluReferenceIdeal.Products.frame,
  fun m ρ _ => Cert.Pw.Gen.frame m ρ, fun m ρ _ => Cert.PwIdeal.Gen.frame m ρ, Cert.PwReferenceIdeal.Products.frame,
  fun m ρ _ => Cert.Norm.Gen.frame m ρ, fun m ρ _ => Cert.NormIdeal.Gen.frame m ρ, Cert.NormReferenceIdeal.Norms.frame,
  fun m ρ _ => Cert.Layernorm.Gen.frame m ρ, fun m ρ _ => Cert.LayernormIdeal.Gen.frame m ρ, Cert.LayernormReferenceIdeal.Norms.frame,
  fun m ρ _ => Cert.Prep.Gen.frame m ρ, fun m ρ _ => Cert.PrepIdeal.Gen.frame m ρ, Cert.PrepReferenceIdeal.Norms.frame,
  fun m ρ _ => Cert.Rope.Gen.frame m ρ, fun m ρ _ => Cert.RopeIdeal.Gen.frame m ρ, Cert.RopeReferenceIdeal.Norms.frame,
  fun m ρ _ => Cert.Dwconv.Gen.frame m ρ trivial, fun m ρ _ => Cert.DwconvIdeal.Gen.frame m ρ trivial, Cert.DwconvReferenceIdeal.Conv.frame,
  trivial, algebraic,
  trivial, Cert.SwigluReferenceIdeal.Products.algebraic,
  trivial, Cert.DownReferenceIdeal.Products.algebraic,
  trivial, Cert.OutReferenceIdeal.Products.algebraic,
  trivial, Cert.ExpertsReferenceIdeal.Products.algebraic,
  trivial, Cert.QkvReferenceIdeal.Products.algebraic,
  trivial, Cert.WideReferenceIdeal.Products.algebraic,
  trivial, Cert.GluReferenceIdeal.Products.algebraic,
  trivial, Cert.PwReferenceIdeal.Products.algebraic,
  trivial, Cert.NormReferenceIdeal.Norms.algebraic,
  trivial, Cert.LayernormReferenceIdeal.Norms.algebraic,
  trivial, Cert.PrepReferenceIdeal.Norms.algebraic,
  trivial, Cert.RopeReferenceIdeal.Norms.algebraic,
  trivial, Cert.DwconvReferenceIdeal.Conv.algebraic⟩

end Cert.Proof

end
